-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)) (v4 : (c : Dev Cert.KernelIdeal.nD) → Buf (Elt Ideal) ((c.tc : Thread Cert.KernelIdeal.nD Cert.KernelIdeal.τ).loc Cert.KernelIdeal.main_v54_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_v54_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_v12) = v2 c
          ∧ r.2.mem ((c.tc : Thread Cert.Reference2Ideal.nD Cert.Reference2Ideal.τ).loc Cert.Reference2Ideal.main_v13) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_v12) = v2 c
          ∧ r.2.mem ((c.tc : Thread Cert.Reference3Ideal.nD Cert.Reference3Ideal.τ).loc Cert.Reference3Ideal.main_v14) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)) (v3 : (c : Dev Cert.Kernel4Ideal.nD) → Buf (Elt Ideal) ((c.tc : Thread Cert.Kernel4Ideal.nD Cert.Kernel4Ideal.τ).loc Cert.Kernel4Ideal.main_v11_3)) (v4 : (c : Dev Cert.Kernel4Ideal.nD) → Buf (Elt Ideal) ((c.tc : Thread Cert.Kernel4Ideal.nD Cert.Kernel4Ideal.τ).loc Cert.Kernel4Ideal.main_v11_4)) (v5 : (c : Dev Cert.Kernel4Ideal.nD) → Buf (Elt Ideal) ((c.tc : Thread Cert.Kernel4Ideal.nD Cert.Kernel4Ideal.τ).loc Cert.Kernel4Ideal.main_v11_5)) (v6 : (c : Dev Cert.Kernel4Ideal.nD) → Buf (Elt Ideal) ((c.tc : Thread Cert.Kernel4Ideal.nD Cert.Kernel4Ideal.τ).loc Cert.Kernel4Ideal.main_v11_6)) (v7 : (c : Dev Cert.Kernel4Ideal.nD) → Buf (Elt Ideal) ((c.tc : Thread Cert.Kernel4Ideal.nD Cert.Kernel4Ideal.τ).loc Cert.Kernel4Ideal.main_v11_7)) (v8 : (c : Dev Cert.Kernel4Ideal.nD) → Buf (Elt Ideal) ((c.tc : Thread Cert.Kernel4Ideal.nD Cert.Kernel4Ideal.τ).loc Cert.Kernel4Ideal.main_v11_8)) (v9 : (c : Dev Cert.Kernel4Ideal.nD) → Buf (Elt Ideal) ((c.tc : Thread Cert.Kernel4Ideal.nD Cert.Kernel4Ideal.τ).loc Cert.Kernel4Ideal.main_v11_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_v11_3) = v3 c
          ∧ r.2.mem ((c.tc : Thread Cert.Kernel4Ideal.nD Cert.Kernel4Ideal.τ).loc Cert.Kernel4Ideal.main_v11_4) = v4 c
          ∧ r.2.mem ((c.tc : Thread Cert.Kernel4Ideal.nD Cert.Kernel4Ideal.τ).loc Cert.Kernel4Ideal.main_v11_5) = v5 c
          ∧ r.2.mem ((c.tc : Thread Cert.Kernel4Ideal.nD Cert.Kernel4Ideal.τ).loc Cert.Kernel4Ideal.main_v11_6) = v6 c
          ∧ r.2.mem ((c.tc : Thread Cert.Kernel4Ideal.nD Cert.Kernel4Ideal.τ).loc Cert.Kernel4Ideal.main_v11_7) = v7 c
          ∧ r.2.mem ((c.tc : Thread Cert.Kernel4Ideal.nD Cert.Kernel4Ideal.τ).loc Cert.Kernel4Ideal.main_v11_8) = v8 c
          ∧ r.2.mem ((c.tc : Thread Cert.Kernel4Ideal.nD Cert.Kernel4Ideal.τ).loc Cert.Kernel4Ideal.main_v11_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v43) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_v45) = v5 c
          ∧ r.2.mem ((c.tc : Thread Cert.Reference4Ideal.nD Cert.Reference4Ideal.τ).loc Cert.Reference4Ideal.main_v46) = v6 c
          ∧ r.2.mem ((c.tc : Thread Cert.Reference4Ideal.nD Cert.Reference4Ideal.τ).loc Cert.Reference4Ideal.main_v47) = v7 c
          ∧ r.2.mem ((c.tc : Thread Cert.Reference4Ideal.nD Cert.Reference4Ideal.τ).loc Cert.Reference4Ideal.main_v48) = v8 c
          ∧ r.2.mem ((c.tc : Thread Cert.Reference4Ideal.nD Cert.Reference4Ideal.τ).loc Cert.Reference4Ideal.main_v51) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v4) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v52) = v5 c
          ∧ r.2.mem ((c.tc : Thread Cert.Reference5Ideal.nD Cert.Reference5Ideal.τ).loc Cert.Reference5Ideal.main_v10) = v6 c
          ∧ r.2.mem ((c.tc : Thread Cert.Reference5Ideal.nD Cert.Reference5Ideal.τ).loc Cert.Reference5Ideal.main_v34) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v28) = v3 c
          ∧ r.2.mem ((c.tc : Thread Cert.Reference6Ideal.nD Cert.Reference6Ideal.τ).loc Cert.Reference6Ideal.main_v10) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4112x512 : Shape := ⟨2, ![4112, 512]⟩
abbrev S4112x8 : Shape := ⟨2, ![4112, 8]⟩
abbrev S_ : Shape := ⟨0, ![]⟩

class Facts : Prop where
  bcast_S_S4112x512 : S_.BroadcastsInDim S4112x512 (![] : Fin 0 → Fin S4112x512.rank)
  reducesTo_S4112x512_S_d0_1 : S4112x512.ReducesTo [0, 1] S_
  h_S_ : 0 < S_.numel
  bcast_S_S4112x8 : S_.BroadcastsInDim S4112x8 (![] : Fin 0 → Fin S4112x8.rank)
  reducesTo_S4112x8_S_d0_1 : S4112x8.ReducesTo [0, 1] S_

variable [Facts]

def fn_part1 {F : FTy → Type} [FloatOps F] (main_arg4 : FVec F S4112x512 .f32) (main_v13 : IVec S_ 1) (main_v16 : IVec S4112x8 1) : IVec S_ 1 :=
  let main_c_5 : IVec S_ 1 := constantI S_ 1 1#1
  let main_v17 : IVec S_ 1 := (fun x v => Host.reduce IntOp.andi x v reducesTo_S4112x8_S_d0_1 h_S_) main_v16 main_c_5
  let main_v18 : IVec S_ 1 := andi main_v13 main_v17
  let main_v19 : FVec F S4112x512 .f32 := Host.absf main_arg4
  let main_cst_6 : FVec F S_ .f32 := constant S_ .f32 0x7F800000#32
  let main_v20 : FVec F S4112x512 .f32 := broadcastInDim S4112x512 ![] bcast_S_S4112x512 main_cst_6
  let main_v21 : IVec S4112x512 1 := cmpf .olt main_v19 main_v20
  let main_c_7 : IVec S_ 1 := constantI S_ 1 1#1
  let main_v22 : IVec S_ 1 := (fun x v => Host.reduce IntOp.andi x v reducesTo_S4112x512_S_d0_1 h_S_) main_v21 main_c_7
  let main_v23 : IVec S_ 1 := andi main_v18 main_v22
  main_v23

def fn {F : FTy → Type} [FloatOps F] (main_arg0 : FVec F S4112x512 .f32) (main_arg1 : FVec F S4112x512 .f32) (main_arg2 : FVec F S4112x512 .f32) (main_arg3 : FVec F S4112x8 .f32) (main_arg4 : FVec F S4112x512 .f32) : IVec S_ 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_c : IVec S_ 1 := constantI S_ 1 1#1
  let main_v3 : IVec S_ 1 := (fun x v => Host.reduce IntOp.andi x v reducesTo_S4112x512_S_d0_1 h_S_) main_v2 main_c
  let main_v4 : FVec F S4112x512 .f32 := Host.absf main_arg1
  let main_cst_0 : FVec F S_ .f32 := constant S_ .f32 0x7F800000#32
  let main_v5 : FVec F S4112x512 .f32 := broadcastInDim S4112x512 ![] bcast_S_S4112x512 main_cst_0
  let main_v6 : IVec S4112x512 1 := cmpf .olt main_v4 main_v5
  let main_c_1 : IVec S_ 1 := constantI S_ 1 1#1
  let main_v7 : IVec S_ 1 := (fun x v => Host.reduce IntOp.andi x v reducesTo_S4112x512_S_d0_1 h_S_) main_v6 main_c_1
  let main_v8 : IVec S_ 1 := andi main_v3 main_v7
  let main_v9 : FVec F S4112x512 .f32 := Host.absf main_arg2
  let main_cst_2 : FVec F S_ .f32 := constant S_ .f32 0x7F800000#32
  let main_v10 : FVec F S4112x512 .f32 := broadcastInDim S4112x512 ![] bcast_S_S4112x512 main_cst_2
  let main_v11 : IVec S4112x512 1 := cmpf .olt main_v9 main_v10
  let main_c_3 : IVec S_ 1 := constantI S_ 1 1#1
  let main_v12 : IVec S_ 1 := (fun x v => Host.reduce IntOp.andi x v reducesTo_S4112x512_S_d0_1 h_S_) main_v11 main_c_3
  let main_v13 : IVec S_ 1 := andi main_v8 main_v12
  let main_v14 : FVec F S4112x8 .f32 := Host.absf main_arg3
  let main_cst_4 : FVec F S_ .f32 := constant S_ .f32 0x7F800000#32
  let main_v15 : FVec F S4112x8 .f32 := broadcastInDim S4112x8 ![] bcast_S_S4112x8 main_cst_4
  let main_v16 : IVec S4112x8 1 := cmpf .olt main_v14 main_v15
  fn_part1 (F := F) main_arg4 main_v13 main_v16
-- ==== Kernel.lean ====
abbrev S4112x512 : Shape := ⟨2, ![4112, 512]⟩
abbrev S4112x8 : Shape := ⟨2, ![4112, 8]⟩
abbrev S8x4112 : Shape := ⟨2, ![8, 4112]⟩
abbrev S4112x8x64 : Shape := ⟨3, ![4112, 8, 64]⟩
abbrev S8x4112x4112 : Shape := ⟨3, ![8, 4112, 4112]⟩
abbrev S_ : Shape := ⟨0, ![]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x4112x1 : Shape := ⟨3, ![8, 4112, 1]⟩
abbrev S8x64x4112 : Shape := ⟨3, ![8, 64, 4112]⟩
abbrev S4224x512 : Shape := ⟨2, ![4224, 512]⟩
abbrev S4112x4x2 : Shape := ⟨3, ![4112, 4, 2]⟩
abbrev S4x4112x2 : Shape := ⟨3, ![4, 4112, 2]⟩
abbrev S4x4224x128 : Shape := ⟨3, ![4, 4224, 128]⟩
abbrev S4x8x4224 : Shape := ⟨3, ![4, 8, 4224]⟩
abbrev S4224x128 : Shape := ⟨2, ![4224, 128]⟩
abbrev S384x128 : Shape := ⟨2, ![384, 128]⟩
abbrev S1x4224x128 : Shape := ⟨3, ![1, 4224, 128]⟩
abbrev S1x384x128 : Shape := ⟨3, ![1, 384, 128]⟩
abbrev S1x8x4224 : Shape := ⟨3, ![1, 8, 4224]⟩
abbrev S2x4224x128 : Shape := ⟨3, ![2, 4224, 128]⟩
abbrev S2x128x4224 : Shape := ⟨3, ![2, 128, 4224]⟩
abbrev S1x128 : Shape := ⟨2, ![1, 128]⟩
abbrev S384x1 : Shape := ⟨2, ![384, 1]⟩
abbrev S128x384 : Shape := ⟨2, ![128, 384]⟩
abbrev S1x128x384 : Shape := ⟨3, ![1, 128, 384]⟩
abbrev S384x384 : Shape := ⟨2, ![384, 384]⟩
abbrev S1x128x768 : Shape := ⟨3, ![1, 128, 768]⟩
abbrev S128x768 : Shape := ⟨2, ![128, 768]⟩
abbrev S384x768 : Shape := ⟨2, ![384, 768]⟩
abbrev S1x768x128 : Shape := ⟨3, ![1, 768, 128]⟩
abbrev S768x128 : Shape := ⟨2, ![768, 128]⟩
abbrev S8x384 : Shape := ⟨2, ![8, 384]⟩
abbrev S1x384 : Shape := ⟨2, ![1, 384]⟩
abbrev S1x8x384 : Shape := ⟨3, ![1, 8, 384]⟩

abbrev nBuf : Space → Nat
  | .hbm => 87
  | .vmem => 29
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S4112x512, .f32⟩
  | .hbm, ⟨3, _⟩ => ⟨S4112x8, .f32⟩
  | .hbm, ⟨4, _⟩ => ⟨S4112x512, .f32⟩
  | .hbm, ⟨5, _⟩ => ⟨S8x4112, .f32⟩
  | .hbm, ⟨6, _⟩ => ⟨S4112x8x64, .f32⟩
  | .hbm, ⟨7, _⟩ => ⟨S4112x8x64, .f32⟩
  | .hbm, ⟨8, _⟩ => ⟨S8x4112x4112, .f32⟩
  | .hbm, ⟨9, _⟩ => ⟨S_, .f32⟩
  | .hbm, ⟨10, _⟩ => ⟨S8x4112x4112, .f32⟩
  | .hbm, ⟨11, _⟩ => ⟨S8x4112x4112, .f32⟩
  | .hbm, ⟨12, _⟩ => ⟨S8x1x4112, .f32⟩
  | .hbm, ⟨13, _⟩ => ⟨S8x4112x4112, .f32⟩
  | .hbm, ⟨14, _⟩ => ⟨S8x4112x4112, .f32⟩
  | .hbm, ⟨15, _⟩ => ⟨S4112, .i32⟩
  | .hbm, ⟨16, _⟩ => ⟨S1x4112, .i32⟩
  | .hbm, ⟨17, _⟩ => ⟨S4112x1, .i32⟩
  | .hbm, ⟨18, _⟩ => ⟨S4112x4112, .i32⟩
  | .hbm, ⟨19, _⟩ => ⟨S4112x4112, .i32⟩
  | .hbm, ⟨20, _⟩ => ⟨S4112x4112, .i1⟩
  | .hbm, ⟨21, _⟩ => ⟨S_, .f32⟩
  | .hbm, ⟨22, _⟩ => ⟨S_, .f32⟩
  | .hbm, ⟨23, _⟩ => ⟨S8x4112x4112, .i1⟩
  | .hbm, ⟨24, _⟩ => ⟨S8x4112x4112, .f32⟩
  | .hbm, ⟨25, _⟩ => ⟨S8x4112x4112, .f32⟩
  | .hbm, ⟨26, _⟩ => ⟨S_, .f32⟩
  | .hbm, ⟨27, _⟩ => ⟨S8x4112, .f32⟩
  | .hbm, ⟨28, _⟩ => ⟨S8x4112x1, .f32⟩
  | .hbm, ⟨29, _⟩ => ⟨S8x4112x4112, .f32⟩
  | .hbm, ⟨30, _⟩ => ⟨S8x4112x4112, .f32⟩
  | .hbm, ⟨31, _⟩ => ⟨S8x4112x4112, .f32⟩
  | .hbm, ⟨32, _⟩ => ⟨S_, .f32⟩
  | .hbm, ⟨33, _⟩ => ⟨S8x4112, .f32⟩
  | .hbm, ⟨34, _⟩ => ⟨S8x4112x1, .f32⟩
  | .hbm, ⟨35, _⟩ => ⟨S8x4112x4112, .f32⟩
  | .hbm, ⟨36, _⟩ => ⟨S8x4112x4112, .f32⟩
  | .hbm, ⟨37, _⟩ => ⟨S4112x8x64, .f32⟩
  | .hbm, ⟨38, _⟩ => ⟨S8x64x4112, .f32⟩
  | .hbm, ⟨39, _⟩ => ⟨S4112x8x64, .f32⟩
  | .hbm, ⟨40, _⟩ => ⟨S8x4112x1, .f32⟩
  | .hbm, ⟨41, _⟩ => ⟨S8x4112x1, .f32⟩
  | .hbm, ⟨42, _⟩ => ⟨S8x4112, .f32⟩
  | .hbm, ⟨43, _⟩ => ⟨S4112x8, .f32⟩
  | .hbm, ⟨44, _⟩ => ⟨S4112x8x64, .f32⟩
  | .hbm, ⟨45, _⟩ => ⟨S4112x8x64, .f32⟩
  | .hbm, ⟨46, _⟩ => ⟨S_, .f32⟩
  | .hbm, ⟨47, _⟩ => ⟨S4112x8, .f32⟩
  | .hbm, ⟨48, _⟩ => ⟨S_, .f32⟩
  | .hbm, ⟨49, _⟩ => ⟨S4112x512, .f32⟩
  | .hbm, ⟨50, _⟩ => ⟨S4112x512, .f32⟩
  | .hbm, ⟨51, _⟩ => ⟨S_, .i32⟩
  | .hbm, ⟨52, _⟩ => ⟨S_, .f32⟩
  | .hbm, ⟨53, _⟩ => ⟨S4224x512, .f32⟩
  | .hbm, ⟨54, _⟩ => ⟨S4224x512, .bf16⟩
  | .hbm, ⟨55, _⟩ => ⟨S_, .i32⟩
  | .hbm, ⟨56, _⟩ => ⟨S_, .f32⟩
  | .hbm, ⟨57, _⟩ => ⟨S4224x512, .f32⟩
  | .hbm, ⟨58, _⟩ => ⟨S4224x512, .bf16⟩
  | .hbm, ⟨59, _⟩ => ⟨S_, .i32⟩
  | .hbm, ⟨60, _⟩ => ⟨S_, .f32⟩
  | .hbm, ⟨61, _⟩ => ⟨S4224x512, .f32⟩
  | .hbm, ⟨62, _⟩ => ⟨S4224x512, .bf16⟩
  | .hbm, ⟨63, _⟩ => ⟨S_, .i32⟩
  | .hbm, ⟨64, _⟩ => ⟨S_, .f32⟩
  | .hbm, ⟨65, _⟩ => ⟨S4224x512, .f32⟩
  | .hbm, ⟨66, _⟩ => ⟨S4224x512, .bf16⟩
  | .hbm, ⟨67, _⟩ => ⟨S4112x4x2, .f32⟩
  | .hbm, ⟨68, _⟩ => ⟨S4x4112x2, .f32⟩
  | .hbm, ⟨69, _⟩ => ⟨S_, .i32⟩
  | .hbm, ⟨70, _⟩ => ⟨S_, .f32⟩
  | .hbm, ⟨71, _⟩ => ⟨S4x4224x128, .f32⟩
  | .hbm, ⟨72, _⟩ => ⟨S4112x4x2, .f32⟩
  | .hbm, ⟨73, _⟩ => ⟨S4x4112x2, .f32⟩
  | .hbm, ⟨74, _⟩ => ⟨S_, .i32⟩
  | .hbm, ⟨75, _⟩ => ⟨S_, .f32⟩
  | .hbm, ⟨76, _⟩ => ⟨S4x4224x128, .f32⟩
  | .hbm, ⟨77, _⟩ => ⟨S4112x4x2, .f32⟩
  | .hbm, ⟨78, _⟩ => ⟨S4x4112x2, .f32⟩
  | .hbm, ⟨79, _⟩ => ⟨S_, .i32⟩
  | .hbm, ⟨80, _⟩ => ⟨S_, .f32⟩
  | .hbm, ⟨81, _⟩ => ⟨S4x4224x128, .f32⟩
  | .hbm, ⟨82, _⟩ => ⟨S4224x512, .f32⟩
  | .hbm, ⟨83, _⟩ => ⟨S4224x512, .bf16⟩
  | .hbm, ⟨84, _⟩ => ⟨S4224x512, .bf16⟩
  | .hbm, ⟨85, _⟩ => ⟨S4x4224x128, .f32⟩
  | .hbm, ⟨86, _⟩ => ⟨S4x8x4224, .f32⟩
  | .local _ .vmem, ⟨0, _⟩ => ⟨S4224x128, .bf16⟩
  | .local _ .vmem, ⟨1, _⟩ => ⟨S4224x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .bf16⟩
  | .local _ .vmem, ⟨7, _⟩ => ⟨S4224x128, .bf16⟩
  | .local _ .vmem, ⟨8, _⟩ => ⟨S1x4224x128, .f32⟩
  | .local _ .vmem, ⟨9, _⟩ => ⟨S1x4224x128, .f32⟩
  | .local _ .vmem, ⟨10, _⟩ => ⟨S1x4224x128, .f32⟩
  | .local _ .vmem, ⟨11, _⟩ => ⟨S1x4224x128, .f32⟩
  | .local _ .vmem, ⟨12, _⟩ => ⟨S1x384x128, .f32⟩
  | .local _ .vmem, ⟨13, _⟩ => ⟨S1x384x128, .f32⟩
  | .local _ .vmem, ⟨14, _⟩ => ⟨S4224x128, .f32⟩
  | .local _ .vmem, ⟨15, _⟩ => ⟨S4224x128, .f32⟩
  | .local _ .vmem, ⟨16, _⟩ => ⟨S384x128, .bf16⟩
  | .local _ .vmem, ⟨17, _⟩ => ⟨S384x128, .bf16⟩
  | .local _ .vmem, ⟨18, _⟩ => ⟨S384x128, .bf16⟩
  | .local _ .vmem, ⟨19, _⟩ => ⟨S384x128, .bf16⟩
  | .local _ .vmem, ⟨20, _⟩ => ⟨S1x384x128, .f32⟩
  | .local _ .vmem, ⟨21, _⟩ => ⟨S1x384x128, .f32⟩
  | .local _ .vmem, ⟨22, _⟩ => ⟨S1x8x4224, .f32⟩
  | .local _ .vmem, ⟨23, _⟩ => ⟨S1x8x4224, .f32⟩
  | .local _ .vmem, ⟨24, _⟩ => ⟨S2x4224x128, .bf16⟩
  | .local _ .vmem, ⟨25, _⟩ => ⟨S2x128x4224, .bf16⟩
  | .local _ .vmem, ⟨26, _⟩ => ⟨S2x4224x128, .bf16⟩
  | .local _ .vmem, ⟨27, _⟩ => ⟨S2x128x4224, .bf16⟩
  | .local _ .vmem, ⟨28, _⟩ => ⟨S2x128x4224, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_call1_v0 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_call2_v0 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_call3_v0 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_call4_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_call5_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_call6_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_call7_v0 : Ref sig .tc := ⟨.hbm, 80, rfl⟩
abbrev main_v53 : Ref sig .tc := ⟨.hbm, 81, rfl⟩
abbrev main_v54_0 : Ref sig .tc := ⟨.hbm, 82, rfl⟩
abbrev main_v54_1 : Ref sig .tc := ⟨.hbm, 83, rfl⟩
abbrev main_v54_2 : Ref sig .tc := ⟨.hbm, 84, rfl⟩
abbrev main_v54_3 : Ref sig .tc := ⟨.hbm, 85, rfl⟩
abbrev main_v54_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c384_i32_58 : BitVec 32 := 384#32
  let v247 : BitVec 32 := Scalar.muli arg1 c384_i32_58
  v247
def k0_off1 (i : grid0.Coords) : Fin 3 → Nat :=
  let c0_59 : Index := 0#32
  let c0_60 : Index := 0#32
  let arg1 : BitVec 32 := BitVec.ofNat 32 (i 1).val
  let c384_i32_58 : BitVec 32 := 384#32
  let v247 : BitVec 32 := Scalar.muli arg1 c384_i32_58
  let v248 : BitVec 32 := v247
  let v249 : Index := Scalar.indexCast v248
  ![0, 0, v249.toNat]
def k0_off2 (i : grid0.Coords) : Fin 3 → Nat :=
  let c0_68 : Index := 0#32
  let arg1 : BitVec 32 := BitVec.ofNat 32 (i 1).val
  let c384_i32_58 : BitVec 32 := 384#32
  let v247 : BitVec 32 := Scalar.muli arg1 c384_i32_58
  let v248 : BitVec 32 := v247
  let v272 : Index := Scalar.indexCast v248
  let c0_69 : Index := 0#32
  ![0, v272.toNat, 0]
def k0_off3 (i : grid0.Coords) : Fin 3 → Nat :=
  let c1 : Index := 1#32
  let c0_79 : Index := 0#32
  let arg1 : BitVec 32 := BitVec.ofNat 32 (i 1).val
  let c384_i32_58 : BitVec 32 := 384#32
  let v247 : BitVec 32 := Scalar.muli arg1 c384_i32_58
  let v248 : BitVec 32 := v247
  let v291 : Index := Scalar.indexCast v248
  ![1, 0, v291.toNat]
def k0_off4 (i : grid0.Coords) : Fin 3 → Nat :=
  let c1_87 : Index := 1#32
  let arg1 : BitVec 32 := BitVec.ofNat 32 (i 1).val
  let c384_i32_58 : BitVec 32 := 384#32
  let v247 : BitVec 32 := Scalar.muli arg1 c384_i32_58
  let v248 : BitVec 32 := v247
  let v314 : Index := Scalar.indexCast v248
  let c0_88 : Index := 0#32
  ![1, v314.toNat, 0]
@[reducible] def k0_t1_loop (i : grid0.Coords) : Scf.Loop 32 :=
  let c0_i32_105 : BitVec 32 := 0#32
  let c10_i32 : BitVec 32 := 10#32
  let arg1 : BitVec 32 := BitVec.ofNat 32 (i 1).val
  let v333 : BitVec 32 := Scalar.subi c10_i32 arg1
  let c0_i32_99 : BitVec 32 := 0#32
  let v335 : BitVec 1 := Scalar.cmpi .sgt v333 c0_i32_99
  let v336 : BitVec 32 := Scalar.extui v335
  let c0_i32_100 : BitVec 32 := 0#32
  let v337 : BitVec 1 := Scalar.cmpi .slt v333 c0_i32_100
  let v338 : BitVec 32 := Scalar.extui v337
  let v339 : BitVec 32 := Scalar.subi v336 v338
  let c2_i32_98 : BitVec 32 := 2#32
  let c0_i32_101 : BitVec 32 := 0#32
  let v340 : BitVec 1 := Scalar.cmpi .sgt c2_i32_98 c0_i32_101
  let v341 : BitVec 32 := Scalar.extui v340
  let c0_i32_102 : BitVec 32 := 0#32
  let v342 : BitVec 1 := Scalar.cmpi .slt c2_i32_98 c0_i32_102
  let v343 : BitVec 32 := Scalar.extui v342
  let v344 : BitVec 32 := Scalar.subi v341 v343
  let v345 : BitVec 1 := Scalar.cmpi .ne v339 v344
  let v346 : BitVec 32 := Scalar.remsi v333 c2_i32_98
  let c0_i32_103 : BitVec 32 := 0#32
  let v347 : BitVec 1 := Scalar.cmpi .ne v346 c0_i32_103
  let v348 : BitVec 1 := Scalar.andi v345 v347
  let v334 : BitVec 32 := Scalar.divsi v333 c2_i32_98
  let c1_i32_104 : BitVec 32 := 1#32
  let v349 : BitVec 32 := Scalar.subi v334 c1_i32_104
  let v350 : BitVec 32 := Scalar.select v348 v349 v334
  let v351 : BitVec 32 := Scalar.subi v350 c0_i32_105
  let c1_i32_106 : BitVec 32 := 1#32
  let v353 : BitVec 32 := Scalar.divsi v351 c1_i32_106
  let v354 : BitVec 32 := Scalar.muli v353 c1_i32_106
  let v355 : BitVec 32 := Scalar.addi c0_i32_105 v354
  let c1_i32_107 : BitVec 32 := 1#32
  ⟨c0_i32_105, v355, c1_i32_107⟩
def k0_mult2 (i : grid0.Coords) (k0_t1 : Fin (k0_t1_loop i).trips) : BitVec 32 :=
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c1_i32_107 : BitVec 32 := 1#32
  let arg19 : BitVec 32 := Scf.iv c0_i32_105 c1_i32_107 k0_t1
  let v415 : BitVec 32 := Scalar.muli c2_i32_134 arg19
  let v416 : BitVec 32 := Scalar.addi v414 v415
  let c384_i32_135 : BitVec 32 := 384#32
  let v417 : BitVec 32 := Scalar.muli v416 c384_i32_135
  v417
def k0_off5 (i : grid0.Coords) (k0_t1 : Fin (k0_t1_loop i).trips) : Fin 3 → Nat :=
  let c0_136 : Index := 0#32
  let c0_137 : Index := 0#32
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c1_i32_107 : BitVec 32 := 1#32
  let arg19 : BitVec 32 := Scf.iv c0_i32_105 c1_i32_107 k0_t1
  let v415 : BitVec 32 := Scalar.muli c2_i32_134 arg19
  let v416 : BitVec 32 := Scalar.addi v414 v415
  let c384_i32_135 : BitVec 32 := 384#32
  let v417 : BitVec 32 := Scalar.muli v416 c384_i32_135
  let v418 : BitVec 32 := v417
  let v419 : Index := Scalar.indexCast v418
  ![0, 0, v419.toNat]
def k0_off6 (i : grid0.Coords) (k0_t1 : Fin (k0_t1_loop i).trips) : Fin 3 → Nat :=
  let c0_142 : Index := 0#32
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c1_i32_107 : BitVec 32 := 1#32
  let arg19 : BitVec 32 := Scf.iv c0_i32_105 c1_i32_107 k0_t1
  let v415 : BitVec 32 := Scalar.muli c2_i32_134 arg19
  let v416 : BitVec 32 := Scalar.addi v414 v415
  let c384_i32_135 : BitVec 32 := 384#32
  let v417 : BitVec 32 := Scalar.muli v416 c384_i32_135
  let v418 : BitVec 32 := v417
  let v431 : Index := Scalar.indexCast v418
  let c0_143 : Index := 0#32
  ![0, v431.toNat, 0]
def k0_off7 (i : grid0.Coords) (k0_t1 : Fin (k0_t1_loop i).trips) : Fin 3 → Nat :=
  let c1_153 : Index := 1#32
  let c0_154 : Index := 0#32
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c1_i32_107 : BitVec 32 := 1#32
  let arg19 : BitVec 32 := Scf.iv c0_i32_105 c1_i32_107 k0_t1
  let v415 : BitVec 32 := Scalar.muli c2_i32_134 arg19
  let v416 : BitVec 32 := Scalar.addi v414 v415
  let c384_i32_135 : BitVec 32 := 384#32
  let v417 : BitVec 32 := Scalar.muli v416 c384_i32_135
  let v418 : BitVec 32 := v417
  let v450 : Index := Scalar.indexCast v418
  ![1, 0, v450.toNat]
def k0_off8 (i : grid0.Coords) (k0_t1 : Fin (k0_t1_loop i).trips) : Fin 3 → Nat :=
  let c1_159 : Index := 1#32
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c1_i32_107 : BitVec 32 := 1#32
  let arg19 : BitVec 32 := Scf.iv c0_i32_105 c1_i32_107 k0_t1
  let v415 : BitVec 32 := Scalar.muli c2_i32_134 arg19
  let v416 : BitVec 32 := Scalar.addi v414 v415
  let c384_i32_135 : BitVec 32 := 384#32
  let v417 : BitVec 32 := Scalar.muli v416 c384_i32_135
  let v418 : BitVec 32 := v417
  let v462 : Index := Scalar.indexCast v418
  let c0_160 : Index := 0#32
  ![1, v462.toNat, 0]
@[reducible] def k0_t2_loop (i : grid0.Coords) : Scf.Loop 32 :=
  let c0_i32_105 : BitVec 32 := 0#32
  let c10_i32 : BitVec 32 := 10#32
  let arg1 : BitVec 32 := BitVec.ofNat 32 (i 1).val
  let v333 : BitVec 32 := Scalar.subi c10_i32 arg1
  let c0_i32_99 : BitVec 32 := 0#32
  let v335 : BitVec 1 := Scalar.cmpi .sgt v333 c0_i32_99
  let v336 : BitVec 32 := Scalar.extui v335
  let c0_i32_100 : BitVec 32 := 0#32
  let v337 : BitVec 1 := Scalar.cmpi .slt v333 c0_i32_100
  let v338 : BitVec 32 := Scalar.extui v337
  let v339 : BitVec 32 := Scalar.subi v336 v338
  let c2_i32_98 : BitVec 32 := 2#32
  let c0_i32_101 : BitVec 32 := 0#32
  let v340 : BitVec 1 := Scalar.cmpi .sgt c2_i32_98 c0_i32_101
  let v341 : BitVec 32 := Scalar.extui v340
  let c0_i32_102 : BitVec 32 := 0#32
  let v342 : BitVec 1 := Scalar.cmpi .slt c2_i32_98 c0_i32_102
  let v343 : BitVec 32 := Scalar.extui v342
  let v344 : BitVec 32 := Scalar.subi v341 v343
  let v345 : BitVec 1 := Scalar.cmpi .ne v339 v344
  let v346 : BitVec 32 := Scalar.remsi v333 c2_i32_98
  let c0_i32_103 : BitVec 32 := 0#32
  let v347 : BitVec 1 := Scalar.cmpi .ne v346 c0_i32_103
  let v348 : BitVec 1 := Scalar.andi v345 v347
  let v334 : BitVec 32 := Scalar.divsi v333 c2_i32_98
  let c1_i32_104 : BitVec 32 := 1#32
  let v349 : BitVec 32 := Scalar.subi v334 c1_i32_104
  let v350 : BitVec 32 := Scalar.select v348 v349 v334
  let v351 : BitVec 32 := Scalar.subi v350 c0_i32_105
  let c1_i32_106 : BitVec 32 := 1#32
  let v353 : BitVec 32 := Scalar.divsi v351 c1_i32_106
  let v354 : BitVec 32 := Scalar.muli v353 c1_i32_106
  let v355 : BitVec 32 := Scalar.addi c0_i32_105 v354
  let v352 : BitVec 32 := Scalar.addi c0_i32_105 v351
  let c1_i32_108 : BitVec 32 := 1#32
  ⟨v355, v352, c1_i32_108⟩
def k0_mult3 (i : grid0.Coords) (k0_t2 : Fin (k0_t2_loop i).trips) : BitVec 32 :=
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c10_i32 : BitVec 32 := 10#32
  let v333 : BitVec 32 := Scalar.subi c10_i32 arg1
  let c0_i32_99 : BitVec 32 := 0#32
  let v335 : BitVec 1 := Scalar.cmpi .sgt v333 c0_i32_99
  let v336 : BitVec 32 := Scalar.extui v335
  let c0_i32_100 : BitVec 32 := 0#32
  let v337 : BitVec 1 := Scalar.cmpi .slt v333 c0_i32_100
  let v338 : BitVec 32 := Scalar.extui v337
  let v339 : BitVec 32 := Scalar.subi v336 v338
  let c2_i32_98 : BitVec 32 := 2#32
  let c0_i32_101 : BitVec 32 := 0#32
  let v340 : BitVec 1 := Scalar.cmpi .sgt c2_i32_98 c0_i32_101
  let v341 : BitVec 32 := Scalar.extui v340
  let c0_i32_102 : BitVec 32 := 0#32
  let v342 : BitVec 1 := Scalar.cmpi .slt c2_i32_98 c0_i32_102
  let v343 : BitVec 32 := Scalar.extui v342
  let v344 : BitVec 32 := Scalar.subi v341 v343
  let v345 : BitVec 1 := Scalar.cmpi .ne v339 v344
  let v346 : BitVec 32 := Scalar.remsi v333 c2_i32_98
  let c0_i32_103 : BitVec 32 := 0#32
  let v347 : BitVec 1 := Scalar.cmpi .ne v346 c0_i32_103
  let v348 : BitVec 1 := Scalar.andi v345 v347
  let v334 : BitVec 32 := Scalar.divsi v333 c2_i32_98
  let c1_i32_104 : BitVec 32 := 1#32
  let v349 : BitVec 32 := Scalar.subi v334 c1_i32_104
  let v350 : BitVec 32 := Scalar.select v348 v349 v334
  let v351 : BitVec 32 := Scalar.subi v350 c0_i32_105
  let c1_i32_106 : BitVec 32 := 1#32
  let v353 : BitVec 32 := Scalar.divsi v351 c1_i32_106
  let v354 : BitVec 32 := Scalar.muli v353 c1_i32_106
  let v355 : BitVec 32 := Scalar.addi c0_i32_105 v354
  let c1_i32_108 : BitVec 32 := 1#32
  let arg19 : BitVec 32 := Scf.iv v355 c1_i32_108 k0_t2
  let v415 : BitVec 32 := Scalar.muli c2_i32_134 arg19
  let v416 : BitVec 32 := Scalar.addi v414 v415
  let c384_i32_135 : BitVec 32 := 384#32
  let v417 : BitVec 32 := Scalar.muli v416 c384_i32_135
  v417
def k0_off9 (i : grid0.Coords) (k0_t2 : Fin (k0_t2_loop i).trips) : Fin 3 → Nat :=
  let c0_136 : Index := 0#32
  let c0_137 : Index := 0#32
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c10_i32 : BitVec 32 := 10#32
  let v333 : BitVec 32 := Scalar.subi c10_i32 arg1
  let c0_i32_99 : BitVec 32 := 0#32
  let v335 : BitVec 1 := Scalar.cmpi .sgt v333 c0_i32_99
  let v336 : BitVec 32 := Scalar.extui v335
  let c0_i32_100 : BitVec 32 := 0#32
  let v337 : BitVec 1 := Scalar.cmpi .slt v333 c0_i32_100
  let v338 : BitVec 32 := Scalar.extui v337
  let v339 : BitVec 32 := Scalar.subi v336 v338
  let c2_i32_98 : BitVec 32 := 2#32
  let c0_i32_101 : BitVec 32 := 0#32
  let v340 : BitVec 1 := Scalar.cmpi .sgt c2_i32_98 c0_i32_101
  let v341 : BitVec 32 := Scalar.extui v340
  let c0_i32_102 : BitVec 32 := 0#32
  let v342 : BitVec 1 := Scalar.cmpi .slt c2_i32_98 c0_i32_102
  let v343 : BitVec 32 := Scalar.extui v342
  let v344 : BitVec 32 := Scalar.subi v341 v343
  let v345 : BitVec 1 := Scalar.cmpi .ne v339 v344
  let v346 : BitVec 32 := Scalar.remsi v333 c2_i32_98
  let c0_i32_103 : BitVec 32 := 0#32
  let v347 : BitVec 1 := Scalar.cmpi .ne v346 c0_i32_103
  let v348 : BitVec 1 := Scalar.andi v345 v347
  let v334 : BitVec 32 := Scalar.divsi v333 c2_i32_98
  let c1_i32_104 : BitVec 32 := 1#32
  let v349 : BitVec 32 := Scalar.subi v334 c1_i32_104
  let v350 : BitVec 32 := Scalar.select v348 v349 v334
  let v351 : BitVec 32 := Scalar.subi v350 c0_i32_105
  let c1_i32_106 : BitVec 32 := 1#32
  let v353 : BitVec 32 := Scalar.divsi v351 c1_i32_106
  let v354 : BitVec 32 := Scalar.muli v353 c1_i32_106
  let v355 : BitVec 32 := Scalar.addi c0_i32_105 v354
  let c1_i32_108 : BitVec 32 := 1#32
  let arg19 : BitVec 32 := Scf.iv v355 c1_i32_108 k0_t2
  let v415 : BitVec 32 := Scalar.muli c2_i32_134 arg19
  let v416 : BitVec 32 := Scalar.addi v414 v415
  let c384_i32_135 : BitVec 32 := 384#32
  let v417 : BitVec 32 := Scalar.muli v416 c384_i32_135
  let v418 : BitVec 32 := v417
  let v419 : Index := Scalar.indexCast v418
  ![0, 0, v419.toNat]
def k0_off10 (i : grid0.Coords) (k0_t2 : Fin (k0_t2_loop i).trips) : Fin 3 → Nat :=
  let c0_142 : Index := 0#32
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c10_i32 : BitVec 32 := 10#32
  let v333 : BitVec 32 := Scalar.subi c10_i32 arg1
  let c0_i32_99 : BitVec 32 := 0#32
  let v335 : BitVec 1 := Scalar.cmpi .sgt v333 c0_i32_99
  let v336 : BitVec 32 := Scalar.extui v335
  let c0_i32_100 : BitVec 32 := 0#32
  let v337 : BitVec 1 := Scalar.cmpi .slt v333 c0_i32_100
  let v338 : BitVec 32 := Scalar.extui v337
  let v339 : BitVec 32 := Scalar.subi v336 v338
  let c2_i32_98 : BitVec 32 := 2#32
  let c0_i32_101 : BitVec 32 := 0#32
  let v340 : BitVec 1 := Scalar.cmpi .sgt c2_i32_98 c0_i32_101
  let v341 : BitVec 32 := Scalar.extui v340
  let c0_i32_102 : BitVec 32 := 0#32
  let v342 : BitVec 1 := Scalar.cmpi .slt c2_i32_98 c0_i32_102
  let v343 : BitVec 32 := Scalar.extui v342
  let v344 : BitVec 32 := Scalar.subi v341 v343
  let v345 : BitVec 1 := Scalar.cmpi .ne v339 v344
  let v346 : BitVec 32 := Scalar.remsi v333 c2_i32_98
  let c0_i32_103 : BitVec 32 := 0#32
  let v347 : BitVec 1 := Scalar.cmpi .ne v346 c0_i32_103
  let v348 : BitVec 1 := Scalar.andi v345 v347
  let v334 : BitVec 32 := Scalar.divsi v333 c2_i32_98
  let c1_i32_104 : BitVec 32 := 1#32
  let v349 : BitVec 32 := Scalar.subi v334 c1_i32_104
  let v350 : BitVec 32 := Scalar.select v348 v349 v334
  let v351 : BitVec 32 := Scalar.subi v350 c0_i32_105
  let c1_i32_106 : BitVec 32 := 1#32
  let v353 : BitVec 32 := Scalar.divsi v351 c1_i32_106
  let v354 : BitVec 32 := Scalar.muli v353 c1_i32_106
  let v355 : BitVec 32 := Scalar.addi c0_i32_105 v354
  let c1_i32_108 : BitVec 32 := 1#32
  let arg19 : BitVec 32 := Scf.iv v355 c1_i32_108 k0_t2
  let v415 : BitVec 32 := Scalar.muli c2_i32_134 arg19
  let v416 : BitVec 32 := Scalar.addi v414 v415
  let c384_i32_135 : BitVec 32 := 384#32
  let v417 : BitVec 32 := Scalar.muli v416 c384_i32_135
  let v418 : BitVec 32 := v417
  let v431 : Index := Scalar.indexCast v418
  let c0_143 : Index := 0#32
  ![0, v431.toNat, 0]
def k0_off11 (i : grid0.Coords) (k0_t2 : Fin (k0_t2_loop i).trips) : Fin 3 → Nat :=
  let c1_153 : Index := 1#32
  let c0_154 : Index := 0#32
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c10_i32 : BitVec 32 := 10#32
  let v333 : BitVec 32 := Scalar.subi c10_i32 arg1
  let c0_i32_99 : BitVec 32 := 0#32
  let v335 : BitVec 1 := Scalar.cmpi .sgt v333 c0_i32_99
  let v336 : BitVec 32 := Scalar.extui v335
  let c0_i32_100 : BitVec 32 := 0#32
  let v337 : BitVec 1 := Scalar.cmpi .slt v333 c0_i32_100
  let v338 : BitVec 32 := Scalar.extui v337
  let v339 : BitVec 32 := Scalar.subi v336 v338
  let c2_i32_98 : BitVec 32 := 2#32
  let c0_i32_101 : BitVec 32 := 0#32
  let v340 : BitVec 1 := Scalar.cmpi .sgt c2_i32_98 c0_i32_101
  let v341 : BitVec 32 := Scalar.extui v340
  let c0_i32_102 : BitVec 32 := 0#32
  let v342 : BitVec 1 := Scalar.cmpi .slt c2_i32_98 c0_i32_102
  let v343 : BitVec 32 := Scalar.extui v342
  let v344 : BitVec 32 := Scalar.subi v341 v343
  let v345 : BitVec 1 := Scalar.cmpi .ne v339 v344
  let v346 : BitVec 32 := Scalar.remsi v333 c2_i32_98
  let c0_i32_103 : BitVec 32 := 0#32
  let v347 : BitVec 1 := Scalar.cmpi .ne v346 c0_i32_103
  let v348 : BitVec 1 := Scalar.andi v345 v347
  let v334 : BitVec 32 := Scalar.divsi v333 c2_i32_98
  let c1_i32_104 : BitVec 32 := 1#32
  let v349 : BitVec 32 := Scalar.subi v334 c1_i32_104
  let v350 : BitVec 32 := Scalar.select v348 v349 v334
  let v351 : BitVec 32 := Scalar.subi v350 c0_i32_105
  let c1_i32_106 : BitVec 32 := 1#32
  let v353 : BitVec 32 := Scalar.divsi v351 c1_i32_106
  let v354 : BitVec 32 := Scalar.muli v353 c1_i32_106
  let v355 : BitVec 32 := Scalar.addi c0_i32_105 v354
  let c1_i32_108 : BitVec 32 := 1#32
  let arg19 : BitVec 32 := Scf.iv v355 c1_i32_108 k0_t2
  let v415 : BitVec 32 := Scalar.muli c2_i32_134 arg19
  let v416 : BitVec 32 := Scalar.addi v414 v415
  let c384_i32_135 : BitVec 32 := 384#32
  let v417 : BitVec 32 := Scalar.muli v416 c384_i32_135
  let v418 : BitVec 32 := v417
  let v450 : Index := Scalar.indexCast v418
  ![1, 0, v450.toNat]
def k0_off12 (i : grid0.Coords) (k0_t2 : Fin (k0_t2_loop i).trips) : Fin 3 → Nat :=
  let c1_159 : Index := 1#32
  let arg1 : BitVec 32 := BitVec.ofNat 32 (i 1).val
  let c1_i32_133 : BitVec 32 := 1#32
  let v414 : BitVec 32 := Scalar.addi arg1 c1_i32_133
  let c2_i32_134 : BitVec 32 := 2#32
  let c0_i32_105 : BitVec 32 := 0#32
  let c10_i32 : BitVec 32 := 10#32
  let v333 : BitVec 32 := Scalar.subi c10_i32 arg1
  let c0_i32_99 : BitVec 32 := 0#32
  let v335 : BitVec 1 := Scalar.cmpi .sgt v333 c0_i32_99
  let v336 : BitVec 32 := Scalar.extui v335
  let c0_i32_100 : BitVec 32 := 0#32
  let v337 : BitVec 1 := Scalar.cmpi .slt v333 c0_i32_100
  let v338 : BitVec 32 := Scalar.extui v337
  let v339 : BitVec 32 := Scalar.subi v336 v338
  let c2_i32_98 : BitVec 32 := 2#32
  let c0_i32_101 : BitVec 32 := 0#32
  let v340 : BitVec 1 := Scalar.cmpi .sgt c2_i32_98 c0_i32_101
  let v341 : BitVec 32 := Scalar.extui v340
  let c0_i32_102 : BitVec 32 := 0#32
  let v342 : BitVec 1 := Scalar.cmpi .slt c2_i32_98 c0_i32_102
  let v343 : BitVec 32 := Scalar.extui v342
  let v344 : BitVec 32 := Scalar.subi v341 v343
  let v345 : BitVec 1 := Scalar.cmpi .ne v339 v344
  let v346 : BitVec 32 := Scalar.remsi v333 c2_i32_98
  let c0_i32_103 : BitVec 32 := 0#32
  let v347 : BitVec 1 := Scalar.cmpi .ne v346 c0_i32_103
  let v348 : BitVec 1 := Scalar.andi v345 v347
  let v334 : BitVec 32 := Scalar.divsi v333 c2_i32_98
  let c1_i32_104 : BitVec 32 := 1#32
  let v349 : BitVec 32 := Scalar.subi v334 c1_i32_104
  let v350 : BitVec 32 := Scalar.select v348 v349 v334
  let v351 : BitVec 32 := Scalar.subi v350 c0_i32_105
  let c1_i32_106 : BitVec 32 := 1#32
  let v353 : BitVec 32 := Scalar.divsi v351 c1_i32_106
  let v354 : BitVec 32 := Scalar.muli v353 c1_i32_106
  let v355 : BitVec 32 := Scalar.addi c0_i32_105 v354
  let c1_i32_108 : BitVec 32 := 1#32
  let arg19 : BitVec 32 := Scf.iv v355 c1_i32_108 k0_t2
  let v415 : BitVec 32 := Scalar.muli c2_i32_134 arg19
  let v416 : BitVec 32 := Scalar.addi v414 v415
  let c384_i32_135 : BitVec 32 := 384#32
  let v417 : BitVec 32 := Scalar.muli v416 c384_i32_135
  let v418 : BitVec 32 := v417
  let v462 : Index := Scalar.indexCast v418
  let c0_160 : Index := 0#32
  ![1, v462.toNat, 0]
@[reducible] def k0_t3_loop (i : grid0.Coords) : Scf.Loop 32 :=
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c11_i32_115 : BitVec 32 := 11#32
  let v369 : BitVec 32 := Scalar.subi c11_i32_115 v368
  let c1_i32_116 : BitVec 32 := 1#32
  let v371 : BitVec 32 := Scalar.divsi v369 c1_i32_116
  let v372 : BitVec 32 := Scalar.muli v371 c1_i32_116
  let v373 : BitVec 32 := Scalar.addi v368 v372
  let c1_i32_117 : BitVec 32 := 1#32
  ⟨v368, v373, c1_i32_117⟩
def k0_mult4 (i : grid0.Coords) (k0_t3 : Fin (k0_t3_loop i).trips) : BitVec 32 :=
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c1_i32_117 : BitVec 32 := 1#32
  let arg19 : BitVec 32 := Scf.iv v368 c1_i32_117 k0_t3
  let c384_i32_133 : BitVec 32 := 384#32
  let v414 : BitVec 32 := Scalar.muli arg19 c384_i32_133
  v414
def k0_off13 (i : grid0.Coords) (k0_t3 : Fin (k0_t3_loop i).trips) : Fin 3 → Nat :=
  let c0_134 : Index := 0#32
  let c0_135 : Index := 0#32
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c1_i32_117 : BitVec 32 := 1#32
  let arg19 : BitVec 32 := Scf.iv v368 c1_i32_117 k0_t3
  let c384_i32_133 : BitVec 32 := 384#32
  let v414 : BitVec 32 := Scalar.muli arg19 c384_i32_133
  let v415 : BitVec 32 := v414
  let v416 : Index := Scalar.indexCast v415
  ![0, 0, v416.toNat]
def k0_off14 (i : grid0.Coords) (k0_t3 : Fin (k0_t3_loop i).trips) : Fin 3 → Nat :=
  let c0_140 : Index := 0#32
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c1_i32_117 : BitVec 32 := 1#32
  let arg19 : BitVec 32 := Scf.iv v368 c1_i32_117 k0_t3
  let c384_i32_133 : BitVec 32 := 384#32
  let v414 : BitVec 32 := Scalar.muli arg19 c384_i32_133
  let v415 : BitVec 32 := v414
  let v428 : Index := Scalar.indexCast v415
  let c0_141 : Index := 0#32
  ![0, v428.toNat, 0]
def k0_off15 (i : grid0.Coords) (k0_t3 : Fin (k0_t3_loop i).trips) : Fin 3 → Nat :=
  let c1_151 : Index := 1#32
  let c0_152 : Index := 0#32
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c1_i32_117 : BitVec 32 := 1#32
  let arg19 : BitVec 32 := Scf.iv v368 c1_i32_117 k0_t3
  let c384_i32_133 : BitVec 32 := 384#32
  let v414 : BitVec 32 := Scalar.muli arg19 c384_i32_133
  let v415 : BitVec 32 := v414
  let v447 : Index := Scalar.indexCast v415
  ![1, 0, v447.toNat]
def k0_off16 (i : grid0.Coords) (k0_t3 : Fin (k0_t3_loop i).trips) : Fin 3 → Nat :=
  let c1_157 : Index := 1#32
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c1_i32_117 : BitVec 32 := 1#32
  let arg19 : BitVec 32 := Scf.iv v368 c1_i32_117 k0_t3
  let c384_i32_133 : BitVec 32 := 384#32
  let v414 : BitVec 32 := Scalar.muli arg19 c384_i32_133
  let v415 : BitVec 32 := v414
  let v459 : Index := Scalar.indexCast v415
  let c0_158 : Index := 0#32
  ![1, v459.toNat, 0]
@[reducible] def k0_t4_loop (i : grid0.Coords) : Scf.Loop 32 :=
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c11_i32_115 : BitVec 32 := 11#32
  let v369 : BitVec 32 := Scalar.subi c11_i32_115 v368
  let c1_i32_116 : BitVec 32 := 1#32
  let v371 : BitVec 32 := Scalar.divsi v369 c1_i32_116
  let v372 : BitVec 32 := Scalar.muli v371 c1_i32_116
  let v373 : BitVec 32 := Scalar.addi v368 v372
  let v370 : BitVec 32 := Scalar.addi v368 v369
  let c1_i32_118 : BitVec 32 := 1#32
  ⟨v373, v370, c1_i32_118⟩
def k0_mult5 (i : grid0.Coords) (k0_t4 : Fin (k0_t4_loop i).trips) : BitVec 32 :=
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c11_i32_115 : BitVec 32 := 11#32
  let v369 : BitVec 32 := Scalar.subi c11_i32_115 v368
  let c1_i32_116 : BitVec 32 := 1#32
  let v371 : BitVec 32 := Scalar.divsi v369 c1_i32_116
  let v372 : BitVec 32 := Scalar.muli v371 c1_i32_116
  let v373 : BitVec 32 := Scalar.addi v368 v372
  let c1_i32_118 : BitVec 32 := 1#32
  let arg19 : BitVec 32 := Scf.iv v373 c1_i32_118 k0_t4
  let c384_i32_133 : BitVec 32 := 384#32
  let v414 : BitVec 32 := Scalar.muli arg19 c384_i32_133
  v414
def k0_off17 (i : grid0.Coords) (k0_t4 : Fin (k0_t4_loop i).trips) : Fin 3 → Nat :=
  let c0_134 : Index := 0#32
  let c0_135 : Index := 0#32
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c11_i32_115 : BitVec 32 := 11#32
  let v369 : BitVec 32 := Scalar.subi c11_i32_115 v368
  let c1_i32_116 : BitVec 32 := 1#32
  let v371 : BitVec 32 := Scalar.divsi v369 c1_i32_116
  let v372 : BitVec 32 := Scalar.muli v371 c1_i32_116
  let v373 : BitVec 32 := Scalar.addi v368 v372
  let c1_i32_118 : BitVec 32 := 1#32
  let arg19 : BitVec 32 := Scf.iv v373 c1_i32_118 k0_t4
  let c384_i32_133 : BitVec 32 := 384#32
  let v414 : BitVec 32 := Scalar.muli arg19 c384_i32_133
  let v415 : BitVec 32 := v414
  let v416 : Index := Scalar.indexCast v415
  ![0, 0, v416.toNat]
def k0_off18 (i : grid0.Coords) (k0_t4 : Fin (k0_t4_loop i).trips) : Fin 3 → Nat :=
  let c0_140 : Index := 0#32
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c11_i32_115 : BitVec 32 := 11#32
  let v369 : BitVec 32 := Scalar.subi c11_i32_115 v368
  let c1_i32_116 : BitVec 32 := 1#32
  let v371 : BitVec 32 := Scalar.divsi v369 c1_i32_116
  let v372 : BitVec 32 := Scalar.muli v371 c1_i32_116
  let v373 : BitVec 32 := Scalar.addi v368 v372
  let c1_i32_118 : BitVec 32 := 1#32
  let arg19 : BitVec 32 := Scf.iv v373 c1_i32_118 k0_t4
  let c384_i32_133 : BitVec 32 := 384#32
  let v414 : BitVec 32 := Scalar.muli arg19 c384_i32_133
  let v415 : BitVec 32 := v414
  let v428 : Index := Scalar.indexCast v415
  let c0_141 : Index := 0#32
  ![0, v428.toNat, 0]
def k0_off19 (i : grid0.Coords) (k0_t4 : Fin (k0_t4_loop i).trips) : Fin 3 → Nat :=
  let c1_151 : Index := 1#32
  let c0_152 : Index := 0#32
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c11_i32_115 : BitVec 32 := 11#32
  let v369 : BitVec 32 := Scalar.subi c11_i32_115 v368
  let c1_i32_116 : BitVec 32 := 1#32
  let v371 : BitVec 32 := Scalar.divsi v369 c1_i32_116
  let v372 : BitVec 32 := Scalar.muli v371 c1_i32_116
  let v373 : BitVec 32 := Scalar.addi v368 v372
  let c1_i32_118 : BitVec 32 := 1#32
  let arg19 : BitVec 32 := Scf.iv v373 c1_i32_118 k0_t4
  let c384_i32_133 : BitVec 32 := 384#32
  let v414 : BitVec 32 := Scalar.muli arg19 c384_i32_133
  let v415 : BitVec 32 := v414
  let v447 : Index := Scalar.indexCast v415
  ![1, 0, v447.toNat]
def k0_off20 (i : grid0.Coords) (k0_t4 : Fin (k0_t4_loop i).trips) : Fin 3 → Nat :=
  let c1_157 : Index := 1#32
  let c11_i32 : BitVec 32 := 11#32
  let c10_i32 : BitVec 32 := 10#32
  let arg1 : BitVec 32 := BitVec.ofNat 32 (i 1).val
  let v333 : BitVec 32 := Scalar.subi c10_i32 arg1
  let c2_i32_109 : BitVec 32 := 2#32
  let c0_i32_110 : BitVec 32 := 0#32
  let v358 : BitVec 1 := Scalar.cmpi .eq c2_i32_109 c0_i32_110
  let c1_i32_111 : BitVec 32 := 1#32
  let v359 : BitVec 32 := Scalar.select v358 c1_i32_111 c2_i32_109
  let v360 : BitVec 32 := Scalar.remsi v333 v359
  let c0_i32_113 : BitVec 32 := 0#32
  let v362 : BitVec 1 := Scalar.cmpi .slt v360 c0_i32_113
  let c0_i32_114 : BitVec 32 := 0#32
  let v363 : BitVec 1 := Scalar.cmpi .slt v359 c0_i32_114
  let v364 : BitVec 1 := Scalar.xori v362 v363
  let c0_i32_112 : BitVec 32 := 0#32
  let v361 : BitVec 1 := Scalar.cmpi .ne v360 c0_i32_112
  let v365 : BitVec 1 := Scalar.andi v364 v361
  let v366 : BitVec 32 := Scalar.addi v360 v359
  let v367 : BitVec 32 := Scalar.select v365 v366 v360
  let v368 : BitVec 32 := Scalar.subi c11_i32 v367
  let c11_i32_115 : BitVec 32 := 11#32
  let v369 : BitVec 32 := Scalar.subi c11_i32_115 v368
  let c1_i32_116 : BitVec 32 := 1#32
  let v371 : BitVec 32 := Scalar.divsi v369 c1_i32_116
  let v372 : BitVec 32 := Scalar.muli v371 c1_i32_116
  let v373 : BitVec 32 := Scalar.addi v368 v372
  let c1_i32_118 : BitVec 32 := 1#32
  let arg19 : BitVec 32 := Scf.iv v373 c1_i32_118 k0_t4
  let c384_i32_133 : BitVec 32 := 384#32
  let v414 : BitVec 32 := Scalar.muli arg19 c384_i32_133
  let v415 : BitVec 32 := v414
  let v459 : Index := Scalar.indexCast v415
  let c0_158 : Index := 0#32
  ![1, v459.toNat, 0]
def k0_cond2 (i : grid0.Coords) : BitVec 1 :=
  let arg1 : BitVec 32 := BitVec.ofNat 32 (i 1).val
  let c10_i32_131 : BitVec 32 := 10#32
  let v411 : BitVec 1 := Scalar.cmpi .eq arg1 c10_i32_131
  let v412 : BitVec 32 := Scalar.extui v411
  let c0_i32_132 : BitVec 32 := 0#32
  let v413 : BitVec 1 := Scalar.cmpi .ne v412 c0_i32_132
  v413

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4224x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x4224 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4112x512 : Shape := ⟨2, ![4112, 512]⟩
abbrev S4112x8 : Shape := ⟨2, ![4112, 8]⟩
abbrev S4112x8x64 : Shape := ⟨3, ![4112, 8, 64]⟩
abbrev S8x4112x4112 : Shape := ⟨3, ![8, 4112, 4112]⟩
abbrev S_ : Shape := ⟨0, ![]⟩
abbrev S8x4112 : Shape := ⟨2, ![8, 4112]⟩
abbrev S8x4112x1 : Shape := ⟨3, ![8, 4112, 1]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x64x4112 : Shape := ⟨3, ![8, 64, 4112]⟩
abbrev S8x4112x64 : Shape := ⟨3, ![8, 4112, 64]⟩
abbrev S4112x4x2 : Shape := ⟨3, ![4112, 4, 2]⟩
abbrev S4x4112x2 : Shape := ⟨3, ![4, 4112, 2]⟩
abbrev S4x4224x128 : Shape := ⟨3, ![4, 4224, 128]⟩
abbrev S4x2x4112 : Shape := ⟨3, ![4, 2, 4112]⟩
abbrev S4x8x4224 : Shape := ⟨3, ![4, 8, 4224]⟩
abbrev S4224x512 : Shape := ⟨2, ![4224, 512]⟩

abbrev nBuf : Space → Nat
  | .hbm => 141
  | .vmem => 0
  | .smem => 0
  | _ => 0

abbrev hbmTy0_0 (i : Nat) : BufTy := match i % 128 with
  | 0 => ⟨S4112x512, .f32⟩
  | 1 => ⟨S4112x512, .f32⟩
  | 2 => ⟨S4112x512, .f32⟩
  | 3 => ⟨S4112x8, .f32⟩
  | 4 => ⟨S4112x512, .f32⟩
  | 5 => ⟨S4112x8x64, .f32⟩
  | 6 => ⟨S4112x8x64, .f32⟩
  | 7 => ⟨S8x4112x4112, .f32⟩
  | 8 => ⟨S_, .f32⟩
  | 9 => ⟨S8x4112x4112, .f32⟩
  | 10 => ⟨S8x4112x4112, .f32⟩
  | 11 => ⟨S8x4112, .f32⟩
  | 12 => ⟨S8x4112x1, .f32⟩
  | 13 => ⟨S8x4112, .f32⟩
  | 14 => ⟨S8x1x4112, .f32⟩
  | 15 => ⟨S8x4112x4112, .f32⟩
  | 16 => ⟨S8x4112x4112, .f32⟩
  | 17 => ⟨S8x4112x4112, .f32⟩
  | 18 => ⟨S8x4112x4112, .f32⟩
  | 19 => ⟨S4112, .i32⟩
  | 20 => ⟨S1x4112, .i32⟩
  | 21 => ⟨S4112x1, .i32⟩
  | 22 => ⟨S4112x4112, .i32⟩
  | 23 => ⟨S4112x4112, .i32⟩
  | 24 => ⟨S4112x4112, .i1⟩
  | 25 => ⟨S_, .f32⟩
  | 26 => ⟨S_, .f32⟩
  | 27 => ⟨S8x4112x4112, .i1⟩
  | 28 => ⟨S8x4112x4112, .f32⟩
  | 29 => ⟨S8x4112x4112, .f32⟩
  | 30 => ⟨S_, .f32⟩
  | 31 => ⟨S8x4112x4112, .f32⟩
  | 32 => ⟨S_, .f32⟩
  | 33 => ⟨S8x4112, .f32⟩
  | 34 => ⟨S8x4112x1, .f32⟩
  | 35 => ⟨S8x4112x4112, .f32⟩
  | 36 => ⟨S8x4112x4112, .i1⟩
  | 37 => ⟨S8x4112x4112, .f32⟩
  | 38 => ⟨S_, .f32⟩
  | 39 => ⟨S8x4112, .f32⟩
  | 40 => ⟨S_, .f32⟩
  | 41 => ⟨S8x4112, .f32⟩
  | 42 => ⟨S8x4112, .f32⟩
  | 43 => ⟨S_, .f32⟩
  | 44 => ⟨S8x4112, .f32⟩
  | 45 => ⟨S8x4112, .i1⟩
  | 46 => ⟨S_, .f32⟩
  | 47 => ⟨S8x4112, .f32⟩
  | 48 => ⟨S8x4112, .i1⟩
  | 49 => ⟨S_, .f32⟩
  | 50 => ⟨S8x4112, .f32⟩
  | 51 => ⟨S_, .f32⟩
  | 52 => ⟨S8x4112, .f32⟩
  | 53 => ⟨S_, .f32⟩
  | 54 => ⟨S8x4112, .f32⟩
  | 55 => ⟨S8x4112, .f32⟩
  | 56 => ⟨S8x4112, .f32⟩
  | 57 => ⟨S8x4112x1, .f32⟩
  | 58 => ⟨S8x4112x4112, .f32⟩
  | 59 => ⟨S8x4112x4112, .f32⟩
  | 60 => ⟨S8x4112x4112, .f32⟩
  | 61 => ⟨S_, .f32⟩
  | 62 => ⟨S8x4112, .f32⟩
  | 63 => ⟨S8x4112x1, .f32⟩
  | 64 => ⟨S8x4112x4112, .f32⟩
  | 65 => ⟨S8x4112x4112, .f32⟩
  | 66 => ⟨S8x4112x1, .f32⟩
  | 67 => ⟨S_, .f32⟩
  | 68 => ⟨S8x4112x1, .f32⟩
  | 69 => ⟨S8x4112x1, .f32⟩
  | 70 => ⟨S4112x8x64, .f32⟩
  | 71 => ⟨S8x64x4112, .f32⟩
  | 72 => ⟨S4112x8x64, .f32⟩
  | 73 => ⟨S4112x512, .f32⟩
  | 74 => ⟨S4112x8x64, .f32⟩
  | 75 => ⟨S8x64x4112, .f32⟩
  | 76 => ⟨S8x4112x4112, .f32⟩
  | 77 => ⟨S8x64x4112, .f32⟩
  | 78 => ⟨S4112x8x64, .f32⟩
  | 79 => ⟨S4112x512, .f32⟩
  | 80 => ⟨S8x4112x4112, .f32⟩
  | 81 => ⟨S8x4112x4112, .f32⟩
  | 82 => ⟨S8x4112x4112, .f32⟩
  | 83 => ⟨S_, .f32⟩
  | 84 => ⟨S8x4112, .f32⟩
  | 85 => ⟨S8x4112x1, .f32⟩
  | 86 => ⟨S8x4112x1, .f32⟩
  | 87 => ⟨S8x4112x4112, .f32⟩
  | 88 => ⟨S8x4112x4112, .f32⟩
  | 89 => ⟨S_, .f32⟩
  | 90 => ⟨S8x4112, .f32⟩
  | 91 => ⟨S8x4112x4112, .f32⟩
  | 92 => ⟨S8x4112x4112, .f32⟩
  | 93 => ⟨S8x4112x4112, .f32⟩
  | 94 => ⟨S_, .f32⟩
  | 95 => ⟨S8x4112x4112, .f32⟩
  | 96 => ⟨S8x4112x4112, .f32⟩
  | 97 => ⟨S_, .f32⟩
  | 98 => ⟨S8x4112, .f32⟩
  | 99 => ⟨S8x4112x1, .f32⟩
  | 100 => ⟨S8x4112x4112, .f32⟩
  | 101 => ⟨S_, .f32⟩
  | 102 => ⟨S8x4112, .f32⟩
  | 103 => ⟨S8x1x4112, .f32⟩
  | 104 => ⟨S_, .f32⟩
  | 105 => ⟨S8x4112, .f32⟩
  | 106 => ⟨S4112x8, .f32⟩
  | 107 => ⟨S_, .f32⟩
  | 108 => ⟨S8x4112, .f32⟩
  | 109 => ⟨S4112x8, .f32⟩
  | 110 => ⟨S_, .f32⟩
  | 111 => ⟨S8x4112x4112, .f32⟩
  | 112 => ⟨S8x4112x4112, .f32⟩
  | 113 => ⟨S8x4112x64, .f32⟩
  | 114 => ⟨S4112x8x64, .f32⟩
  | 115 => ⟨S8x4112x64, .f32⟩
  | 116 => ⟨S4112x8x64, .f32⟩
  | 117 => ⟨S4112x512, .f32⟩
  | 118 => ⟨S4112x512, .f32⟩
  | 119 => ⟨S4112x4x2, .f32⟩
  | 120 => ⟨S4x4112x2, .f32⟩
  | 121 => ⟨S4x4112x2, .f32⟩
  | 122 => ⟨S_, .i32⟩
  | 123 => ⟨S_, .f32⟩
  | 124 => ⟨S4x4224x128, .f32⟩
  | 125 => ⟨S4112x4x2, .f32⟩
  | 126 => ⟨S4x2x4112, .f32⟩
  | 127 => ⟨S_, .i32⟩
  | _ => ⟨S4112x512, .f32⟩

abbrev hbmTy0_1 (i : Nat) : BufTy := match i % 128 with
  | 0 => ⟨S_, .f32⟩
  | 1 => ⟨S4x8x4224, .f32⟩
  | 2 => ⟨S_, .i32⟩
  | 3 => ⟨S_, .f32⟩
  | 4 => ⟨S4224x512, .f32⟩
  | 5 => ⟨S_, .i32⟩
  | 6 => ⟨S_, .f32⟩
  | 7 => ⟨S4224x512, .f32⟩
  | 8 => ⟨S4224x512, .bf16⟩
  | 9 => ⟨S_, .i32⟩
  | 10 => ⟨S_, .f32⟩
  | 11 => ⟨S4224x512, .f32⟩
  | 12 => ⟨S4224x512, .bf16⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c : Ref sig .tc := ⟨.hbm, 122, rfl⟩
abbrev main_call2_v0 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_18 : Ref sig .tc := ⟨.hbm, 127, rfl⟩
abbrev main_call3_v0 : Ref sig .tc := ⟨.hbm, 128, rfl⟩
abbrev main_v94 : Ref sig .tc := ⟨.hbm, 129, rfl⟩
abbrev main_c_19 : Ref sig .tc := ⟨.hbm, 130, rfl⟩
abbrev main_call4_v0 : Ref sig .tc := ⟨.hbm, 131, rfl⟩
abbrev main_v95 : Ref sig .tc := ⟨.hbm, 132, rfl⟩
abbrev main_c_20 : Ref sig .tc := ⟨.hbm, 133, rfl⟩
abbrev main_call5_v0 : Ref sig .tc := ⟨.hbm, 134, rfl⟩
abbrev main_v96 : Ref sig .tc := ⟨.hbm, 135, rfl⟩
abbrev main_v97 : Ref sig .tc := ⟨.hbm, 136, rfl⟩
abbrev main_c_21 : Ref sig .tc := ⟨.hbm, 137, rfl⟩
abbrev main_call6_v0 : Ref sig .tc := ⟨.hbm, 138, rfl⟩
abbrev main_v98 : Ref sig .tc := ⟨.hbm, 139, rfl⟩
abbrev main_v99 : Ref sig .tc := ⟨.hbm, 140, rfl⟩

abbrev nD : Nat := 1
abbrev τ : Topo := Topo.v7x

variable {F : FTy → Type} [FloatOps F]
-- ==== Kernel2.lean ====
abbrev S4112x1024 : Shape := ⟨2, ![4112, 1024]⟩
abbrev S4112x512 : Shape := ⟨2, ![4112, 512]⟩
abbrev S_ : Shape := ⟨0, ![]⟩
abbrev S4224x1024 : Shape := ⟨2, ![4224, 1024]⟩
abbrev S4224x512 : Shape := ⟨2, ![4224, 512]⟩
abbrev S512x1024 : Shape := ⟨2, ![512, 1024]⟩
abbrev S384x1024 : Shape := ⟨2, ![384, 1024]⟩
abbrev S384x512 : Shape := ⟨2, ![384, 512]⟩

abbrev nBuf : Space → Nat
  | .hbm => 27
  | .vmem => 14
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S4112x512, .f32⟩
  | .hbm, ⟨4, _⟩ => ⟨S4112x512, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S_, .i32⟩
  | .hbm, ⟨9, _⟩ => ⟨S_, .f32⟩
  | .hbm, ⟨10, _⟩ => ⟨S4224x512, .f32⟩
  | .hbm, ⟨11, _⟩ => ⟨S_, .i32⟩
  | .hbm, ⟨12, _⟩ => ⟨S_, .f32⟩
  | .hbm, ⟨13, _⟩ => ⟨S4224x512, .f32⟩
  | .hbm, ⟨14, _⟩ => ⟨S4224x512, .bf16⟩
  | .hbm, ⟨15, _⟩ => ⟨S_, .i32⟩
  | .hbm, ⟨16, _⟩ => ⟨S_, .f32⟩
  | .hbm, ⟨17, _⟩ => ⟨S4224x512, .f32⟩
  | .hbm, ⟨18, _⟩ => ⟨S4224x512, .bf16⟩
  | .hbm, ⟨19, _⟩ => ⟨S_, .i32⟩
  | .hbm, ⟨20, _⟩ => ⟨S_, .f32⟩
  | .hbm, ⟨21, _⟩ => ⟨S4224x512, .f32⟩
  | .hbm, ⟨22, _⟩ => ⟨S4224x512, .bf16⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S512x1024, .f32⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S384x512, .bf16⟩
  | .local _ .vmem, ⟨9, _⟩ => ⟨S384x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_call3_v0 : Ref sig .tc := ⟨.hbm, 16, rfl⟩
abbrev main_v4 : Ref sig .tc := ⟨.hbm, 17, rfl⟩
abbrev main_v5 : Ref sig .tc := ⟨.hbm, 18, rfl⟩
abbrev main_c_3 : Ref sig .tc := ⟨.hbm, 19, rfl⟩
abbrev main_call4_v0 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4112x1024 : Shape := ⟨2, ![4112, 1024]⟩
abbrev S4112x512 : Shape := ⟨2, ![4112, 512]⟩
abbrev S_ : Shape := ⟨0, ![]⟩
abbrev S1024x2048 : Shape := ⟨2, ![1024, 2048]⟩
abbrev S4112x2048 : Shape := ⟨2, ![4112, 2048]⟩
abbrev S2048x1024 : Shape := ⟨2, ![2048, 1024]⟩
abbrev S512x1024 : Shape := ⟨2, ![512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S4112x512, .f32⟩
  | .hbm, ⟨4, _⟩ => ⟨S4112x512, .f32⟩
  | .hbm, ⟨5, _⟩ => ⟨S_, .f32⟩
  | .hbm, ⟨6, _⟩ => ⟨S1024x2048, .f32⟩
  | .hbm, ⟨7, _⟩ => ⟨S4112x2048, .f32⟩
  | .hbm, ⟨8, _⟩ => ⟨S4112x512, .f32⟩
  | .hbm, ⟨9, _⟩ => ⟨S4112x512, .f32⟩
  | .hbm, ⟨10, _⟩ => ⟨S4112x512, .f32⟩
  | .hbm, ⟨11, _⟩ => ⟨S4112x512, .f32⟩
  | .hbm, ⟨12, _⟩ => ⟨S4112x2048, .f32⟩
  | .hbm, ⟨13, _⟩ => ⟨S2048x1024, .f32⟩
  | .hbm, ⟨14, _⟩ => ⟨S1024x2048, .f32⟩
  | .hbm, ⟨15, _⟩ => ⟨S2048x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S4112x1024 : Shape := ⟨2, ![4112, 1024]⟩
abbrev S4112x512 : Shape := ⟨2, ![4112, 512]⟩
abbrev S4112x8 : Shape := ⟨2, ![4112, 8]⟩
abbrev S_ : Shape := ⟨0, ![]⟩
abbrev S4224x1024 : Shape := ⟨2, ![4224, 1024]⟩
abbrev S4224x512 : Shape := ⟨2, ![4224, 512]⟩
abbrev S4112x128 : Shape := ⟨2, ![4112, 128]⟩
abbrev S4224x128 : Shape := ⟨2, ![4224, 128]⟩
abbrev S512x1024 : Shape := ⟨2, ![512, 1024]⟩
abbrev S128x1024 : Shape := ⟨2, ![128, 1024]⟩
abbrev S384x1024 : Shape := ⟨2, ![384, 1024]⟩
abbrev S384x512 : Shape := ⟨2, ![384, 512]⟩
abbrev S384x128 : Shape := ⟨2, ![384, 128]⟩

abbrev nBuf : Space → Nat
  | .hbm => 31
  | .vmem => 14
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S4112x512, .f32⟩
  | .hbm, ⟨4, _⟩ => ⟨S4112x8, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S_, .i32⟩
  | .hbm, ⟨9, _⟩ => ⟨S_, .f32⟩
  | .hbm, ⟨10, _⟩ => ⟨S4224x512, .f32⟩
  | .hbm, ⟨11, _⟩ => ⟨S4224x512, .bf16⟩
  | .hbm, ⟨12, _⟩ => ⟨S_, .i32⟩
  | .hbm, ⟨13, _⟩ => ⟨S_, .f32⟩
  | .hbm, ⟨14, _⟩ => ⟨S4224x512, .f32⟩
  | .hbm, ⟨15, _⟩ => ⟨S4224x512, .bf16⟩
  | .hbm, ⟨16, _⟩ => ⟨S_, .i32⟩
  | .hbm, ⟨17, _⟩ => ⟨S_, .f32⟩
  | .hbm, ⟨18, _⟩ => ⟨S4224x512, .f32⟩
  | .hbm, ⟨19, _⟩ => ⟨S4224x512, .bf16⟩
  | .hbm, ⟨20, _⟩ => ⟨S_, .i32⟩
  | .hbm, ⟨21, _⟩ => ⟨S_, .f32⟩
  | .hbm, ⟨22, _⟩ => ⟨S4112x128, .f32⟩
  | .hbm, ⟨23, _⟩ => ⟨S_, .i32⟩
  | .hbm, ⟨24, _⟩ => ⟨S_, .f32⟩
  | .hbm, ⟨25, _⟩ => ⟨S4224x128, .f32⟩
  | .hbm, ⟨26, _⟩ => ⟨S4224x128, .bf16⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S128x1024, .f32⟩
  | .local _ .vmem, ⟨0, _⟩ => ⟨S384x1024, .f32⟩
  | .local _ .vmem, ⟨1, _⟩ => ⟨S384x1024, .f32⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S384x128, .bf16⟩
  | .local _ .vmem, ⟨9, _⟩ => ⟨S384x128, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S128x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_call3_v0 : Ref sig .tc := ⟨.hbm, 17, rfl⟩
abbrev main_v5 : Ref sig .tc := ⟨.hbm, 18, rfl⟩
abbrev main_v6 : Ref sig .tc := ⟨.hbm, 19, rfl⟩
abbrev main_c_3 : Ref sig .tc := ⟨.hbm, 20, rfl⟩
abbrev main_call4_v0 : Ref sig .tc := ⟨.hbm, 21, rfl⟩
abbrev main_v7 : Ref sig .tc := ⟨.hbm, 22, rfl⟩
abbrev main_c_4 : Ref sig .tc := ⟨.hbm, 23, rfl⟩
abbrev main_call5_v0 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v10_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4112x1024 : Shape := ⟨2, ![4112, 1024]⟩
abbrev S4112x512 : Shape := ⟨2, ![4112, 512]⟩
abbrev S4112x8 : Shape := ⟨2, ![4112, 8]⟩
abbrev S_ : Shape := ⟨0, ![]⟩
abbrev S1024x1544 : Shape := ⟨2, ![1024, 1544]⟩
abbrev S4112x1544 : Shape := ⟨2, ![4112, 1544]⟩
abbrev S1544x1024 : Shape := ⟨2, ![1544, 1024]⟩
abbrev S512x1024 : Shape := ⟨2, ![512, 1024]⟩
abbrev S8x1024 : Shape := ⟨2, ![8, 1024]⟩
abbrev S128x1024 : Shape := ⟨2, ![128, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S4112x512, .f32⟩
  | .hbm, ⟨4, _⟩ => ⟨S4112x8, .f32⟩
  | .hbm, ⟨5, _⟩ => ⟨S_, .f32⟩
  | .hbm, ⟨6, _⟩ => ⟨S1024x1544, .f32⟩
  | .hbm, ⟨7, _⟩ => ⟨S4112x1544, .f32⟩
  | .hbm, ⟨8, _⟩ => ⟨S4112x512, .f32⟩
  | .hbm, ⟨9, _⟩ => ⟨S4112x512, .f32⟩
  | .hbm, ⟨10, _⟩ => ⟨S4112x512, .f32⟩
  | .hbm, ⟨11, _⟩ => ⟨S4112x8, .f32⟩
  | .hbm, ⟨12, _⟩ => ⟨S4112x1544, .f32⟩
  | .hbm, ⟨13, _⟩ => ⟨S1544x1024, .f32⟩
  | .hbm, ⟨14, _⟩ => ⟨S1024x1544, .f32⟩
  | .hbm, ⟨15, _⟩ => ⟨S1544x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S8x1024, .f32⟩
  | .hbm, ⟨20, _⟩ => ⟨S_, .i32⟩
  | .hbm, ⟨21, _⟩ => ⟨S_, .f32⟩
  | .hbm, ⟨22, _⟩ => ⟨S128x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel4.lean ====
abbrev S4096x1024 : Shape := ⟨2, ![4096, 1024]⟩
abbrev S16x1024 : Shape := ⟨2, ![16, 1024]⟩
abbrev S1024 : Shape := ⟨1, ![1024]⟩
abbrev S1024x3592 : Shape := ⟨2, ![1024, 3592]⟩
abbrev S_ : Shape := ⟨0, ![]⟩
abbrev S112x1024 : Shape := ⟨2, ![112, 1024]⟩
abbrev S128x1024 : Shape := ⟨2, ![128, 1024]⟩
abbrev S3592x1024 : Shape := ⟨2, ![3592, 1024]⟩
abbrev S120x1024 : Shape := ⟨2, ![120, 1024]⟩
abbrev S1536x1024 : Shape := ⟨2, ![1536, 1024]⟩
abbrev S2048x1024 : Shape := ⟨2, ![2048, 1024]⟩
abbrev S8x1024 : Shape := ⟨2, ![8, 1024]⟩
abbrev S3712x1024 : Shape := ⟨2, ![3712, 1024]⟩
abbrev S1x1024 : Shape := ⟨2, ![1, 1024]⟩
abbrev S4224x1024 : Shape := ⟨2, ![4224, 1024]⟩
abbrev S4224x512 : Shape := ⟨2, ![4224, 512]⟩
abbrev S4224x128 : Shape := ⟨2, ![4224, 128]⟩
abbrev S512x4224 : Shape := ⟨2, ![512, 4224]⟩
abbrev S384x1024 : Shape := ⟨2, ![384, 1024]⟩
abbrev S384x512 : Shape := ⟨2, ![384, 512]⟩
abbrev S384x128 : Shape := ⟨2, ![384, 128]⟩
abbrev S512x384 : Shape := ⟨2, ![512, 384]⟩
abbrev S384 : Shape := ⟨1, ![384]⟩
abbrev S384x1 : Shape := ⟨2, ![384, 1]⟩
abbrev S512x1024 : Shape := ⟨2, ![512, 1024]⟩

abbrev nBuf : Space → Nat
  | .hbm => 28
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1024x3592, .f32⟩
  | .hbm, ⟨5, _⟩ => ⟨S_, .f32⟩
  | .hbm, ⟨6, _⟩ => ⟨S112x1024, .f32⟩
  | .hbm, ⟨7, _⟩ => ⟨S128x1024, .f32⟩
  | .hbm, ⟨8, _⟩ => ⟨S3592x1024, .f32⟩
  | .hbm, ⟨9, _⟩ => ⟨S3592x1024, .bf16⟩
  | .hbm, ⟨10, _⟩ => ⟨S_, .bf16⟩
  | .hbm, ⟨11, _⟩ => ⟨S120x1024, .bf16⟩
  | .hbm, ⟨12, _⟩ => ⟨S1536x1024, .bf16⟩
  | .hbm, ⟨13, _⟩ => ⟨S2048x1024, .bf16⟩
  | .hbm, ⟨14, _⟩ => ⟨S8x1024, .bf16⟩
  | .hbm, ⟨15, _⟩ => ⟨S3712x1024, .bf16⟩
  | .hbm, ⟨16, _⟩ => ⟨S1x1024, .f32⟩
  | .hbm, ⟨17, _⟩ => ⟨S1x1024, .f32⟩
  | .hbm, ⟨18, _⟩ => ⟨S4224x1024, .f32⟩
  | .hbm, ⟨19, _⟩ => ⟨S4224x512, .bf16⟩
  | .hbm, ⟨20, _⟩ => ⟨S4224x512, .bf16⟩
  | .hbm, ⟨21, _⟩ => ⟨S4224x512, .bf16⟩
  | .hbm, ⟨22, _⟩ => ⟨S4224x512, .f32⟩
  | .hbm, ⟨23, _⟩ => ⟨S4224x512, .f32⟩
  | .hbm, ⟨24, _⟩ => ⟨S4224x512, .f32⟩
  | .hbm, ⟨25, _⟩ => ⟨S4224x512, .f32⟩
  | .hbm, ⟨26, _⟩ => ⟨S4224x128, .f32⟩
  | .hbm, ⟨27, _⟩ => ⟨S512x4224, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S1x1024, .f32⟩
  | .local _ .vmem, ⟨8, _⟩ => ⟨S1x1024, .f32⟩
  | .local _ .vmem, ⟨9, _⟩ => ⟨S3712x1024, .bf16⟩
  | .local _ .vmem, ⟨10, _⟩ => ⟨S384x1024, .f32⟩
  | .local _ .vmem, ⟨11, _⟩ => ⟨S384x1024, .f32⟩
  | .local _ .vmem, ⟨12, _⟩ => ⟨S384x512, .bf16⟩
  | .local _ .vmem, ⟨13, _⟩ => ⟨S384x512, .bf16⟩
  | .local _ .vmem, ⟨14, _⟩ => ⟨S384x512, .bf16⟩
  | .local _ .vmem, ⟨15, _⟩ => ⟨S384x512, .bf16⟩
  | .local _ .vmem, ⟨16, _⟩ => ⟨S384x512, .bf16⟩
  | .local _ .vmem, ⟨17, _⟩ => ⟨S384x512, .bf16⟩
  | .local _ .vmem, ⟨18, _⟩ => ⟨S384x512, .f32⟩
  | .local _ .vmem, ⟨19, _⟩ => ⟨S384x512, .f32⟩
  | .local _ .vmem, ⟨20, _⟩ => ⟨S384x512, .f32⟩
  | .local _ .vmem, ⟨21, _⟩ => ⟨S384x512, .f32⟩
  | .local _ .vmem, ⟨22, _⟩ => ⟨S384x512, .f32⟩
  | .local _ .vmem, ⟨23, _⟩ => ⟨S384x512, .f32⟩
  | .local _ .vmem, ⟨24, _⟩ => ⟨S384x512, .f32⟩
  | .local _ .vmem, ⟨25, _⟩ => ⟨S384x512, .f32⟩
  | .local _ .vmem, ⟨26, _⟩ => ⟨S384x128, .f32⟩
  | .local _ .vmem, ⟨27, _⟩ => ⟨S384x128, .f32⟩
  | .local _ .vmem, ⟨28, _⟩ => ⟨S512x384, .bf16⟩
  | .local _ .vmem, ⟨29, _⟩ => ⟨S512x384, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v11_7 : Ref sig .tc := ⟨.hbm, 25, rfl⟩
abbrev main_v11_8 : Ref sig .tc := ⟨.hbm, 26, rfl⟩
abbrev main_v11_9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3712x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S4096x1024 : Shape := ⟨2, ![4096, 1024]⟩
abbrev S16x1024 : Shape := ⟨2, ![16, 1024]⟩
abbrev S1024 : Shape := ⟨1, ![1024]⟩
abbrev S1024x3592 : Shape := ⟨2, ![1024, 3592]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x3592 : Shape := ⟨2, ![4112, 3592]⟩
abbrev S4112x512 : Shape := ⟨2, ![4112, 512]⟩
abbrev S4112x8 : Shape := ⟨2, ![4112, 8]⟩
abbrev S4112x128 : Shape := ⟨2, ![4112, 128]⟩
abbrev S4224x1024 : Shape := ⟨2, ![4224, 1024]⟩
abbrev S4224x512 : Shape := ⟨2, ![4224, 512]⟩
abbrev S4224x128 : Shape := ⟨2, ![4224, 128]⟩
abbrev S512x4224 : Shape := ⟨2, ![512, 4224]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1024x3592, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S4112x1024, .f32⟩
  | .hbm, ⟨13, _⟩ => ⟨S4112x1024, .f32⟩
  | .hbm, ⟨14, _⟩ => ⟨S4112x1024, .f32⟩
  | .hbm, ⟨15, _⟩ => ⟨S_, .f32⟩
  | .hbm, ⟨16, _⟩ => ⟨S4112, .f32⟩
  | .hbm, ⟨17, _⟩ => ⟨S4112x1, .f32⟩
  | .hbm, ⟨18, _⟩ => ⟨S_, .f32⟩
  | .hbm, ⟨19, _⟩ => ⟨S4112x1, .f32⟩
  | .hbm, ⟨20, _⟩ => ⟨S4112x1, .f32⟩
  | .hbm, ⟨21, _⟩ => ⟨S4112x1024, .f32⟩
  | .hbm, ⟨22, _⟩ => ⟨S4112x1024, .f32⟩
  | .hbm, ⟨23, _⟩ => ⟨S_, .f32⟩
  | .hbm, ⟨24, _⟩ => ⟨S4112x1, .f32⟩
  | .hbm, ⟨25, _⟩ => ⟨S4112x1, .f32⟩
  | .hbm, ⟨26, _⟩ => ⟨S4112x1, .f32⟩
  | .hbm, ⟨27, _⟩ => ⟨S4112x1024, .f32⟩
  | .hbm, ⟨28, _⟩ => ⟨S4112x1024, .f32⟩
  | .hbm, ⟨29, _⟩ => ⟨S1x1024, .f32⟩
  | .hbm, ⟨30, _⟩ => ⟨S4112x1024, .f32⟩
  | .hbm, ⟨31, _⟩ => ⟨S4112x1024, .f32⟩
  | .hbm, ⟨32, _⟩ => ⟨S1x1024, .f32⟩
  | .hbm, ⟨33, _⟩ => ⟨S4112x1024, .f32⟩
  | .hbm, ⟨34, _⟩ => ⟨S4112x1024, .f32⟩
  | .hbm, ⟨35, _⟩ => ⟨S4112x3592, .f32⟩
  | .hbm, ⟨36, _⟩ => ⟨S4112x512, .f32⟩
  | .hbm, ⟨37, _⟩ => ⟨S4112x512, .f32⟩
  | .hbm, ⟨38, _⟩ => ⟨S4112x512, .f32⟩
  | .hbm, ⟨39, _⟩ => ⟨S4112x8, .f32⟩
  | .hbm, ⟨40, _⟩ => ⟨S4112x512, .f32⟩
  | .hbm, ⟨41, _⟩ => ⟨S4112x512, .f32⟩
  | .hbm, ⟨42, _⟩ => ⟨S4112x512, .f32⟩
  | .hbm, ⟨43, _⟩ => ⟨S4112x512, .f32⟩
  | .hbm, ⟨44, _⟩ => ⟨S_, .i32⟩
  | .hbm, ⟨45, _⟩ => ⟨S_, .f32⟩
  | .hbm, ⟨46, _⟩ => ⟨S4112x128, .f32⟩
  | .hbm, ⟨47, _⟩ => ⟨S_, .i32⟩
  | .hbm, ⟨48, _⟩ => ⟨S_, .f32⟩
  | .hbm, ⟨49, _⟩ => ⟨S4224x1024, .f32⟩
  | .hbm, ⟨50, _⟩ => ⟨S_, .f32⟩
  | .hbm, ⟨51, _⟩ => ⟨S4112x512, .f32⟩
  | .hbm, ⟨52, _⟩ => ⟨S4112x512, .f32⟩
  | .hbm, ⟨53, _⟩ => ⟨S_, .i32⟩
  | .hbm, ⟨54, _⟩ => ⟨S_, .f32⟩
  | .hbm, ⟨55, _⟩ => ⟨S4224x512, .f32⟩
  | .hbm, ⟨56, _⟩ => ⟨S4224x512, .bf16⟩
  | .hbm, ⟨57, _⟩ => ⟨S_, .i32⟩
  | .hbm, ⟨58, _⟩ => ⟨S_, .f32⟩
  | .hbm, ⟨59, _⟩ => ⟨S4224x512, .f32⟩
  | .hbm, ⟨60, _⟩ => ⟨S4224x512, .bf16⟩
  | .hbm, ⟨61, _⟩ => ⟨S_, .i32⟩
  | .hbm, ⟨62, _⟩ => ⟨S_, .f32⟩
  | .hbm, ⟨63, _⟩ => ⟨S4224x512, .f32⟩
  | .hbm, ⟨64, _⟩ => ⟨S4224x512, .bf16⟩
  | .hbm, ⟨65, _⟩ => ⟨S_, .i32⟩
  | .hbm, ⟨66, _⟩ => ⟨S_, .f32⟩
  | .hbm, ⟨67, _⟩ => ⟨S4224x512, .f32⟩
  | .hbm, ⟨68, _⟩ => ⟨S_, .i32⟩
  | .hbm, ⟨69, _⟩ => ⟨S_, .f32⟩
  | .hbm, ⟨70, _⟩ => ⟨S4224x512, .f32⟩
  | .hbm, ⟨71, _⟩ => ⟨S_, .i32⟩
  | .hbm, ⟨72, _⟩ => ⟨S_, .f32⟩
  | .hbm, ⟨73, _⟩ => ⟨S4224x512, .f32⟩
  | .hbm, ⟨74, _⟩ => ⟨S_, .i32⟩
  | .hbm, ⟨75, _⟩ => ⟨S_, .f32⟩
  | .hbm, ⟨76, _⟩ => ⟨S4224x512, .f32⟩
  | .hbm, ⟨77, _⟩ => ⟨S_, .i32⟩
  | .hbm, ⟨78, _⟩ => ⟨S_, .f32⟩
  | .hbm, ⟨79, _⟩ => ⟨S4224x128, .f32⟩
  | .hbm, ⟨80, _⟩ => ⟨S_, .i32⟩
  | .hbm, ⟨81, _⟩ => ⟨S_, .f32⟩
  | .hbm, ⟨82, _⟩ => ⟨S4224x512, .f32⟩
  | .hbm, ⟨83, _⟩ => ⟨S4224x512, .bf16⟩
  | .hbm, ⟨84, _⟩ => ⟨S512x4224, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_call0_v0 : Ref sig .tc := ⟨.hbm, 45, rfl⟩
abbrev main_v34 : Ref sig .tc := ⟨.hbm, 46, rfl⟩
abbrev main_c_4 : Ref sig .tc := ⟨.hbm, 47, rfl⟩
abbrev main_call1_v0 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_call2_v0 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_call3_v0 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_call4_v0 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_call5_v0 : Ref sig .tc := ⟨.hbm, 66, rfl⟩
abbrev main_v44 : Ref sig .tc := ⟨.hbm, 67, rfl⟩
abbrev main_c_10 : Ref sig .tc := ⟨.hbm, 68, rfl⟩
abbrev main_call6_v0 : Ref sig .tc := ⟨.hbm, 69, rfl⟩
abbrev main_v45 : Ref sig .tc := ⟨.hbm, 70, rfl⟩
abbrev main_c_11 : Ref sig .tc := ⟨.hbm, 71, rfl⟩
abbrev main_call7_v0 : Ref sig .tc := ⟨.hbm, 72, rfl⟩
abbrev main_v46 : Ref sig .tc := ⟨.hbm, 73, rfl⟩
abbrev main_c_12 : Ref sig .tc := ⟨.hbm, 74, rfl⟩
abbrev main_call8_v0 : Ref sig .tc := ⟨.hbm, 75, rfl⟩
abbrev main_v47 : Ref sig .tc := ⟨.hbm, 76, rfl⟩
abbrev main_c_13 : Ref sig .tc := ⟨.hbm, 77, rfl⟩
abbrev main_call9_v0 : Ref sig .tc := ⟨.hbm, 78, rfl⟩
abbrev main_v48 : Ref sig .tc := ⟨.hbm, 79, rfl⟩
abbrev main_c_14 : Ref sig .tc := ⟨.hbm, 80, rfl⟩
abbrev main_call10_v0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]
-- ==== Kernel5.lean ====
abbrev S128x512 : Shape := ⟨2, ![128, 512]⟩
abbrev S256x1024 : Shape := ⟨2, ![256, 1024]⟩
abbrev S31x128 : Shape := ⟨2, ![31, 128]⟩

abbrev nBuf : Space → Nat
  | .hbm => 21
  | .vmem => 21
  | .smem => 0
  | _ => 0

abbrev bufTy : (tb : Table) → Fin (tcTables nBuf tb) → BufTy
  | .hbm, ⟨0, _⟩ => ⟨S128x512, .f32⟩
  | .hbm, ⟨1, _⟩ => ⟨S256x1024, .f32⟩
  | .hbm, ⟨2, _⟩ => ⟨S31x128, .f32⟩
  | .hbm, ⟨3, _⟩ => ⟨S128x512, .f32⟩
  | .hbm, ⟨4, _⟩ => ⟨S256x1024, .f32⟩
  | .hbm, ⟨5, _⟩ => ⟨S31x128, .f32⟩
  | .hbm, ⟨6, _⟩ => ⟨S128x512, .f32⟩
  | .hbm, ⟨7, _⟩ => ⟨S256x1024, .f32⟩
  | .hbm, ⟨8, _⟩ => ⟨S31x128, .f32⟩
  | .hbm, ⟨9, _⟩ => ⟨S128x512, .f32⟩
  | .hbm, ⟨10, _⟩ => ⟨S256x1024, .f32⟩
  | .hbm, ⟨11, _⟩ => ⟨S31x128, .f32⟩
  | .hbm, ⟨12, _⟩ => ⟨S128x512, .f32⟩
  | .hbm, ⟨13, _⟩ => ⟨S256x1024, .f32⟩
  | .hbm, ⟨14, _⟩ => ⟨S31x128, .f32⟩
  | .hbm, ⟨15, _⟩ => ⟨S128x512, .f32⟩
  | .hbm, ⟨16, _⟩ => ⟨S256x1024, .f32⟩
  | .hbm, ⟨17, _⟩ => ⟨S31x128, .f32⟩
  | .hbm, ⟨18, _⟩ => ⟨S128x512, .f32⟩
  | .hbm, ⟨19, _⟩ => ⟨S256x1024, .f32⟩
  | .hbm, ⟨20, _⟩ => ⟨S31x128, .f32⟩
  | .local _ .vmem, ⟨0, _⟩ => ⟨S128x512, .f32⟩
  | .local _ .vmem, ⟨1, _⟩ => ⟨S256x1024, .f32⟩
  | .local _ .vmem, ⟨2, _⟩ => ⟨S31x128, .f32⟩
  | .local _ .vmem, ⟨3, _⟩ => ⟨S128x512, .f32⟩
  | .local _ .vmem, ⟨4, _⟩ => ⟨S256x1024, .f32⟩
  | .local _ .vmem, ⟨5, _⟩ => ⟨S31x128, .f32⟩
  | .local _ .vmem, ⟨6, _⟩ => ⟨S128x512, .f32⟩
  | .local _ .vmem, ⟨7, _⟩ => ⟨S256x1024, .f32⟩
  | .local _ .vmem, ⟨8, _⟩ => ⟨S31x128, .f32⟩
  | .local _ .vmem, ⟨9, _⟩ => ⟨S128x512, .f32⟩
  | .local _ .vmem, ⟨10, _⟩ => ⟨S256x1024, .f32⟩
  | .local _ .vmem, ⟨11, _⟩ => ⟨S31x128, .f32⟩
  | .local _ .vmem, ⟨12, _⟩ => ⟨S128x512, .f32⟩
  | .local _ .vmem, ⟨13, _⟩ => ⟨S256x1024, .f32⟩
  | .local _ .vmem, ⟨14, _⟩ => ⟨S31x128, .f32⟩
  | .local _ .vmem, ⟨15, _⟩ => ⟨S128x512, .f32⟩
  | .local _ .vmem, ⟨16, _⟩ => ⟨S256x1024, .f32⟩
  | .local _ .vmem, ⟨17, _⟩ => ⟨S31x128, .f32⟩
  | .local _ .vmem, ⟨18, _⟩ => ⟨S128x512, .f32⟩
  | .local _ .vmem, ⟨19, _⟩ => ⟨S256x1024, .f32⟩
  | .local _ .vmem, ⟨20, _⟩ => ⟨S31x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S31x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S31x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S31x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S31x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference5Ideal.lean ====
abbrev S128x512 : Shape := ⟨2, ![128, 512]⟩
abbrev S256x1024 : Shape := ⟨2, ![256, 1024]⟩
abbrev S31x128 : Shape := ⟨2, ![31, 128]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S256x1024, .f32⟩
  | .hbm, ⟨2, _⟩ => ⟨S31x128, .f32⟩
  | .hbm, ⟨3, _⟩ => ⟨S128x512, .f32⟩
  | .hbm, ⟨4, _⟩ => ⟨S256x1024, .f32⟩
  | .hbm, ⟨5, _⟩ => ⟨S31x128, .f32⟩
  | .hbm, ⟨6, _⟩ => ⟨S128x512, .f32⟩
  | .hbm, ⟨7, _⟩ => ⟨S256x1024, .f32⟩
  | .hbm, ⟨8, _⟩ => ⟨S31x128, .f32⟩
  | .hbm, ⟨9, _⟩ => ⟨S128x512, .f32⟩
  | .hbm, ⟨10, _⟩ => ⟨S256x1024, .f32⟩
  | .hbm, ⟨11, _⟩ => ⟨S31x128, .f32⟩
  | .hbm, ⟨12, _⟩ => ⟨S_, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S_, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | .hbm, ⟨37, _⟩ => ⟨S128x512, .f32⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S_, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S_, .f32⟩
  | .hbm, ⟨76, _⟩ => ⟨S256x1024, .f32⟩
  | .hbm, ⟨77, _⟩ => ⟨S256x1024, .f32⟩
  | .hbm, ⟨78, _⟩ => ⟨S_, .f32⟩
  | .hbm, ⟨79, _⟩ => ⟨S31x128, .f32⟩
  | .hbm, ⟨80, _⟩ => ⟨S31x128, .f32⟩
  | .hbm, ⟨81, _⟩ => ⟨S_, .f32⟩
  | .hbm, ⟨82, _⟩ => ⟨S31x128, .f32⟩
  | .hbm, ⟨83, _⟩ => ⟨S31x128, .f32⟩
  | .hbm, ⟨84, _⟩ => ⟨S31x128, .f32⟩
  | .hbm, ⟨85, _⟩ => ⟨S_, .f32⟩
  | .hbm, ⟨86, _⟩ => ⟨S31x128, .f32⟩
  | .hbm, ⟨87, _⟩ => ⟨S31x128, .f32⟩
  | .hbm, ⟨88, _⟩ => ⟨S31x128, .f32⟩
  | .hbm, ⟨89, _⟩ => ⟨S_, .f32⟩
  | .hbm, ⟨90, _⟩ => ⟨S31x128, .f32⟩
  | .hbm, ⟨91, _⟩ => ⟨S31x128, .f32⟩
  | .hbm, ⟨92, _⟩ => ⟨S31x128, .f32⟩
  | .hbm, ⟨93, _⟩ => ⟨S_, .f32⟩
  | .hbm, ⟨94, _⟩ => ⟨S31x128, .f32⟩
  | .hbm, ⟨95, _⟩ => ⟨S31x128, .f32⟩
  | .hbm, ⟨96, _⟩ => ⟨S_, .f32⟩
  | .hbm, ⟨97, _⟩ => ⟨S31x128, .f32⟩
  | .hbm, ⟨98, _⟩ => ⟨S31x128, .f32⟩
  | .hbm, ⟨99, _⟩ => ⟨S31x128, .f32⟩
  | .hbm, ⟨100, _⟩ => ⟨S_, .f32⟩
  | .hbm, ⟨101, _⟩ => ⟨S31x128, .f32⟩
  | .hbm, ⟨102, _⟩ => ⟨S31x128, .f32⟩
  | .hbm, ⟨103, _⟩ => ⟨S31x128, .f32⟩
  | .hbm, ⟨104, _⟩ => ⟨S_, .f32⟩
  | .hbm, ⟨105, _⟩ => ⟨S31x128, .f32⟩
  | .hbm, ⟨106, _⟩ => ⟨S31x128, .f32⟩
  | .hbm, ⟨107, _⟩ => ⟨S31x128, .f32⟩
  | .hbm, ⟨108, _⟩ => ⟨S_, .f32⟩
  | .hbm, ⟨109, _⟩ => ⟨S31x128, .f32⟩
  | .hbm, ⟨110, _⟩ => ⟨S31x128, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel6.lean ====
abbrev S16x256 : Shape := ⟨2, ![16, 256]⟩
abbrev S48x128 : Shape := ⟨2, ![48, 128]⟩

abbrev nBuf : Space → Nat
  | .hbm => 14
  | .vmem => 14
  | .smem => 0
  | _ => 0

abbrev bufTy : (tb : Table) → Fin (tcTables nBuf tb) → BufTy
  | .hbm, ⟨0, _⟩ => ⟨S16x256, .f32⟩
  | .hbm, ⟨1, _⟩ => ⟨S48x128, .f32⟩
  | .hbm, ⟨2, _⟩ => ⟨S16x256, .f32⟩
  | .hbm, ⟨3, _⟩ => ⟨S48x128, .f32⟩
  | .hbm, ⟨4, _⟩ => ⟨S16x256, .f32⟩
  | .hbm, ⟨5, _⟩ => ⟨S48x128, .f32⟩
  | .hbm, ⟨6, _⟩ => ⟨S16x256, .f32⟩
  | .hbm, ⟨7, _⟩ => ⟨S48x128, .f32⟩
  | .hbm, ⟨8, _⟩ => ⟨S16x256, .f32⟩
  | .hbm, ⟨9, _⟩ => ⟨S48x128, .f32⟩
  | .hbm, ⟨10, _⟩ => ⟨S16x256, .f32⟩
  | .hbm, ⟨11, _⟩ => ⟨S48x128, .f32⟩
  | .hbm, ⟨12, _⟩ => ⟨S16x256, .f32⟩
  | .hbm, ⟨13, _⟩ => ⟨S48x128, .f32⟩
  | .local _ .vmem, ⟨0, _⟩ => ⟨S16x256, .f32⟩
  | .local _ .vmem, ⟨1, _⟩ => ⟨S48x128, .f32⟩
  | .local _ .vmem, ⟨2, _⟩ => ⟨S16x256, .f32⟩
  | .local _ .vmem, ⟨3, _⟩ => ⟨S48x128, .f32⟩
  | .local _ .vmem, ⟨4, _⟩ => ⟨S16x256, .f32⟩
  | .local _ .vmem, ⟨5, _⟩ => ⟨S48x128, .f32⟩
  | .local _ .vmem, ⟨6, _⟩ => ⟨S16x256, .f32⟩
  | .local _ .vmem, ⟨7, _⟩ => ⟨S48x128, .f32⟩
  | .local _ .vmem, ⟨8, _⟩ => ⟨S16x256, .f32⟩
  | .local _ .vmem, ⟨9, _⟩ => ⟨S48x128, .f32⟩
  | .local _ .vmem, ⟨10, _⟩ => ⟨S16x256, .f32⟩
  | .local _ .vmem, ⟨11, _⟩ => ⟨S48x128, .f32⟩
  | .local _ .vmem, ⟨12, _⟩ => ⟨S16x256, .f32⟩
  | .local _ .vmem, ⟨13, _⟩ => ⟨S48x128, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S48x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S48x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference6Ideal.lean ====
abbrev S16x256 : Shape := ⟨2, ![16, 256]⟩
abbrev S48x128 : Shape := ⟨2, ![48, 128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S48x128, .f32⟩
  | .hbm, ⟨2, _⟩ => ⟨S16x256, .f32⟩
  | .hbm, ⟨3, _⟩ => ⟨S48x128, .f32⟩
  | .hbm, ⟨4, _⟩ => ⟨S16x256, .f32⟩
  | .hbm, ⟨5, _⟩ => ⟨S48x128, .f32⟩
  | .hbm, ⟨6, _⟩ => ⟨S16x256, .f32⟩
  | .hbm, ⟨7, _⟩ => ⟨S48x128, .f32⟩
  | .hbm, ⟨8, _⟩ => ⟨S_, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S_, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | .hbm, ⟨37, _⟩ => ⟨S16x256, .f32⟩
  | .hbm, ⟨38, _⟩ => ⟨S_, .f32⟩
  | .hbm, ⟨39, _⟩ => ⟨S16x256, .f32⟩
  | .hbm, ⟨40, _⟩ => ⟨S16x256, .f32⟩
  | .hbm, ⟨41, _⟩ => ⟨S_, .f32⟩
  | .hbm, ⟨42, _⟩ => ⟨S48x128, .f32⟩
  | .hbm, ⟨43, _⟩ => ⟨S48x128, .f32⟩
  | .hbm, ⟨44, _⟩ => ⟨S_, .f32⟩
  | .hbm, ⟨45, _⟩ => ⟨S48x128, .f32⟩
  | .hbm, ⟨46, _⟩ => ⟨S48x128, .f32⟩
  | .hbm, ⟨47, _⟩ => ⟨S48x128, .f32⟩
  | .hbm, ⟨48, _⟩ => ⟨S_, .f32⟩
  | .hbm, ⟨49, _⟩ => ⟨S48x128, .f32⟩
  | .hbm, ⟨50, _⟩ => ⟨S48x128, .f32⟩
  | .hbm, ⟨51, _⟩ => ⟨S48x128, .f32⟩
  | .hbm, ⟨52, _⟩ => ⟨S_, .f32⟩
  | .hbm, ⟨53, _⟩ => ⟨S48x128, .f32⟩
  | .hbm, ⟨54, _⟩ => ⟨S48x128, .f32⟩
  | .hbm, ⟨55, _⟩ => ⟨S48x128, .f32⟩
  | .hbm, ⟨56, _⟩ => ⟨S_, .f32⟩
  | .hbm, ⟨57, _⟩ => ⟨S48x128, .f32⟩
  | .hbm, ⟨58, _⟩ => ⟨S48x128, .f32⟩
  | .hbm, ⟨59, _⟩ => ⟨S_, .f32⟩
  | .hbm, ⟨60, _⟩ => ⟨S48x128, .f32⟩
  | .hbm, ⟨61, _⟩ => ⟨S48x128, .f32⟩
  | .hbm, ⟨62, _⟩ => ⟨S48x128, .f32⟩
  | .hbm, ⟨63, _⟩ => ⟨S_, .f32⟩
  | .hbm, ⟨64, _⟩ => ⟨S48x128, .f32⟩
  | .hbm, ⟨65, _⟩ => ⟨S48x128, .f32⟩
  | .hbm, ⟨66, _⟩ => ⟨S48x128, .f32⟩
  | .hbm, ⟨67, _⟩ => ⟨S_, .f32⟩
  | .hbm, ⟨68, _⟩ => ⟨S48x128, .f32⟩
  | .hbm, ⟨69, _⟩ => ⟨S48x128, .f32⟩
  | .hbm, ⟨70, _⟩ => ⟨S48x128, .f32⟩
  | .hbm, ⟨71, _⟩ => ⟨S_, .f32⟩
  | .hbm, ⟨72, _⟩ => ⟨S48x128, .f32⟩
  | .hbm, ⟨73, _⟩ => ⟨S48x128, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Attn.Offsets.lean ====
/- Where the key block's loads and stores lie: the closed forms of the offsets and of the trip counts, in the
   block number `(i 1).val` and the trip's number. -/
module

public import proofs.«01_k».proof.Proof.Gen.KernelIdeal.Loops
public import proofs.«01_k».proof.Proof.Gen.KernelIdeal.Frame

@[expose] public section

set_option maxRecDepth 16384

noncomputable section

namespace Cert.KernelIdeal

open Idealize.ShloMosaic Idealize.ShloMosaic.Tactic

theorem t1_trips : ∀ i : grid0.Coords, (k0_t1_loop i).trips = (10 - (i 1).val) / 2 := by decide +kernel
theorem t2_trips : ∀ i : grid0.Coords, (k0_t2_loop i).trips = 0 := by decide +kernel
theorem t3_trips : ∀ i : grid0.Coords, (k0_t3_loop i).trips = (10 - (i 1).val) % 2 := by decide +kernel
theorem t4_trips : ∀ i : grid0.Coords, (k0_t4_loop i).trips = 0 := by decide +kernel

theorem off1_eq : ∀ i : grid0.Coords, k0_off1 i = ![0, 0, 384 * (i 1).val] := by decide +kernel
theorem off2_eq : ∀ i : grid0.Coords, k0_off2 i = ![0, 384 * (i 1).val, 0] := by decide +kernel
theorem off3_eq : ∀ i : grid0.Coords, k0_off3 i = ![1, 0, 384 * (i 1).val] := by decide +kernel
theorem off4_eq : ∀ i : grid0.Coords, k0_off4 i = ![1, 384 * (i 1).val, 0] := by decide +kernel
theorem off5_eq : ∀ (i : grid0.Coords) (k : Fin (k0_t1_loop i).trips),
    k0_off5 i k = ![0, 0, 384 * ((i 1).val + 1 + 2 * k.val)] := by decide +kernel
theorem off6_eq : ∀ (i : grid0.Coords) (k : Fin (k0_t1_loop i).trips),
    k0_off6 i k = ![0, 384 * ((i 1).val + 1 + 2 * k.val), 0] := by decide +kernel
theorem off7_eq : ∀ (i : grid0.Coords) (k : Fin (k0_t1_loop i).trips),
    k0_off7 i k = ![1, 0, 384 * ((i 1).val + 1 + 2 * k.val)] := by decide +kernel
theorem off8_eq : ∀ (i : grid0.Coords) (k : Fin (k0_t1_loop i).trips),
    k0_off8 i k = ![1, 384 * ((i 1).val + 1 + 2 * k.val), 0] := by decide +kernel
theorem off13_eq : ∀ (i : grid0.Coords) (k : Fin (k0_t3_loop i).trips),
    k0_off13 i k = ![0, 0, 3840] := by decide +kernel
theorem off14_eq : ∀ (i : grid0.Coords) (k : Fin (k0_t3_loop i).trips),
    k0_off14 i k = ![0, 3840, 0] := by decide +kernel
theorem off15_eq : ∀ (i : grid0.Coords) (k : Fin (k0_t3_loop i).trips),
    k0_off15 i k = ![1, 0, 3840] := by decide +kernel
theorem off16_eq : ∀ (i : grid0.Coords) (k : Fin (k0_t3_loop i).trips),
    k0_off16 i k = ![1, 3840, 0] := by decide +kernel

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩
instance (i : grid0.Coords) (k : Fin (k0_t1_loop i).trips) : ClosedOff (k0_off5 i k) := ⟨_, off5_eq i k⟩
instance (i : grid0.Coords) (k : Fin (k0_t1_loop i).trips) : ClosedOff (k0_off6 i k) := ⟨_, off6_eq i k⟩
instance (i : grid0.Coords) (k : Fin (k0_t1_loop i).trips) : ClosedOff (k0_off7 i k) := ⟨_, off7_eq i k⟩
instance (i : grid0.Coords) (k : Fin (k0_t1_loop i).trips) : ClosedOff (k0_off8 i k) := ⟨_, off8_eq i k⟩
instance (i : grid0.Coords) (k : Fin (k0_t3_loop i).trips) : ClosedOff (k0_off13 i k) := ⟨_, off13_eq i k⟩
instance (i : grid0.Coords) (k : Fin (k0_t3_loop i).trips) : ClosedOff (k0_off14 i k) := ⟨_, off14_eq i k⟩
instance (i : grid0.Coords) (k : Fin (k0_t3_loop i).trips) : ClosedOff (k0_off15 i k) := ⟨_, off15_eq i k⟩
instance (i : grid0.Coords) (k : Fin (k0_t3_loop i).trips) : ClosedOff (k0_off16 i k) := ⟨_, off16_eq i k⟩

end Cert.KernelIdeal

end
-- ==== Proof.Attn.Model.lean ====
/- What the kernel computes, written over plain vectors: the key block's operands, one query block's operands,
   and the effect of one stretch of queries (384 or 768 of them) on the four running products and on the
   transposed gradient of the queries. -/
module

public import proofs.«01_k».proof.Proof.Attn.Offsets
public import Idealize.ShloMosaic.Lib.VecWindow
public import Idealize.ShloMosaic.Lib.ValueIdxCore

@[expose] public section

set_option maxRecDepth 16384

noncomputable section

namespace Cert.KernelIdeal.Model

open Cert.KernelIdeal Cert.KernelIdeal.Gen
open Idealize.ShloMosaic Idealize.ShloMosaic.TcCoe

variable {F : FTy → Type} [FloatOps F] [Named F]

/-! ## Windows of the whole buffers -/

section
variable {α : Type}

/-- `w` columns from `o` on of one head's transposed rows. -/
def cols (w : ℕ) (x : S2x128x4224.Idx → α) (hd : Fin 2) (o : ℕ) : (⟨3, ![1, 128, w]⟩ : Shape).Idx → α :=
  fun y => x (ValueIdx.ix3 (n0 := 2) (n1 := 128) (n2 := 4224) hd (y 1) ⟨(o + (y 2).val) % 4224, Nat.mod_lt _ (by decide)⟩)

/-- `w` rows from `o` on of one head. -/
def rows (w : ℕ) (x : S2x4224x128.Idx → α) (hd : Fin 2) (o : ℕ) : (⟨3, ![1, w, 128]⟩ : Shape).Idx → α :=
  fun y => x (ValueIdx.ix3 (n0 := 2) (n1 := 4224) (n2 := 128) hd ⟨(o + (y 1).val) % 4224, Nat.mod_lt _ (by decide)⟩ (y 2))

/-- Query block `n` of a matrix of all the queries. -/
def blk2 (x : S4224x128.Idx → α) (n : ℕ) : S384x128.Idx → α :=
  fun y => x (ValueIdx.ix2 (n0 := 4224) (n1 := 128) ⟨(384 * n + (y 0).val) % 4224, Nat.mod_lt _ (by decide)⟩ (y 1))

/-- Query block `n` of a stack of one matrix of all the queries. -/
def blk3 (x : S1x4224x128.Idx → α) (n : ℕ) : S1x384x128.Idx → α :=
  fun y => x (ValueIdx.ix3 (n0 := 1) (n1 := 4224) (n2 := 128) 0 ⟨(384 * n + (y 1).val) % 4224, Nat.mod_lt _ (by decide)⟩ (y 2))

end

/-! ## The operands -/

/-- The lane number. -/
def lane : IVec S1x128 32 := iota .tc S1x128 32 [1] iota_S1x128_d1_w32

/-- The lane number divided by 64, rounded down: the head a lane belongs to. -/
def laneHead : IVec S1x128 32 :=
  select
    (andi
      (cmpi .ne (subi (extui 32 (cmpi .sgt lane (broadcast S1x128 0#32)) natLt_1_32) (extui 32 (cmpi .slt lane (broadcast S1x128 0#32)) natLt_1_32))
        (broadcast S1x128 (Scalar.subi (Scalar.extui (Scalar.cmpi .sgt 64#32 0#32)) (Scalar.extui (Scalar.cmpi .slt 64#32 0#32)))))
      (cmpi .ne (remsi lane (broadcast S1x128 64#32)) (broadcast S1x128 0#32)))
    (subi (divsi lane (broadcast S1x128 64#32)) (broadcast S1x128 1#32))
    (divsi lane (broadcast S1x128 64#32))

/-- A condition on the lanes, on every row. -/
def spread (b : IVec S1x128 1) : IVec S384x128 1 :=
  broadcastTo S384x128 (shapeCast S1x128 b shapeCasts_S1x128_S1x128) broadcasts_S1x128_S384x128

/-- `x` on the lanes of head `hd`, zero elsewhere. -/
def keepHead (hd : BitVec 32) (x : FVec F S384x128 .bf16) : FVec F S384x128 .bf16 :=
  select (spread (cmpi .eq laneHead (broadcast S1x128 hd))) x (broadcast S384x128 (Scalar.ofBits .bf16 0x0000#16))

/-- One on the lanes from `lo` up to `hi`, `x` elsewhere. -/
def onesIn (lo hi : BitVec 32) (x : FVec F S384x128 .bf16) : FVec F S384x128 .bf16 :=
  select (spread (andi (cmpi .sge lane (broadcast S1x128 lo)) (cmpi .slt lane (broadcast S1x128 hi))))
    (broadcast S384x128 (Scalar.ofBits .bf16 0x3F80#16)) x

/-- The first column of a block. -/
def col0 (p : FVec F S384x128 .bf16) : FVec F S384x1 .bf16 := extractStridedSlice S384x1 ![0, 0] p slices_S384x128_o0_0_S384x1
/-- The second column of a block. -/
def col1 (p : FVec F S384x128 .bf16) : FVec F S384x1 .bf16 := extractStridedSlice S384x1 ![0, 1] p slices_S384x128_o0_1_S384x1

/-- The column `p` on lane `n`, `x` elsewhere. -/
def colIn (n : BitVec 32) (p : FVec F S384x1 .bf16) (x : FVec F S384x128 .bf16) : FVec F S384x128 .bf16 :=
  select (spread (cmpi .eq lane (broadcast S1x128 n)))
    (broadcastTo S384x128 (shapeCast S384x1 p shapeCasts_S384x1_S384x1) broadcasts_S384x1_S384x128) x

/-- The three pieces of a vector: each the rounding of what the earlier ones leave. -/
def hi (x : FVec F S384x128 .f32) : FVec F S384x128 .bf16 := truncf .bf16 x bitsLt_bf16_f32
def rest1 (x : FVec F S384x128 .f32) : FVec F S384x128 .f32 := subf x (extf .f32 (hi x) bitsLt_bf16_f32)
def mid (x : FVec F S384x128 .f32) : FVec F S384x128 .bf16 := truncf .bf16 (rest1 x) bitsLt_bf16_f32
def lo (x : FVec F S384x128 .f32) : FVec F S384x128 .bf16 :=
  truncf .bf16 (subf (rest1 x) (extf .f32 (mid x) bitsLt_bf16_f32)) bitsLt_bf16_f32

/-- A block's negative. -/
def neg (x : Vec F S1x384x128 .f32) : FVec F S384x128 .f32 :=
  subf (broadcast S384x128 (Scalar.ofBits .f32 0x00000000#32)) (shapeCast S384x128 x shapeCasts_S1x384x128_S384x128)

/-- The transposed block. -/
def tr (x : FVec F S384x128 .bf16) : FVec F S128x384 .bf16 :=
  truncf .bf16 (transpose S128x384 [1, 0] (extf .f32 x bitsLt_bf16_f32) transposes_S384x128_p1_0_S128x384) bitsLt_bf16_f32

/-- The block's queries with one on three lanes and the negative of the first statistic of its rows, in three pieces, on three more. -/
def qa0 (q : Vec F S384x128 .bf16) (lse : Vec F S1x384x128 .f32) : FVec F S384x128 .bf16 :=
  colIn 69#32 (col0 (lo (neg lse))) (colIn 68#32 (col0 (mid (neg lse))) (colIn 67#32 (col0 (hi (neg lse)))
    (onesIn 64#32 67#32 (keepHead 0#32 (shapeCast S384x128 q shapeCasts_S384x128_S384x128)))))
def qa1 (q : Vec F S384x128 .bf16) (lse : Vec F S1x384x128 .f32) : FVec F S384x128 .bf16 :=
  colIn 5#32 (col1 (lo (neg lse))) (colIn 4#32 (col1 (mid (neg lse))) (colIn 3#32 (col1 (hi (neg lse)))
    (onesIn 0#32 3#32 (keepHead 1#32 (shapeCast S384x128 q shapeCasts_S384x128_S384x128)))))

/-- The block's output gradients with the negative of the second statistic of its rows, in three pieces, on three lanes. -/
def doa0 (d : Vec F S384x128 .bf16) (del : Vec F S1x384x128 .f32) : FVec F S384x128 .bf16 :=
  colIn 66#32 (col0 (lo (neg del))) (colIn 65#32 (col0 (mid (neg del))) (colIn 64#32 (col0 (hi (neg del)))
    (keepHead 0#32 (shapeCast S384x128 d shapeCasts_S384x128_S384x128))))
def doa1 (d : Vec F S384x128 .bf16) (del : Vec F S1x384x128 .f32) : FVec F S384x128 .bf16 :=
  colIn 2#32 (col1 (lo (neg del))) (colIn 1#32 (col1 (mid (neg del))) (colIn 0#32 (col1 (hi (neg del)))
    (keepHead 1#32 (shapeCast S384x128 d shapeCasts_S384x128_S384x128))))

/-- The negative of the decay of key block `j`'s rows, the mask before the first true row. -/
def keyRow (j : BitVec 32) (c : Vec F S1x384x128 .f32) : FVec F S384x128 .f32 :=
  select (broadcastTo S384x128 (shapeCast S384x1
      (cmpi .sge (addi (broadcast S384x1 (Scalar.muli j 384#32)) (iota .tc S384x1 32 [0] iota_S384x1_d0_w32)) (broadcast S384x1 112#32))
      shapeCasts_S384x1_S384x1) broadcasts_S384x1_S384x128)
    (neg c) (broadcast S384x128 (Named.named κ "mask" 0xF149F2CA#32))

/-- The key block's operand: its keys, the pieces of `keyRow` on three lanes and one on three more. -/
def ka0 (j : BitVec 32) (k : Vec F S384x128 .bf16) (c : Vec F S1x384x128 .f32) : FVec F S384x128 .bf16 :=
  onesIn 67#32 70#32 (colIn 66#32 (col0 (lo (keyRow j c))) (colIn 65#32 (col0 (mid (keyRow j c))) (colIn 64#32 (col0 (hi (keyRow j c)))
    (keepHead 0#32 (shapeCast S384x128 k shapeCasts_S384x128_S384x128)))))
def ka1 (j : BitVec 32) (k : Vec F S384x128 .bf16) (c : Vec F S1x384x128 .f32) : FVec F S384x128 .bf16 :=
  onesIn 3#32 6#32 (colIn 2#32 (col1 (lo (keyRow j c))) (colIn 1#32 (col1 (mid (keyRow j c))) (colIn 0#32 (col1 (hi (keyRow j c)))
    (keepHead 1#32 (shapeCast S384x128 k shapeCasts_S384x128_S384x128)))))

/-- The value block's operand: its values and one on three lanes. -/
def va0 (v : Vec F S384x128 .bf16) : FVec F S384x128 .bf16 :=
  onesIn 64#32 67#32 (keepHead 0#32 (shapeCast S384x128 v shapeCasts_S384x128_S384x128))
def va1 (v : Vec F S384x128 .bf16) : FVec F S384x128 .bf16 :=
  onesIn 0#32 3#32 (keepHead 1#32 (shapeCast S384x128 v shapeCasts_S384x128_S384x128))

/-! ## The whole buffers of the queries' operands -/

/-- The operands of all the queries, both heads. -/
structure Bufs (F : FTy → Type) where
  qa : Vec F S2x4224x128 .bf16
  qat : Vec F S2x128x4224 .bf16
  doa : Vec F S2x4224x128 .bf16
  doat : Vec F S2x128x4224 .bf16

/-- All rows, block by block. -/
def stackRows (f : ℕ → FVec F S384x128 .bf16) (g : ℕ → FVec F S384x128 .bf16) : Vec F S2x4224x128 .bf16 := fun y =>
  (if (y 0).val = 0 then f else g) ((y 1).val / 384) (ValueIdx.ix2 (n0 := 384) (n1 := 128) ⟨(y 1).val % 384, Nat.mod_lt _ (by decide)⟩ (y 2))

/-- All columns, block by block. -/
def stackCols (f : ℕ → FVec F S128x384 .bf16) (g : ℕ → FVec F S128x384 .bf16) : Vec F S2x128x4224 .bf16 := fun y =>
  (if (y 0).val = 0 then f else g) ((y 2).val / 384) (ValueIdx.ix2 (n0 := 128) (n1 := 384) (y 1) ⟨(y 2).val % 384, Nat.mod_lt _ (by decide)⟩)

/-- The buffers as the first key block of a pair fills them. -/
def fill (q d : Vec F S4224x128 .bf16) (lse del : Vec F S1x4224x128 .f32) : Bufs F where
  qa := stackRows (fun n => qa0 (blk2 q n) (blk3 lse n)) (fun n => qa1 (blk2 q n) (blk3 lse n))
  qat := stackCols (fun n => tr (qa0 (blk2 q n) (blk3 lse n))) (fun n => tr (qa1 (blk2 q n) (blk3 lse n)))
  doa := stackRows (fun n => doa0 (blk2 d n) (blk3 del n)) (fun n => doa1 (blk2 d n) (blk3 del n))
  doat := stackCols (fun n => tr (doa0 (blk2 d n) (blk3 del n))) (fun n => tr (doa1 (blk2 d n) (blk3 del n)))

/-! ## One key block against a stretch of queries -/

/-- The key block's operands, both heads. -/
structure Keys (F : FTy → Type) where
  ka0 : FVec F S384x128 .bf16
  ka1 : FVec F S384x128 .bf16
  kat0 : FVec F S128x384 .bf16
  kat1 : FVec F S128x384 .bf16
  va0 : FVec F S384x128 .bf16
  va1 : FVec F S384x128 .bf16

/-- The operands of key block `j`. -/
def keys (j : BitVec 32) (k v : Vec F S384x128 .bf16) (c : Vec F S1x384x128 .f32) : Keys F where
  ka0 := ka0 j k c
  ka1 := ka1 j k c
  kat0 := tr (ka0 j k c)
  kat1 := tr (ka1 j k c)
  va0 := va0 v
  va1 := va1 v

/-- The running products of the key block and the transposed gradient of the queries. -/
structure St (F : FTy → Type) where
  dk0 : FVec F S384x128 .f32
  dv0 : FVec F S384x128 .f32
  dk1 : FVec F S384x128 .f32
  dv1 : FVec F S384x128 .f32
  dqt : Vec F S2x128x4224 .f32

/-- The running products in the order the loops carry them. -/
def St.acc (s : St F) : FVec F S384x128 .f32 × FVec F S384x128 .f32 × FVec F S384x128 .f32 × FVec F S384x128 .f32 :=
  (s.dk0, s.dv0, s.dk1, s.dv1)

/-- The transposed gradient with both heads' columns from `o` on replaced. -/
def put2 (w : ℕ) (x : Vec F S2x128x4224 .f32) (o : ℕ) (a b : (⟨3, ![1, 128, w]⟩ : Shape).Idx → F .f32) : Vec F S2x128x4224 .f32 :=
  VecWindow.put (s := S2x128x4224) (VecWindow.put (s := S2x128x4224) x ![0, 0, o] ![1, 128, w] a) ![1, 0, o] ![1, 128, w] b

/-- 768 queries from `o` on, none masked. -/
def step768 (K : Keys F) (B : Bufs F) (o : ℕ) (s : St F) : St F where
  dk0 := k0_pay398 K.ka0 K.va0 s.dk0 (cols 768 B.qat 0 o) (cols 768 B.doat 0 o) (rows 768 B.qa 0 o)
  dv0 := k0_pay397 K.ka0 s.dv0 (cols 768 B.qat 0 o) (rows 768 B.doa 0 o)
  dk1 := k0_pay398 K.ka1 K.va1 s.dk1 (cols 768 B.qat 1 o) (cols 768 B.doat 1 o) (rows 768 B.qa 1 o)
  dv1 := k0_pay397 K.ka1 s.dv1 (cols 768 B.qat 1 o) (rows 768 B.doa 1 o)
  dqt := put2 768 s.dqt o
    (k0_pay399 K.ka0 K.kat0 K.va0 (cols 768 B.qat 0 o) (cols 768 B.doat 0 o) (cols 768 s.dqt 0 o))
    (k0_pay399 K.ka1 K.kat1 K.va1 (cols 768 B.qat 1 o) (cols 768 B.doat 1 o) (cols 768 s.dqt 1 o))

/-- 384 queries from `o` on, none masked. -/
def step384 (K : Keys F) (B : Bufs F) (o : ℕ) (s : St F) : St F where
  dk0 := k0_pay408 K.ka0 K.va0 s.dk0 (cols 384 B.qat 0 o) (cols 384 B.doat 0 o) (rows 384 B.qa 0 o)
  dv0 := k0_pay407 K.ka0 s.dv0 (cols 384 B.qat 0 o) (rows 384 B.doa 0 o)
  dk1 := k0_pay408 K.ka1 K.va1 s.dk1 (cols 384 B.qat 1 o) (cols 384 B.doat 1 o) (rows 384 B.qa 1 o)
  dv1 := k0_pay407 K.ka1 s.dv1 (cols 384 B.qat 1 o) (rows 384 B.doa 1 o)
  dqt := put2 384 s.dqt o
    (k0_pay409 K.ka0 K.kat0 K.va0 (cols 384 B.qat 0 o) (cols 384 B.doat 0 o) (cols 384 s.dqt 0 o))
    (k0_pay409 K.ka1 K.kat1 K.va1 (cols 384 B.qat 1 o) (cols 384 B.doat 1 o) (cols 384 s.dqt 1 o))

/-- The key block's own 384 queries (from `o` on), masked, from zero products. -/
def stepDiag (j : BitVec 32) (K : Keys F) (B : Bufs F) (o : ℕ) (d : Vec F S2x128x4224 .f32) : St F where
  dk0 := k0_pay506 k0_pay501 (k0_pay503 j K.ka0 K.va0 (cols 384 B.qat 0 o) (cols 384 B.doat 0 o)) (rows 384 B.qa 0 o)
  dv0 := k0_pay505 k0_pay501 (k0_pay504 j K.ka0 (cols 384 B.qat 0 o)) (rows 384 B.doa 0 o)
  dk1 := k0_pay506 k0_pay501 (k0_pay503 j K.ka1 K.va1 (cols 384 B.qat 1 o) (cols 384 B.doat 1 o)) (rows 384 B.qa 1 o)
  dv1 := k0_pay505 k0_pay501 (k0_pay504 j K.ka1 (cols 384 B.qat 1 o)) (rows 384 B.doa 1 o)
  dqt := put2 384 d o
    (k0_pay507 K.kat0 (k0_pay503 j K.ka0 K.va0 (cols 384 B.qat 0 o) (cols 384 B.doat 0 o)) (cols 384 d 0 o))
    (k0_pay507 K.kat1 (k0_pay503 j K.ka1 K.va1 (cols 384 B.qat 1 o) (cols 384 B.doat 1 o)) (cols 384 d 1 o))

/-- `k` stretches of 768 queries from block `n` on. -/
def run768 (K : Keys F) (B : Bufs F) (n : ℕ) (s : St F) : ℕ → St F
  | 0 => s
  | k + 1 => step768 K B (384 * (n + 2 * k)) (run768 K B n s k)

/-- `k` stretches of 384 queries, each the last one. -/
def run384 (K : Keys F) (B : Bufs F) (s : St F) : ℕ → St F
  | 0 => s
  | k + 1 => step384 K B 3840 (run384 K B s k)

/-- All of key block `j`. -/
def keyBlock (j : ℕ) (K : Keys F) (B : Bufs F) (d : Vec F S2x128x4224 .f32) : St F :=
  run384 K B (run768 K B (j + 1) (stepDiag (BitVec.ofNat 32 j) K B (384 * j) d) ((10 - j) / 2)) ((10 - j) % 2)

/-! ## Windows as the run states them -/

section
variable {α : Type}

theorem window_cols (w : ℕ) (x : S2x128x4224.Idx → α) (hd : Fin 2) (o : ℕ) (h : o + w ≤ 4224)
    (inb : ∀ a, (![hd.val, 0, o] : Fin 3 → ℕ) a + (![1, 128, w] : Fin 3 → ℕ) a ≤ S2x128x4224.size a) :
    VecWindow.window (s := S2x128x4224) x ![hd.val, 0, o] ![1, 128, w] inb = cols w x hd o := by
  funext y
  refine congrArg x (funext fun a => Fin.ext ?_)
  fin_cases a
  · show hd.val + 1 * (y 0).val = hd.val
    have : (y 0).val < 1 := (y 0).isLt
    omega
  · show 0 + 1 * (y 1).val = (y 1).val
    omega
  · show o + 1 * (y 2).val = (o + (y 2).val) % 4224
    have : (y 2).val < w := (y 2).isLt
    rw [Nat.mod_eq_of_lt (by omega)]; omega

theorem window_rows (w : ℕ) (x : S2x4224x128.Idx → α) (hd : Fin 2) (o : ℕ) (h : o + w ≤ 4224)
    (inb : ∀ a, (![hd.val, o, 0] : Fin 3 → ℕ) a + (![1, w, 128] : Fin 3 → ℕ) a ≤ S2x4224x128.size a) :
    VecWindow.window (s := S2x4224x128) x ![hd.val, o, 0] ![1, w, 128] inb = rows w x hd o := by
  funext y
  refine congrArg x (funext fun a => Fin.ext ?_)
  fin_cases a
  · show hd.val + 1 * (y 0).val = hd.val
    have : (y 0).val < 1 := (y 0).isLt
    omega
  · show o + 1 * (y 1).val = (o + (y 1).val) % 4224
    have : (y 1).val < w := (y 1).isLt
    rw [Nat.mod_eq_of_lt (by omega)]; omega
  · show 0 + 1 * (y 2).val = (y 2).val
    omega

/-- The second head's columns are untouched by a store into the first head's. -/
theorem cols_put0 (w : ℕ) (x : S2x128x4224.Idx → α) (o : ℕ) (a : (⟨3, ![1, 128, w]⟩ : Shape).Idx → α) :
    cols w (VecWindow.put (s := S2x128x4224) x ![0, 0, o] ![1, 128, w] a) 1 o = cols w x 1 o := by
  funext y
  unfold cols VecWindow.put
  rw [dif_neg]
  intro h
  have h0 : (1 : ℕ) < 0 + 1 := (h 0).2
  omega

end

end Cert.KernelIdeal.Model

end
-- ==== Proof.Attn.Trips.lean ====
/- One trip of each counted loop of the key block's run, and the loops themselves. -/
module

public import proofs.«01_k».proof.Proof.Attn.Model
public import Idealize.ShloMosaic.Lib.Tactic

@[expose] public section

set_option maxRecDepth 16384

noncomputable section

namespace Cert.KernelIdeal.Attn

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

abbrev 𝒱₀ : Variants := Variants.none

/-- A memory reference whose buffer holds the vector `x`. -/
def held (c : Dev nD) {sp : Space} {s : Shape} {e : EltTy} (M : Memref sig .tc sp s e) (x : s.Idx → Elt F e) : sProp 𝕄 :=
  M.view.loc (c : Thread nD τ) ↦[M.view.set]{fullShare} M.view.rep x

/-- The five scratch buffers at their values. -/
def scratch (c : Dev nD) (arg14 : Memref sig .tc .vmem S2x4224x128 .bf16) (arg15 : Memref sig .tc .vmem S2x128x4224 .bf16)
    (arg16 : Memref sig .tc .vmem S2x4224x128 .bf16) (arg17 : Memref sig .tc .vmem S2x128x4224 .bf16)
    (arg18 : Memref sig .tc .vmem S2x128x4224 .f32) (B : Bufs F) (d : Vec F S2x128x4224 .f32) : sProp 𝕄 :=
  iprop(held c arg14 B.qa ∗ held c arg15 B.qat ∗ held c arg16 B.doa ∗ held c arg17 B.doat ∗ held c arg18 d)

/-! ## Loads and stores by windows -/

section
variable {κ : Kind} {sp : Space} {e : EltTy}

theorem readAt_cols (v : View sig κ sp S2x128x4224 e) (x : S2x128x4224.Idx → Elt F e) (w : ℕ) (hd : Fin 2) (o : ℕ)
    {off : Fin 3 → ℕ} (inb : ∀ a, off a + (⟨3, ![1, 128, w]⟩ : Shape).size a ≤ S2x128x4224.size a) (h : off = ![hd.val, 0, o]) :
    v.readAt (Elt F) (Rect.unit (s := S2x128x4224) off (⟨3, ![1, 128, w]⟩ : Shape).size inb).toLoadRect (v.rep x) = cols w x hd o := by
  subst h
  have ho : o + w ≤ 4224 := inb 2
  exact (View.readAt_rep_unit (off' := ![hd.val, 0, o]) (size := ![1, 128, w]) v x inb rfl inb).trans (window_cols w x hd o ho inb)

theorem readAt_rows (v : View sig κ sp S2x4224x128 e) (x : S2x4224x128.Idx → Elt F e) (w : ℕ) (hd : Fin 2) (o : ℕ)
    {off : Fin 3 → ℕ} (inb : ∀ a, off a + (⟨3, ![1, w, 128]⟩ : Shape).size a ≤ S2x4224x128.size a) (h : off = ![hd.val, o, 0]) :
    v.readAt (Elt F) (Rect.unit (s := S2x4224x128) off (⟨3, ![1, w, 128]⟩ : Shape).size inb).toLoadRect (v.rep x) = rows w x hd o := by
  subst h
  have ho : o + w ≤ 4224 := inb 1
  exact (View.readAt_rep_unit (off' := ![hd.val, o, 0]) (size := ![1, w, 128]) v x inb rfl inb).trans (window_rows w x hd o ho inb)

theorem read_put2 (v : View sig κ sp S2x128x4224 .f32) (x : S2x128x4224.Idx → F .f32) (w : ℕ) (o : ℕ)
    {off0 off1 : Fin 3 → ℕ} (inb0 : ∀ a, off0 a + (⟨3, ![1, 128, w]⟩ : Shape).size a ≤ S2x128x4224.size a)
    (inb1 : ∀ a, off1 a + (⟨3, ![1, 128, w]⟩ : Shape).size a ≤ S2x128x4224.size a)
    (h0 : off0 = ![0, 0, o]) (h1 : off1 = ![1, 0, o]) (a b : (⟨3, ![1, 128, w]⟩ : Shape).Idx → F .f32) :
    v.read (Elt F) (v.writes (Elt F) (v.rep x) [⟨Rect.unit (s := S2x128x4224) off1 (⟨3, ![1, 128, w]⟩ : Shape).size inb1, b⟩,
      ⟨Rect.unit (s := S2x128x4224) off0 (⟨3, ![1, 128, w]⟩ : Shape).size inb0, a⟩]) = put2 w x o a b := by
  refine (View.read_writes_cons_put (Val := Elt F) (off' := ![1, 0, o]) (size := ![1, 128, w]) v _ inb1 b _ h1).trans ?_
  have e := View.read_writes_rep_unit (Val := Elt F) (off' := ![0, 0, o]) (size := ![1, 128, w]) v x inb0 a h0
  exact congrArg (fun z : S2x128x4224.Idx → F .f32 => VecWindow.put (s := S2x128x4224) z ![1, 0, o] ![1, 128, w] b) e

end

variable (c : Dev nD) (i : grid0.Coords)
  (arg2 : Memref sig .tc .vmem S4224x128 .bf16) (harg2 : arg2.IsWhole)
  (arg3 : Memref sig .tc .vmem S384x128 .bf16) (harg3 : arg3.IsWhole)
  (arg4 : Memref sig .tc .vmem S384x128 .bf16) (harg4 : arg4.IsWhole)
  (arg5 : Memref sig .tc .vmem S4224x128 .bf16) (harg5 : arg5.IsWhole)
  (arg6 : Memref sig .tc .vmem S1x4224x128 .f32) (harg6 : arg6.IsWhole)
  (arg7 : Memref sig .tc .vmem S1x4224x128 .f32) (harg7 : arg7.IsWhole)
  (arg8 : Memref sig .tc .vmem S1x384x128 .f32) (harg8 : arg8.IsWhole)
  (arg9 : Memref sig .tc .vmem S4224x128 .f32) (harg9 : arg9.IsWhole)
  (arg10 : Memref sig .tc .vmem S384x128 .bf16) (harg10 : arg10.IsWhole)
  (arg11 : Memref sig .tc .vmem S384x128 .bf16) (harg11 : arg11.IsWhole)
  (arg12 : Memref sig .tc .vmem S1x384x128 .f32) (harg12 : arg12.IsWhole)
  (arg13 : Memref sig .tc .vmem S1x8x4224 .f32) (harg13 : arg13.IsWhole)
  (arg14 : Memref sig .tc .vmem S2x4224x128 .bf16) (harg14 : arg14.IsWhole)
  (arg15 : Memref sig .tc .vmem S2x128x4224 .bf16) (harg15 : arg15.IsWhole)
  (arg16 : Memref sig .tc .vmem S2x4224x128 .bf16) (harg16 : arg16.IsWhole)
  (arg17 : Memref sig .tc .vmem S2x128x4224 .bf16) (harg17 : arg17.IsWhole)
  (arg18 : Memref sig .tc .vmem S2x128x4224 .f32) (harg18 : arg18.IsWhole)

theorem pay516_eq (a b x y) : k0_pay516 (F := F) a b x y = k0_pay397 a b x y := rfl
theorem pay517_eq (a b d x y z) : k0_pay517 (F := F) a b d x y z = k0_pay398 a b d x y z := rfl
theorem pay518_eq (a b d x y z) : k0_pay518 (F := F) a b d x y z = k0_pay399 a b d x y z := rfl
theorem pay526_eq (a b x y) : k0_pay526 (F := F) b (k0_pay410 a x) y = k0_pay407 a b x y := rfl
theorem pay527_eq (a b d x y z) : k0_pay527 (F := F) b d (k0_pay410 a x) y z = k0_pay408 a b d x y z := rfl
theorem pay528_eq (a b d x y z) : k0_pay528 (F := F) b d (k0_pay410 a x) y z = k0_pay409 a b d x y z := rfl

/-- One trip of the first loop: 768 queries. -/
theorem trip1 (arg1 : BitVec 32) (K : Keys F) (B : Bufs F) (s : St F) (v276 v281 v318 v323 : FVec F S384x128 .f32)
    (v333 c0 v351 : BitVec 32) (k : Fin (k0_t1_loop i).trips) (E : Set ℕ) :
    scratch c arg14 arg15 arg16 arg17 arg18 B s.dqt
      ⊢ wp frame (wpE (defs₀ (F := F)) 𝒱₀ c none) E
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 K.ka0 K.ka1 K.kat0 K.kat1 K.va0 K.va1 v276 v281 v318 v323 v333 c0 v351 k s.acc)
          (fun a => iprop(⌜a = (step768 K B (384 * ((i 1).val + 1 + 2 * k.val)) s).acc⌝
            ∗ scratch c arg14 arg15 arg16 arg17 arg18 B (step768 K B (384 * ((i 1).val + 1 + 2 * k.val)) s).dqt)) := by
  unfold scratch held St.acc
  iintro ⟨H14, H15, H16, H17, H18⟩
  unfold k0_t1_body
  sl_exec_parts
  sl_step
  have e15 := readAt_cols (F := F) arg15.view B.qat 768 0 _ (k0_off5_inb i k) (off5_eq i k)
  have e17 := readAt_cols (F := F) arg17.view B.doat 768 0 _ (k0_off5_inb i k) (off5_eq i k)
  have e18 := readAt_cols (F := F) arg18.view s.dqt 768 0 _ (k0_off5_inb i k) (off5_eq i k)
  have e16 := readAt_rows (F := F) arg16.view B.doa 768 0 _ (k0_off6_inb i k) (off6_eq i k)
  have e14 := readAt_rows (F := F) arg14.view B.qa 768 0 _ (k0_off6_inb i k) (off6_eq i k)
  have f15 := readAt_cols (F := F) arg15.view B.qat 768 1 _ (k0_off7_inb i k) (off7_eq i k)
  have f17 := readAt_cols (F := F) arg17.view B.doat 768 1 _ (k0_off7_inb i k) (off7_eq i k)
  have f18 := readAt_cols (F := F) arg18.view s.dqt 768 1 _ (k0_off7_inb i k) (off7_eq i k)
  have f16 := readAt_rows (F := F) arg16.view B.doa 768 1 _ (k0_off8_inb i k) (off8_eq i k)
  have f14 := readAt_rows (F := F) arg14.view B.qa 768 1 _ (k0_off8_inb i k) (off8_eq i k)
  isplitr
  · ipureintro
    unfold step768
    dsimp only
    rw [← e15, ← e17, ← e14, ← e16, ← f15, ← f17, ← f14, ← f16]
    rfl
  isplitl [H14]; · iexact H14
  isplitl [H15]; · iexact H15
  isplitl [H16]; · iexact H16
  isplitl [H17]; · iexact H17
  iapply (pointsTo_rep_of_read (c : Thread nD τ) arg18 _ _ _ ?_) $$ [H18]
  rotate_left
  · iexact H18
  refine (read_put2 arg18.view s.dqt 768 _ (k0_off5_inb i k) (k0_off7_inb i k) (off5_eq i k) (off7_eq i k) _ _).trans ?_
  unfold step768
  dsimp only
  rw [← e15, ← e17, ← e18, ← f15, ← f17, ← f18]
  rfl

/-- One trip of the second loop: 384 queries. -/
theorem trip3 (arg1 : BitVec 32) (K : Keys F) (B : Bufs F) (s : St F) (v276 v281 v318 v323 : FVec F S384x128 .f32)
    (v333 c0 v351 v368 : BitVec 32) (k : Fin (k0_t3_loop i).trips) (E : Set ℕ) :
    scratch c arg14 arg15 arg16 arg17 arg18 B s.dqt
      ⊢ wp frame (wpE (defs₀ (F := F)) 𝒱₀ c none) E
          (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 K.ka0 K.ka1 K.kat0 K.kat1 K.va0 K.va1 v276 v281 v318 v323 v333 c0 v351 v368 k s.acc)
          (fun a => iprop(⌜a = (step384 K B 3840 s).acc⌝
            ∗ scratch c arg14 arg15 arg16 arg17 arg18 B (step384 K B 3840 s).dqt)) := by
  unfold scratch held St.acc
  iintro ⟨H14, H15, H16, H17, H18⟩
  unfold k0_t3_body
  sl_exec_parts
  sl_step
  have e15 := readAt_cols (F := F) arg15.view B.qat 384 0 _ (k0_off13_inb i k) (off13_eq i k)
  have e17 := readAt_cols (F := F) arg17.view B.doat 384 0 _ (k0_off13_inb i k) (off13_eq i k)
  have e18 := readAt_cols (F := F) arg18.view s.dqt 384 0 _ (k0_off13_inb i k) (off13_eq i k)
  have e16 := readAt_rows (F := F) arg16.view B.doa 384 0 _ (k0_off14_inb i k) (off14_eq i k)
  have e14 := readAt_rows (F := F) arg14.view B.qa 384 0 _ (k0_off14_inb i k) (off14_eq i k)
  have f15 := readAt_cols (F := F) arg15.view B.qat 384 1 _ (k0_off15_inb i k) (off15_eq i k)
  have f17 := readAt_cols (F := F) arg17.view B.doat 384 1 _ (k0_off15_inb i k) (off15_eq i k)
  have f18 := readAt_cols (F := F) arg18.view s.dqt 384 1 _ (k0_off15_inb i k) (off15_eq i k)
  have f16 := readAt_rows (F := F) arg16.view B.doa 384 1 _ (k0_off16_inb i k) (off16_eq i k)
  have f14 := readAt_rows (F := F) arg14.view B.qa 384 1 _ (k0_off16_inb i k) (off16_eq i k)
  isplitr
  · ipureintro
    unfold step384
    dsimp only
    rw [← e15, ← e17, ← e14, ← e16, ← f15, ← f17, ← f14, ← f16]
    rfl
  isplitl [H14]; · iexact H14
  isplitl [H15]; · iexact H15
  isplitl [H16]; · iexact H16
  isplitl [H17]; · iexact H17
  iapply (pointsTo_rep_of_read (c : Thread nD τ) arg18 _ _ _ ?_) $$ [H18]
  rotate_left
  · iexact H18
  refine (read_put2 arg18.view s.dqt 384 _ (k0_off13_inb i k) (k0_off15_inb i k) (off13_eq i k) (off15_eq i k) _ _).trans ?_
  unfold step384
  dsimp only
  rw [← e15, ← e17, ← e18, ← f15, ← f17, ← f18]
  rfl

/-- The loops' invariant: the carried products and the transposed gradient are the state `st k`. -/
def inv (c : Dev nD) (arg14 : Memref sig .tc .vmem S2x4224x128 .bf16) (arg15 : Memref sig .tc .vmem S2x128x4224 .bf16)
    (arg16 : Memref sig .tc .vmem S2x4224x128 .bf16) (arg17 : Memref sig .tc .vmem S2x128x4224 .bf16)
    (arg18 : Memref sig .tc .vmem S2x128x4224 .f32) (B : Bufs F) (st : ℕ → St F) (k : ℕ)
    (a : FVec F S384x128 .f32 × FVec F S384x128 .f32 × FVec F S384x128 .f32 × FVec F S384x128 .f32) : sProp 𝕄 :=
  iprop(⌜a = (st k).acc⌝ ∗ scratch c arg14 arg15 arg16 arg17 arg18 B (st k).dqt)

/-- What the loops leave from the state `s` of the key block's own queries. -/
def loops (i : grid0.Coords) (K : Keys F) (B : Bufs F) (s : St F) : St F :=
  run384 K B (run768 K B ((i 1).val + 1) s ((10 - (i 1).val) / 2)) ((10 - (i 1).val) % 2)

/-- The loops after the key block's own queries, and the stores of its two gradients. -/
theorem part96_run (arg1 : BitVec 32) (K : Keys F) (B : Bufs F) (s : St F) (v333 c0 v351 : BitVec 32) (E : Set ℕ)
    (x10 x11 : S384x128.Idx → F .bf16) :
    iprop(scratch c arg14 arg15 arg16 arg17 arg18 B s.dqt ∗ held c arg10 x10 ∗ held c arg11 x11)
      ⊢ wp frame (wpE (defs₀ (F := F)) 𝒱₀ c none) E
          (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 K.ka0 K.ka1 K.kat0 K.kat1 K.va0 K.va1 s.dv0 s.dk0 s.dv1 s.dk1 v333 c0 v351)
          (fun a => iprop(⌜a = ⟨(loops i K B s).dk0, (loops i K B s).dk1, lane⟩⌝
            ∗ scratch c arg14 arg15 arg16 arg17 arg18 B (loops i K B s).dqt
            ∗ held c arg10 (k0_pay534 (loops i K B s).dk0 (loops i K B s).dk1)
            ∗ held c arg11 (k0_pay535 (loops i K B s).dv0 (loops i K B s).dv1))) := by
  rw [k0_part96_eq_skeleton]
  iintro ⟨HS, H10, H11⟩
  unfold k0_part96_skel
  have h2 : (k0_t2_loop i).trips = 0 := t2_trips i
  have h4 : (k0_t4_loop i).trips = 0 := t4_trips i
  sl_exec
  sl_for (inv c arg14 arg15 arg16 arg17 arg18 B (run768 K B ((i 1).val + 1) s)) $$ [HS]
  case region =>
    intro k a
    unfold inv
    iintro ⟨%ha, HS⟩
    subst ha
    iapply (trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) $$ [HS]
    iexact HS
  · unfold inv
    isplitr
    · ipureintro; rfl
    iexact HS
  iintro %a HI
  unfold inv
  icases HI with ⟨%ha, HS⟩
  have n1 : Scf.trips (k0_t1_loop i).lb (k0_t1_loop i).ub (k0_t1_loop i).st = (10 - (i 1).val) / 2 := t1_trips i
  have n3 : Scf.trips (k0_t3_loop i).lb (k0_t3_loop i).ub (k0_t3_loop i).st = (10 - (i 1).val) % 2 := t3_trips i
  rw [n1] at ha ⊢
  subst ha
  unfold St.acc
  sl_exec
  sl_for (inv c arg14 arg15 arg16 arg17 arg18 B
    (run384 K B (run768 K B ((i 1).val + 1) s ((10 - (i 1).val) / 2)))) $$ [HS]
  case region =>
    intro k a
    unfold inv
    iintro ⟨%ha, HS⟩
    subst ha
    iapply (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) $$ [HS]
    iexact HS
  · unfold inv
    isplitr
    · ipureintro; rfl
    iexact HS
  iintro %a HI
  unfold inv
  icases HI with ⟨%ha, HS⟩
  rw [n3] at ha ⊢
  subst ha
  unfold St.acc held
  sl_exec
  sl_step
  isplitr
  · ipureintro; rfl
  isplitl [HS]; · iexact HS
  isplitl [H10]
  · iapply (pointsTo_rep_of_read (c : Thread nD τ) arg10 _ _ _ ?_) $$ [H10]
    rotate_left
    · iexact H10
    exact View.read_writes_full _ _ _ _ _
  · iapply (pointsTo_rep_of_read (c : Thread nD τ) arg11 _ _ _ ?_) $$ [H11]
    rotate_left
    · iexact H11
    exact View.read_writes_full _ _ _ _ _

end Cert.KernelIdeal.Attn

end
-- ==== Proof.Attn.Tiles.lean ====
/- Buffers written tile by tile: a list of stores whose every piece is a tile of one vector, and whose tiles cover the
   buffer, leaves that vector. -/
module

public import proofs.«01_k».proof.Proof.Attn.Model
public import Idealize.ShloMosaic.Lib.ValueLayout
public import Idealize.ShloMosaic.Lib.WritesUnit

@[expose] public section

set_option maxRecDepth 16384

noncomputable section

namespace Cert.KernelIdeal.Attn

open Cert.KernelIdeal Cert.KernelIdeal.Gen Cert.KernelIdeal.Model
open Idealize.ShloMosaic Idealize.ShloMosaic.TcCoe Idealize.ShloMosaic.ValueIdx

variable {F : FTy → Type} [FloatOps F] [Named F]

/-! ## Lists of tiles -/

section
variable {κ : Kind} {sp : Space} {s : Shape} {e : EltTy}

/-- Every piece of the list holds the elements of `T` at its place, and the pieces cover the tiles of the list `ts`
    (`P t` being the elements of tile `t`). -/
def Fits (T : s.Idx → Elt F e) (P : ℕ × ℕ → s.Idx → Prop) (ts : List (ℕ × ℕ)) (L : List (View.Piece (Elt F) s e)) : Prop :=
  (∀ p ∈ L, ∀ x : p.1.shape.Idx, p.2 x = T (p.1.emb x)) ∧ ∀ t ∈ ts, ∀ y, P t y → ∃ p ∈ L, y ∈ p.1.set

theorem fits_nil (T : s.Idx → Elt F e) (P : ℕ × ℕ → s.Idx → Prop) : Fits T P [] [] :=
  ⟨fun _ h => absurd h List.not_mem_nil, fun _ h => absurd h List.not_mem_nil⟩

theorem fits_cons {T : s.Idx → Elt F e} {P : ℕ × ℕ → s.Idx → Prop} {t : ℕ × ℕ} {ts : List (ℕ × ℕ)} {p : View.Piece (Elt F) s e}
    {L : List (View.Piece (Elt F) s e)} (h : ∀ x : p.1.shape.Idx, p.2 x = T (p.1.emb x)) (ht : ∀ y, P t y → y ∈ p.1.set)
    (hL : Fits T P ts L) : Fits T P (t :: ts) (p :: L) := by
  refine ⟨fun r hr => ?_, fun u hu y hy => ?_⟩
  · rcases List.mem_cons.mp hr with rfl | hr
    · exact h
    · exact hL.1 r hr
  · rcases List.mem_cons.mp hu with rfl | hu
    · exact ⟨p, List.mem_cons_self, ht y hy⟩
    · obtain ⟨r, hr, hyr⟩ := hL.2 u hu y hy
      exact ⟨r, List.mem_cons_of_mem _ hr, hyr⟩

/-- Pieces of `T` that cover the buffer leave it at `T`. -/
theorem read_of_fits (v : View sig κ sp s e) (f : v.ty.Contents (Elt F)) (T : s.Idx → Elt F e) {P : ℕ × ℕ → s.Idx → Prop}
    {ts : List (ℕ × ℕ)} {L : List (View.Piece (Elt F) s e)} (hL : Fits T P ts L) (hc : ∀ y, ∃ t ∈ ts, P t y) :
    v.read (Elt F) (v.writes (Elt F) f L) = T := by
  funext y
  obtain ⟨t, ht, hty⟩ := hc y
  have hy := hL.2 t ht y hty
  have hF := hL.1
  clear hL
  induction L with
  | nil => obtain ⟨_, h, _⟩ := hy; exact absurd h List.not_mem_nil
  | cons p L ih =>
    by_cases hp : y ∈ p.1.set
    · obtain ⟨x, rfl⟩ : ∃ x, p.1.emb x = y := p.1.exists_idx_of_mem hp
      rw [View.read_writes_cons_emb]
      exact hF p List.mem_cons_self x
    · have hp' : y ∉ Finset.univ.map p.1.emb := by rwa [Rect.map_emb_univ]
      rw [View.writes_cons, View.read_slice_write_of_not_mem p.1 _ _ _ hp']
      refine ih ?_ fun q hq => hF q (List.mem_cons_of_mem _ hq)
      obtain ⟨q, hq, hyq⟩ := hy
      rcases List.mem_cons.mp hq with rfl | hq
      · exact absurd hyq hp
      · exact ⟨q, hq, hyq⟩

end

/-- The tiles of both heads' first `n` blocks, the last one first. -/
def tiles2 : ℕ → List (ℕ × ℕ)
  | 0 => []
  | n + 1 => (1, n) :: (0, n) :: tiles2 n

/-- The first `n` blocks, the last one first. -/
def tiles1 : ℕ → List (ℕ × ℕ)
  | 0 => []
  | n + 1 => (0, n) :: tiles1 n

theorem mem_tiles2 : ∀ h : Fin 2, ∀ n : Fin 11, (h.val, n.val) ∈ tiles2 11 := by decide
theorem mem_tiles1 : ∀ n : Fin 11, (0, n.val) ∈ tiles1 11 := by decide

/-! ## Rows of one head -/

def inRows (t : ℕ × ℕ) (y : S2x4224x128.Idx) : Prop := (y 0).val = t.1 ∧ (y 1).val / 384 = t.2

theorem fits_rows {f g : ℕ → FVec F S384x128 .bf16} (hd n : ℕ) (a : FVec F S384x128 .bf16) {ts : List (ℕ × ℕ)} {off : Fin 3 → ℕ}
    {inb : ∀ a, off a + S1x384x128.size a ≤ S2x4224x128.size a}
    {w : Vec F S1x384x128 .bf16} {L : List (View.Piece (Elt F) S2x4224x128 .bf16)} (h : off = ![hd, 384 * n, 0])
    (ha : (if hd = 0 then f else g) n = a) (hw : w = shapeCast S1x384x128 a shapeCasts_S384x128_S1x384x128)
    (hL : Fits (stackRows f g) inRows ts L) :
    Fits (stackRows f g) inRows ((hd, n) :: ts) (⟨Rect.unit (s := S2x4224x128) off S1x384x128.size inb, w⟩ :: L) := by
  subst h hw ha
  refine fits_cons (fun x => ?_) (fun y hy => ?_) hL
  · have h1 : (x 1).val < 384 := (x 1).isLt
    have h0 : (x 0).val < 1 := (x 0).isLt
    have e0 : ((Rect.unit (s := S2x4224x128) ![hd, 384 * n, 0] S1x384x128.size inb).emb x 0).val = hd := by
      show hd + 1 * (x 0).val = hd; omega
    have e1 : ((Rect.unit (s := S2x4224x128) ![hd, 384 * n, 0] S1x384x128.size inb).emb x 1).val = 384 * n + (x 1).val := by
      show 384 * n + 1 * (x 1).val = _; omega
    have e2 : ((Rect.unit (s := S2x4224x128) ![hd, 384 * n, 0] S1x384x128.size inb).emb x 2) = x 2 := by
      apply Fin.ext; show 0 + 1 * (x 2).val = _; omega
    have ex : x = ix3 (n0 := 1) (n1 := 384) (n2 := 128) 0 (x 1) (x 2) := by
      refine (eq_ix3 x).trans ?_
      congr 1
      exact Fin.ext (by show (x 0).val = 0; omega)
    show shapeCast S1x384x128 _ shapeCasts_S384x128_S1x384x128 x = _
    conv_lhs => rw [ex]
    refine (shapeCast_ab_1ab_apply _ _ _ _ _).trans ?_
    unfold stackRows
    rw [e2]
    simp only [e0, e1]
    rw [show (384 * n + (x 1).val) / 384 = n by omega]
    exact congrArg (fun z => (if hd = 0 then f else g) n (ix2 (n0 := 384) (n1 := 128) z (x 2)))
      (Fin.ext (by show (x 1).val = (384 * n + (x 1).val) % 384; omega))
  · rw [Rect.mem_set_unit]
    obtain ⟨hy0, hy1⟩ := hy
    have h1 : (y 1).val < 4224 := (y 1).isLt
    have h2 : (y 2).val < 128 := (y 2).isLt
    intro a
    fin_cases a
    · show hd ≤ (y 0).val ∧ (y 0).val < hd + 1
      dsimp only at hy0; omega
    · show 384 * n ≤ (y 1).val ∧ (y 1).val < 384 * n + 384
      dsimp only at hy1; omega
    · show 0 ≤ (y 2).val ∧ (y 2).val < 0 + 128
      omega

theorem cover_rows (y : S2x4224x128.Idx) : ∃ t ∈ tiles2 11, inRows t y :=
  ⟨((y 0).val, (y 1).val / 384), mem_tiles2 (y 0) ⟨(y 1).val / 384, by have : (y 1).val < 4224 := (y 1).isLt; omega⟩, rfl, rfl⟩

/-! ## Columns of one head -/

def inCols (t : ℕ × ℕ) (y : S2x128x4224.Idx) : Prop := (y 0).val = t.1 ∧ (y 2).val / 384 = t.2

theorem fits_cols {f g : ℕ → FVec F S128x384 .bf16} (hd n : ℕ) (a : FVec F S128x384 .bf16) {ts : List (ℕ × ℕ)} {off : Fin 3 → ℕ}
    {inb : ∀ a, off a + S1x128x384.size a ≤ S2x128x4224.size a}
    {w : Vec F S1x128x384 .bf16} {L : List (View.Piece (Elt F) S2x128x4224 .bf16)} (h : off = ![hd, 0, 384 * n])
    (ha : (if hd = 0 then f else g) n = a) (hw : w = shapeCast S1x128x384 a shapeCasts_S128x384_S1x128x384)
    (hL : Fits (stackCols f g) inCols ts L) :
    Fits (stackCols f g) inCols ((hd, n) :: ts) (⟨Rect.unit (s := S2x128x4224) off S1x128x384.size inb, w⟩ :: L) := by
  subst h hw ha
  refine fits_cons (fun x => ?_) (fun y hy => ?_) hL
  · have h2 : (x 2).val < 384 := (x 2).isLt
    have h0 : (x 0).val < 1 := (x 0).isLt
    have e0 : ((Rect.unit (s := S2x128x4224) ![hd, 0, 384 * n] S1x128x384.size inb).emb x 0).val = hd := by
      show hd + 1 * (x 0).val = hd; omega
    have e2 : ((Rect.unit (s := S2x128x4224) ![hd, 0, 384 * n] S1x128x384.size inb).emb x 2).val = 384 * n + (x 2).val := by
      show 384 * n + 1 * (x 2).val = _; omega
    have e1 : ((Rect.unit (s := S2x128x4224) ![hd, 0, 384 * n] S1x128x384.size inb).emb x 1) = x 1 := by
      apply Fin.ext; show 0 + 1 * (x 1).val = _; omega
    have ex : x = ix3 (n0 := 1) (n1 := 128) (n2 := 384) 0 (x 1) (x 2) := by
      refine (eq_ix3 x).trans ?_
      congr 1
      exact Fin.ext (by show (x 0).val = 0; omega)
    show shapeCast S1x128x384 _ shapeCasts_S128x384_S1x128x384 x = _
    conv_lhs => rw [ex]
    refine (shapeCast_ab_1ab_apply _ _ _ _ _).trans ?_
    unfold stackCols
    rw [e1]
    simp only [e0, e2]
    rw [show (384 * n + (x 2).val) / 384 = n by omega]
    exact congrArg (fun z => (if hd = 0 then f else g) n (ix2 (n0 := 128) (n1 := 384) (x 1) z))
      (Fin.ext (by show (x 2).val = (384 * n + (x 2).val) % 384; omega))
  · rw [Rect.mem_set_unit]
    obtain ⟨hy0, hy1⟩ := hy
    have h1 : (y 1).val < 128 := (y 1).isLt
    have h2 : (y 2).val < 4224 := (y 2).isLt
    intro a
    fin_cases a
    · show hd ≤ (y 0).val ∧ (y 0).val < hd + 1
      dsimp only at hy0; omega
    · show 0 ≤ (y 1).val ∧ (y 1).val < 0 + 128
      omega
    · show 384 * n ≤ (y 2).val ∧ (y 2).val < 384 * n + 384
      dsimp only at hy1; omega

theorem cover_cols (y : S2x128x4224.Idx) : ∃ t ∈ tiles2 11, inCols t y :=
  ⟨((y 0).val, (y 2).val / 384), mem_tiles2 (y 0) ⟨(y 2).val / 384, by have : (y 2).val < 4224 := (y 2).isLt; omega⟩, rfl, rfl⟩

/-! ## The blocks of the inputs as the run reads them -/

section
variable {κ : Kind} {sp : Space} {e : EltTy}

theorem blk2_read (v : View sig κ sp S4224x128 e) (x : S4224x128.Idx → Elt F e) (n : ℕ) {off : Fin 2 → ℕ}
    (inb : ∀ a, off a + S384x128.size a ≤ S4224x128.size a) (h : off = ![384 * n, 0]) :
    v.readAt (Elt F) (Rect.unit (s := S4224x128) off S384x128.size inb).toLoadRect (v.rep x) = blk2 x n := by
  subst h
  have hn : 384 * n + 384 ≤ 4224 := inb 0
  refine (View.readAt_rep_unit (off' := ![384 * n, 0]) (size := S384x128.size) v x inb rfl inb).trans ?_
  funext y
  refine congrArg x (funext fun a => Fin.ext ?_)
  fin_cases a
  · show 384 * n + 1 * (y 0).val = (384 * n + (y 0).val) % 4224
    have : (y 0).val < 384 := (y 0).isLt
    rw [Nat.mod_eq_of_lt (by omega)]; omega
  · show 0 + 1 * (y 1).val = (y 1).val
    omega

theorem blk3_read (v : View sig κ sp S1x4224x128 e) (x : S1x4224x128.Idx → Elt F e) (n : ℕ) {off : Fin 3 → ℕ}
    (inb : ∀ a, off a + S1x384x128.size a ≤ S1x4224x128.size a) (h : off = ![0, 384 * n, 0]) :
    v.readAt (Elt F) (Rect.unit (s := S1x4224x128) off S1x384x128.size inb).toLoadRect (v.rep x) = blk3 x n := by
  subst h
  have hn : 384 * n + 384 ≤ 4224 := inb 1
  refine (View.readAt_rep_unit (off' := ![0, 384 * n, 0]) (size := S1x384x128.size) v x inb rfl inb).trans ?_
  funext y
  refine congrArg x (funext fun a => Fin.ext ?_)
  fin_cases a
  · show 0 + 1 * (y 0).val = 0
    have : (y 0).val < 1 := (y 0).isLt
    omega
  · show 384 * n + 1 * (y 1).val = (384 * n + (y 1).val) % 4224
    have : (y 1).val < 384 := (y 1).isLt
    rw [Nat.mod_eq_of_lt (by omega)]; omega
  · show 0 + 1 * (y 2).val = (y 2).val
    omega

end

end Cert.KernelIdeal.Attn

end
-- ==== Proof.Attn.Fill.lean ====
/- The first key block of a pair of heads builds the queries' operands: the fill of the five scratch buffers. -/
module

public import proofs.«01_k».proof.Proof.Attn.Trips
public import proofs.«01_k».proof.Proof.Attn.Tiles

@[expose] public section

set_option maxRecDepth 16384

noncomputable section

namespace Cert.KernelIdeal.Attn

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

variable (c : Dev nD) (i : grid0.Coords)
  (arg2 : Memref sig .tc .vmem S4224x128 .bf16) (harg2 : arg2.IsWhole)
  (arg3 : Memref sig .tc .vmem S384x128 .bf16) (harg3 : arg3.IsWhole)
  (arg4 : Memref sig .tc .vmem S384x128 .bf16) (harg4 : arg4.IsWhole)
  (arg5 : Memref sig .tc .vmem S4224x128 .bf16) (harg5 : arg5.IsWhole)
  (arg6 : Memref sig .tc .vmem S1x4224x128 .f32) (harg6 : arg6.IsWhole)
  (arg7 : Memref sig .tc .vmem S1x4224x128 .f32) (harg7 : arg7.IsWhole)
  (arg8 : Memref sig .tc .vmem S1x384x128 .f32) (harg8 : arg8.IsWhole)
  (arg9 : Memref sig .tc .vmem S4224x128 .f32) (harg9 : arg9.IsWhole)
  (arg10 : Memref sig .tc .vmem S384x128 .bf16) (harg10 : arg10.IsWhole)
  (arg11 : Memref sig .tc .vmem S384x128 .bf16) (harg11 : arg11.IsWhole)
  (arg12 : Memref sig .tc .vmem S1x384x128 .f32) (harg12 : arg12.IsWhole)
  (arg13 : Memref sig .tc .vmem S1x8x4224 .f32) (harg13 : arg13.IsWhole)
  (arg14 : Memref sig .tc .vmem S2x4224x128 .bf16) (harg14 : arg14.IsWhole)
  (arg15 : Memref sig .tc .vmem S2x128x4224 .bf16) (harg15 : arg15.IsWhole)
  (arg16 : Memref sig .tc .vmem S2x4224x128 .bf16) (harg16 : arg16.IsWhole)
  (arg17 : Memref sig .tc .vmem S2x128x4224 .bf16) (harg17 : arg17.IsWhole)
  (arg18 : Memref sig .tc .vmem S2x128x4224 .f32) (harg18 : arg18.IsWhole)

theorem cond1_pos : ∀ i : grid0.Coords, (i 1).val = 0 →
    Scalar.cmpi .ne (Scalar.extui (Scalar.cmpi .eq (BitVec.ofNat 32 (i 1).val) 0#32) : BitVec 32) 0#32 = 1#1 := by decide +kernel
theorem cond1_neg : ∀ i : grid0.Coords, (i 1).val ≠ 0 →
    ¬ Scalar.cmpi .ne (Scalar.extui (Scalar.cmpi .eq (BitVec.ofNat 32 (i 1).val) 0#32) : BitVec 32) 0#32 = 1#1 := by decide +kernel

/-- A later key block leaves the scratch buffers as they are. -/
theorem part88_skip (hj : (i 1).val ≠ 0) (B : Bufs F) (d : Vec F S2x128x4224 .f32) (k : Vec F S384x128 .bf16)
    (cc : Vec F S1x384x128 .f32) (E : Set ℕ) :
    iprop(scratch c arg14 arg15 arg16 arg17 arg18 B d ∗ held c arg3 k ∗ held c arg8 cc)
      ⊢ wp frame (wpE (defs₀ (F := F)) 𝒱₀ c none) E
          (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun a => iprop(⌜a = ⟨BitVec.ofNat 32 (i 1).val, k0_pay480 i cc, k0_pay482 i cc, k0_pay483 i cc, k0_pay484 k,
              iota .tc S1x128 32 [1] iota_S1x128_d1_w32, 64#32, k0_pay485, k0_pay486,
              1#32⟩⌝
            ∗ scratch c arg14 arg15 arg16 arg17 arg18 B d ∗ held c arg3 k ∗ held c arg8 cc)) := by
  have hc := cond1_neg i hj
  rw [k0_part88_eq_skeleton]
  unfold held
  iintro ⟨HS, H3, H8⟩
  unfold k0_part88_skel
  sl_exec
  sl_step
  isplitr
  · ipureintro
    rw [View.readAt_rep_full, View.readAt_rep_full]
    rfl
  isplitl [HS]; · iexact HS
  isplitl [H3]; · iexact H3
  iexact H8

/-- The first key block of a pair fills the scratch buffers. -/
theorem part88_fill (hj : (i 1).val = 0) (B : Bufs F) (d : Vec F S2x128x4224 .f32) (q do_ : Vec F S4224x128 .bf16)
    (lse del : Vec F S1x4224x128 .f32) (k : Vec F S384x128 .bf16) (cc : Vec F S1x384x128 .f32) (E : Set ℕ) :
    iprop(scratch c arg14 arg15 arg16 arg17 arg18 B d ∗ held c arg2 q ∗ held c arg5 do_ ∗ held c arg6 lse ∗ held c arg7 del
        ∗ held c arg3 k ∗ held c arg8 cc)
      ⊢ wp frame (wpE (defs₀ (F := F)) 𝒱₀ c none) E
          (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun a => iprop(⌜a = ⟨BitVec.ofNat 32 (i 1).val, k0_pay480 i cc, k0_pay482 i cc, k0_pay483 i cc, k0_pay484 k,
              iota .tc S1x128 32 [1] iota_S1x128_d1_w32, 64#32, k0_pay485, k0_pay486, 1#32⟩⌝
            ∗ scratch c arg14 arg15 arg16 arg17 arg18 (fill q do_ lse del) (k0_pay3 (F := F)) ∗ held c arg2 q ∗ held c arg5 do_ ∗ held c arg6 lse
            ∗ held c arg7 del ∗ held c arg3 k ∗ held c arg8 cc)) := by
  have hc := cond1_pos i hj
  unfold held scratch held
  iintro ⟨⟨H14, H15, H16, H17, H18⟩, H2, H5, H6, H7, H3, H8⟩
  sl_exec_parts
  sl_step
  have r2 := fun n {off} => blk2_read (F := F) (off := off) arg2.view q n
  have r6 := fun n {off} => blk3_read (F := F) (off := off) arg6.view lse n
  have r5 := fun n {off} => blk2_read (F := F) (off := off) arg5.view do_ n
  have r7 := fun n {off} => blk3_read (F := F) (off := off) arg7.view del n
  isplitr
  · ipureintro
    rw [View.readAt_rep_full, View.readAt_rep_full]
    rfl
  isplitl [H14 H15 H16 H17 H18]
  · isplitl [H14]
    · iapply (pointsTo_rep_of_read (c : Thread nD τ) arg14 _ _ _ ?_) $$ [H14]
      rotate_left
      · iexact H14
      refine read_of_fits _ _ _ (P := inRows) (ts := tiles2 11) ?_ cover_rows
      refine fits_rows 1 10 (qa1 (blk2 q 10) (blk3 lse 10)) rfl rfl (by
        rw [← r2 10 inb_S4224x128_S384x128_3840_0 rfl, ← r6 10 inb_S1x4224x128_S1x384x128_0_3840_0 rfl]; rfl) ?_
      refine fits_rows 0 10 (qa0 (blk2 q 10) (blk3 lse 10)) rfl rfl (by
        rw [← r2 10 inb_S4224x128_S384x128_3840_0 rfl, ← r6 10 inb_S1x4224x128_S1x384x128_0_3840_0 rfl]; rfl) ?_
      refine fits_rows 1 9 (qa1 (blk2 q 9) (blk3 lse 9)) rfl rfl (by
        rw [← r2 9 inb_S4224x128_S384x128_3456_0 rfl, ← r6 9 inb_S1x4224x128_S1x384x128_0_3456_0 rfl]; rfl) ?_
      refine fits_rows 0 9 (qa0 (blk2 q 9) (blk3 lse 9)) rfl rfl (by
        rw [← r2 9 inb_S4224x128_S384x128_3456_0 rfl, ← r6 9 inb_S1x4224x128_S1x384x128_0_3456_0 rfl]; rfl) ?_
      refine fits_rows 1 8 (qa1 (blk2 q 8) (blk3 lse 8)) rfl rfl (by
        rw [← r2 8 inb_S4224x128_S384x128_3072_0 rfl, ← r6 8 inb_S1x4224x128_S1x384x128_0_3072_0 rfl]; rfl) ?_
      refine fits_rows 0 8 (qa0 (blk2 q 8) (blk3 lse 8)) rfl rfl (by
        rw [← r2 8 inb_S4224x128_S384x128_3072_0 rfl, ← r6 8 inb_S1x4224x128_S1x384x128_0_3072_0 rfl]; rfl) ?_
      refine fits_rows 1 7 (qa1 (blk2 q 7) (blk3 lse 7)) rfl rfl (by
        rw [← r2 7 inb_S4224x128_S384x128_2688_0 rfl, ← r6 7 inb_S1x4224x128_S1x384x128_0_2688_0 rfl]; rfl) ?_
      refine fits_rows 0 7 (qa0 (blk2 q 7) (blk3 lse 7)) rfl rfl (by
        rw [← r2 7 inb_S4224x128_S384x128_2688_0 rfl, ← r6 7 inb_S1x4224x128_S1x384x128_0_2688_0 rfl]; rfl) ?_
      refine fits_rows 1 6 (qa1 (blk2 q 6) (blk3 lse 6)) rfl rfl (by
        rw [← r2 6 inb_S4224x128_S384x128_2304_0 rfl, ← r6 6 inb_S1x4224x128_S1x384x128_0_2304_0 rfl]; rfl) ?_
      refine fits_rows 0 6 (qa0 (blk2 q 6) (blk3 lse 6)) rfl rfl (by
        rw [← r2 6 inb_S4224x128_S384x128_2304_0 rfl, ← r6 6 inb_S1x4224x128_S1x384x128_0_2304_0 rfl]; rfl) ?_
      refine fits_rows 1 5 (qa1 (blk2 q 5) (blk3 lse 5)) rfl rfl (by
        rw [← r2 5 inb_S4224x128_S384x128_1920_0 rfl, ← r6 5 inb_S1x4224x128_S1x384x128_0_1920_0 rfl]; rfl) ?_
      refine fits_rows 0 5 (qa0 (blk2 q 5) (blk3 lse 5)) rfl rfl (by
        rw [← r2 5 inb_S4224x128_S384x128_1920_0 rfl, ← r6 5 inb_S1x4224x128_S1x384x128_0_1920_0 rfl]; rfl) ?_
      refine fits_rows 1 4 (qa1 (blk2 q 4) (blk3 lse 4)) rfl rfl (by
        rw [← r2 4 inb_S4224x128_S384x128_1536_0 rfl, ← r6 4 inb_S1x4224x128_S1x384x128_0_1536_0 rfl]; rfl) ?_
      refine fits_rows 0 4 (qa0 (blk2 q 4) (blk3 lse 4)) rfl rfl (by
        rw [← r2 4 inb_S4224x128_S384x128_1536_0 rfl, ← r6 4 inb_S1x4224x128_S1x384x128_0_1536_0 rfl]; rfl) ?_
      refine fits_rows 1 3 (qa1 (blk2 q 3) (blk3 lse 3)) rfl rfl (by
        rw [← r2 3 inb_S4224x128_S384x128_1152_0 rfl, ← r6 3 inb_S1x4224x128_S1x384x128_0_1152_0 rfl]; rfl) ?_
      refine fits_rows 0 3 (qa0 (blk2 q 3) (blk3 lse 3)) rfl rfl (by
        rw [← r2 3 inb_S4224x128_S384x128_1152_0 rfl, ← r6 3 inb_S1x4224x128_S1x384x128_0_1152_0 rfl]; rfl) ?_
      refine fits_rows 1 2 (qa1 (blk2 q 2) (blk3 lse 2)) rfl rfl (by
        rw [← r2 2 inb_S4224x128_S384x128_768_0 rfl, ← r6 2 inb_S1x4224x128_S1x384x128_0_768_0 rfl]; rfl) ?_
      refine fits_rows 0 2 (qa0 (blk2 q 2) (blk3 lse 2)) rfl rfl (by
        rw [← r2 2 inb_S4224x128_S384x128_768_0 rfl, ← r6 2 inb_S1x4224x128_S1x384x128_0_768_0 rfl]; rfl) ?_
      refine fits_rows 1 1 (qa1 (blk2 q 1) (blk3 lse 1)) rfl rfl (by
        rw [← r2 1 inb_S4224x128_S384x128_384_0 rfl, ← r6 1 inb_S1x4224x128_S1x384x128_0_384_0 rfl]; rfl) ?_
      refine fits_rows 0 1 (qa0 (blk2 q 1) (blk3 lse 1)) rfl rfl (by
        rw [← r2 1 inb_S4224x128_S384x128_384_0 rfl, ← r6 1 inb_S1x4224x128_S1x384x128_0_384_0 rfl]; rfl) ?_
      refine fits_rows 1 0 (qa1 (blk2 q 0) (blk3 lse 0)) rfl rfl (by
        rw [← r2 0 inb_S4224x128_S384x128_0_0 rfl, ← r6 0 inb_S1x4224x128_S1x384x128_0_0_0 rfl]; rfl) ?_
      refine fits_rows 0 0 (qa0 (blk2 q 0) (blk3 lse 0)) rfl rfl (by
        rw [← r2 0 inb_S4224x128_S384x128_0_0 rfl, ← r6 0 inb_S1x4224x128_S1x384x128_0_0_0 rfl]; rfl) ?_
      exact fits_nil _ _
    isplitl [H15]
    · iapply (pointsTo_rep_of_read (c : Thread nD τ) arg15 _ _ _ ?_) $$ [H15]
      rotate_left
      · iexact H15
      refine read_of_fits _ _ _ (P := inCols) (ts := tiles2 11) ?_ cover_cols
      refine fits_cols 1 10 (tr (qa1 (blk2 q 10) (blk3 lse 10))) rfl rfl (by
        rw [← r2 10 inb_S4224x128_S384x128_3840_0 rfl, ← r6 10 inb_S1x4224x128_S1x384x128_0_3840_0 rfl]; rfl) ?_
      refine fits_cols 0 10 (tr (qa0 (blk2 q 10) (blk3 lse 10))) rfl rfl (by
        rw [← r2 10 inb_S4224x128_S384x128_3840_0 rfl, ← r6 10 inb_S1x4224x128_S1x384x128_0_3840_0 rfl]; rfl) ?_
      refine fits_cols 1 9 (tr (qa1 (blk2 q 9) (blk3 lse 9))) rfl rfl (by
        rw [← r2 9 inb_S4224x128_S384x128_3456_0 rfl, ← r6 9 inb_S1x4224x128_S1x384x128_0_3456_0 rfl]; rfl) ?_
      refine fits_cols 0 9 (tr (qa0 (blk2 q 9) (blk3 lse 9))) rfl rfl (by
        rw [← r2 9 inb_S4224x128_S384x128_3456_0 rfl, ← r6 9 inb_S1x4224x128_S1x384x128_0_3456_0 rfl]; rfl) ?_
      refine fits_cols 1 8 (tr (qa1 (blk2 q 8) (blk3 lse 8))) rfl rfl (by
        rw [← r2 8 inb_S4224x128_S384x128_3072_0 rfl, ← r6 8 inb_S1x4224x128_S1x384x128_0_3072_0 rfl]; rfl) ?_
      refine fits_cols 0 8 (tr (qa0 (blk2 q 8) (blk3 lse 8))) rfl rfl (by
        rw [← r2 8 inb_S4224x128_S384x128_3072_0 rfl, ← r6 8 inb_S1x4224x128_S1x384x128_0_3072_0 rfl]; rfl) ?_
      refine fits_cols 1 7 (tr (qa1 (blk2 q 7) (blk3 lse 7))) rfl rfl (by
        rw [← r2 7 inb_S4224x128_S384x128_2688_0 rfl, ← r6 7 inb_S1x4224x128_S1x384x128_0_2688_0 rfl]; rfl) ?_
      refine fits_cols 0 7 (tr (qa0 (blk2 q 7) (blk3 lse 7))) rfl rfl (by
        rw [← r2 7 inb_S4224x128_S384x128_2688_0 rfl, ← r6 7 inb_S1x4224x128_S1x384x128_0_2688_0 rfl]; rfl) ?_
      refine fits_cols 1 6 (tr (qa1 (blk2 q 6) (blk3 lse 6))) rfl rfl (by
        rw [← r2 6 inb_S4224x128_S384x128_2304_0 rfl, ← r6 6 inb_S1x4224x128_S1x384x128_0_2304_0 rfl]; rfl) ?_
      refine fits_cols 0 6 (tr (qa0 (blk2 q 6) (blk3 lse 6))) rfl rfl (by
        rw [← r2 6 inb_S4224x128_S384x128_2304_0 rfl, ← r6 6 inb_S1x4224x128_S1x384x128_0_2304_0 rfl]; rfl) ?_
      refine fits_cols 1 5 (tr (qa1 (blk2 q 5) (blk3 lse 5))) rfl rfl (by
        rw [← r2 5 inb_S4224x128_S384x128_1920_0 rfl, ← r6 5 inb_S1x4224x128_S1x384x128_0_1920_0 rfl]; rfl) ?_
      refine fits_cols 0 5 (tr (qa0 (blk2 q 5) (blk3 lse 5))) rfl rfl (by
        rw [← r2 5 inb_S4224x128_S384x128_1920_0 rfl, ← r6 5 inb_S1x4224x128_S1x384x128_0_1920_0 rfl]; rfl) ?_
      refine fits_cols 1 4 (tr (qa1 (blk2 q 4) (blk3 lse 4))) rfl rfl (by
        rw [← r2 4 inb_S4224x128_S384x128_1536_0 rfl, ← r6 4 inb_S1x4224x128_S1x384x128_0_1536_0 rfl]; rfl) ?_
      refine fits_cols 0 4 (tr (qa0 (blk2 q 4) (blk3 lse 4))) rfl rfl (by
        rw [← r2 4 inb_S4224x128_S384x128_1536_0 rfl, ← r6 4 inb_S1x4224x128_S1x384x128_0_1536_0 rfl]; rfl) ?_
      refine fits_cols 1 3 (tr (qa1 (blk2 q 3) (blk3 lse 3))) rfl rfl (by
        rw [← r2 3 inb_S4224x128_S384x128_1152_0 rfl, ← r6 3 inb_S1x4224x128_S1x384x128_0_1152_0 rfl]; rfl) ?_
      refine fits_cols 0 3 (tr (qa0 (blk2 q 3) (blk3 lse 3))) rfl rfl (by
        rw [← r2 3 inb_S4224x128_S384x128_1152_0 rfl, ← r6 3 inb_S1x4224x128_S1x384x128_0_1152_0 rfl]; rfl) ?_
      refine fits_cols 1 2 (tr (qa1 (blk2 q 2) (blk3 lse 2))) rfl rfl (by
        rw [← r2 2 inb_S4224x128_S384x128_768_0 rfl, ← r6 2 inb_S1x4224x128_S1x384x128_0_768_0 rfl]; rfl) ?_
      refine fits_cols 0 2 (tr (qa0 (blk2 q 2) (blk3 lse 2))) rfl rfl (by
        rw [← r2 2 inb_S4224x128_S384x128_768_0 rfl, ← r6 2 inb_S1x4224x128_S1x384x128_0_768_0 rfl]; rfl) ?_
      refine fits_cols 1 1 (tr (qa1 (blk2 q 1) (blk3 lse 1))) rfl rfl (by
        rw [← r2 1 inb_S4224x128_S384x128_384_0 rfl, ← r6 1 inb_S1x4224x128_S1x384x128_0_384_0 rfl]; rfl) ?_
      refine fits_cols 0 1 (tr (qa0 (blk2 q 1) (blk3 lse 1))) rfl rfl (by
        rw [← r2 1 inb_S4224x128_S384x128_384_0 rfl, ← r6 1 inb_S1x4224x128_S1x384x128_0_384_0 rfl]; rfl) ?_
      refine fits_cols 1 0 (tr (qa1 (blk2 q 0) (blk3 lse 0))) rfl rfl (by
        rw [← r2 0 inb_S4224x128_S384x128_0_0 rfl, ← r6 0 inb_S1x4224x128_S1x384x128_0_0_0 rfl]; rfl) ?_
      refine fits_cols 0 0 (tr (qa0 (blk2 q 0) (blk3 lse 0))) rfl rfl (by
        rw [← r2 0 inb_S4224x128_S384x128_0_0 rfl, ← r6 0 inb_S1x4224x128_S1x384x128_0_0_0 rfl]; rfl) ?_
      exact fits_nil _ _
    isplitl [H16]
    · iapply (pointsTo_rep_of_read (c : Thread nD τ) arg16 _ _ _ ?_) $$ [H16]
      rotate_left
      · iexact H16
      refine read_of_fits _ _ _ (P := inRows) (ts := tiles2 11) ?_ cover_rows
      refine fits_rows 1 10 (doa1 (blk2 do_ 10) (blk3 del 10)) rfl rfl (by
        rw [← r5 10 inb_S4224x128_S384x128_3840_0 rfl, ← r7 10 inb_S1x4224x128_S1x384x128_0_3840_0 rfl]; rfl) ?_
      refine fits_rows 0 10 (doa0 (blk2 do_ 10) (blk3 del 10)) rfl rfl (by
        rw [← r5 10 inb_S4224x128_S384x128_3840_0 rfl, ← r7 10 inb_S1x4224x128_S1x384x128_0_3840_0 rfl]; rfl) ?_
      refine fits_rows 1 9 (doa1 (blk2 do_ 9) (blk3 del 9)) rfl rfl (by
        rw [← r5 9 inb_S4224x128_S384x128_3456_0 rfl, ← r7 9 inb_S1x4224x128_S1x384x128_0_3456_0 rfl]; rfl) ?_
      refine fits_rows 0 9 (doa0 (blk2 do_ 9) (blk3 del 9)) rfl rfl (by
        rw [← r5 9 inb_S4224x128_S384x128_3456_0 rfl, ← r7 9 inb_S1x4224x128_S1x384x128_0_3456_0 rfl]; rfl) ?_
      refine fits_rows 1 8 (doa1 (blk2 do_ 8) (blk3 del 8)) rfl rfl (by
        rw [← r5 8 inb_S4224x128_S384x128_3072_0 rfl, ← r7 8 inb_S1x4224x128_S1x384x128_0_3072_0 rfl]; rfl) ?_
      refine fits_rows 0 8 (doa0 (blk2 do_ 8) (blk3 del 8)) rfl rfl (by
        rw [← r5 8 inb_S4224x128_S384x128_3072_0 rfl, ← r7 8 inb_S1x4224x128_S1x384x128_0_3072_0 rfl]; rfl) ?_
      refine fits_rows 1 7 (doa1 (blk2 do_ 7) (blk3 del 7)) rfl rfl (by
        rw [← r5 7 inb_S4224x128_S384x128_2688_0 rfl, ← r7 7 inb_S1x4224x128_S1x384x128_0_2688_0 rfl]; rfl) ?_
      refine fits_rows 0 7 (doa0 (blk2 do_ 7) (blk3 del 7)) rfl rfl (by
        rw [← r5 7 inb_S4224x128_S384x128_2688_0 rfl, ← r7 7 inb_S1x4224x128_S1x384x128_0_2688_0 rfl]; rfl) ?_
      refine fits_rows 1 6 (doa1 (blk2 do_ 6) (blk3 del 6)) rfl rfl (by
        rw [← r5 6 inb_S4224x128_S384x128_2304_0 rfl, ← r7 6 inb_S1x4224x128_S1x384x128_0_2304_0 rfl]; rfl) ?_
      refine fits_rows 0 6 (doa0 (blk2 do_ 6) (blk3 del 6)) rfl rfl (by
        rw [← r5 6 inb_S4224x128_S384x128_2304_0 rfl, ← r7 6 inb_S1x4224x128_S1x384x128_0_2304_0 rfl]; rfl) ?_
      refine fits_rows 1 5 (doa1 (blk2 do_ 5) (blk3 del 5)) rfl rfl (by
        rw [← r5 5 inb_S4224x128_S384x128_1920_0 rfl, ← r7 5 inb_S1x4224x128_S1x384x128_0_1920_0 rfl]; rfl) ?_
      refine fits_rows 0 5 (doa0 (blk2 do_ 5) (blk3 del 5)) rfl rfl (by
        rw [← r5 5 inb_S4224x128_S384x128_1920_0 rfl, ← r7 5 inb_S1x4224x128_S1x384x128_0_1920_0 rfl]; rfl) ?_
      refine fits_rows 1 4 (doa1 (blk2 do_ 4) (blk3 del 4)) rfl rfl (by
        rw [← r5 4 inb_S4224x128_S384x128_1536_0 rfl, ← r7 4 inb_S1x4224x128_S1x384x128_0_1536_0 rfl]; rfl) ?_
      refine fits_rows 0 4 (doa0 (blk2 do_ 4) (blk3 del 4)) rfl rfl (by
        rw [← r5 4 inb_S4224x128_S384x128_1536_0 rfl, ← r7 4 inb_S1x4224x128_S1x384x128_0_1536_0 rfl]; rfl) ?_
      refine fits_rows 1 3 (doa1 (blk2 do_ 3) (blk3 del 3)) rfl rfl (by
        rw [← r5 3 inb_S4224x128_S384x128_1152_0 rfl, ← r7 3 inb_S1x4224x128_S1x384x128_0_1152_0 rfl]; rfl) ?_
      refine fits_rows 0 3 (doa0 (blk2 do_ 3) (blk3 del 3)) rfl rfl (by
        rw [← r5 3 inb_S4224x128_S384x128_1152_0 rfl, ← r7 3 inb_S1x4224x128_S1x384x128_0_1152_0 rfl]; rfl) ?_
      refine fits_rows 1 2 (doa1 (blk2 do_ 2) (blk3 del 2)) rfl rfl (by
        rw [← r5 2 inb_S4224x128_S384x128_768_0 rfl, ← r7 2 inb_S1x4224x128_S1x384x128_0_768_0 rfl]; rfl) ?_
      refine fits_rows 0 2 (doa0 (blk2 do_ 2) (blk3 del 2)) rfl rfl (by
        rw [← r5 2 inb_S4224x128_S384x128_768_0 rfl, ← r7 2 inb_S1x4224x128_S1x384x128_0_768_0 rfl]; rfl) ?_
      refine fits_rows 1 1 (doa1 (blk2 do_ 1) (blk3 del 1)) rfl rfl (by
        rw [← r5 1 inb_S4224x128_S384x128_384_0 rfl, ← r7 1 inb_S1x4224x128_S1x384x128_0_384_0 rfl]; rfl) ?_
      refine fits_rows 0 1 (doa0 (blk2 do_ 1) (blk3 del 1)) rfl rfl (by
        rw [← r5 1 inb_S4224x128_S384x128_384_0 rfl, ← r7 1 inb_S1x4224x128_S1x384x128_0_384_0 rfl]; rfl) ?_
      refine fits_rows 1 0 (doa1 (blk2 do_ 0) (blk3 del 0)) rfl rfl (by
        rw [← r5 0 inb_S4224x128_S384x128_0_0 rfl, ← r7 0 inb_S1x4224x128_S1x384x128_0_0_0 rfl]; rfl) ?_
      refine fits_rows 0 0 (doa0 (blk2 do_ 0) (blk3 del 0)) rfl rfl (by
        rw [← r5 0 inb_S4224x128_S384x128_0_0 rfl, ← r7 0 inb_S1x4224x128_S1x384x128_0_0_0 rfl]; rfl) ?_
      exact fits_nil _ _
    isplitl [H17]
    · iapply (pointsTo_rep_of_read (c : Thread nD τ) arg17 _ _ _ ?_) $$ [H17]
      rotate_left
      · iexact H17
      refine read_of_fits _ _ _ (P := inCols) (ts := tiles2 11) ?_ cover_cols
      refine fits_cols 1 10 (tr (doa1 (blk2 do_ 10) (blk3 del 10))) rfl rfl (by
        rw [← r5 10 inb_S4224x128_S384x128_3840_0 rfl, ← r7 10 inb_S1x4224x128_S1x384x128_0_3840_0 rfl]; rfl) ?_
      refine fits_cols 0 10 (tr (doa0 (blk2 do_ 10) (blk3 del 10))) rfl rfl (by
        rw [← r5 10 inb_S4224x128_S384x128_3840_0 rfl, ← r7 10 inb_S1x4224x128_S1x384x128_0_3840_0 rfl]; rfl) ?_
      refine fits_cols 1 9 (tr (doa1 (blk2 do_ 9) (blk3 del 9))) rfl rfl (by
        rw [← r5 9 inb_S4224x128_S384x128_3456_0 rfl, ← r7 9 inb_S1x4224x128_S1x384x128_0_3456_0 rfl]; rfl) ?_
      refine fits_cols 0 9 (tr (doa0 (blk2 do_ 9) (blk3 del 9))) rfl rfl (by
        rw [← r5 9 inb_S4224x128_S384x128_3456_0 rfl, ← r7 9 inb_S1x4224x128_S1x384x128_0_3456_0 rfl]; rfl) ?_
      refine fits_cols 1 8 (tr (doa1 (blk2 do_ 8) (blk3 del 8))) rfl rfl (by
        rw [← r5 8 inb_S4224x128_S384x128_3072_0 rfl, ← r7 8 inb_S1x4224x128_S1x384x128_0_3072_0 rfl]; rfl) ?_
      refine fits_cols 0 8 (tr (doa0 (blk2 do_ 8) (blk3 del 8))) rfl rfl (by
        rw [← r5 8 inb_S4224x128_S384x128_3072_0 rfl, ← r7 8 inb_S1x4224x128_S1x384x128_0_3072_0 rfl]; rfl) ?_
      refine fits_cols 1 7 (tr (doa1 (blk2 do_ 7) (blk3 del 7))) rfl rfl (by
        rw [← r5 7 inb_S4224x128_S384x128_2688_0 rfl, ← r7 7 inb_S1x4224x128_S1x384x128_0_2688_0 rfl]; rfl) ?_
      refine fits_cols 0 7 (tr (doa0 (blk2 do_ 7) (blk3 del 7))) rfl rfl (by
        rw [← r5 7 inb_S4224x128_S384x128_2688_0 rfl, ← r7 7 inb_S1x4224x128_S1x384x128_0_2688_0 rfl]; rfl) ?_
      refine fits_cols 1 6 (tr (doa1 (blk2 do_ 6) (blk3 del 6))) rfl rfl (by
        rw [← r5 6 inb_S4224x128_S384x128_2304_0 rfl, ← r7 6 inb_S1x4224x128_S1x384x128_0_2304_0 rfl]; rfl) ?_
      refine fits_cols 0 6 (tr (doa0 (blk2 do_ 6) (blk3 del 6))) rfl rfl (by
        rw [← r5 6 inb_S4224x128_S384x128_2304_0 rfl, ← r7 6 inb_S1x4224x128_S1x384x128_0_2304_0 rfl]; rfl) ?_
      refine fits_cols 1 5 (tr (doa1 (blk2 do_ 5) (blk3 del 5))) rfl rfl (by
        rw [← r5 5 inb_S4224x128_S384x128_1920_0 rfl, ← r7 5 inb_S1x4224x128_S1x384x128_0_1920_0 rfl]; rfl) ?_
      refine fits_cols 0 5 (tr (doa0 (blk2 do_ 5) (blk3 del 5))) rfl rfl (by
        rw [← r5 5 inb_S4224x128_S384x128_1920_0 rfl, ← r7 5 inb_S1x4224x128_S1x384x128_0_1920_0 rfl]; rfl) ?_
      refine fits_cols 1 4 (tr (doa1 (blk2 do_ 4) (blk3 del 4))) rfl rfl (by
        rw [← r5 4 inb_S4224x128_S384x128_1536_0 rfl, ← r7 4 inb_S1x4224x128_S1x384x128_0_1536_0 rfl]; rfl) ?_
      refine fits_cols 0 4 (tr (doa0 (blk2 do_ 4) (blk3 del 4))) rfl rfl (by
        rw [← r5 4 inb_S4224x128_S384x128_1536_0 rfl, ← r7 4 inb_S1x4224x128_S1x384x128_0_1536_0 rfl]; rfl) ?_
      refine fits_cols 1 3 (tr (doa1 (blk2 do_ 3) (blk3 del 3))) rfl rfl (by
        rw [← r5 3 inb_S4224x128_S384x128_1152_0 rfl, ← r7 3 inb_S1x4224x128_S1x384x128_0_1152_0 rfl]; rfl) ?_
      refine fits_cols 0 3 (tr (doa0 (blk2 do_ 3) (blk3 del 3))) rfl rfl (by
        rw [← r5 3 inb_S4224x128_S384x128_1152_0 rfl, ← r7 3 inb_S1x4224x128_S1x384x128_0_1152_0 rfl]; rfl) ?_
      refine fits_cols 1 2 (tr (doa1 (blk2 do_ 2) (blk3 del 2))) rfl rfl (by
        rw [← r5 2 inb_S4224x128_S384x128_768_0 rfl, ← r7 2 inb_S1x4224x128_S1x384x128_0_768_0 rfl]; rfl) ?_
      refine fits_cols 0 2 (tr (doa0 (blk2 do_ 2) (blk3 del 2))) rfl rfl (by
        rw [← r5 2 inb_S4224x128_S384x128_768_0 rfl, ← r7 2 inb_S1x4224x128_S1x384x128_0_768_0 rfl]; rfl) ?_
      refine fits_cols 1 1 (tr (doa1 (blk2 do_ 1) (blk3 del 1))) rfl rfl (by
        rw [← r5 1 inb_S4224x128_S384x128_384_0 rfl, ← r7 1 inb_S1x4224x128_S1x384x128_0_384_0 rfl]; rfl) ?_
      refine fits_cols 0 1 (tr (doa0 (blk2 do_ 1) (blk3 del 1))) rfl rfl (by
        rw [← r5 1 inb_S4224x128_S384x128_384_0 rfl, ← r7 1 inb_S1x4224x128_S1x384x128_0_384_0 rfl]; rfl) ?_
      refine fits_cols 1 0 (tr (doa1 (blk2 do_ 0) (blk3 del 0))) rfl rfl (by
        rw [← r5 0 inb_S4224x128_S384x128_0_0 rfl, ← r7 0 inb_S1x4224x128_S1x384x128_0_0_0 rfl]; rfl) ?_
      refine fits_cols 0 0 (tr (doa0 (blk2 do_ 0) (blk3 del 0))) rfl rfl (by
        rw [← r5 0 inb_S4224x128_S384x128_0_0 rfl, ← r7 0 inb_S1x4224x128_S1x384x128_0_0_0 rfl]; rfl) ?_
      exact fits_nil _ _
    iapply (pointsTo_rep_of_read (c : Thread nD τ) arg18 _ _ _ ?_) $$ [H18]
    rotate_left
    · iexact H18
    exact View.read_writes_full _ _ _ _ _
  isplitl [H2]; · iexact H2
  isplitl [H5]; · iexact H5
  isplitl [H6]; · iexact H6
  isplitl [H7]; · iexact H7
  isplitl [H3]; · iexact H3
  iexact H8

end Cert.KernelIdeal.Attn

end
-- ==== Proof.Attn.Mid.lean ====
/- The key block's operands, and its own (masked) queries: the parts of the run before the loops. -/
module

public import proofs.«01_k».proof.Proof.Attn.Trips

@[expose] public section

set_option maxRecDepth 16384

noncomputable section

namespace Cert.KernelIdeal.Attn

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

variable (c : Dev nD) (i : grid0.Coords)
  (arg2 : Memref sig .tc .vmem S4224x128 .bf16) (harg2 : arg2.IsWhole)
  (arg3 : Memref sig .tc .vmem S384x128 .bf16) (harg3 : arg3.IsWhole)
  (arg4 : Memref sig .tc .vmem S384x128 .bf16) (harg4 : arg4.IsWhole)
  (arg5 : Memref sig .tc .vmem S4224x128 .bf16) (harg5 : arg5.IsWhole)
  (arg6 : Memref sig .tc .vmem S1x4224x128 .f32) (harg6 : arg6.IsWhole)
  (arg7 : Memref sig .tc .vmem S1x4224x128 .f32) (harg7 : arg7.IsWhole)
  (arg8 : Memref sig .tc .vmem S1x384x128 .f32) (harg8 : arg8.IsWhole)
  (arg9 : Memref sig .tc .vmem S4224x128 .f32) (harg9 : arg9.IsWhole)
  (arg10 : Memref sig .tc .vmem S384x128 .bf16) (harg10 : arg10.IsWhole)
  (arg11 : Memref sig .tc .vmem S384x128 .bf16) (harg11 : arg11.IsWhole)
  (arg12 : Memref sig .tc .vmem S1x384x128 .f32) (harg12 : arg12.IsWhole)
  (arg13 : Memref sig .tc .vmem S1x8x4224 .f32) (harg13 : arg13.IsWhole)
  (arg14 : Memref sig .tc .vmem S2x4224x128 .bf16) (harg14 : arg14.IsWhole)
  (arg15 : Memref sig .tc .vmem S2x128x4224 .bf16) (harg15 : arg15.IsWhole)
  (arg16 : Memref sig .tc .vmem S2x4224x128 .bf16) (harg16 : arg16.IsWhole)
  (arg17 : Memref sig .tc .vmem S2x128x4224 .bf16) (harg17 : arg17.IsWhole)
  (arg18 : Memref sig .tc .vmem S2x128x4224 .f32) (harg18 : arg18.IsWhole)

/-- The blocks after the key block's own, and how many pairs of them: rounded towards minus infinity, as the run computes it. -/
def left (j : BitVec 32) : BitVec 32 := Scalar.subi 10#32 j
def pairs (j : BitVec 32) : BitVec 32 :=
  Scalar.subi (Scalar.select
    (Scalar.andi
      (Scalar.cmpi .ne
        (Scalar.subi (Scalar.extui (Scalar.cmpi .sgt (left j) 0#32)) (Scalar.extui (Scalar.cmpi .slt (left j) 0#32)) : BitVec 32)
        (Scalar.subi (Scalar.extui (Scalar.cmpi .sgt 2#32 0#32)) (Scalar.extui (Scalar.cmpi .slt 2#32 0#32))))
      (Scalar.cmpi .ne (Scalar.remsi (left j) 2#32) 0#32))
    (Scalar.subi (Scalar.divsi (left j) 2#32) 1#32) (Scalar.divsi (left j) 2#32)) 0#32

theorem read_put1 {κ : Kind} {sp : Space} (v : View sig κ sp S2x128x4224 .f32) (x : S2x128x4224.Idx → F .f32) (hd : Fin 2) (o : ℕ)
    {off : Fin 3 → ℕ} (inb : ∀ a, off a + S1x128x384.size a ≤ S2x128x4224.size a)
    (h : off = ![hd.val, 0, o]) (a : S1x128x384.Idx → F .f32) :
    v.read (Elt F) (v.writes (Elt F) (v.rep x) [⟨Rect.unit (s := S2x128x4224) off S1x128x384.size inb, a⟩])
      = VecWindow.put (s := S2x128x4224) x ![hd.val, 0, o] ![1, 128, 384] a :=
  View.read_writes_rep_unit (Val := Elt F) (off' := ![hd.val, 0, o]) (size := ![1, 128, 384]) v x inb a h

/-- The key block's second operand, first half. -/
theorem part90_run (k : Vec F S384x128 .bf16) (v17 v20 : FVec F S384x128 .bf16) (E : Set ℕ) :
    held c arg3 k
      ⊢ wp frame (wpE (defs₀ (F := F)) 𝒱₀ c none) E
          (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v20)
          (fun a => iprop(⌜a = ⟨lane, k0_pay488 v17 k, k0_pay489, k0_pay490 v20⟩⌝ ∗ held c arg3 k)) := by
  rw [k0_part90_eq_skeleton]
  unfold held
  iintro H
  unfold k0_part90_skel
  sl_exec
  sl_step
  isplitr
  · ipureintro
    rw [View.readAt_rep_full]; rfl
  iexact H

/-- The key block's first operand. -/
theorem part89_run (k : Vec F S384x128 .bf16) (v17 v20 v23 v25 : FVec F S384x128 .bf16) (v26 : IVec S1x128 32) (c64 : BitVec 32) (v28 v35 : IVec S1x128 32) (v40 : BitVec 32) (E : Set ℕ) :
    held c arg3 k
      ⊢ wp frame (wpE (defs₀ (F := F)) 𝒱₀ c none) E
          (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v20 v23 v25 v26 c64 v28 v35 v40)
          (fun a => iprop(⌜a = k0_pay487 v17 v20 v23 v25 v26 c64 v28 v35 v40⌝ ∗ held c arg3 k)) := by
  rw [k0_part89_eq_skeleton]
  unfold held
  iintro H
  unfold k0_part89_skel
  sl_exec
  sl_step
  isplitr
  · ipureintro
    rfl
  iexact H

/-- The key block's second operand, second half, and both transposed. -/
theorem part91_run (v : Vec F S384x128 .bf16) (v23 v89 : FVec F S384x128 .bf16) (v92 : IVec S1x128 32) (v130 : FVec F S384x128 .bf16) (v135 : IVec S384x128 1) (v137 : FVec F S384x128 .bf16) (E : Set ℕ) :
    held c arg4 v
      ⊢ wp frame (wpE (defs₀ (F := F)) 𝒱₀ c none) E
          (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v23 v89 v92 v130 v135 v137)
          (fun a => iprop(⌜a = ⟨k0_pay491 v23 v92 v130 v135 v137, k0_pay492 v89, k0_pay493 v23 v92 v130 v135 v137, k0_pay494 v, lane, k0_pay495, k0_pay496⟩⌝ ∗ held c arg4 v)) := by
  rw [k0_part91_eq_skeleton]
  unfold held
  iintro H
  unfold k0_part91_skel
  sl_exec
  sl_step
  isplitr
  · ipureintro
    rw [View.readAt_rep_full]; rfl
  iexact H

/-- The value block's operands. -/
theorem part92_run (v : Vec F S384x128 .bf16) (v163 : FVec F S384x128 .bf16) (v164 v166 : IVec S1x128 32) (v185 : IVec S1x128 1) (E : Set ℕ) :
    held c arg4 v
      ⊢ wp frame (wpE (defs₀ (F := F)) 𝒱₀ c none) E
          (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v163 v164 v166 v185)
          (fun a => iprop(⌜a = ⟨k0_pay497 v163 v164 v166 v185, k0_pay498 v, lane, k0_pay499⟩⌝ ∗ held c arg4 v)) := by
  rw [k0_part92_eq_skeleton]
  unfold held
  iintro H
  unfold k0_part92_skel
  sl_exec
  sl_step
  isplitr
  · ipureintro
    rw [View.readAt_rep_full]; rfl
  iexact H

/-- The first head's masked factors of the key block's own queries. -/
theorem part93_run (B : Bufs F) (d : Vec F S2x128x4224 .f32) (arg1 : BitVec 32) (v89 v203 v205 : FVec F S384x128 .bf16) (v206 v230 : IVec S1x128 32) (E : Set ℕ) :
    scratch c arg14 arg15 arg16 arg17 arg18 B d
      ⊢ wp frame (wpE (defs₀ (F := F)) 𝒱₀ c none) E
          (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v89 v203 v205 v206 v230)
          (fun a => iprop(⌜a = ⟨k0_pay500 v205 v206 v230, k0_pay501, Scalar.muli arg1 384#32, k0_pay503 arg1 v89 v203 (cols 384 B.qat 0 (384 * (i 1).val)) (cols 384 B.doat 0 (384 * (i 1).val)),
              k0_pay504 arg1 v89 (cols 384 B.qat 0 (384 * (i 1).val))⟩⌝ ∗ scratch c arg14 arg15 arg16 arg17 arg18 B d)) := by
  rw [k0_part93_eq_skeleton]
  unfold scratch held
  iintro ⟨H14, H15, H16, H17, H18⟩
  unfold k0_part93_skel
  sl_exec
  sl_step
  have e15 := readAt_cols (F := F) arg15.view B.qat 384 0 _ (k0_off1_inb i) (off1_eq i)
  have e17 := readAt_cols (F := F) arg17.view B.doat 384 0 _ (k0_off1_inb i) (off1_eq i)
  isplitr
  · ipureintro
    rw [← e15, ← e17]
    rfl
  isplitl [H14]; · iexact H14
  isplitl [H15]; · iexact H15
  isplitl [H16]; · iexact H16
  isplitl [H17]; · iexact H17
  iexact H18

/-- The first head's products of the key block's own queries. -/
theorem part94_run (B : Bufs F) (d : Vec F S2x128x4224 .f32) (arg1 : BitVec 32) (v155 : FVec F S384x128 .bf16) (v158 : FVec F S128x384 .bf16) (v245 : FVec F S384x128 .bf16) (v246 : FVec F S384x128 .f32) (v248 : BitVec 32) (v270 v271 : FVec F S384x384 .bf16) (E : Set ℕ) :
    scratch c arg14 arg15 arg16 arg17 arg18 B d
      ⊢ wp frame (wpE (defs₀ (F := F)) 𝒱₀ c none) E
          (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v155 v158 v245 v246 v248 v270 v271)
          (fun a => iprop(⌜a = ⟨k0_pay505 v246 v271 (rows 384 B.doa 0 (384 * (i 1).val)), k0_pay506 v246 v270 (rows 384 B.qa 0 (384 * (i 1).val)),
              k0_pay509 arg1 v155 v245 (cols 384 B.qat 1 (384 * (i 1).val)) (cols 384 B.doat 1 (384 * (i 1).val)), k0_pay510 arg1 v155 (cols 384 B.qat 1 (384 * (i 1).val))⟩⌝ ∗ scratch c arg14 arg15 arg16 arg17 arg18 B (VecWindow.put (s := S2x128x4224) d ![0, 0, 384 * (i 1).val] ![1, 128, 384] (k0_pay507 v158 v270 (cols 384 d 0 (384 * (i 1).val)))))) := by
  rw [k0_part94_eq_skeleton]
  unfold scratch held
  iintro ⟨H14, H15, H16, H17, H18⟩
  unfold k0_part94_skel
  sl_exec
  sl_step
  have e16 := readAt_rows (F := F) arg16.view B.doa 384 0 _ (k0_off2_inb i) (off2_eq i)
  have e14 := readAt_rows (F := F) arg14.view B.qa 384 0 _ (k0_off2_inb i) (off2_eq i)
  have e18 := readAt_cols (F := F) arg18.view d 384 0 _ (k0_off1_inb i) (off1_eq i)
  have f15 := readAt_cols (F := F) arg15.view B.qat 384 1 _ (k0_off3_inb i) (off3_eq i)
  have f17 := readAt_cols (F := F) arg17.view B.doat 384 1 _ (k0_off3_inb i) (off3_eq i)
  isplitr
  · ipureintro
    rw [← e16, ← e14, ← f15, ← f17]
  isplitl [H14]; · iexact H14
  isplitl [H15]; · iexact H15
  isplitl [H16]; · iexact H16
  isplitl [H17]; · iexact H17
  iapply (pointsTo_rep_of_read (c : Thread nD τ) arg18 _ _ _ ?_) $$ [H18]
  rotate_left
  · iexact H18
  refine (read_put1 arg18.view d 0 _ (k0_off1_inb i) (off1_eq i) _).trans ?_
  rw [← e18]
  rfl

/-- The second head's products of the key block's own queries. -/
theorem part95_run (B : Bufs F) (d : Vec F S2x128x4224 .f32) (arg1 : BitVec 32) (v161 : FVec F S128x384 .bf16) (v246 : FVec F S384x128 .f32) (v248 : BitVec 32) (v312 v313 : FVec F S384x384 .bf16) (E : Set ℕ) :
    scratch c arg14 arg15 arg16 arg17 arg18 B d
      ⊢ wp frame (wpE (defs₀ (F := F)) 𝒱₀ c none) E
          (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v161 v246 v248 v312 v313)
          (fun a => iprop(⌜a = ⟨k0_pay511 v246 v313 (rows 384 B.doa 1 (384 * (i 1).val)), k0_pay512 v246 v312 (rows 384 B.qa 1 (384 * (i 1).val)), left arg1, 0#32, pairs arg1⟩⌝ ∗ scratch c arg14 arg15 arg16 arg17 arg18 B (VecWindow.put (s := S2x128x4224) d ![1, 0, 384 * (i 1).val] ![1, 128, 384] (k0_pay513 v161 v312 (cols 384 d 1 (384 * (i 1).val)))))) := by
  rw [k0_part95_eq_skeleton]
  unfold scratch held
  iintro ⟨H14, H15, H16, H17, H18⟩
  unfold k0_part95_skel
  sl_exec
  sl_step
  have e16 := readAt_rows (F := F) arg16.view B.doa 384 1 _ (k0_off4_inb i) (off4_eq i)
  have e14 := readAt_rows (F := F) arg14.view B.qa 384 1 _ (k0_off4_inb i) (off4_eq i)
  have e18 := readAt_cols (F := F) arg18.view d 384 1 _ (k0_off3_inb i) (off3_eq i)
  isplitr
  · ipureintro
    rw [← e16, ← e14]
    rfl
  isplitl [H14]; · iexact H14
  isplitl [H15]; · iexact H15
  isplitl [H16]; · iexact H16
  isplitl [H17]; · iexact H17
  iapply (pointsTo_rep_of_read (c : Thread nD τ) arg18 _ _ _ ?_) $$ [H18]
  rotate_left
  · iexact H18
  refine (read_put1 arg18.view d 1 _ (k0_off3_inb i) (off3_eq i) _).trans ?_
  rw [← e18]
  rfl

end Cert.KernelIdeal.Attn

end
-- ==== Proof.Attn.Finish.lean ====
/- The last key block of a pair turns the transposed gradient into the gradient of the queries and of their decay. -/
module

public import proofs.«01_k».proof.Proof.Attn.Mid
public import proofs.«01_k».proof.Proof.Attn.Tiles

@[expose] public section

set_option maxRecDepth 16384

noncomputable section

namespace Cert.KernelIdeal.Attn

open Cert.KernelIdeal Cert.KernelIdeal.Gen Cert.KernelIdeal.Model
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The queries' gradient out of the transposed one: block by block. -/
def dqOut (D : Vec F S2x128x4224 .f32) : Vec F S4224x128 .f32 := fun y =>
  k0_pay419 (cols 384 D 0 (384 * ((y 0).val / 384))) (cols 384 D 1 (384 * ((y 0).val / 384)))
    (ix2 (n0 := 384) (n1 := 128) ⟨(y 0).val % 384, Nat.mod_lt _ (by decide)⟩ (y 1))

/-- The gradient of the queries' decay out of the transposed gradient: block by block. -/
def dcqOut (D : Vec F S2x128x4224 .f32) : Vec F S1x8x4224 .f32 := fun y =>
  k0_pay420 (cols 384 D 0 (384 * ((y 2).val / 384))) (cols 384 D 1 (384 * ((y 2).val / 384)))
    (ix3 (n0 := 1) (n1 := 8) (n2 := 384) 0 (y 1) ⟨(y 2).val % 384, Nat.mod_lt _ (by decide)⟩)

def inDq (t : ℕ × ℕ) (y : S4224x128.Idx) : Prop := (y 0).val / 384 = t.2
def inDcq (t : ℕ × ℕ) (y : S1x8x4224.Idx) : Prop := (y 2).val / 384 = t.2

theorem fits_dq {D : Vec F S2x128x4224 .f32} (n : ℕ) {ts : List (ℕ × ℕ)} {off : Fin 2 → ℕ}
    {inb : ∀ a, off a + S384x128.size a ≤ S4224x128.size a}
    {w : Vec F S384x128 .f32} {L : List (View.Piece (Elt F) S4224x128 .f32)} (h : off = ![384 * n, 0])
    (hw : w = k0_pay419 (cols 384 D 0 (384 * n)) (cols 384 D 1 (384 * n)))
    (hL : Fits (dqOut D) inDq ts L) :
    Fits (dqOut D) inDq ((0, n) :: ts) (⟨Rect.unit (s := S4224x128) off S384x128.size inb, w⟩ :: L) := by
  subst h hw
  refine fits_cons (fun x => ?_) (fun y hy => ?_) hL
  · have h0 : (x 0).val < 384 := (x 0).isLt
    have e0 : ((Rect.unit (s := S4224x128) ![384 * n, 0] S384x128.size inb).emb x 0).val = 384 * n + (x 0).val := by
      show 384 * n + 1 * (x 0).val = _; omega
    have e1 : ((Rect.unit (s := S4224x128) ![384 * n, 0] S384x128.size inb).emb x 1) = x 1 := by
      apply Fin.ext; show 0 + 1 * (x 1).val = _; omega
    have ex : x = ix2 (n0 := 384) (n1 := 128) (x 0) (x 1) := eq_ix2 x
    show k0_pay419 (cols 384 D 0 (384 * n)) (cols 384 D 1 (384 * n)) x = _
    conv_lhs => rw [ex]
    unfold dqOut
    rw [e1]
    simp only [e0]
    rw [show (384 * n + (x 0).val) / 384 = n by omega]
    exact congrArg (fun z => k0_pay419 (cols 384 D 0 (384 * n)) (cols 384 D 1 (384 * n)) (ix2 (n0 := 384) (n1 := 128) z (x 1)))
      (Fin.ext (by show (x 0).val = (384 * n + (x 0).val) % 384; omega))
  · rw [Rect.mem_set_unit]
    have h1 : (y 0).val < 4224 := (y 0).isLt
    have h2 : (y 1).val < 128 := (y 1).isLt
    unfold inDq at hy
    intro a
    fin_cases a
    · show 384 * n ≤ (y 0).val ∧ (y 0).val < 384 * n + 384
      dsimp only at hy; omega
    · show 0 ≤ (y 1).val ∧ (y 1).val < 0 + 128
      omega

theorem cover_dq (y : S4224x128.Idx) : ∃ t ∈ tiles1 11, inDq t y :=
  ⟨(0, (y 0).val / 384), mem_tiles1 ⟨(y 0).val / 384, by have : (y 0).val < 4224 := (y 0).isLt; omega⟩, rfl⟩

theorem fits_dcq {D : Vec F S2x128x4224 .f32} (n : ℕ) {ts : List (ℕ × ℕ)} {off : Fin 3 → ℕ}
    {inb : ∀ a, off a + S1x8x384.size a ≤ S1x8x4224.size a}
    {w : Vec F S1x8x384 .f32} {L : List (View.Piece (Elt F) S1x8x4224 .f32)} (h : off = ![0, 0, 384 * n])
    (hw : w = k0_pay420 (cols 384 D 0 (384 * n)) (cols 384 D 1 (384 * n)))
    (hL : Fits (dcqOut D) inDcq ts L) :
    Fits (dcqOut D) inDcq ((0, n) :: ts) (⟨Rect.unit (s := S1x8x4224) off S1x8x384.size inb, w⟩ :: L) := by
  subst h hw
  refine fits_cons (fun x => ?_) (fun y hy => ?_) hL
  · have h2 : (x 2).val < 384 := (x 2).isLt
    have h0 : (x 0).val < 1 := (x 0).isLt
    have e2 : ((Rect.unit (s := S1x8x4224) ![0, 0, 384 * n] S1x8x384.size inb).emb x 2).val = 384 * n + (x 2).val := by
      show 384 * n + 1 * (x 2).val = _; omega
    have e1 : ((Rect.unit (s := S1x8x4224) ![0, 0, 384 * n] S1x8x384.size inb).emb x 1) = x 1 := by
      apply Fin.ext; show 0 + 1 * (x 1).val = _; omega
    have ex : x = ix3 (n0 := 1) (n1 := 8) (n2 := 384) 0 (x 1) (x 2) := by
      refine (eq_ix3 x).trans ?_
      congr 1
      exact Fin.ext (by show (x 0).val = 0; omega)
    show k0_pay420 (cols 384 D 0 (384 * n)) (cols 384 D 1 (384 * n)) x = _
    conv_lhs => rw [ex]
    unfold dcqOut
    rw [e1]
    simp only [e2]
    rw [show (384 * n + (x 2).val) / 384 = n by omega]
    exact congrArg (fun z => k0_pay420 (cols 384 D 0 (384 * n)) (cols 384 D 1 (384 * n)) (ix3 (n0 := 1) (n1 := 8) (n2 := 384) 0 (x 1) z))
      (Fin.ext (by show (x 2).val = (384 * n + (x 2).val) % 384; omega))
  · rw [Rect.mem_set_unit]
    have h0 : (y 0).val < 1 := (y 0).isLt
    have h1 : (y 1).val < 8 := (y 1).isLt
    have h2 : (y 2).val < 4224 := (y 2).isLt
    unfold inDcq at hy
    intro a
    fin_cases a
    · show 0 ≤ (y 0).val ∧ (y 0).val < 0 + 1
      omega
    · show 0 ≤ (y 1).val ∧ (y 1).val < 0 + 8
      omega
    · show 384 * n ≤ (y 2).val ∧ (y 2).val < 384 * n + 384
      dsimp only at hy; omega

theorem cover_dcq (y : S1x8x4224.Idx) : ∃ t ∈ tiles1 11, inDcq t y :=
  ⟨(0, (y 2).val / 384), mem_tiles1 ⟨(y 2).val / 384, by have : (y 2).val < 4224 := (y 2).isLt; omega⟩, rfl⟩

theorem cond2_pos : ∀ i : grid0.Coords, (i 1).val = 10 → k0_cond2 i = 1#1 := by decide +kernel
theorem cond2_neg : ∀ i : grid0.Coords, (i 1).val ≠ 10 → ¬ k0_cond2 i = 1#1 := by decide +kernel

end Cert.KernelIdeal.Attn

end
-- ==== Proof.Attn.Body.lean ====
/- One grid point of the kernel: what it leaves in each of its buffers. -/
module

public import proofs.«01_k».proof.Proof.Attn.Fill
public import proofs.«01_k».proof.Proof.Attn.Finish

@[expose] public section

set_option maxRecDepth 16384

noncomputable section

namespace Cert.KernelIdeal.Attn

open Cert.KernelIdeal Cert.KernelIdeal.Gen Cert.KernelIdeal.Model
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The scratch buffers a grid point works on: filled anew at the first key block of a pair. -/
def bufsAt (j : ℕ) (B : Bufs F) (q do_ : Vec F S4224x128 .bf16) (lse del : Vec F S1x4224x128 .f32) : Bufs F :=
  if j = 0 then fill q do_ lse del else B
def dqtAt (j : ℕ) (d : Vec F S2x128x4224 .f32) : Vec F S2x128x4224 .f32 := if j = 0 then k0_pay3 (F := F) else d

variable (c : Dev nD) (i : grid0.Coords)
  (arg2 : Memref sig .tc .vmem S4224x128 .bf16) (harg2 : arg2.IsWhole)
  (arg3 : Memref sig .tc .vmem S384x128 .bf16) (harg3 : arg3.IsWhole)
  (arg4 : Memref sig .tc .vmem S384x128 .bf16) (harg4 : arg4.IsWhole)
  (arg5 : Memref sig .tc .vmem S4224x128 .bf16) (harg5 : arg5.IsWhole)
  (arg6 : Memref sig .tc .vmem S1x4224x128 .f32) (harg6 : arg6.IsWhole)
  (arg7 : Memref sig .tc .vmem S1x4224x128 .f32) (harg7 : arg7.IsWhole)
  (arg8 : Memref sig .tc .vmem S1x384x128 .f32) (harg8 : arg8.IsWhole)
  (arg9 : Memref sig .tc .vmem S4224x128 .f32) (harg9 : arg9.IsWhole)
  (arg10 : Memref sig .tc .vmem S384x128 .bf16) (harg10 : arg10.IsWhole)
  (arg11 : Memref sig .tc .vmem S384x128 .bf16) (harg11 : arg11.IsWhole)
  (arg12 : Memref sig .tc .vmem S1x384x128 .f32) (harg12 : arg12.IsWhole)
  (arg13 : Memref sig .tc .vmem S1x8x4224 .f32) (harg13 : arg13.IsWhole)
  (arg14 : Memref sig .tc .vmem S2x4224x128 .bf16) (harg14 : arg14.IsWhole)
  (arg15 : Memref sig .tc .vmem S2x128x4224 .bf16) (harg15 : arg15.IsWhole)
  (arg16 : Memref sig .tc .vmem S2x4224x128 .bf16) (harg16 : arg16.IsWhole)
  (arg17 : Memref sig .tc .vmem S2x128x4224 .bf16) (harg17 : arg17.IsWhole)
  (arg18 : Memref sig .tc .vmem S2x128x4224 .f32) (harg18 : arg18.IsWhole)

/-- The first part at any key block. -/
theorem part88_run (B : Bufs F) (d : Vec F S2x128x4224 .f32) (q do_ : Vec F S4224x128 .bf16)
    (lse del : Vec F S1x4224x128 .f32) (k : Vec F S384x128 .bf16) (cc : Vec F S1x384x128 .f32) (E : Set ℕ) :
    iprop(scratch c arg14 arg15 arg16 arg17 arg18 B d ∗ held c arg2 q ∗ held c arg5 do_ ∗ held c arg6 lse ∗ held c arg7 del
        ∗ held c arg3 k ∗ held c arg8 cc)
      ⊢ wp frame (wpE (defs₀ (F := F)) 𝒱₀ c none) E
          (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun a => iprop(⌜a = ⟨BitVec.ofNat 32 (i 1).val, k0_pay480 i cc, k0_pay482 i cc, k0_pay483 i cc, k0_pay484 k,
              iota .tc S1x128 32 [1] iota_S1x128_d1_w32, 64#32, k0_pay485, k0_pay486, 1#32⟩⌝
            ∗ scratch c arg14 arg15 arg16 arg17 arg18 (bufsAt (i 1).val B q do_ lse del) (dqtAt (i 1).val d) ∗ held c arg2 q ∗ held c arg5 do_ ∗ held c arg6 lse
            ∗ held c arg7 del ∗ held c arg3 k ∗ held c arg8 cc)) := by
  by_cases hj : (i 1).val = 0
  · unfold bufsAt dqtAt
    rw [if_pos hj, if_pos hj]
    exact part88_fill c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hj B d q do_ lse del k cc E
  · unfold bufsAt dqtAt
    rw [if_neg hj, if_neg hj]
    iintro ⟨HS, H2, H5, H6, H7, H3, H8⟩
    iapply (wp_wand_r Idealize.ShloMosaic.frame (wpE (defs₀ (F := F)) 𝒱₀ (c : Thread nD τ) none) E)
    isplitl [HS H3 H8]
    · iapply (part88_skip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hj B d k cc E) $$ [HS H3 H8]
      isplitl [HS]; · iexact HS
      isplitl [H3]; · iexact H3
      iexact H8
    iintro %a ⟨%ha, HS, H3, H8⟩
    isplitr
    · ipureintro; exact ha
    isplitl [HS]; · iexact HS
    isplitl [H2]; · iexact H2
    isplitl [H5]; · iexact H5
    isplitl [H6]; · iexact H6
    isplitl [H7]; · iexact H7
    isplitl [H3]; · iexact H3
    iexact H8

/-- The state a grid point ends in: the key block's four products and the transposed gradient. -/
def pointSt (i : grid0.Coords) (B : Bufs F) (d : Vec F S2x128x4224 .f32) (q do_ : Vec F S4224x128 .bf16) (k v : Vec F S384x128 .bf16)
    (lse del : Vec F S1x4224x128 .f32) (cc : Vec F S1x384x128 .f32) : St F :=
  keyBlock (i 1).val (keys (BitVec.ofNat 32 (i 1).val) k v cc) (bufsAt (i 1).val B q do_ lse del) (dqtAt (i 1).val d)

/-- One grid point. -/
theorem body_run (q do_ : Vec F S4224x128 .bf16) (k v : Vec F S384x128 .bf16)
    (lse del : Vec F S1x4224x128 .f32) (cc : Vec F S1x384x128 .f32) (x9 : Vec F S4224x128 .f32) (x10 x11 : Vec F S384x128 .bf16)
    (x12 : Vec F S1x384x128 .f32) (x13 : Vec F S1x8x4224 .f32) (B : Bufs F) (d : Vec F S2x128x4224 .f32) (E : Set ℕ) :
    iprop(scratch c arg14 arg15 arg16 arg17 arg18 B d ∗ held c arg2 q ∗ held c arg3 k ∗ held c arg4 v ∗ held c arg5 do_ ∗ held c arg6 lse ∗ held c arg7 del
        ∗ held c arg8 cc ∗ held c arg9 x9 ∗ held c arg10 x10 ∗ held c arg11 x11 ∗ held c arg12 x12 ∗ held c arg13 x13)
      ⊢ wp frame (wpE (defs₀ (F := F)) 𝒱₀ c none) E
          (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(scratch c arg14 arg15 arg16 arg17 arg18 (bufsAt (i 1).val B q do_ lse del) (pointSt i B d q do_ k v lse del cc).dqt
            ∗ held c arg2 q ∗ held c arg3 k ∗ held c arg4 v ∗ held c arg5 do_ ∗ held c arg6 lse ∗ held c arg7 del ∗ held c arg8 cc
            ∗ held c arg9 (if (i 1).val = 10 then dqOut (pointSt i B d q do_ k v lse del cc).dqt else x9)
            ∗ held c arg10 (k0_pay534 (pointSt i B d q do_ k v lse del cc).dk0 (pointSt i B d q do_ k v lse del cc).dk1)
            ∗ held c arg11 (k0_pay535 (pointSt i B d q do_ k v lse del cc).dv0 (pointSt i B d q do_ k v lse del cc).dv1)
            ∗ held c arg12 (k0_pay1 (pointSt i B d q do_ k v lse del cc).dk0 (pointSt i B d q do_ k v lse del cc).dk1 lane)
            ∗ held c arg13 (if (i 1).val = 10 then dcqOut (pointSt i B d q do_ k v lse del cc).dqt else x13))) := by
  rw [cc0_attn_bwd_eq_skeleton]
  iintro ⟨HS, H2, H3, H4, H5, H6, H7, H8, H9, H10, H11, H12, H13⟩
  unfold cc0_attn_bwd_skel
  rw [wp_bind]
  iapply (wp_wand_r Idealize.ShloMosaic.frame (wpE (defs₀ (F := F)) 𝒱₀ (c : Thread nD τ) none) E)
  isplitl [HS H2 H5 H6 H7 H3 H8]
  · iapply (part88_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B d q do_ lse del k cc E) $$ [HS H2 H5 H6 H7 H3 H8]
    isplitl [HS]; · iexact HS
    isplitl [H2]; · iexact H2
    isplitl [H5]; · iexact H5
    isplitl [H6]; · iexact H6
    isplitl [H7]; · iexact H7
    isplitl [H3]; · iexact H3
    iexact H8
  iintro %a ⟨%ha, HS, H2, H5, H6, H7, H3, H8⟩
  subst ha
  dsimp only
  generalize hB : bufsAt (i 1).val B q do_ lse del = B'
  generalize hd : dqtAt (i 1).val d = d'
  rw [wp_bind]
  iapply (wp_wand_r Idealize.ShloMosaic.frame (wpE (defs₀ (F := F)) 𝒱₀ (c : Thread nD τ) none) E)
  isplitl [H3]
  · iapply (part89_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k _ _ _ _ _ _ _ _ _ E) $$ [H3]
    iexact H3
  iintro %a ⟨%ha, H3⟩
  subst ha
  rw [wp_bind]
  iapply (wp_wand_r Idealize.ShloMosaic.frame (wpE (defs₀ (F := F)) 𝒱₀ (c : Thread nD τ) none) E)
  isplitl [H3]
  · iapply (part90_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k _ _ E) $$ [H3]
    iexact H3
  iintro %a ⟨%ha, H3⟩
  subst ha
  dsimp only
  rw [wp_bind]
  iapply (wp_wand_r Idealize.ShloMosaic.frame (wpE (defs₀ (F := F)) 𝒱₀ (c : Thread nD τ) none) E)
  isplitl [H4]
  · iapply (part91_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v _ _ _ _ _ _ E) $$ [H4]
    iexact H4
  iintro %a ⟨%ha, H4⟩
  subst ha
  dsimp only
  rw [wp_bind]
  iapply (wp_wand_r Idealize.ShloMosaic.frame (wpE (defs₀ (F := F)) 𝒱₀ (c : Thread nD τ) none) E)
  isplitl [H4]
  · iapply (part92_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v _ _ _ _ E) $$ [H4]
    iexact H4
  iintro %a ⟨%ha, H4⟩
  subst ha
  dsimp only
  rw [wp_bind]
  iapply (wp_wand_r Idealize.ShloMosaic.frame (wpE (defs₀ (F := F)) 𝒱₀ (c : Thread nD τ) none) E)
  isplitl [HS]
  · iapply (part93_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B' d' _ _ _ _ _ _ E) $$ [HS]
    iexact HS
  iintro %a ⟨%ha, HS⟩
  subst ha
  dsimp only
  rw [wp_bind]
  iapply (wp_wand_r Idealize.ShloMosaic.frame (wpE (defs₀ (F := F)) 𝒱₀ (c : Thread nD τ) none) E)
  isplitl [HS]
  · iapply (part94_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B' _ _ _ _ _ _ _ _ _ E) $$ [HS]
    iexact HS
  iintro %a ⟨%ha, HS⟩
  subst ha
  dsimp only
  rw [wp_bind]
  iapply (wp_wand_r Idealize.ShloMosaic.frame (wpE (defs₀ (F := F)) 𝒱₀ (c : Thread nD τ) none) E)
  isplitl [HS]
  · iapply (part95_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B' _ _ _ _ _ _ _ E) $$ [HS]
    iexact HS
  iintro %a ⟨%ha, HS⟩
  subst ha
  dsimp only
  rw [cols_put0 384 d' (384 * (i 1).val)]
  rw [wp_bind]
  iapply (wp_wand_r Idealize.ShloMosaic.frame (wpE (defs₀ (F := F)) 𝒱₀ (c : Thread nD τ) none) E)
  isplitl [HS H10 H11]
  · iapply (part96_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (keys (BitVec.ofNat 32 (i 1).val) k v cc) B' (stepDiag (BitVec.ofNat 32 (i 1).val) (keys (BitVec.ofNat 32 (i 1).val) k v cc) B' (384 * (i 1).val) d') _ _ _ E x10 x11) $$ [HS H10 H11]
    isplitl [HS]; · iexact HS
    isplitl [H10]; · iexact H10
    iexact H11
  iintro %a ⟨%ha, HS, H10, H11⟩
  subst ha
  dsimp only
  have hR : loops i (keys (BitVec.ofNat 32 (i 1).val) k v cc) B' (stepDiag (BitVec.ofNat 32 (i 1).val) (keys (BitVec.ofNat 32 (i 1).val) k v cc) B' (384 * (i 1).val) d') = (pointSt i B d q do_ k v lse del cc) := by
    subst hB hd
    rfl
  rw [hR]
  generalize (pointSt i B d q do_ k v lse del cc) = s
  clear hR
  unfold held
  by_cases hj : (i 1).val = 10
  · have hc := cond2_pos i hj
    rw [if_pos hj, if_pos hj]
    unfold scratch held
    icases HS with ⟨H14, H15, H16, H17, H18⟩
    sl_exec_parts
    sl_step
    have r := fun (hd : Fin 2) (o : ℕ) {off} => readAt_cols (F := F) (off := off) arg18.view s.dqt 384 hd o
    isplitl [H14 H15 H16 H17 H18]
    · isplitl [H14]; · iexact H14
      isplitl [H15]; · iexact H15
      isplitl [H16]; · iexact H16
      isplitl [H17]; · iexact H17
      iexact H18
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply (pointsTo_rep_of_read (c : Thread nD τ) arg9 _ _ _ ?_) $$ [H9]
      rotate_left
      · iexact H9
      refine read_of_fits _ _ _ (P := inDq) (ts := tiles1 11) ?_ cover_dq
      refine fits_dq 10 rfl (by
        rw [← r 0 3840 inb_S2x128x4224_S1x128x384_0_0_3840 rfl, ← r 1 3840 inb_S2x128x4224_S1x128x384_1_0_3840 rfl]; rfl) ?_
      refine fits_dq 9 rfl (by
        rw [← r 0 3456 inb_S2x128x4224_S1x128x384_0_0_3456 rfl, ← r 1 3456 inb_S2x128x4224_S1x128x384_1_0_3456 rfl]; rfl) ?_
      refine fits_dq 8 rfl (by
        rw [← r 0 3072 inb_S2x128x4224_S1x128x384_0_0_3072 rfl, ← r 1 3072 inb_S2x128x4224_S1x128x384_1_0_3072 rfl]; rfl) ?_
      refine fits_dq 7 rfl (by
        rw [← r 0 2688 inb_S2x128x4224_S1x128x384_0_0_2688 rfl, ← r 1 2688 inb_S2x128x4224_S1x128x384_1_0_2688 rfl]; rfl) ?_
      refine fits_dq 6 rfl (by
        rw [← r 0 2304 inb_S2x128x4224_S1x128x384_0_0_2304 rfl, ← r 1 2304 inb_S2x128x4224_S1x128x384_1_0_2304 rfl]; rfl) ?_
      refine fits_dq 5 rfl (by
        rw [← r 0 1920 inb_S2x128x4224_S1x128x384_0_0_1920 rfl, ← r 1 1920 inb_S2x128x4224_S1x128x384_1_0_1920 rfl]; rfl) ?_
      refine fits_dq 4 rfl (by
        rw [← r 0 1536 inb_S2x128x4224_S1x128x384_0_0_1536 rfl, ← r 1 1536 inb_S2x128x4224_S1x128x384_1_0_1536 rfl]; rfl) ?_
      refine fits_dq 3 rfl (by
        rw [← r 0 1152 inb_S2x128x4224_S1x128x384_0_0_1152 rfl, ← r 1 1152 inb_S2x128x4224_S1x128x384_1_0_1152 rfl]; rfl) ?_
      refine fits_dq 2 rfl (by
        rw [← r 0 768 inb_S2x128x4224_S1x128x384_0_0_768 rfl, ← r 1 768 inb_S2x128x4224_S1x128x384_1_0_768 rfl]; rfl) ?_
      refine fits_dq 1 rfl (by
        rw [← r 0 384 inb_S2x128x4224_S1x128x384_0_0_384 rfl, ← r 1 384 inb_S2x128x4224_S1x128x384_1_0_384 rfl]; rfl) ?_
      refine fits_dq 0 rfl (by
        rw [← r 0 0 inb_S2x128x4224_S1x128x384_0_0_0 rfl, ← r 1 0 inb_S2x128x4224_S1x128x384_1_0_0 rfl]; rfl) ?_
      exact fits_nil _ _
    isplitl [H10]; · iexact H10
    isplitl [H11]; · iexact H11
    isplitl [H12]
    · iapply (pointsTo_rep_of_read (c : Thread nD τ) arg12 _ _ _ ?_) $$ [H12]
      rotate_left
      · iexact H12
      exact View.read_writes_full _ _ _ _ _
    iapply (pointsTo_rep_of_read (c : Thread nD τ) arg13 _ _ _ ?_) $$ [H13]
    rotate_left
    · iexact H13
    refine read_of_fits _ _ _ (P := inDcq) (ts := tiles1 11) ?_ cover_dcq
    refine fits_dcq 10 rfl (by
      rw [← r 0 3840 inb_S2x128x4224_S1x128x384_0_0_3840 rfl, ← r 1 3840 inb_S2x128x4224_S1x128x384_1_0_3840 rfl]; rfl) ?_
    refine fits_dcq 9 rfl (by
      rw [← r 0 3456 inb_S2x128x4224_S1x128x384_0_0_3456 rfl, ← r 1 3456 inb_S2x128x4224_S1x128x384_1_0_3456 rfl]; rfl) ?_
    refine fits_dcq 8 rfl (by
      rw [← r 0 3072 inb_S2x128x4224_S1x128x384_0_0_3072 rfl, ← r 1 3072 inb_S2x128x4224_S1x128x384_1_0_3072 rfl]; rfl) ?_
    refine fits_dcq 7 rfl (by
      rw [← r 0 2688 inb_S2x128x4224_S1x128x384_0_0_2688 rfl, ← r 1 2688 inb_S2x128x4224_S1x128x384_1_0_2688 rfl]; rfl) ?_
    refine fits_dcq 6 rfl (by
      rw [← r 0 2304 inb_S2x128x4224_S1x128x384_0_0_2304 rfl, ← r 1 2304 inb_S2x128x4224_S1x128x384_1_0_2304 rfl]; rfl) ?_
    refine fits_dcq 5 rfl (by
      rw [← r 0 1920 inb_S2x128x4224_S1x128x384_0_0_1920 rfl, ← r 1 1920 inb_S2x128x4224_S1x128x384_1_0_1920 rfl]; rfl) ?_
    refine fits_dcq 4 rfl (by
      rw [← r 0 1536 inb_S2x128x4224_S1x128x384_0_0_1536 rfl, ← r 1 1536 inb_S2x128x4224_S1x128x384_1_0_1536 rfl]; rfl) ?_
    refine fits_dcq 3 rfl (by
      rw [← r 0 1152 inb_S2x128x4224_S1x128x384_0_0_1152 rfl, ← r 1 1152 inb_S2x128x4224_S1x128x384_1_0_1152 rfl]; rfl) ?_
    refine fits_dcq 2 rfl (by
      rw [← r 0 768 inb_S2x128x4224_S1x128x384_0_0_768 rfl, ← r 1 768 inb_S2x128x4224_S1x128x384_1_0_768 rfl]; rfl) ?_
    refine fits_dcq 1 rfl (by
      rw [← r 0 384 inb_S2x128x4224_S1x128x384_0_0_384 rfl, ← r 1 384 inb_S2x128x4224_S1x128x384_1_0_384 rfl]; rfl) ?_
    refine fits_dcq 0 rfl (by
      rw [← r 0 0 inb_S2x128x4224_S1x128x384_0_0_0 rfl, ← r 1 0 inb_S2x128x4224_S1x128x384_1_0_0 rfl]; rfl) ?_
    exact fits_nil _ _
  · have hc := cond2_neg i hj
    rw [if_neg hj, if_neg hj]
    sl_exec
    sl_step
    isplitl [HS]; · iexact HS
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iapply (pointsTo_rep_of_read (c : Thread nD τ) arg12 _ _ _ ?_) $$ [H12]
      rotate_left
      · iexact H12
      exact View.read_writes_full _ _ _ _ _
    iexact H13

end Cert.KernelIdeal.Attn

end
-- ==== Proof.Attn.Blocks.lean ====
/- Where each window of the kernel lies in its array: the pair's strip, and the key block within it. -/
module

public import proofs.«01_k».proof.Proof.Attn.Body
public import Idealize.ShloMosaic.Lib.Claim
public import Idealize.ShloMosaic.Lib.Pipeline.ValueKit.Point

@[expose] public section

set_option maxRecDepth 16384

noncomputable section

namespace Cert.KernelIdeal.Attn

open Cert.KernelIdeal Cert.KernelIdeal.Gen Cert.KernelIdeal.Model
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The pair of heads and the key block of a grid point. -/
def pairOf (t : Fin cfg0.N) : Fin 4 := ⟨t.val / 11, by have : t.val < 44 := lt_of_lt_of_eq t.isLt N_0; omega⟩
def keyOf (t : Fin cfg0.N) : Fin 11 := ⟨t.val % 11, Nat.mod_lt _ (by decide)⟩

theorem coord0 : ∀ t : Fin cfg0.N, (cfg0.grid.coords t 0).val = t.val / 11 := (by decide +kernel : ∀ t : Fin grid0.N, (grid0.coords t 0).val = t.val / 11)
theorem coord1 : ∀ t : Fin cfg0.N, (cfg0.grid.coords t 1).val = t.val % 11 := (by decide +kernel : ∀ t : Fin grid0.N, (grid0.coords t 1).val = t.val % 11)

/-- Every window's block index at a point. -/
theorem idx : ∀ t : Fin cfg0.N,
    win0_0.index t = ![0, t.val / 11] ∧ win0_1.index t = ![t.val % 11, t.val / 11] ∧ win0_2.index t = ![t.val % 11, t.val / 11]
    ∧ win0_3.index t = ![0, t.val / 11] ∧ win0_4.index t = ![t.val / 11, 0, 0] ∧ win0_5.index t = ![t.val / 11, 0, 0]
    ∧ win0_6.index t = ![t.val / 11, t.val % 11, 0] ∧ win0_7.index t = ![0, t.val / 11] ∧ win0_8.index t = ![t.val % 11, t.val / 11]
    ∧ win0_9.index t = ![t.val % 11, t.val / 11] ∧ win0_10.index t = ![t.val / 11, t.val % 11, 0] ∧ win0_11.index t = ![t.val / 11, 0, 0] :=
  (by decide +kernel : ∀ t : Fin grid0.N, _)

section
variable {α : Type}

/-- Pair `p`'s 128 columns of an array of 512. -/
def strip (x : S4224x512.Idx → α) (p : Fin 4) : S4224x128.Idx → α := fun y =>
  x (ValueIdx.ix2 (⟨(y 0).val, (y 0).isLt⟩ : Fin 4224) (⟨128 * p.val + (y 1).val, by have := p.isLt; have : (y 1).val < 128 := (y 1).isLt; omega⟩ : Fin 512))

/-- Key block `j` of pair `p`'s columns. -/
def stripBlk (x : S4224x512.Idx → α) (p : Fin 4) (j : Fin 11) : S384x128.Idx → α := fun y =>
  x (ValueIdx.ix2 (⟨384 * j.val + (y 0).val, by have := j.isLt; have : (y 0).val < 384 := (y 0).isLt; omega⟩ : Fin 4224)
    (⟨128 * p.val + (y 1).val, by have := p.isLt; have : (y 1).val < 128 := (y 1).isLt; omega⟩ : Fin 512))

/-- Pair `p`'s row statistics. -/
def slab (x : S4x4224x128.Idx → α) (p : Fin 4) : S1x4224x128.Idx → α := fun y =>
  x (ValueIdx.ix3 p (⟨(y 1).val, (y 1).isLt⟩ : Fin 4224) (⟨(y 2).val, (y 2).isLt⟩ : Fin 128))

/-- Key block `j` of pair `p`'s row statistics. -/
def slabBlk (x : S4x4224x128.Idx → α) (p : Fin 4) (j : Fin 11) : S1x384x128.Idx → α := fun y =>
  x (ValueIdx.ix3 p (⟨384 * j.val + (y 1).val, by have := j.isLt; have : (y 1).val < 384 := (y 1).isLt; omega⟩ : Fin 4224) (⟨(y 2).val, (y 2).isLt⟩ : Fin 128))
end

variable (m : (ℓ : Loc nD τ sig) → Buf (Elt F) ℓ)

theorem iblk0 (c : Dev nD) (t : Fin cfg0.N) : iblk m c 0 t = strip (V m c main_v38) (pairOf t) := by
  funext y
  have h0 : (pairOf t).val = t.val / 11 := rfl
  have h1 : (keyOf t).val = t.val % 11 := rfl
  unfold strip
  blk_ext [iblk, idx t]
theorem iblk1 (c : Dev nD) (t : Fin cfg0.N) : iblk m c 1 t = stripBlk (V m c main_v40) (pairOf t) (keyOf t) := by
  funext y
  have h0 : (pairOf t).val = t.val / 11 := rfl
  have h1 : (keyOf t).val = t.val % 11 := rfl
  unfold stripBlk
  blk_ext [iblk, idx t]
theorem iblk2 (c : Dev nD) (t : Fin cfg0.N) : iblk m c 2 t = stripBlk (V m c main_v42) (pairOf t) (keyOf t) := by
  funext y
  have h0 : (pairOf t).val = t.val / 11 := rfl
  have h1 : (keyOf t).val = t.val % 11 := rfl
  unfold stripBlk
  blk_ext [iblk, idx t]
theorem iblk3 (c : Dev nD) (t : Fin cfg0.N) : iblk m c 3 t = strip (V m c main_v44) (pairOf t) := by
  funext y
  have h0 : (pairOf t).val = t.val / 11 := rfl
  have h1 : (keyOf t).val = t.val % 11 := rfl
  unfold strip
  blk_ext [iblk, idx t]
theorem iblk4 (c : Dev nD) (t : Fin cfg0.N) : iblk m c 4 t = slab (V m c main_v47) (pairOf t) := by
  funext y
  have h0 : (pairOf t).val = t.val / 11 := rfl
  have h1 : (keyOf t).val = t.val % 11 := rfl
  unfold slab
  blk_ext [iblk, idx t]
  rfl
theorem iblk5 (c : Dev nD) (t : Fin cfg0.N) : iblk m c 5 t = slab (V m c main_v50) (pairOf t) := by
  funext y
  have h0 : (pairOf t).val = t.val / 11 := rfl
  have h1 : (keyOf t).val = t.val % 11 := rfl
  unfold slab
  blk_ext [iblk, idx t]
  rfl
theorem iblk6 (c : Dev nD) (t : Fin cfg0.N) : iblk m c 6 t = slabBlk (V m c main_v53) (pairOf t) (keyOf t) := by
  funext y
  have h0 : (pairOf t).val = t.val / 11 := rfl
  have h1 : (keyOf t).val = t.val % 11 := rfl
  unfold slabBlk
  blk_ext [iblk, idx t]
  rfl

end Cert.KernelIdeal.Attn

end
-- ==== Proof.Attn.Run.lean ====
/- The launch of the kernel: what every window's buffer holds at each grid point, and the run of the whole program. -/
module

public import proofs.«01_k».proof.Proof.Attn.Blocks
public import Idealize.ShloMosaic.Lib.Pipeline.TableIdle

@[expose] public section

set_option maxRecDepth 16384

noncomputable section

namespace Cert.KernelIdeal.Attn

open Cert.KernelIdeal Cert.KernelIdeal.Gen Cert.KernelIdeal.Model
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat Cfg Window BodyObligation cellOf ΦA)

local notation "𝕄" => MT nD τ sig Unit (Elt F) ℕ (UR sig nD τ) ℕ

variable (m : (ℓ : Loc nD τ sig) → Buf (Elt F) ℓ) (ρ : Dev nD → PrngReg)

/-! ## A pair's state from key block to key block -/

/-- The scratch buffers of pair `p`, as its first key block fills them. -/
def pairBufs (c : Dev nD) (p : Fin 4) : Bufs F :=
  fill (strip (V m c main_v38) p) (strip (V m c main_v44) p) (slab (V m c main_v47) p) (slab (V m c main_v50) p)

/-- What key block `j` of pair `p` makes of the transposed gradient `d` it finds. -/
def blockSt (c : Dev nD) (p : Fin 4) (j : Fin 11) (d : Vec F S2x128x4224 .f32) : St F :=
  keyBlock j.val (keys (BitVec.ofNat 32 j.val) (stripBlk (V m c main_v40) p j) (stripBlk (V m c main_v42) p j) (slabBlk (V m c main_v53) p j))
    (pairBufs m c p) d

/-- The transposed gradient of pair `p` before key block `n`. -/
def pairDqt (c : Dev nD) (p : Fin 4) : ℕ → Vec F S2x128x4224 .f32
  | 0 => k0_pay3 (F := F)
  | n + 1 => if h : n < 11 then (blockSt m c p ⟨n, h⟩ (pairDqt c p n)).dqt else pairDqt c p n

/-- The state that key block `j` of pair `p` ends in. -/
def stAt (c : Dev nD) (p : Fin 4) (j : Fin 11) : St F := blockSt m c p j (pairDqt m c p j.val)

theorem pairDqt_succ (c : Dev nD) (p : Fin 4) (j : Fin 11) : pairDqt m c p (j.val + 1) = (stAt m c p j).dqt := by
  show dite _ _ _ = _
  rw [dif_pos j.isLt]
  rfl

/-! ## The pipeline's proof data -/

abbrev M14 : Memref sig .tc .vmem S2x4224x128 .bf16 := Memref.whole cc0_scratch0
abbrev M15 : Memref sig .tc .vmem S2x128x4224 .bf16 := Memref.whole cc0_scratch1
abbrev M16 : Memref sig .tc .vmem S2x4224x128 .bf16 := Memref.whole cc0_scratch2
abbrev M17 : Memref sig .tc .vmem S2x128x4224 .bf16 := Memref.whole cc0_scratch3
abbrev M18 : Memref sig .tc .vmem S2x128x4224 .f32 := Memref.whole cc0_scratch4

/-- What is known of the scratch buffers before point `n`: within a pair, its operands and its gradient so far. -/
def Known (c : Dev nD) (n : ℕ) (B : Bufs F) (d : Vec F S2x128x4224 .f32) : Prop :=
  n % 11 ≠ 0 → ∀ p : Fin 4, p.val = n / 11 → B = pairBufs m c p ∧ d = pairDqt m c p (n % 11)

/-- The scratch buffers before point `n`. -/
def tracked (c : Dev nD) (n : ℕ) : sProp 𝕄 :=
  iprop((∃ B d, ⌜Known m c n B d⌝ ∗ scratch c M14 M15 M16 M17 M18 B d) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOut (stAt m c (pairOf t) (keyOf t)).dqt
    | ⟨8, _⟩ => k0_pay534 (stAt m c (pairOf t) (keyOf t)).dk0 (stAt m c (pairOf t) (keyOf t)).dk1
    | ⟨9, _⟩ => k0_pay535 (stAt m c (pairOf t) (keyOf t)).dv0 (stAt m c (pairOf t) (keyOf t)).dv1
    | ⟨10, _⟩ => k0_pay1 (stAt m c (pairOf t) (keyOf t)).dk0 (stAt m c (pairOf t) (keyOf t)).dk1 lane
    | ⟨11, _⟩ => dcqOut (stAt m c (pairOf t) (keyOf t)).dqt
  Φ t := tracked m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqOut (stAt m c (pairOf t) (keyOf t)).dqt := by dsimp only [dats]
theorem after0_8 (c : Dev nD) (t : Fin cfg0.N) : (dats m 0 c).after 8 t = k0_pay534 (stAt m c (pairOf t) (keyOf t)).dk0 (stAt m c (pairOf t) (keyOf t)).dk1 := by dsimp only [dats]
theorem after0_9 (c : Dev nD) (t : Fin cfg0.N) : (dats m 0 c).after 9 t = k0_pay535 (stAt m c (pairOf t) (keyOf t)).dv0 (stAt m c (pairOf t) (keyOf t)).dv1 := by dsimp only [dats]
theorem after0_10 (c : Dev nD) (t : Fin cfg0.N) : (dats m 0 c).after 10 t = k0_pay1 (stAt m c (pairOf t) (keyOf t)).dk0 (stAt m c (pairOf t) (keyOf t)).dk1 lane := by dsimp only [dats]
theorem after0_11 (c : Dev nD) (t : Fin cfg0.N) : (dats m 0 c).after 11 t = dcqOut (stAt m c (pairOf t) (keyOf t)).dqt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## Entering and leaving -/

theorem whole_held (c : Dev nD) (b : Ref sig .tc) (X : b.ty.Contents (Elt F)) :
    (iprop((c : Thread nD τ).loc b ↦{fullShare} X) : sProp 𝕄) ⊢ held c (Memref.whole b) X := by
  have h := owns_eq_rep (Ix := Unit) (Name := ℕ) (U := UR sig nD τ) (Lvl := ℕ) (c : Thread nD τ) (Memref.whole b) fullShare X
  unfold held
  rw [← h, owns_whole_eq]
  iintro H
  iexists X
  isplitr
  · ipureintro; rfl
  iexact H

theorem held_whole (c : Dev nD) (b : Ref sig .tc) (X : b.ty.Contents (Elt F)) :
    (held c (Memref.whole b) X : sProp 𝕄) ⊢ iprop(∃ f : Buf (Elt F) ((c : Thread nD τ).loc b), (c : Thread nD τ).loc b ↦{fullShare} f) := by
  have h := owns_eq_rep (Ix := Unit) (Name := ℕ) (U := UR sig nD τ) (Lvl := ℕ) (c : Thread nD τ) (Memref.whole b) fullShare X
  unfold held
  rw [← h, owns_whole_eq]
  iintro ⟨%f, %hf, H⟩
  iexists f
  iexact H

theorem enter (c : Dev nD) : ΦA spec0 c ⊢ tracked m c 0 := by
  unfold ΦA tracked
  rw [scopedRest0_eq]
  iintro ⟨⟨⟨%f0, H0⟩, ⟨%f1, H1⟩, ⟨%f2, H2⟩, ⟨%f3, H3⟩, ⟨%f4, H4⟩⟩, Hr⟩
  isplitr [Hr]
  · iexists (⟨f0, f1, f2, f3⟩ : Bufs F)
    iexists f4
    isplitr
    · ipureintro; intro h; exact absurd rfl h
    unfold scratch
    isplitl [H0]; · iapply (whole_held c cc0_scratch0 f0) $$ [H0]; iexact H0
    isplitl [H1]; · iapply (whole_held c cc0_scratch1 f1) $$ [H1]; iexact H1
    isplitl [H2]; · iapply (whole_held c cc0_scratch2 f2) $$ [H2]; iexact H2
    isplitl [H3]; · iapply (whole_held c cc0_scratch3 f3) $$ [H3]; iexact H3
    iapply (whole_held c cc0_scratch4 f4) $$ [H4]; iexact H4
  iexact Hr

theorem leave (c : Dev nD) (n : ℕ) : tracked m c n ⊢ ΦA spec0 c := by
  unfold ΦA tracked scratch
  rw [scopedRest0_eq]
  iintro ⟨⟨%B, %d, %hK, H0, H1, H2, H3, H4⟩, Hr⟩
  isplitr [Hr]
  · isplitl [H0]; · iapply (held_whole c cc0_scratch0 B.qa) $$ [H0]; iexact H0
    isplitl [H1]; · iapply (held_whole c cc0_scratch1 B.qat) $$ [H1]; iexact H1
    isplitl [H2]; · iapply (held_whole c cc0_scratch2 B.doa) $$ [H2]; iexact H2
    isplitl [H3]; · iapply (held_whole c cc0_scratch3 B.doat) $$ [H3]; iexact H3
    iapply (held_whole c cc0_scratch4 d) $$ [H4]; iexact H4
  iexact Hr

/-! ## One point against what is tracked -/

/-- At a point, the body's end state is the tracked one whatever the scratch held before. -/
theorem point_st (c : Dev nD) (t : Fin cfg0.N) (B : Bufs F) (d : Vec F S2x128x4224 .f32) (hK : Known m c t.val B d) :
    bufsAt (cfg0.grid.coords t 1).val B (iblk m c 0 t) (iblk m c 3 t) (iblk m c 4 t) (iblk m c 5 t) = pairBufs m c (pairOf t)
    ∧ pointSt (cfg0.grid.coords t) B d (iblk m c 0 t) (iblk m c 3 t) (iblk m c 1 t) (iblk m c 2 t) (iblk m c 4 t) (iblk m c 5 t) (iblk m c 6 t)
      = stAt m c (pairOf t) (keyOf t) := by
  have hb : bufsAt (cfg0.grid.coords t 1).val B (iblk m c 0 t) (iblk m c 3 t) (iblk m c 4 t) (iblk m c 5 t) = pairBufs m c (pairOf t)
      ∧ dqtAt (cfg0.grid.coords t 1).val d = pairDqt m c (pairOf t) (keyOf t).val := by
    rw [coord1 t, iblk0, iblk3, iblk4, iblk5]
    unfold bufsAt dqtAt
    by_cases h : t.val % 11 = 0
    · rw [if_pos h, if_pos h]
      refine ⟨rfl, ?_⟩
      have : (keyOf t).val = 0 := h
      rw [this]; rfl
    · rw [if_neg h, if_neg h]
      exact hK h (pairOf t) rfl
  refine ⟨hb.1, ?_⟩
  unfold pointSt stAt blockSt
  rw [hb.1, hb.2, coord1 t, iblk1, iblk2, iblk6]
  rfl

theorem known_next (c : Dev nD) (t : Fin cfg0.N) :
    Known m c (t.val + 1) (pairBufs m c (pairOf t)) (stAt m c (pairOf t) (keyOf t)).dqt := by
  intro h p hp
  have h0 : (pairOf t).val = t.val / 11 := rfl
  have hpp : p = pairOf t := by apply Fin.ext; omega
  subst hpp
  refine ⟨rfl, ?_⟩
  rw [← pairDqt_succ]
  have : (keyOf t).val + 1 = (t.val + 1) % 11 := by
    have : (keyOf t).val = t.val % 11 := rfl
    omega
  rw [this]

/-! ## The body obligation -/

theorem owns_held (c : Dev nD) {sp : Space} {s : Shape} {e : EltTy} (M : Memref sig .tc sp s e) (x : s.Idx → Elt F e) :
    (owns (c : Thread nD τ) M fullShare x : sProp 𝕄) = held c M x := by
  unfold held
  exact owns_eq_rep (Ix := Unit) (Name := ℕ) (U := UR sig nD τ) (Lvl := ℕ) (c : Thread nD τ) M fullShare x

theorem idle_last (t : Fin cfg0.N) (h : t.val % 11 = 10) : idle0 7 (grid0.coords t) = false ∧ idle0 11 (grid0.coords t) = false := by
  have hc : k0_cond2 (grid0.coords t) = 1#1 := cond2_pos _ ((coord1 t).trans h)
  refine ⟨?_, ?_⟩ <;> · show (!(k0_cond2 (grid0.coords t) == 1#1)) = false; rw [hc]; rfl

theorem idle_mid (t : Fin cfg0.N) (h : ¬ t.val % 11 = 10) : idle0 7 (grid0.coords t) = true ∧ idle0 11 (grid0.coords t) = true := by
  have hc : k0_cond2 (grid0.coords t) ≠ 1#1 := cond2_neg (grid0.coords t) (fun h' => h ((coord1 t).symm.trans h'))
  refine ⟨?_, ?_⟩ <;> · show (!(k0_cond2 (grid0.coords t) == 1#1)) = true; rw [beq_false_of_ne hc]; rfl

theorem flush_mid (t : Fin cfg0.N) (h : ¬ t.val % 11 = 10) : (win0 7).flush t = false ∧ (win0 11).flush t = false :=
  ⟨Bool.eq_false_iff.mpr fun h' => h ((flush0_7 t).mp h'), Bool.eq_false_iff.mpr fun h' => h ((flush0_11 t).mp h')⟩

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.castSucc = tracked m c t.val from rfl, show (dats m 0 c).Φ t.succ = tracked m c (t.val + 1) from rfl,
    show (dats m 0 c).owesAt () t.succ = (dats m 0 c).owesAt () t.castSucc from rfl, after0_0, after0_1, after0_2, after0_3, after0_4, after0_5, after0_6, after0_7, after0_8, after0_9, after0_10, after0_11]
  simp only [owns_held]
  iintro ⟨HT, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  unfold tracked
  icases HT with ⟨⟨%B, %d, %hK, HS⟩, Hr⟩
  obtain ⟨hB, hS⟩ := point_st m c t B d hK
  iapply (wp_wand_r Idealize.ShloMosaic.frame (wpE (defs₀ (F := F)) 𝒱₀ (c : Thread nD τ) none) Set.univ)
  isplitl [HS H0 H1 H2 H3 H4 H5 H6 H7 H8 H9 H10 H11]
  · iapply (body_run c (grid0.coords t) _ _ _ _ _ _ _ _ _ _ _ _ _ _ _ _ _ _ _ _ _ _ _ _ _ _ _ _ _ _ _ _ _ _ (iblk m c 0 t) (iblk m c 3 t) (iblk m c 1 t) (iblk m c 2 t) (iblk m c 4 t) (iblk m c 5 t) (iblk m c 6 t)
      ((dats m 0 c).before 7 t d7) ((dats m 0 c).before 8 t d8) ((dats m 0 c).before 9 t d9) ((dats m 0 c).before 10 t d10) ((dats m 0 c).before 11 t d11) B d Set.univ) $$ [HS H0 H1 H2 H3 H4 H5 H6 H7 H8 H9 H10 H11]
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %_ ⟨HS, H0, H1, H2, H3, H4, H5, H6, H7, H8, H9, H10, H11⟩
  rw [hB, hS]
  isplitl [HS Hr]
  · isplitr [Hr]
    · iexists _; iexists _
      isplitr
      · ipureintro; exact known_next m c t
      iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h : t.val % 11 = 10
  · have hj : (grid0.coords t 1).val = 10 := (coord1 t).trans h
    rw [(idle_last t h).1, if_pos hj, if_pos hj]
    isplitl [H7]; · iexact H7
    isplitl [H8]; · iexact H8
    isplitl [H9]; · iexact H9
    isplitl [H10]; · iexact H10
    iexact H11
  · have hj : ¬ (grid0.coords t 1).val = 10 := fun h' => h ((coord1 t).symm.trans h')
    rw [(idle_mid t h).1, (flush_mid t h).1, (flush_mid t h).2, if_neg hj, if_neg hj]
    isplitl [H7]; · iexists d7; iexact H7
    isplitl [H8]; · iexact H8
    isplitl [H9]; · iexact H9
    isplitl [H10]; · iexact H10
    iexists d11; iexact H11

/-! ## The run -/

set_option backward.isDefEq.respectTransparency.types false in
/-- From any memory with zero counters every execution ends, every array at what the points leave in it, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => enter m c) (hout := fun c => leave m c _)

end Cert.KernelIdeal.Attn

end
-- ==== Proof.Attn.Frames.lean ====
/- The frames of the kernel, as printed and over the extended reals. -/
module

public import proofs.«01_k».proof.Proof.Attn.Run

@[expose] public section

set_option maxRecDepth 16384

noncomputable section

namespace Cert.KernelIdeal.Attn

open Cert.KernelIdeal Cert.KernelIdeal.Gen
open Idealize.ShloMosaic Idealize.ShloMosaic.TcCoe
open Idealize.SL.Sem

variable {F : FTy → Type} [FloatOps F] [Named F]

/-- For any values: every execution ends, the argument arrays as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ)

end Cert.KernelIdeal.Attn

end
-- ==== Proof.AttnK.Frames.lean ====
/- The frames of the kernel, as printed. -/
module

public import proofs.«01_k».proof.Proof.AttnK.Run

@[expose] public section

set_option maxRecDepth 16384

noncomputable section

namespace Cert.Kernel.Attn

open Cert.Kernel Cert.Kernel.Gen
open Idealize.ShloMosaic Idealize.ShloMosaic.TcCoe
open Idealize.SL.Sem

variable {F : FTy → Type} [FloatOps F]

/-- For any values: every execution ends, the argument arrays as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ)

end Cert.Kernel.Attn

end
-- ==== Proof.Grad.Payload.lean ====
/- The kernel's block products read at an index, over the extended reals. -/
module

public import proofs.«01_k».proof.Proof.Attn.Model
public import Idealize.ShloMosaic.Lib.MatmulPlain
public import Idealize.ShloMosaic.Lib.ValueIdx
public import Idealize.ShloMosaic.Lib.ValueLayout
public import Idealize.ShloMosaic.Lib.IdealHost
public import Idealize.ShloMosaic.Lib.WordCmp

@[expose] public section

set_option maxRecDepth 16384

noncomputable section

namespace Cert.KernelIdeal.Grad

open Cert.KernelIdeal Cert.KernelIdeal.Gen Cert.KernelIdeal.Model
open Idealize.ShloMosaic Idealize.ShloMosaic.TcCoe Idealize.ShloMosaic.ValueIdx
open scoped BigOperators
open Idealize.ShloMosaic.WordCmp

/-- The named mask is the bottom. -/
theorem mask_eq : (Named.named κ "mask" (φ := .f32) 0xF149F2CA#32 : Ideal .f32) = (⊥ : EReal) := rfl

theorem iota_row (x y : Fin 384) : iota .tc S384x384 32 [0] iota_S384x384_d0_w32 (ValueIdx.ix2 x y) = BitVec.ofNat 32 x.val := by
  rw [iota_single_apply]
theorem iota_col (x y : Fin 384) : iota .tc S384x384 32 [1] iota_S384x384_d1_w32 (ValueIdx.ix2 x y) = BitVec.ofNat 32 y.val := by
  rw [iota_single_apply]

/-! ## 768 queries -/

/-- The weights of the block's keys. -/
theorem pay395_at (ka : FVec Ideal S384x128 .bf16) (qat : Vec Ideal S1x128x768 .bf16) (x : Fin 384) (y : Fin 768) :
    k0_pay395 ka qat (ValueIdx.ix2 x y) = Ideal.exp (∑ l : Fin 128, ka (ValueIdx.ix2 x l) * qat (ValueIdx.ix3 0 l y)) := by
  unfold k0_pay395
  show Ideal.exp (matmul (F := Ideal) (φ₁ := .bf16) (φ₂ := .bf16) _ _ _ _ _ _) = _
  simp only [matmul]
  refine congrArg Ideal.exp ?_
  refine (Ideal.matmul_plain_apply (M := 384) (K := 128) (N := 768) none _ _ _ x y).trans ?_
  rw [constant_apply, Ideal.ofBits_zero_f32, zero_add]
  exact Finset.sum_congr rfl fun l _ => congrArg (ka (ValueIdx.ix2 x l) * ·) (shapeCast_1ab_ab_apply _ _ _ _)

/-- The gradients of the block's scores. -/
theorem pay396_at (ka va : FVec Ideal S384x128 .bf16) (qat doat : Vec Ideal S1x128x768 .bf16) (x : Fin 384) (y : Fin 768) :
    k0_pay396 ka va qat doat (ValueIdx.ix2 x y)
      = k0_pay395 ka qat (ValueIdx.ix2 x y) * ∑ l : Fin 128, va (ValueIdx.ix2 x l) * doat (ValueIdx.ix3 0 l y) := by
  unfold k0_pay396
  show k0_pay395 ka qat (ValueIdx.ix2 x y) * matmul (F := Ideal) (φ₁ := .bf16) (φ₂ := .bf16) _ _ _ _ _ _ = _
  simp only [matmul]
  refine congrArg (k0_pay395 ka qat (ValueIdx.ix2 x y) * ·) ?_
  refine (Ideal.matmul_plain_apply (M := 384) (K := 128) (N := 768) none _ _ _ x y).trans ?_
  rw [constant_apply, Ideal.ofBits_zero_f32, zero_add]
  exact Finset.sum_congr rfl fun l _ => congrArg (va (ValueIdx.ix2 x l) * ·) (shapeCast_1ab_ab_apply _ _ _ _)

theorem pay397_at (ka : FVec Ideal S384x128 .bf16) (acc : FVec Ideal S384x128 .f32) (qat : Vec Ideal S1x128x768 .bf16)
    (doa : Vec Ideal S1x768x128 .bf16) (x : Fin 384) (l : Fin 128) :
    k0_pay397 ka acc qat doa (ValueIdx.ix2 x l)
      = acc (ValueIdx.ix2 x l) + ∑ y : Fin 768, k0_pay395 ka qat (ValueIdx.ix2 x y) * doa (ValueIdx.ix3 0 y l) := by
  unfold k0_pay397
  show acc (ValueIdx.ix2 x l) + matmul (F := Ideal) (φ₁ := .bf16) (φ₂ := .bf16) _ _ _ _ _ _ = _
  simp only [matmul]
  refine congrArg (acc (ValueIdx.ix2 x l) + ·) ?_
  refine (Ideal.matmul_plain_apply (M := 384) (K := 768) (N := 128) none _ _ _ x l).trans ?_
  rw [constant_apply, Ideal.ofBits_zero_f32, zero_add]
  exact Finset.sum_congr rfl fun y _ => congrArg (k0_pay395 ka qat (ValueIdx.ix2 x y) * ·) (shapeCast_1ab_ab_apply _ _ _ _)

theorem pay398_at (ka va : FVec Ideal S384x128 .bf16) (acc : FVec Ideal S384x128 .f32) (qat doat : Vec Ideal S1x128x768 .bf16)
    (qa : Vec Ideal S1x768x128 .bf16) (x : Fin 384) (l : Fin 128) :
    k0_pay398 ka va acc qat doat qa (ValueIdx.ix2 x l)
      = acc (ValueIdx.ix2 x l) + ∑ y : Fin 768, k0_pay396 ka va qat doat (ValueIdx.ix2 x y) * qa (ValueIdx.ix3 0 y l) := by
  unfold k0_pay398
  show acc (ValueIdx.ix2 x l) + matmul (F := Ideal) (φ₁ := .bf16) (φ₂ := .bf16) _ _ _ _ _ _ = _
  simp only [matmul]
  refine congrArg (acc (ValueIdx.ix2 x l) + ·) ?_
  refine (Ideal.matmul_plain_apply (M := 384) (K := 768) (N := 128) none _ _ _ x l).trans ?_
  rw [constant_apply, Ideal.ofBits_zero_f32, zero_add]
  exact Finset.sum_congr rfl fun y _ => congrArg (k0_pay396 ka va qat doat (ValueIdx.ix2 x y) * ·) (shapeCast_1ab_ab_apply _ _ _ _)

theorem pay399_at (ka : FVec Ideal S384x128 .bf16) (kat : FVec Ideal S128x384 .bf16) (va : FVec Ideal S384x128 .bf16)
    (qat doat : Vec Ideal S1x128x768 .bf16) (d : Vec Ideal S1x128x768 .f32) (l : Fin 128) (y : Fin 768) :
    k0_pay399 ka kat va qat doat d (ValueIdx.ix3 0 l y)
      = d (ValueIdx.ix3 0 l y) + ∑ x : Fin 384, kat (ValueIdx.ix2 l x) * k0_pay396 ka va qat doat (ValueIdx.ix2 x y) := by
  unfold k0_pay399
  refine (shapeCast_ab_1ab_apply _ _ _ _ _).trans ?_
  show (shapeCast _ d _ _ : EReal) + matmul (F := Ideal) (φ₁ := .bf16) (φ₂ := .bf16) _ _ _ _ _ _ = _
  simp only [matmul]
  refine congrArg₂ (· + ·) (shapeCast_1ab_ab_apply _ _ _ _) ?_
  refine (Ideal.matmul_plain_apply (M := 128) (K := 384) (N := 768) none _ _ _ l y).trans ?_
  rw [constant_apply, Ideal.ofBits_zero_f32, zero_add]

/-! ## 384 queries -/

/-- The weights of the block's keys. -/
theorem pay405_at (ka : FVec Ideal S384x128 .bf16) (qat : Vec Ideal S1x128x384 .bf16) (x : Fin 384) (y : Fin 384) :
    k0_pay405 ka qat (ValueIdx.ix2 x y) = Ideal.exp (∑ l : Fin 128, ka (ValueIdx.ix2 x l) * qat (ValueIdx.ix3 0 l y)) := by
  unfold k0_pay405
  show Ideal.exp (matmul (F := Ideal) (φ₁ := .bf16) (φ₂ := .bf16) _ _ _ _ _ _) = _
  simp only [matmul]
  refine congrArg Ideal.exp ?_
  refine (Ideal.matmul_plain_apply (M := 384) (K := 128) (N := 384) none _ _ _ x y).trans ?_
  rw [constant_apply, Ideal.ofBits_zero_f32, zero_add]
  exact Finset.sum_congr rfl fun l _ => congrArg (ka (ValueIdx.ix2 x l) * ·) (shapeCast_1ab_ab_apply _ _ _ _)

/-- The gradients of the block's scores. -/
theorem pay406_at (ka va : FVec Ideal S384x128 .bf16) (qat doat : Vec Ideal S1x128x384 .bf16) (x : Fin 384) (y : Fin 384) :
    k0_pay406 ka va qat doat (ValueIdx.ix2 x y)
      = k0_pay405 ka qat (ValueIdx.ix2 x y) * ∑ l : Fin 128, va (ValueIdx.ix2 x l) * doat (ValueIdx.ix3 0 l y) := by
  unfold k0_pay406
  show k0_pay405 ka qat (ValueIdx.ix2 x y) * matmul (F := Ideal) (φ₁ := .bf16) (φ₂ := .bf16) _ _ _ _ _ _ = _
  simp only [matmul]
  refine congrArg (k0_pay405 ka qat (ValueIdx.ix2 x y) * ·) ?_
  refine (Ideal.matmul_plain_apply (M := 384) (K := 128) (N := 384) none _ _ _ x y).trans ?_
  rw [constant_apply, Ideal.ofBits_zero_f32, zero_add]
  exact Finset.sum_congr rfl fun l _ => congrArg (va (ValueIdx.ix2 x l) * ·) (shapeCast_1ab_ab_apply _ _ _ _)

theorem pay407_at (ka : FVec Ideal S384x128 .bf16) (acc : FVec Ideal S384x128 .f32) (qat : Vec Ideal S1x128x384 .bf16)
    (doa : Vec Ideal S1x384x128 .bf16) (x : Fin 384) (l : Fin 128) :
    k0_pay407 ka acc qat doa (ValueIdx.ix2 x l)
      = acc (ValueIdx.ix2 x l) + ∑ y : Fin 384, k0_pay405 ka qat (ValueIdx.ix2 x y) * doa (ValueIdx.ix3 0 y l) := by
  unfold k0_pay407
  show acc (ValueIdx.ix2 x l) + matmul (F := Ideal) (φ₁ := .bf16) (φ₂ := .bf16) _ _ _ _ _ _ = _
  simp only [matmul]
  refine congrArg (acc (ValueIdx.ix2 x l) + ·) ?_
  refine (Ideal.matmul_plain_apply (M := 384) (K := 384) (N := 128) none _ _ _ x l).trans ?_
  rw [constant_apply, Ideal.ofBits_zero_f32, zero_add]
  exact Finset.sum_congr rfl fun y _ => congrArg (k0_pay405 ka qat (ValueIdx.ix2 x y) * ·) (shapeCast_1ab_ab_apply _ _ _ _)

theorem pay408_at (ka va : FVec Ideal S384x128 .bf16) (acc : FVec Ideal S384x128 .f32) (qat doat : Vec Ideal S1x128x384 .bf16)
    (qa : Vec Ideal S1x384x128 .bf16) (x : Fin 384) (l : Fin 128) :
    k0_pay408 ka va acc qat doat qa (ValueIdx.ix2 x l)
      = acc (ValueIdx.ix2 x l) + ∑ y : Fin 384, k0_pay406 ka va qat doat (ValueIdx.ix2 x y) * qa (ValueIdx.ix3 0 y l) := by
  unfold k0_pay408
  show acc (ValueIdx.ix2 x l) + matmul (F := Ideal) (φ₁ := .bf16) (φ₂ := .bf16) _ _ _ _ _ _ = _
  simp only [matmul]
  refine congrArg (acc (ValueIdx.ix2 x l) + ·) ?_
  refine (Ideal.matmul_plain_apply (M := 384) (K := 384) (N := 128) none _ _ _ x l).trans ?_
  rw [constant_apply, Ideal.ofBits_zero_f32, zero_add]
  exact Finset.sum_congr rfl fun y _ => congrArg (k0_pay406 ka va qat doat (ValueIdx.ix2 x y) * ·) (shapeCast_1ab_ab_apply _ _ _ _)

theorem pay409_at (ka : FVec Ideal S384x128 .bf16) (kat : FVec Ideal S128x384 .bf16) (va : FVec Ideal S384x128 .bf16)
    (qat doat : Vec Ideal S1x128x384 .bf16) (d : Vec Ideal S1x128x384 .f32) (l : Fin 128) (y : Fin 384) :
    k0_pay409 ka kat va qat doat d (ValueIdx.ix3 0 l y)
      = d (ValueIdx.ix3 0 l y) + ∑ x : Fin 384, kat (ValueIdx.ix2 l x) * k0_pay406 ka va qat doat (ValueIdx.ix2 x y) := by
  unfold k0_pay409
  refine (shapeCast_ab_1ab_apply _ _ _ _ _).trans ?_
  show (shapeCast _ d _ _ : EReal) + matmul (F := Ideal) (φ₁ := .bf16) (φ₂ := .bf16) _ _ _ _ _ _ = _
  simp only [matmul]
  refine congrArg₂ (· + ·) (shapeCast_1ab_ab_apply _ _ _ _) ?_
  refine (Ideal.matmul_plain_apply (M := 128) (K := 384) (N := 384) none _ _ _ l y).trans ?_
  rw [constant_apply, Ideal.ofBits_zero_f32, zero_add]

/-! ## The key block's own queries -/

/-- The mask: a key not after its query, and not one of the 112 rows put in front. -/
theorem pay502_at (j : ℕ) (hj : j < 11) (ka : FVec Ideal S384x128 .bf16) (qat : Vec Ideal S1x128x384 .bf16) (x y : Fin 384) :
    k0_pay502 (BitVec.ofNat 32 j) ka qat (ValueIdx.ix2 x y)
      = if x.val ≤ y.val ∧ 112 ≤ 384 * j + x.val then Ideal.exp (∑ l : Fin 128, ka (ValueIdx.ix2 x l) * qat (ValueIdx.ix3 0 l y)) else 0 := by
  have hm : k0_pay502 (BitVec.ofNat 32 j) ka qat (ValueIdx.ix2 x y) = Ideal.exp (Scalar.select
      (Scalar.andi (Scalar.cmpi .sle (BitVec.ofNat 32 x.val) (BitVec.ofNat 32 y.val))
        (Scalar.cmpi .sge (Scalar.addi (Scalar.muli (BitVec.ofNat 32 j) 384#32) (BitVec.ofNat 32 x.val)) 112#32))
      (matmul (F := Ideal) (φ₁ := .bf16) (φ₂ := .bf16) dot_S384x128_S128x384_S384x384_1_0_0_1_n_n none ka
        (shapeCast S128x384 qat shapeCasts_S1x128x384_S128x384) (constant S384x384 .f32 0x00000000#32) (ValueIdx.ix2 x y)) ⊥) := by
    rw [← mask_eq, ← iota_row x y, ← iota_col x y]
    unfold k0_pay502
    rfl
  have hs : matmul (F := Ideal) (φ₁ := .bf16) (φ₂ := .bf16) dot_S384x128_S128x384_S384x384_1_0_0_1_n_n none ka
        (shapeCast S128x384 qat shapeCasts_S1x128x384_S128x384) (constant S384x384 .f32 0x00000000#32) (ValueIdx.ix2 x y)
      = ∑ l : Fin 128, ka (ValueIdx.ix2 x l) * qat (ValueIdx.ix3 0 l y) := by
    simp only [matmul]
    refine (Ideal.matmul_plain_apply (M := 384) (K := 128) (N := 384) none _ _ _ x y).trans ?_
    rw [constant_apply, Ideal.ofBits_zero_f32, zero_add]
    exact Finset.sum_congr rfl fun l _ => congrArg (ka (ValueIdx.ix2 x l) * ·) (shapeCast_1ab_ab_apply _ _ _ _)
  have hx : x.val < 384 := x.isLt
  have hy : y.val < 384 := y.isLt
  have hb : Scalar.andi (Scalar.cmpi .sle (BitVec.ofNat 32 x.val) (BitVec.ofNat 32 y.val))
        (Scalar.cmpi .sge (Scalar.addi (Scalar.muli (BitVec.ofNat 32 j) 384#32) (BitVec.ofNat 32 x.val)) 112#32)
      = if x.val ≤ y.val ∧ 112 ≤ 384 * j + x.val then 1#1 else 0#1 := by
    have e1 : Scalar.addi (Scalar.muli (BitVec.ofNat 32 j) 384#32) (BitVec.ofNat 32 x.val) = BitVec.ofNat 32 (384 * j + x.val) := by
      show BitVec.ofNat 32 j * BitVec.ofNat 32 384 + BitVec.ofNat 32 x.val = _
      rw [← BitVec.ofNat_mul, ← BitVec.ofNat_add, Nat.mul_comm]
    rw [e1, scalar_andi_eq, scalar_cmpi_eq, scalar_cmpi_eq, cmpi_sle_ofNat (by omega) (by omega),
      cmpi_sge_ofNat (by omega) (by norm_num), andi_ofBool]
    by_cases h : x.val ≤ y.val ∧ 112 ≤ 384 * j + x.val
    · rw [if_pos h]; simp [h.1, h.2]
    · rw [if_neg h, ofBool_eq_zero_iff]; simpa using h
  rw [hm, hs, hb]
  by_cases h : x.val ≤ y.val ∧ 112 ≤ 384 * j + x.val
  · rw [if_pos h, if_pos h]; rfl
  · rw [if_neg h, if_neg h]; rfl

theorem pay503_at (j : BitVec 32) (ka va : FVec Ideal S384x128 .bf16) (qat doat : Vec Ideal S1x128x384 .bf16) (x y : Fin 384) :
    k0_pay503 j ka va qat doat (ValueIdx.ix2 x y)
      = k0_pay502 j ka qat (ValueIdx.ix2 x y) * ∑ l : Fin 128, va (ValueIdx.ix2 x l) * doat (ValueIdx.ix3 0 l y) := by
  unfold k0_pay503
  show k0_pay502 j ka qat (ValueIdx.ix2 x y) * matmul (F := Ideal) (φ₁ := .bf16) (φ₂ := .bf16) _ _ _ _ _ _ = _
  simp only [matmul]
  refine congrArg (k0_pay502 j ka qat (ValueIdx.ix2 x y) * ·) ?_
  refine (Ideal.matmul_plain_apply (M := 384) (K := 128) (N := 384) none _ _ _ x y).trans ?_
  rw [constant_apply, Ideal.ofBits_zero_f32, zero_add]
  exact Finset.sum_congr rfl fun l _ => congrArg (va (ValueIdx.ix2 x l) * ·) (shapeCast_1ab_ab_apply _ _ _ _)

theorem pay504_at (j : BitVec 32) (ka : FVec Ideal S384x128 .bf16) (qat : Vec Ideal S1x128x384 .bf16) (i : S384x384.Idx) :
    k0_pay504 j ka qat i = k0_pay502 j ka qat i := rfl

theorem pay505_at (P : FVec Ideal S384x384 .bf16) (doa : Vec Ideal S1x384x128 .bf16) (x : Fin 384) (l : Fin 128) :
    k0_pay505 k0_pay501 P doa (ValueIdx.ix2 x l) = ∑ y : Fin 384, P (ValueIdx.ix2 x y) * doa (ValueIdx.ix3 0 y l) := by
  unfold k0_pay505 k0_pay501
  show Ideal.ofBits .f32 0x00000000#32 + matmul (F := Ideal) (φ₁ := .bf16) (φ₂ := .bf16) _ _ _ _ _ _ = _
  simp only [matmul]
  rw [Ideal.ofBits_zero_f32, zero_add]
  refine (Ideal.matmul_plain_apply (M := 384) (K := 384) (N := 128) none _ _ _ x l).trans ?_
  rw [constant_apply, Ideal.ofBits_zero_f32, zero_add]
  exact Finset.sum_congr rfl fun y _ => congrArg (P (ValueIdx.ix2 x y) * ·) (shapeCast_1ab_ab_apply _ _ _ _)

theorem pay506_at (P : FVec Ideal S384x384 .bf16) (qa : Vec Ideal S1x384x128 .bf16) (x : Fin 384) (l : Fin 128) :
    k0_pay506 k0_pay501 P qa (ValueIdx.ix2 x l) = ∑ y : Fin 384, P (ValueIdx.ix2 x y) * qa (ValueIdx.ix3 0 y l) :=
  pay505_at P qa x l

theorem pay507_at (kat : FVec Ideal S128x384 .bf16) (P : FVec Ideal S384x384 .bf16) (d : Vec Ideal S1x128x384 .f32) (l : Fin 128) (y : Fin 384) :
    k0_pay507 kat P d (ValueIdx.ix3 0 l y)
      = d (ValueIdx.ix3 0 l y) + ∑ x : Fin 384, kat (ValueIdx.ix2 l x) * P (ValueIdx.ix2 x y) := by
  unfold k0_pay507
  refine (shapeCast_ab_1ab_apply _ _ _ _ _).trans ?_
  show (shapeCast _ d _ _ : EReal) + matmul (F := Ideal) (φ₁ := .bf16) (φ₂ := .bf16) _ _ _ _ _ _ = _
  simp only [matmul]
  refine congrArg₂ (· + ·) (shapeCast_1ab_ab_apply _ _ _ _) ?_
  refine (Ideal.matmul_plain_apply (M := 128) (K := 384) (N := 384) none _ _ _ l y).trans ?_
  rw [constant_apply, Ideal.ofBits_zero_f32, zero_add]

end Cert.KernelIdeal.Grad

end
-- ==== Proof.Grad.Lanes.lean ====
/- What the operations on lanes read: a select by the lane's number, a column spread over the lanes, and a vector's
   three pieces, at one row and one lane. -/
module

public import proofs.«01_k».proof.Proof.Attn.Finish
public import proofs.«01_k».proof.Proof.Grad.Payload

@[expose] public section

set_option maxRecDepth 16384

noncomputable section

namespace Cert.KernelIdeal.Grad

open Cert.KernelIdeal Cert.KernelIdeal.Gen Cert.KernelIdeal.Model
open Idealize.ShloMosaic Idealize.ShloMosaic.TcCoe Idealize.ShloMosaic.ValueIdx Idealize.ShloMosaic.WordCmp

theorem lane_at (l : Fin 128) : lane (ValueIdx.ix2 0 l) = BitVec.ofNat 32 l.val := by
  unfold lane
  rw [iota_single_apply]

theorem spread_at (b : IVec S1x128 1) (x : Fin 384) (l : Fin 128) : spread b (ValueIdx.ix2 x l) = b (ValueIdx.ix2 0 l) := by
  unfold spread
  rw [broadcastTo_1b_ab_apply, shapeCast_self]

/-- A column spread over the lanes. -/
theorem column_at {α : Type} (p : S384x1.Idx → α) (x : Fin 384) (l : Fin 128) :
    broadcastTo S384x128 (shapeCast S384x1 p shapeCasts_S384x1_S384x1) broadcasts_S384x1_S384x128 (ValueIdx.ix2 x l) = p (ValueIdx.ix2 x 0) := by
  rw [shapeCast_self]
  refine broadcastTo_apply p _ _ _ fun a => ?_
  fin_cases a
  · rfl
  · rfl

theorem select_of {α : Type} (c : BitVec 1) (P : Prop) [Decidable P] (h : c = if P then 1#1 else 0#1) (a b : α) :
    Scalar.select c a b = if P then a else b := by
  by_cases hp : P
  · rw [h, if_pos hp, if_pos hp]; rfl
  · rw [h, if_neg hp, if_neg hp]; rfl

theorem eq_bit (n : ℕ) (hn : n < 128) (l : Fin 128) :
    Scalar.cmpi .eq (BitVec.ofNat 32 l.val) (BitVec.ofNat 32 n) = if l.val = n then 1#1 else 0#1 := by
  have := l.isLt
  rw [scalar_cmpi_eq, cmpi_eq_ofNat (by omega) (by omega)]
  by_cases h : l.val = n
  · rw [if_pos h]; simp [h]
  · rw [if_neg h]; simp [h]

theorem between_bit (a b : ℕ) (ha : a < 128) (hb : b < 128) (l : Fin 128) :
    Scalar.andi (Scalar.cmpi .sge (BitVec.ofNat 32 l.val) (BitVec.ofNat 32 a)) (Scalar.cmpi .slt (BitVec.ofNat 32 l.val) (BitVec.ofNat 32 b))
      = if a ≤ l.val ∧ l.val < b then 1#1 else 0#1 := by
  have := l.isLt
  rw [scalar_andi_eq, scalar_cmpi_eq, scalar_cmpi_eq, cmpi_sge_ofNat (by omega) (by omega), cmpi_slt_ofNat (by omega) (by omega), andi_ofBool]
  by_cases h : a ≤ l.val ∧ l.val < b
  · rw [if_pos h]; simp [h.1, h.2]
  · rw [if_neg h, ofBool_eq_zero_iff]; simpa using h

theorem head_bit (l : Fin 128) :
    cmpi .eq laneHead (broadcast S1x128 0#32) (ValueIdx.ix2 0 l) = (if l.val < 64 then 1#1 else 0#1)
    ∧ cmpi .eq laneHead (broadcast S1x128 1#32) (ValueIdx.ix2 0 l) = (if ¬ l.val < 64 then 1#1 else 0#1) := by
  have h0 : ∀ l : Fin 128, Scalar.select
    (Scalar.andi
      (Scalar.cmpi .ne (Scalar.subi (Scalar.extui (Scalar.cmpi .sgt (BitVec.ofNat 32 l.val) 0#32)) (Scalar.extui (Scalar.cmpi .slt (BitVec.ofNat 32 l.val) 0#32)))
        (Scalar.subi (Scalar.extui (Scalar.cmpi .sgt 64#32 0#32)) (Scalar.extui (Scalar.cmpi .slt 64#32 0#32))))
      (Scalar.cmpi .ne (Scalar.remsi (BitVec.ofNat 32 l.val) 64#32) 0#32))
    (Scalar.subi (Scalar.divsi (BitVec.ofNat 32 l.val) 64#32) 1#32)
    (Scalar.divsi (BitVec.ofNat 32 l.val) 64#32) = (if l.val < 64 then 0#32 else 1#32) := by decide +kernel
  have h := fun (l : Fin 128) (w : BitVec 32) => congrArg (fun z => Scalar.cmpi .eq z w) (h0 l)
  have h' : ∀ w, cmpi .eq laneHead (broadcast S1x128 w) (ValueIdx.ix2 0 l) = Scalar.cmpi .eq (if l.val < 64 then 0#32 else 1#32) w := fun w => by
    rw [← h l w, ← lane_at l]
    rfl
  rw [h', h']
  by_cases hl : l.val < 64
  · rw [if_pos hl, if_pos hl, if_neg (not_not_intro hl)]; exact ⟨by decide, by decide⟩
  · rw [if_neg hl, if_neg hl, if_pos hl]; exact ⟨by decide, by decide⟩

theorem keep0_at (X : FVec Ideal S384x128 .bf16) (x : Fin 384) (l : Fin 128) :
    keepHead 0#32 X (ValueIdx.ix2 x l) = if l.val < 64 then X (ValueIdx.ix2 x l) else (0 : EReal) := by
  rw [← Ideal.ofBits_zero_bf16]
  exact select_of _ _ ((spread_at _ x l).trans (head_bit l).1) _ _

theorem keep1_at (X : FVec Ideal S384x128 .bf16) (x : Fin 384) (l : Fin 128) :
    keepHead 1#32 X (ValueIdx.ix2 x l) = if ¬ l.val < 64 then X (ValueIdx.ix2 x l) else (0 : EReal) := by
  rw [← Ideal.ofBits_zero_bf16]
  exact select_of _ _ ((spread_at _ x l).trans (head_bit l).2) _ _

theorem onesIn_at (a b : ℕ) (ha : a < 128) (hb : b < 128) (X : FVec Ideal S384x128 .bf16) (x : Fin 384) (l : Fin 128) :
    onesIn (BitVec.ofNat 32 a) (BitVec.ofNat 32 b) X (ValueIdx.ix2 x l) = if a ≤ l.val ∧ l.val < b then (1 : EReal) else X (ValueIdx.ix2 x l) := by
  rw [← Ideal.ofBits_one_bf16]
  refine select_of _ _ ((spread_at _ x l).trans ?_) _ _
  rw [← between_bit a b ha hb l, ← lane_at l]
  rfl

theorem colIn_at (n : ℕ) (hn : n < 128) (p : FVec Ideal S384x1 .bf16) (X : FVec Ideal S384x128 .bf16) (x : Fin 384) (l : Fin 128) :
    colIn (BitVec.ofNat 32 n) p X (ValueIdx.ix2 x l) = if l.val = n then p (ValueIdx.ix2 x 0) else X (ValueIdx.ix2 x l) := by
  rw [← column_at p x l]
  refine select_of _ _ ((spread_at _ x l).trans ?_) _ _
  rw [← eq_bit n hn l, ← lane_at l]
  rfl

theorem col0_at (p : FVec Ideal S384x128 .bf16) (x : Fin 384) : col0 p (ValueIdx.ix2 x 0) = p (ValueIdx.ix2 x 0) :=
  slice2_axis1_apply 0 p _ x 0 0 rfl

theorem col1_at (p : FVec Ideal S384x128 .bf16) (x : Fin 384) : col1 p (ValueIdx.ix2 x 0) = p (ValueIdx.ix2 x 1) :=
  slice2_axis1_apply 1 p _ x 0 1 rfl

/-! ## The three pieces -/

theorem hi_at (X : FVec Ideal S384x128 .f32) (i : S384x128.Idx) : hi X i = X i := rfl
theorem mid_at (X : FVec Ideal S384x128 .f32) (i : S384x128.Idx) : mid X i = (X i - X i : EReal) := rfl
theorem lo_at (X : FVec Ideal S384x128 .f32) (i : S384x128.Idx) : lo X i = (X i - X i - (X i - X i) : EReal) := rfl

theorem neg_at (X : Vec Ideal S1x384x128 .f32) (x : Fin 384) (l : Fin 128) : neg X (ValueIdx.ix2 x l) = -(X (ValueIdx.ix3 0 x l) : EReal) := by
  have h : neg X (ValueIdx.ix2 x l) = (Ideal.ofBits .f32 0x00000000#32 - shapeCast S384x128 X shapeCasts_S1x384x128_S384x128 (ValueIdx.ix2 x l) : EReal) := rfl
  rw [h, Ideal.ofBits_zero_f32, zero_sub, shapeCast_1ab_ab_apply]

theorem tr_at (X : FVec Ideal S384x128 .bf16) (x : Fin 384) (l : Fin 128) : tr X (ValueIdx.ix2 l x) = X (ValueIdx.ix2 x l) :=
  transpose_ix2_apply _ _ l x

theorem row_bit (j : ℕ) (hj : j < 11) (x : Fin 384) :
    Scalar.cmpi .sge (Scalar.addi (Scalar.muli (BitVec.ofNat 32 j) 384#32) (BitVec.ofNat 32 x.val)) 112#32
      = if 112 ≤ 384 * j + x.val then 1#1 else 0#1 := by
  have hx : x.val < 384 := x.isLt
  have e1 : Scalar.addi (Scalar.muli (BitVec.ofNat 32 j) 384#32) (BitVec.ofNat 32 x.val) = BitVec.ofNat 32 (384 * j + x.val) := by
    show BitVec.ofNat 32 j * BitVec.ofNat 32 384 + BitVec.ofNat 32 x.val = _
    rw [← BitVec.ofNat_mul, ← BitVec.ofNat_add, Nat.mul_comm]
  rw [e1, scalar_cmpi_eq, cmpi_sge_ofNat (by omega) (by norm_num)]
  by_cases h : 112 ≤ 384 * j + x.val
  · rw [if_pos h]; simp [h]
  · rw [if_neg h]; simp [h]

/-- A key row's decay, the bottom for the rows put in front. -/
theorem keyRow_at (j : ℕ) (hj : j < 11) (c : Vec Ideal S1x384x128 .f32) (x : Fin 384) (l : Fin 128) :
    keyRow (BitVec.ofNat 32 j) c (ValueIdx.ix2 x l) = if 112 ≤ 384 * j + x.val then -(c (ValueIdx.ix3 0 x l) : EReal) else ⊥ := by
  rw [← mask_eq, ← neg_at]
  refine select_of _ _ ((column_at _ x l).trans ?_) _ _
  rw [← row_bit j hj x]
  have hi : iota .tc S384x1 32 [0] iota_S384x1_d0_w32 (ValueIdx.ix2 x 0) = BitVec.ofNat 32 x.val := by rw [iota_single_apply]
  rw [← hi]
  rfl

end Cert.KernelIdeal.Grad

end
-- ==== Proof.Grad.Outputs.lean ====
/- What the kernel's last payloads make of the running products: each result block at one row and one lane. -/
module

public import proofs.«01_k».proof.Proof.Grad.Lanes

@[expose] public section

set_option maxRecDepth 16384

noncomputable section

namespace Cert.KernelIdeal.Grad

open Cert.KernelIdeal Cert.KernelIdeal.Gen Cert.KernelIdeal.Model
open Idealize.ShloMosaic Idealize.ShloMosaic.TcCoe Idealize.ShloMosaic.ValueIdx Idealize.ShloMosaic.WordCmp

theorem eighth : Ideal.ofBits .f32 0x3E000000#32 = ((1 / 8 : ℝ) : EReal) := by
  simp [Ideal.ofBits, Ideal.ieee, -EReal.coe_mul]; norm_num

theorem below_bit (a b : ℕ) (ha : a < 4096) (hb : b < 4096) :
    Scalar.cmpi .slt (BitVec.ofNat 32 a) (BitVec.ofNat 32 b) = if a < b then 1#1 else 0#1 := by
  rw [scalar_cmpi_eq, cmpi_slt_ofNat (by omega) (by omega)]
  by_cases h : a < b
  · rw [if_pos h]; simp [h]
  · rw [if_neg h]; simp [h]

theorem same_bit (a b : ℕ) (ha : a < 4096) (hb : b < 4096) :
    Scalar.cmpi .eq (BitVec.ofNat 32 a) (BitVec.ofNat 32 b) = if a = b then 1#1 else 0#1 := by
  rw [scalar_cmpi_eq, cmpi_eq_ofNat (by omega) (by omega)]
  by_cases h : a = b
  · rw [if_pos h]; simp [h]
  · rw [if_neg h]; simp [h]

/-- The lower lanes from the first head's product, the upper ones from the second's. -/
theorem pay534_at (a b : FVec Ideal S384x128 .f32) (x : Fin 384) (l : Fin 128) :
    k0_pay534 a b (ValueIdx.ix2 x l) = if l.val < 64 then a (ValueIdx.ix2 x l) else b (ValueIdx.ix2 x l) := by
  refine select_of _ _ ((spread_at (cmpi .slt lane (broadcast S1x128 64#32)) x l).trans ?_) _ _
  rw [← below_bit l.val 64 (by omega) (by decide), ← lane_at l]
  rfl

theorem pay535_at (a b : FVec Ideal S384x128 .f32) (x : Fin 384) (l : Fin 128) :
    k0_pay535 a b (ValueIdx.ix2 x l) = if l.val < 64 then a (ValueIdx.ix2 x l) else b (ValueIdx.ix2 x l) := pay534_at a b x l

/-- The first other lane of each head's product on the first two lanes, zero elsewhere. -/
theorem pay1_at (a b : FVec Ideal S384x128 .f32) (x : Fin 384) (l : Fin 128) :
    k0_pay1 a b lane (ValueIdx.ix3 0 x l) = if l.val = 0 then a (ValueIdx.ix2 x 64) else if l.val = 1 then b (ValueIdx.ix2 x 0) else (0 : EReal) := by
  unfold k0_pay1
  refine (shapeCast_ab_1ab_apply _ _ _ _ _).trans ?_
  have hb : ∀ n : ℕ, n < 128 → spread (cmpi .eq lane (broadcast S1x128 (BitVec.ofNat 32 n))) (ValueIdx.ix2 x l) = if l.val = n then 1#1 else 0#1 := fun n hn => by
    rw [spread_at, ← eq_bit n hn l, ← lane_at l]
    rfl
  rw [← Ideal.ofBits_zero_f32]
  refine (select_of _ _ (hb 0 (by decide)) _ _).trans ?_
  congr 1
  · rw [column_at]
    exact slice2_axis1_apply 64 a _ x 0 64 rfl
  · refine (select_of _ _ (hb 1 (by decide)) _ _).trans ?_
    congr 1
    rw [column_at]
    exact slice2_axis1_apply 0 b _ x 0 0 rfl

/-- The transposed gradient back in rows, an eighth of it. -/
theorem pay419_at (a b : Vec Ideal S1x128x384 .f32) (x : Fin 384) (l : Fin 128) :
    k0_pay419 a b (ValueIdx.ix2 x l) = (if l.val < 64 then a (ValueIdx.ix3 0 l x) else b (ValueIdx.ix3 0 l x) : EReal) * ((1 / 8 : ℝ) : EReal) := by
  rw [← eighth]
  have h : k0_pay419 a b (ValueIdx.ix2 x l) = (transpose S384x128 [1, 0]
      (select (cmpi .slt (iota .tc S128x384 32 [0] iota_S128x384_d0_w32) (broadcast S128x384 64#32)) (k0_pay417 a) (k0_pay418 b))
      transposes_S128x384_p1_0_S384x128 (ValueIdx.ix2 x l) : EReal) * Ideal.ofBits .f32 0x3E000000#32 := rfl
  rw [h, transpose_ix2_apply]
  refine congrArg (· * Ideal.ofBits .f32 0x3E000000#32) ((select_of _ (l.val < 64) ?_ _ _).trans ?_)
  · have hi : iota .tc S128x384 32 [0] iota_S128x384_d0_w32 (ValueIdx.ix2 l x) = BitVec.ofNat 32 l.val := by rw [iota_single_apply]
    rw [← below_bit l.val 64 (by omega) (by decide), ← hi]
    rfl
  · unfold k0_pay417 k0_pay418
    rw [shapeCast_1ab_ab_apply, shapeCast_1ab_ab_apply]

/-- The fourth other row of each head's transposed gradient on the first two rows, zero elsewhere. -/
theorem pay420_at (a b : Vec Ideal S1x128x384 .f32) (u : Fin 8) (x : Fin 384) :
    k0_pay420 a b (ValueIdx.ix3 0 u x) = if u.val = 0 then a (ValueIdx.ix3 0 67 x) else if u.val = 1 then b (ValueIdx.ix3 0 3 x) else (0 : EReal) := by
  unfold k0_pay420
  refine (shapeCast_ab_1ab_apply _ _ _ _ _).trans ?_
  have hi : iota .tc S8x384 32 [0] iota_S8x384_d0_w32 (ValueIdx.ix2 u x) = BitVec.ofNat 32 u.val := by rw [iota_single_apply]
  have hb : ∀ n : ℕ, n < 128 → cmpi .eq (iota .tc S8x384 32 [0] iota_S8x384_d0_w32) (broadcast S8x384 (BitVec.ofNat 32 n)) (ValueIdx.ix2 u x)
      = if u.val = n then 1#1 else 0#1 := fun n hn => by
    rw [← same_bit u.val n (by omega) (by omega), ← hi]
    rfl
  rw [← Ideal.ofBits_zero_f32]
  refine (select_of _ _ (hb 0 (by decide)) _ _).trans ?_
  congr 1
  · rw [broadcastTo_1b_ab_apply, shapeCast_self]
    refine (slice2_axis0_apply 67 (k0_pay417 a) _ 0 x 67 rfl).trans ?_
    exact shapeCast_1ab_ab_apply _ _ _ _
  · refine (select_of _ _ (hb 1 (by decide)) _ _).trans ?_
    congr 1
    rw [broadcastTo_1b_ab_apply, shapeCast_self]
    refine (slice2_axis0_apply 3 (k0_pay418 b) _ 0 x 3 rfl).trans ?_
    exact shapeCast_1ab_ab_apply _ _ _ _

end Cert.KernelIdeal.Grad

end
-- ==== Proof.Grad.Head.lean ====
/- One head's attention gradient over the reals, as the products of the kernel's extended operands: the weight of a
   key for a query and the gradient of their score. -/
module

public import Mathlib.Data.EReal.Operations
public import Mathlib.Analysis.SpecialFunctions.Exp

@[expose] public section

noncomputable section

namespace Cert.Grad

open scoped BigOperators

/-- A finite sum of reals is the same sum over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals. -/
theorem coe_sum_mul {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- A sum with a term at the bottom is the bottom. -/
theorem sum_eq_bot {ι : Type*} (s : Finset ι) (f : ι → EReal) (i : ι) (hi : i ∈ s) (h : f i = ⊥) : ∑ i ∈ s, f i = ⊥ := by
  classical
  rw [← Finset.add_sum_erase s f hi, h, EReal.bot_add]

/-- The rows of one head's four operands: the queries and the output gradients by query, the keys and the values by key. -/
structure Head where
  qa : ℕ → Fin 128 → ℝ
  doa : ℕ → Fin 128 → ℝ
  ka : ℕ → Fin 128 → ℝ
  va : ℕ → Fin 128 → ℝ

namespace Head

variable (H : Head)

/-- The weight of key row `s` for query row `r`: none for the rows put in front and for a key after its query. -/
def p (s r : ℕ) : ℝ := if s < 112 ∨ r < s then 0 else Real.exp (∑ l, H.ka s l * H.qa r l)

/-- The gradient of the score of key row `s` and query row `r`. -/
def ds (s r : ℕ) : ℝ := H.p s r * ∑ l, H.va s l * H.doa r l

theorem p_after {s r : ℕ} (h : r < s) : H.p s r = 0 := if_pos (Or.inr h)
theorem p_front {s : ℕ} (r : ℕ) (h : s < 112) : H.p s r = 0 := if_pos (Or.inl h)
theorem ds_after {s r : ℕ} (h : r < s) : H.ds s r = 0 := by unfold ds; rw [H.p_after h, zero_mul]
theorem ds_front {s : ℕ} (r : ℕ) (h : s < 112) : H.ds s r = 0 := by unfold ds; rw [H.p_front r h, zero_mul]

/-- The values' gradient from the queries before `o`. -/
def dvTo (o s : ℕ) (l : Fin 128) : ℝ := ∑ r ∈ Finset.range o, H.p s r * H.doa r l
/-- The keys' gradient from the queries before `o`. -/
def dkTo (o s : ℕ) (l : Fin 128) : ℝ := ∑ r ∈ Finset.range o, H.ds s r * H.qa r l
/-- The queries' gradient from the keys before `n`. -/
def dqTo (n r : ℕ) (l : Fin 128) : ℝ := ∑ s ∈ Finset.range n, H.ka s l * H.ds s r

theorem dvTo_add (o w s : ℕ) (l : Fin 128) :
    H.dvTo (o + w) s l = H.dvTo o s l + ∑ y : Fin w, H.p s (o + y.val) * H.doa (o + y.val) l := by
  unfold dvTo
  rw [Finset.sum_range_add, Finset.sum_range (fun x => H.p s (o + x) * H.doa (o + x) l)]

theorem dkTo_add (o w s : ℕ) (l : Fin 128) :
    H.dkTo (o + w) s l = H.dkTo o s l + ∑ y : Fin w, H.ds s (o + y.val) * H.qa (o + y.val) l := by
  unfold dkTo
  rw [Finset.sum_range_add, Finset.sum_range (fun x => H.ds s (o + x) * H.qa (o + x) l)]

theorem dqTo_add (n w r : ℕ) (l : Fin 128) :
    H.dqTo (n + w) r l = H.dqTo n r l + ∑ x : Fin w, H.ka (n + x.val) l * H.ds (n + x.val) r := by
  unfold dqTo
  rw [Finset.sum_range_add, Finset.sum_range (fun x => H.ka (n + x) l * H.ds (n + x) r)]

theorem dvTo_before {o s : ℕ} (h : o ≤ s) (l : Fin 128) : H.dvTo o s l = 0 :=
  Finset.sum_eq_zero fun r hr => by rw [H.p_after (lt_of_lt_of_le (Finset.mem_range.mp hr) h), zero_mul]
theorem dkTo_before {o s : ℕ} (h : o ≤ s) (l : Fin 128) : H.dkTo o s l = 0 :=
  Finset.sum_eq_zero fun r hr => by rw [H.ds_after (lt_of_lt_of_le (Finset.mem_range.mp hr) h), zero_mul]

/-- A block of keys after the query adds nothing to the query's gradient. -/
theorem dqTo_after (n w : ℕ) {r : ℕ} (h : r < n) (l : Fin 128) : H.dqTo (n + w) r l = H.dqTo n r l := by
  rw [H.dqTo_add, Finset.sum_eq_zero fun x _ => by rw [H.ds_after (by omega), mul_zero], add_zero]

end Head

end Cert.Grad

end
-- ==== Proof.Grad.Augment.lean ====
/- One head's four operands from its plain rows: 64 lanes carry the row itself, and a few of the other 64 the terms that
   the product of two operands adds to the product of the rows. -/
module

public import proofs.«01_k».proof.Proof.Grad.Head

@[expose] public section

noncomputable section

namespace Cert.Grad

open scoped BigOperators

/-- The plain rows of a pair of heads and the three numbers of each row of one head: the logarithm of its weights' sum,
    the subtracted part of its scores' gradient, and its decay. -/
structure Rows where
  q : ℕ → Fin 128 → ℝ
  d : ℕ → Fin 128 → ℝ
  k : ℕ → Fin 128 → ℝ
  v : ℕ → Fin 128 → ℝ
  lse : ℕ → ℝ
  del : ℕ → ℝ
  c : ℕ → ℝ

/-- The head's own lanes are the lower 64 for the first of a pair, the upper 64 for the second. -/
def own (hd : Fin 2) (l : Fin 128) : Prop := if hd = 0 then l.val < 64 else ¬ l.val < 64
instance (hd : Fin 2) (l : Fin 128) : Decidable (own hd l) := by unfold own; infer_instance

/-- The first of the other lanes. -/
def aux (hd : Fin 2) : ℕ := if hd = 0 then 64 else 0

/-- The operands of head `hd` of a pair. -/
def mkHead (hd : Fin 2) (R : Rows) : Head where
  qa r l := if own hd l then R.q r l else if aux hd ≤ l.val ∧ l.val < aux hd + 3 then 1 else if l.val = aux hd + 3 then -R.lse r else 0
  doa r l := if own hd l then R.d r l else if l.val = aux hd then -R.del r else 0
  ka s l := if own hd l then R.k s l else if l.val = aux hd then -R.c s else if aux hd + 3 ≤ l.val ∧ l.val < aux hd + 6 then 1 else 0
  va s l := if own hd l then R.v s l else if aux hd ≤ l.val ∧ l.val < aux hd + 3 then 1 else 0

/-- Column `e` of head `hd` within a pair's 128. -/
def col (hd : Fin 2) (e : Fin 64) : Fin 128 := ⟨64 * hd.val + e.val, by omega⟩

/-- A sum over the lanes, the head's own first. -/
theorem sum_lanes (hd : Fin 2) (f : Fin 128 → ℝ) :
    ∑ l, f l = ∑ e : Fin 64, f (col hd e) + ∑ e : Fin 64, f (⟨aux hd + e.val, by unfold aux; split_ifs <;> omega⟩ : Fin 128) := by
  have h := Fin.sum_univ_add (a := 64) (b := 64) f
  by_cases h0 : hd = 0
  · subst h0
    refine h.trans (congrArg₂ (· + ·) (Finset.sum_congr rfl fun e _ => congrArg f (Fin.ext ?_)) (Finset.sum_congr rfl fun e _ => congrArg f (Fin.ext ?_)))
    · show e.val = 64 * 0 + e.val; omega
    · rfl
  · have h1 : hd = 1 := by omega
    subst h1
    refine h.trans ((add_comm _ _).trans (congrArg₂ (· + ·) (Finset.sum_congr rfl fun e _ => congrArg f (Fin.ext ?_)) (Finset.sum_congr rfl fun e _ => congrArg f (Fin.ext ?_))))
    · rfl
    · show e.val = 0 + e.val; omega

theorem own_col (hd : Fin 2) (e : Fin 64) : own hd (col hd e) := by
  unfold own col
  by_cases h0 : hd = 0
  · subst h0; rw [if_pos rfl]; show 64 * 0 + e.val < 64; omega
  · have h1 : hd = 1 := by omega
    subst h1; rw [if_neg h0]; show ¬ 64 * 1 + e.val < 64; omega

theorem not_own (hd : Fin 2) (l : Fin 128) (e : Fin 64) (h : l.val = aux hd + e.val) : ¬ own hd l := by
  unfold own
  unfold aux at h
  by_cases h0 : hd = 0
  · rw [if_pos h0] at h ⊢; omega
  · rw [if_neg h0] at h ⊢; omega

variable (hd : Fin 2) (R : Rows)

theorem qa_col (r : ℕ) (e : Fin 64) : (mkHead hd R).qa r (col hd e) = R.q r (col hd e) := if_pos (own_col hd e)
theorem doa_col (r : ℕ) (e : Fin 64) : (mkHead hd R).doa r (col hd e) = R.d r (col hd e) := if_pos (own_col hd e)
theorem ka_col (s : ℕ) (e : Fin 64) : (mkHead hd R).ka s (col hd e) = R.k s (col hd e) := if_pos (own_col hd e)
theorem va_col (s : ℕ) (e : Fin 64) : (mkHead hd R).va s (col hd e) = R.v s (col hd e) := if_pos (own_col hd e)

/-- The first other lane of the queries' operand is one. -/
theorem qa_aux (r : ℕ) (l : Fin 128) (h : l.val = aux hd) : (mkHead hd R).qa r l = 1 := by
  show ite _ _ _ = _
  rw [if_neg (not_own hd l 0 h), if_pos (by omega)]

/-- The fourth other lane of the keys' operand is one. -/
theorem ka_aux (s : ℕ) (l : Fin 128) (h : l.val = aux hd + 3) : (mkHead hd R).ka s l = 1 := by
  show ite _ _ _ = _
  rw [if_neg (not_own hd l 3 h), if_neg (by omega), if_pos (by omega)]

/-- The product of a key's and a query's operand: the score less the decay and the logarithm. -/
theorem dot_score (s r : ℕ) : ∑ l, (mkHead hd R).ka s l * (mkHead hd R).qa r l = (∑ e : Fin 64, R.k s (col hd e) * R.q r (col hd e)) - R.c s - R.lse r := by
  rw [sum_lanes hd]
  have h1 : ∀ e : Fin 64, (mkHead hd R).ka s (⟨aux hd + e.val, by unfold aux; split_ifs <;> omega⟩ : Fin 128) * (mkHead hd R).qa r ⟨aux hd + e.val, by unfold aux; split_ifs <;> omega⟩
      = (if (0 : Fin 64) = e then -R.c s else 0) + (if (3 : Fin 64) = e then -R.lse r else 0) := fun e => by
    unfold mkHead
    dsimp only
    rw [if_neg (not_own hd _ e rfl), if_neg (not_own hd _ e rfl)]
    have z0 : ((0 : Fin 64) = e) ↔ e.val = 0 := by rw [Fin.ext_iff]; exact eq_comm
    have z3 : ((3 : Fin 64) = e) ↔ e.val = 3 := by rw [Fin.ext_iff]; exact eq_comm
    simp only [z0, z3]
    split_ifs <;> first | (exfalso; omega) | ring
  rw [Finset.sum_congr rfl fun e _ => h1 e, Finset.sum_add_distrib, Finset.sum_ite_eq, Finset.sum_ite_eq, if_pos (Finset.mem_univ _),
    if_pos (Finset.mem_univ _), Finset.sum_congr rfl fun e _ => by rw [ka_col, qa_col]]
  ring

/-- The product of a value's and an output gradient's operand: the plain product less the subtracted part. -/
theorem dot_value (s r : ℕ) : ∑ l, (mkHead hd R).va s l * (mkHead hd R).doa r l = (∑ e : Fin 64, R.v s (col hd e) * R.d r (col hd e)) - R.del r := by
  rw [sum_lanes hd]
  have h1 : ∀ e : Fin 64, (mkHead hd R).va s (⟨aux hd + e.val, by unfold aux; split_ifs <;> omega⟩ : Fin 128) * (mkHead hd R).doa r ⟨aux hd + e.val, by unfold aux; split_ifs <;> omega⟩
      = if (0 : Fin 64) = e then -R.del r else 0 := fun e => by
    unfold mkHead
    dsimp only
    rw [if_neg (not_own hd _ e rfl), if_neg (not_own hd _ e rfl)]
    have z0 : ((0 : Fin 64) = e) ↔ e.val = 0 := by rw [Fin.ext_iff]; exact eq_comm
    simp only [z0]
    split_ifs <;> first | (exfalso; omega) | ring
  rw [Finset.sum_congr rfl fun e _ => h1 e, Finset.sum_ite_eq, if_pos (Finset.mem_univ _), Finset.sum_congr rfl fun e _ => by rw [va_col, doa_col]]
  ring

end Cert.Grad

end
-- ==== Proof.Grad.Steps.lean ====
/- A key block's loop over its queries, as sums of reals: after the queries before `o`, the running products are the
   sums over those queries, and their part of the transposed gradient has the key block's keys added. -/
module

public import proofs.«01_k».proof.Proof.Grad.Head
public import proofs.«01_k».proof.Proof.Grad.Payload

@[expose] public section

set_option maxRecDepth 16384

noncomputable section

namespace Cert.KernelIdeal.Grad

open Cert.KernelIdeal Cert.KernelIdeal.Gen Cert.KernelIdeal.Model Cert.Grad
open Idealize.ShloMosaic Idealize.ShloMosaic.TcCoe Idealize.ShloMosaic.ValueIdx
open scoped BigOperators

/-- What key block `j`'s operands hold: the head's rows, the bottom as the score of a row put in front. -/
structure KeyReads (H : Head) (j : ℕ) (kaug vaug : FVec Ideal S384x128 .bf16) (kaugt : FVec Ideal S128x384 .bf16) : Prop where
  va : ∀ x l, vaug (ValueIdx.ix2 x l) = ((H.va (384 * j + x.val) l : ℝ) : EReal)
  ka : ∀ x l, 112 ≤ 384 * j + x.val → kaug (ValueIdx.ix2 x l) = ((H.ka (384 * j + x.val) l : ℝ) : EReal)
  front : ∀ x r, 384 * j + x.val < 112 → ∑ l : Fin 128, kaug (ValueIdx.ix2 x l) * ((H.qa r l : ℝ) : EReal) = ⊥
  kat : ∀ l x, kaugt (ValueIdx.ix2 l x) = kaug (ValueIdx.ix2 x l)

/-- What the queries' scratch buffers hold of one head. -/
structure BufReads (H : Head) (hd : Fin 2) (B : Bufs Ideal) : Prop where
  qat : ∀ l (r : Fin 4224), B.qat (ValueIdx.ix3 hd l r) = ((H.qa r.val l : ℝ) : EReal)
  doat : ∀ l (r : Fin 4224), B.doat (ValueIdx.ix3 hd l r) = ((H.doa r.val l : ℝ) : EReal)
  qa : ∀ l (r : Fin 4224), B.qa (ValueIdx.ix3 hd r l) = ((H.qa r.val l : ℝ) : EReal)
  doa : ∀ l (r : Fin 4224), B.doa (ValueIdx.ix3 hd r l) = ((H.doa r.val l : ℝ) : EReal)

/-- A sum of products of reals, factor by factor. -/
theorem coe_dot {ι : Type} [Fintype ι] {f g : ι → EReal} {a b : ι → ℝ} (hf : ∀ i, f i = (a i : EReal)) (hg : ∀ i, g i = (b i : EReal)) :
    ∑ i, f i * g i = ((∑ i, a i * b i : ℝ) : EReal) := by
  rw [coe_sum]
  exact Finset.sum_congr rfl fun i _ => by rw [hf, hg, EReal.coe_mul]

theorem cols_at {α : Type} (w : ℕ) (x : S2x128x4224.Idx → α) (hd : Fin 2) (o : ℕ) (l : Fin 128) (y : Fin w) (r : Fin 4224)
    (hr : r.val = o + y.val) : cols w x hd o (ValueIdx.ix3 0 l y) = x (ValueIdx.ix3 hd l r) := by
  refine congrArg (fun z => x (ValueIdx.ix3 hd l z)) (Fin.ext ?_)
  show (o + y.val) % 4224 = r.val
  rw [← hr, Nat.mod_eq_of_lt r.isLt]

theorem rows_at {α : Type} (w : ℕ) (x : S2x4224x128.Idx → α) (hd : Fin 2) (o : ℕ) (l : Fin 128) (y : Fin w) (r : Fin 4224)
    (hr : r.val = o + y.val) : rows w x hd o (ValueIdx.ix3 0 y l) = x (ValueIdx.ix3 hd r l) := by
  refine congrArg (fun z => x (ValueIdx.ix3 hd z l)) (Fin.ext ?_)
  show (o + y.val) % 4224 = r.val
  rw [← hr, Nat.mod_eq_of_lt r.isLt]

section
variable {w : ℕ} (x : Vec Ideal S2x128x4224 .f32) (o : ℕ) (a b : (⟨3, ![1, 128, w]⟩ : Shape).Idx → Ideal .f32)

theorem put2_first (l : Fin 128) (r : Fin 4224) (y : Fin w) (hr : r.val = o + y.val) :
    put2 w x o a b (ValueIdx.ix3 0 l r) = a (ValueIdx.ix3 0 l y) := by
  unfold put2 VecWindow.put
  rw [dif_neg (by intro h; have h0 : 1 ≤ 0 := (h 0).1; omega), dif_pos (by
    intro d
    have hy := y.isLt
    fin_cases d
    · exact ⟨Nat.le_refl _, Nat.one_pos⟩
    · exact ⟨Nat.zero_le _, by show l.val < 0 + 128; omega⟩
    · exact ⟨by show o ≤ r.val; omega, by show r.val < o + w; omega⟩)]
  refine congrArg a (funext fun d => Fin.ext ?_)
  fin_cases d
  · rfl
  · show l.val - 0 = l.val; omega
  · show r.val - o = y.val; omega

theorem put2_second (l : Fin 128) (r : Fin 4224) (y : Fin w) (hr : r.val = o + y.val) :
    put2 w x o a b (ValueIdx.ix3 1 l r) = b (ValueIdx.ix3 0 l y) := by
  unfold put2 VecWindow.put
  rw [dif_pos (by
    intro d
    have hy := y.isLt
    fin_cases d
    · exact ⟨Nat.le_refl _, by show 1 < 1 + 1; omega⟩
    · exact ⟨Nat.zero_le _, by show l.val < 0 + 128; omega⟩
    · exact ⟨by show o ≤ r.val; omega, by show r.val < o + w; omega⟩)]
  refine congrArg b (funext fun d => Fin.ext ?_)
  fin_cases d
  · rfl
  · show l.val - 0 = l.val; omega
  · show r.val - o = y.val; omega

theorem put2_off (hd : Fin 2) (l : Fin 128) (r : Fin 4224) (hr : r.val < o ∨ o + w ≤ r.val) :
    put2 w x o a b (ValueIdx.ix3 hd l r) = x (ValueIdx.ix3 hd l r) := by
  unfold put2 VecWindow.put
  rw [dif_neg, dif_neg]
  · intro h
    have h1 : o ≤ r.val := (h 2).1
    have h2 : r.val < o + w := (h 2).2
    omega
  · intro h
    have h1 : o ≤ r.val := (h 2).1
    have h2 : r.val < o + w := (h 2).2
    omega
end

variable {H : Head} {j : ℕ} {ka va : FVec Ideal S384x128 .bf16} {kat : FVec Ideal S128x384 .bf16}

/-- A key row's weight for a query that it does not come after, and the gradient of their score. -/
theorem weight (K : KeyReads H j ka va kat) (x : Fin 384) (r : ℕ) (h : 384 * j + x.val ≤ r) :
    Ideal.exp (∑ l : Fin 128, ka (ValueIdx.ix2 x l) * ((H.qa r l : ℝ) : EReal)) = ((H.p (384 * j + x.val) r : ℝ) : EReal) := by
  by_cases hf : 384 * j + x.val < 112
  · rw [K.front x r hf, H.p_front r hf]; rfl
  · rw [coe_dot (fun l => K.ka x l (by omega)) fun _ => rfl, Ideal.exp_coe]
    unfold Head.p
    rw [if_neg (by omega)]

/-- A key block's part of a query's gradient. -/
theorem part (K : KeyReads H j ka va kat) (l : Fin 128) (r : ℕ) :
    ∑ x : Fin 384, kat (ValueIdx.ix2 l x) * ((H.ds (384 * j + x.val) r : ℝ) : EReal)
      = ((∑ x : Fin 384, H.ka (384 * j + x.val) l * H.ds (384 * j + x.val) r : ℝ) : EReal) := by
  rw [coe_sum]
  refine Finset.sum_congr rfl fun x _ => ?_
  rw [K.kat l x]
  by_cases hf : 384 * j + x.val < 112
  · rw [H.ds_front r hf, mul_zero, EReal.coe_zero, mul_zero]
  · rw [K.ka x l (by omega), EReal.coe_mul]

/-! ## 768 queries after the key block -/

section
variable {qat doat : Vec Ideal S1x128x768 .bf16} {qa doa : Vec Ideal S1x768x128 .bf16} {o : ℕ}

theorem weight768 (K : KeyReads H j ka va kat) (hq : ∀ l y, qat (ValueIdx.ix3 0 l y) = ((H.qa (o + y.val) l : ℝ) : EReal))
    (ho : 384 * j + 384 ≤ o) (x : Fin 384) (y : Fin 768) :
    k0_pay395 ka qat (ValueIdx.ix2 x y) = ((H.p (384 * j + x.val) (o + y.val) : ℝ) : EReal) := by
  rw [pay395_at, ← weight K x _ (by have := x.isLt; omega)]
  exact congrArg Ideal.exp (Finset.sum_congr rfl fun l _ => by rw [hq])

theorem score768 (K : KeyReads H j ka va kat) (hq : ∀ l y, qat (ValueIdx.ix3 0 l y) = ((H.qa (o + y.val) l : ℝ) : EReal))
    (hd : ∀ l y, doat (ValueIdx.ix3 0 l y) = ((H.doa (o + y.val) l : ℝ) : EReal))
    (ho : 384 * j + 384 ≤ o) (x : Fin 384) (y : Fin 768) :
    k0_pay396 ka va qat doat (ValueIdx.ix2 x y) = ((H.ds (384 * j + x.val) (o + y.val) : ℝ) : EReal) := by
  rw [pay396_at, weight768 K hq ho, coe_dot (fun l => K.va x l) fun l => hd l y, ← EReal.coe_mul]
  rfl

theorem values768 (K : KeyReads H j ka va kat) (hq : ∀ l y, qat (ValueIdx.ix3 0 l y) = ((H.qa (o + y.val) l : ℝ) : EReal))
    (hd : ∀ l y, doa (ValueIdx.ix3 0 y l) = ((H.doa (o + y.val) l : ℝ) : EReal)) (ho : 384 * j + 384 ≤ o)
    (acc : FVec Ideal S384x128 .f32) (x : Fin 384) (l : Fin 128) (ha : acc (ValueIdx.ix2 x l) = ((H.dvTo o (384 * j + x.val) l : ℝ) : EReal)) :
    k0_pay397 ka acc qat doa (ValueIdx.ix2 x l) = ((H.dvTo (o + 768) (384 * j + x.val) l : ℝ) : EReal) := by
  rw [pay397_at, ha, coe_dot (fun y => weight768 K hq ho x y) fun y => hd l y, ← EReal.coe_add, H.dvTo_add]

theorem keys768 (K : KeyReads H j ka va kat) (hq : ∀ l y, qat (ValueIdx.ix3 0 l y) = ((H.qa (o + y.val) l : ℝ) : EReal))
    (hd : ∀ l y, doat (ValueIdx.ix3 0 l y) = ((H.doa (o + y.val) l : ℝ) : EReal))
    (hr : ∀ l y, qa (ValueIdx.ix3 0 y l) = ((H.qa (o + y.val) l : ℝ) : EReal)) (ho : 384 * j + 384 ≤ o)
    (acc : FVec Ideal S384x128 .f32) (x : Fin 384) (l : Fin 128) (ha : acc (ValueIdx.ix2 x l) = ((H.dkTo o (384 * j + x.val) l : ℝ) : EReal)) :
    k0_pay398 ka va acc qat doat qa (ValueIdx.ix2 x l) = ((H.dkTo (o + 768) (384 * j + x.val) l : ℝ) : EReal) := by
  rw [pay398_at, ha, coe_dot (fun y => score768 K hq hd ho x y) fun y => hr l y, ← EReal.coe_add, H.dkTo_add]

theorem queries768 (K : KeyReads H j ka va kat) (hq : ∀ l y, qat (ValueIdx.ix3 0 l y) = ((H.qa (o + y.val) l : ℝ) : EReal))
    (hd : ∀ l y, doat (ValueIdx.ix3 0 l y) = ((H.doa (o + y.val) l : ℝ) : EReal)) (ho : 384 * j + 384 ≤ o)
    (d : Vec Ideal S1x128x768 .f32) (l : Fin 128) (y : Fin 768) (ha : d (ValueIdx.ix3 0 l y) = ((H.dqTo (384 * j) (o + y.val) l : ℝ) : EReal)) :
    k0_pay399 ka kat va qat doat d (ValueIdx.ix3 0 l y) = ((H.dqTo (384 * j + 384) (o + y.val) l : ℝ) : EReal) := by
  rw [pay399_at, ha, Finset.sum_congr rfl fun x _ => congrArg _ (score768 K hq hd ho x y), part K, ← EReal.coe_add, H.dqTo_add]

end

/-! ## 384 queries after the key block -/

section
variable {qat doat : Vec Ideal S1x128x384 .bf16} {qa doa : Vec Ideal S1x384x128 .bf16} {o : ℕ}

theorem weight384 (K : KeyReads H j ka va kat) (hq : ∀ l y, qat (ValueIdx.ix3 0 l y) = ((H.qa (o + y.val) l : ℝ) : EReal))
    (ho : 384 * j + 384 ≤ o) (x : Fin 384) (y : Fin 384) :
    k0_pay405 ka qat (ValueIdx.ix2 x y) = ((H.p (384 * j + x.val) (o + y.val) : ℝ) : EReal) := by
  rw [pay405_at, ← weight K x _ (by have := x.isLt; omega)]
  exact congrArg Ideal.exp (Finset.sum_congr rfl fun l _ => by rw [hq])

theorem score384 (K : KeyReads H j ka va kat) (hq : ∀ l y, qat (ValueIdx.ix3 0 l y) = ((H.qa (o + y.val) l : ℝ) : EReal))
    (hd : ∀ l y, doat (ValueIdx.ix3 0 l y) = ((H.doa (o + y.val) l : ℝ) : EReal))
    (ho : 384 * j + 384 ≤ o) (x : Fin 384) (y : Fin 384) :
    k0_pay406 ka va qat doat (ValueIdx.ix2 x y) = ((H.ds (384 * j + x.val) (o + y.val) : ℝ) : EReal) := by
  rw [pay406_at, weight384 K hq ho, coe_dot (fun l => K.va x l) fun l => hd l y, ← EReal.coe_mul]
  rfl

theorem values384 (K : KeyReads H j ka va kat) (hq : ∀ l y, qat (ValueIdx.ix3 0 l y) = ((H.qa (o + y.val) l : ℝ) : EReal))
    (hd : ∀ l y, doa (ValueIdx.ix3 0 y l) = ((H.doa (o + y.val) l : ℝ) : EReal)) (ho : 384 * j + 384 ≤ o)
    (acc : FVec Ideal S384x128 .f32) (x : Fin 384) (l : Fin 128) (ha : acc (ValueIdx.ix2 x l) = ((H.dvTo o (384 * j + x.val) l : ℝ) : EReal)) :
    k0_pay407 ka acc qat doa (ValueIdx.ix2 x l) = ((H.dvTo (o + 384) (384 * j + x.val) l : ℝ) : EReal) := by
  rw [pay407_at, ha, coe_dot (fun y => weight384 K hq ho x y) fun y => hd l y, ← EReal.coe_add, H.dvTo_add]

theorem keys384 (K : KeyReads H j ka va kat) (hq : ∀ l y, qat (ValueIdx.ix3 0 l y) = ((H.qa (o + y.val) l : ℝ) : EReal))
    (hd : ∀ l y, doat (ValueIdx.ix3 0 l y) = ((H.doa (o + y.val) l : ℝ) : EReal))
    (hr : ∀ l y, qa (ValueIdx.ix3 0 y l) = ((H.qa (o + y.val) l : ℝ) : EReal)) (ho : 384 * j + 384 ≤ o)
    (acc : FVec Ideal S384x128 .f32) (x : Fin 384) (l : Fin 128) (ha : acc (ValueIdx.ix2 x l) = ((H.dkTo o (384 * j + x.val) l : ℝ) : EReal)) :
    k0_pay408 ka va acc qat doat qa (ValueIdx.ix2 x l) = ((H.dkTo (o + 384) (384 * j + x.val) l : ℝ) : EReal) := by
  rw [pay408_at, ha, coe_dot (fun y => score384 K hq hd ho x y) fun y => hr l y, ← EReal.coe_add, H.dkTo_add]

theorem queries384 (K : KeyReads H j ka va kat) (hq : ∀ l y, qat (ValueIdx.ix3 0 l y) = ((H.qa (o + y.val) l : ℝ) : EReal))
    (hd : ∀ l y, doat (ValueIdx.ix3 0 l y) = ((H.doa (o + y.val) l : ℝ) : EReal)) (ho : 384 * j + 384 ≤ o)
    (d : Vec Ideal S1x128x384 .f32) (l : Fin 128) (y : Fin 384) (ha : d (ValueIdx.ix3 0 l y) = ((H.dqTo (384 * j) (o + y.val) l : ℝ) : EReal)) :
    k0_pay409 ka kat va qat doat d (ValueIdx.ix3 0 l y) = ((H.dqTo (384 * j + 384) (o + y.val) l : ℝ) : EReal) := by
  rw [pay409_at, ha, Finset.sum_congr rfl fun x _ => congrArg _ (score384 K hq hd ho x y), part K, ← EReal.coe_add, H.dqTo_add]

end

/-! ## The key block's own queries -/

section
variable {qat doat : Vec Ideal S1x128x384 .bf16} {qa doa : Vec Ideal S1x384x128 .bf16}

theorem weightD (K : KeyReads H j ka va kat) (hj : j < 11) (hq : ∀ l y, qat (ValueIdx.ix3 0 l y) = ((H.qa (384 * j + y.val) l : ℝ) : EReal))
    (x y : Fin 384) : k0_pay502 (BitVec.ofNat 32 j) ka qat (ValueIdx.ix2 x y) = ((H.p (384 * j + x.val) (384 * j + y.val) : ℝ) : EReal) := by
  rw [pay502_at j hj]
  by_cases h : x.val ≤ y.val ∧ 112 ≤ 384 * j + x.val
  · rw [if_pos h, ← weight K x _ (by omega)]
    exact congrArg Ideal.exp (Finset.sum_congr rfl fun l _ => by rw [hq])
  · rw [if_neg h]
    unfold Head.p
    rw [if_pos (by omega)]; rfl

theorem scoreD (K : KeyReads H j ka va kat) (hj : j < 11) (hq : ∀ l y, qat (ValueIdx.ix3 0 l y) = ((H.qa (384 * j + y.val) l : ℝ) : EReal))
    (hd : ∀ l y, doat (ValueIdx.ix3 0 l y) = ((H.doa (384 * j + y.val) l : ℝ) : EReal)) (x y : Fin 384) :
    k0_pay503 (BitVec.ofNat 32 j) ka va qat doat (ValueIdx.ix2 x y) = ((H.ds (384 * j + x.val) (384 * j + y.val) : ℝ) : EReal) := by
  rw [pay503_at, weightD K hj hq, coe_dot (fun l => K.va x l) fun l => hd l y, ← EReal.coe_mul]
  rfl

theorem valuesD (K : KeyReads H j ka va kat) (hj : j < 11) (hq : ∀ l y, qat (ValueIdx.ix3 0 l y) = ((H.qa (384 * j + y.val) l : ℝ) : EReal))
    (hd : ∀ l y, doa (ValueIdx.ix3 0 y l) = ((H.doa (384 * j + y.val) l : ℝ) : EReal)) (x : Fin 384) (l : Fin 128) :
    k0_pay505 k0_pay501 (k0_pay504 (BitVec.ofNat 32 j) ka qat) doa (ValueIdx.ix2 x l)
      = ((H.dvTo (384 * j + 384) (384 * j + x.val) l : ℝ) : EReal) := by
  rw [pay505_at, coe_dot (fun y => (pay504_at _ _ _ _).trans (weightD K hj hq x y)) fun y => hd l y, H.dvTo_add,
    H.dvTo_before (by omega), zero_add]

theorem keysD (K : KeyReads H j ka va kat) (hj : j < 11) (hq : ∀ l y, qat (ValueIdx.ix3 0 l y) = ((H.qa (384 * j + y.val) l : ℝ) : EReal))
    (hd : ∀ l y, doat (ValueIdx.ix3 0 l y) = ((H.doa (384 * j + y.val) l : ℝ) : EReal))
    (hr : ∀ l y, qa (ValueIdx.ix3 0 y l) = ((H.qa (384 * j + y.val) l : ℝ) : EReal)) (x : Fin 384) (l : Fin 128) :
    k0_pay506 k0_pay501 (k0_pay503 (BitVec.ofNat 32 j) ka va qat doat) qa (ValueIdx.ix2 x l)
      = ((H.dkTo (384 * j + 384) (384 * j + x.val) l : ℝ) : EReal) := by
  rw [pay506_at, coe_dot (fun y => scoreD K hj hq hd x y) fun y => hr l y, H.dkTo_add,
    H.dkTo_before (by omega), zero_add]

theorem queriesD (K : KeyReads H j ka va kat) (hj : j < 11) (hq : ∀ l y, qat (ValueIdx.ix3 0 l y) = ((H.qa (384 * j + y.val) l : ℝ) : EReal))
    (hd : ∀ l y, doat (ValueIdx.ix3 0 l y) = ((H.doa (384 * j + y.val) l : ℝ) : EReal))
    (d : Vec Ideal S1x128x384 .f32) (l : Fin 128) (y : Fin 384) (ha : d (ValueIdx.ix3 0 l y) = ((H.dqTo (384 * j) (384 * j + y.val) l : ℝ) : EReal)) :
    k0_pay507 kat (k0_pay503 (BitVec.ofNat 32 j) ka va qat doat) d (ValueIdx.ix3 0 l y)
      = ((H.dqTo (384 * j + 384) (384 * j + y.val) l : ℝ) : EReal) := by
  rw [pay507_at, ha, Finset.sum_congr rfl fun x _ => congrArg _ (scoreD K hj hq hd x y), part K, ← EReal.coe_add, H.dqTo_add]

end

/-! ## The whole key block -/

/-- What the state holds once the queries before `o` are done. -/
structure Upto (H0 H1 : Head) (j o : ℕ) (s : St Ideal) : Prop where
  dk0 : ∀ x l, s.dk0 (ValueIdx.ix2 x l) = ((H0.dkTo o (384 * j + x.val) l : ℝ) : EReal)
  dv0 : ∀ x l, s.dv0 (ValueIdx.ix2 x l) = ((H0.dvTo o (384 * j + x.val) l : ℝ) : EReal)
  dk1 : ∀ x l, s.dk1 (ValueIdx.ix2 x l) = ((H1.dkTo o (384 * j + x.val) l : ℝ) : EReal)
  dv1 : ∀ x l, s.dv1 (ValueIdx.ix2 x l) = ((H1.dvTo o (384 * j + x.val) l : ℝ) : EReal)
  dq0 : ∀ l (r : Fin 4224), s.dqt (ValueIdx.ix3 0 l r) = ((H0.dqTo (if r.val < o then 384 * j + 384 else 384 * j) r.val l : ℝ) : EReal)
  dq1 : ∀ l (r : Fin 4224), s.dqt (ValueIdx.ix3 1 l r) = ((H1.dqTo (if r.val < o then 384 * j + 384 else 384 * j) r.val l : ℝ) : EReal)

variable {H0 H1 : Head} {K : Keys Ideal} {B : Bufs Ideal}

theorem upto_step768 (K0 : KeyReads H0 j K.ka0 K.va0 K.kat0) (K1 : KeyReads H1 j K.ka1 K.va1 K.kat1) (B0 : BufReads H0 0 B) (B1 : BufReads H1 1 B)
    {o : ℕ} (ho : 384 * j + 384 ≤ o) (hw : o + 768 ≤ 4224) {s : St Ideal} (h : Upto H0 H1 j o s) : Upto H0 H1 j (o + 768) (step768 K B o s) := by
  have rr : ∀ y : Fin 768, o + y.val < 4224 := fun y => by omega
  have q0 : ∀ l (y : Fin 768), cols 768 B.qat 0 o (ValueIdx.ix3 0 l y) = ((H0.qa (o + y.val) l : ℝ) : EReal) :=
    fun l y => (cols_at 768 B.qat 0 o l y ⟨_, rr y⟩ rfl).trans (B0.qat l ⟨_, rr y⟩)
  have q1 : ∀ l (y : Fin 768), cols 768 B.qat 1 o (ValueIdx.ix3 0 l y) = ((H1.qa (o + y.val) l : ℝ) : EReal) :=
    fun l y => (cols_at 768 B.qat 1 o l y ⟨_, rr y⟩ rfl).trans (B1.qat l ⟨_, rr y⟩)
  have d0 : ∀ l (y : Fin 768), cols 768 B.doat 0 o (ValueIdx.ix3 0 l y) = ((H0.doa (o + y.val) l : ℝ) : EReal) :=
    fun l y => (cols_at 768 B.doat 0 o l y ⟨_, rr y⟩ rfl).trans (B0.doat l ⟨_, rr y⟩)
  have d1 : ∀ l (y : Fin 768), cols 768 B.doat 1 o (ValueIdx.ix3 0 l y) = ((H1.doa (o + y.val) l : ℝ) : EReal) :=
    fun l y => (cols_at 768 B.doat 1 o l y ⟨_, rr y⟩ rfl).trans (B1.doat l ⟨_, rr y⟩)
  have r0 : ∀ l (y : Fin 768), rows 768 B.qa 0 o (ValueIdx.ix3 0 y l) = ((H0.qa (o + y.val) l : ℝ) : EReal) :=
    fun l y => (rows_at 768 B.qa 0 o l y ⟨_, rr y⟩ rfl).trans (B0.qa l ⟨_, rr y⟩)
  have r1 : ∀ l (y : Fin 768), rows 768 B.qa 1 o (ValueIdx.ix3 0 y l) = ((H1.qa (o + y.val) l : ℝ) : EReal) :=
    fun l y => (rows_at 768 B.qa 1 o l y ⟨_, rr y⟩ rfl).trans (B1.qa l ⟨_, rr y⟩)
  have e0 : ∀ l (y : Fin 768), rows 768 B.doa 0 o (ValueIdx.ix3 0 y l) = ((H0.doa (o + y.val) l : ℝ) : EReal) :=
    fun l y => (rows_at 768 B.doa 0 o l y ⟨_, rr y⟩ rfl).trans (B0.doa l ⟨_, rr y⟩)
  have e1 : ∀ l (y : Fin 768), rows 768 B.doa 1 o (ValueIdx.ix3 0 y l) = ((H1.doa (o + y.val) l : ℝ) : EReal) :=
    fun l y => (rows_at 768 B.doa 1 o l y ⟨_, rr y⟩ rfl).trans (B1.doa l ⟨_, rr y⟩)
  have t0 : ∀ l (y : Fin 768), cols 768 s.dqt 0 o (ValueIdx.ix3 0 l y) = ((H0.dqTo (384 * j) (o + y.val) l : ℝ) : EReal) := fun l y => by
    rw [cols_at 768 s.dqt 0 o l y ⟨_, rr y⟩ rfl, h.dq0, if_neg (by show ¬ o + y.val < o; omega)]
  have t1 : ∀ l (y : Fin 768), cols 768 s.dqt 1 o (ValueIdx.ix3 0 l y) = ((H1.dqTo (384 * j) (o + y.val) l : ℝ) : EReal) := fun l y => by
    rw [cols_at 768 s.dqt 1 o l y ⟨_, rr y⟩ rfl, h.dq1, if_neg (by show ¬ o + y.val < o; omega)]
  refine ⟨fun x l => keys768 K0 q0 d0 r0 ho _ x l (h.dk0 x l), fun x l => values768 K0 q0 e0 ho _ x l (h.dv0 x l),
    fun x l => keys768 K1 q1 d1 r1 ho _ x l (h.dk1 x l), fun x l => values768 K1 q1 e1 ho _ x l (h.dv1 x l), fun l r => ?_, fun l r => ?_⟩
  · by_cases hr : r.val < o ∨ o + 768 ≤ r.val
    · unfold step768
      dsimp only
      rw [put2_off _ _ _ _ _ _ _ hr, h.dq0]
      exact congrArg (fun n => ((H0.dqTo n r.val l : ℝ) : EReal)) (by split_ifs <;> omega)
    · unfold step768
      dsimp only
      rw [put2_first _ _ _ _ l r (⟨r.val - o, by omega⟩ : Fin 768) (by show r.val = o + (r.val - o); omega)]
      refine (queries768 K0 q0 d0 ho _ l _ (t0 l _)).trans ?_
      rw [if_pos (by omega)]
      exact congrArg (fun n => ((H0.dqTo (384 * j + 384) n l : ℝ) : EReal)) (by show o + (r.val - o) = r.val; omega)
  · by_cases hr : r.val < o ∨ o + 768 ≤ r.val
    · unfold step768
      dsimp only
      rw [put2_off _ _ _ _ _ _ _ hr, h.dq1]
      exact congrArg (fun n => ((H1.dqTo n r.val l : ℝ) : EReal)) (by split_ifs <;> omega)
    · unfold step768
      dsimp only
      rw [put2_second _ _ _ _ l r (⟨r.val - o, by omega⟩ : Fin 768) (by show r.val = o + (r.val - o); omega)]
      refine (queries768 K1 q1 d1 ho _ l _ (t1 l _)).trans ?_
      rw [if_pos (by omega)]
      exact congrArg (fun n => ((H1.dqTo (384 * j + 384) n l : ℝ) : EReal)) (by show o + (r.val - o) = r.val; omega)

theorem upto_step384 (K0 : KeyReads H0 j K.ka0 K.va0 K.kat0) (K1 : KeyReads H1 j K.ka1 K.va1 K.kat1) (B0 : BufReads H0 0 B) (B1 : BufReads H1 1 B)
    {o : ℕ} (ho : 384 * j + 384 ≤ o) (hw : o + 384 ≤ 4224) {s : St Ideal} (h : Upto H0 H1 j o s) : Upto H0 H1 j (o + 384) (step384 K B o s) := by
  have rr : ∀ y : Fin 384, o + y.val < 4224 := fun y => by omega
  have q0 : ∀ l (y : Fin 384), cols 384 B.qat 0 o (ValueIdx.ix3 0 l y) = ((H0.qa (o + y.val) l : ℝ) : EReal) :=
    fun l y => (cols_at 384 B.qat 0 o l y ⟨_, rr y⟩ rfl).trans (B0.qat l ⟨_, rr y⟩)
  have q1 : ∀ l (y : Fin 384), cols 384 B.qat 1 o (ValueIdx.ix3 0 l y) = ((H1.qa (o + y.val) l : ℝ) : EReal) :=
    fun l y => (cols_at 384 B.qat 1 o l y ⟨_, rr y⟩ rfl).trans (B1.qat l ⟨_, rr y⟩)
  have d0 : ∀ l (y : Fin 384), cols 384 B.doat 0 o (ValueIdx.ix3 0 l y) = ((H0.doa (o + y.val) l : ℝ) : EReal) :=
    fun l y => (cols_at 384 B.doat 0 o l y ⟨_, rr y⟩ rfl).trans (B0.doat l ⟨_, rr y⟩)
  have d1 : ∀ l (y : Fin 384), cols 384 B.doat 1 o (ValueIdx.ix3 0 l y) = ((H1.doa (o + y.val) l : ℝ) : EReal) :=
    fun l y => (cols_at 384 B.doat 1 o l y ⟨_, rr y⟩ rfl).trans (B1.doat l ⟨_, rr y⟩)
  have r0 : ∀ l (y : Fin 384), rows 384 B.qa 0 o (ValueIdx.ix3 0 y l) = ((H0.qa (o + y.val) l : ℝ) : EReal) :=
    fun l y => (rows_at 384 B.qa 0 o l y ⟨_, rr y⟩ rfl).trans (B0.qa l ⟨_, rr y⟩)
  have r1 : ∀ l (y : Fin 384), rows 384 B.qa 1 o (ValueIdx.ix3 0 y l) = ((H1.qa (o + y.val) l : ℝ) : EReal) :=
    fun l y => (rows_at 384 B.qa 1 o l y ⟨_, rr y⟩ rfl).trans (B1.qa l ⟨_, rr y⟩)
  have e0 : ∀ l (y : Fin 384), rows 384 B.doa 0 o (ValueIdx.ix3 0 y l) = ((H0.doa (o + y.val) l : ℝ) : EReal) :=
    fun l y => (rows_at 384 B.doa 0 o l y ⟨_, rr y⟩ rfl).trans (B0.doa l ⟨_, rr y⟩)
  have e1 : ∀ l (y : Fin 384), rows 384 B.doa 1 o (ValueIdx.ix3 0 y l) = ((H1.doa (o + y.val) l : ℝ) : EReal) :=
    fun l y => (rows_at 384 B.doa 1 o l y ⟨_, rr y⟩ rfl).trans (B1.doa l ⟨_, rr y⟩)
  have t0 : ∀ l (y : Fin 384), cols 384 s.dqt 0 o (ValueIdx.ix3 0 l y) = ((H0.dqTo (384 * j) (o + y.val) l : ℝ) : EReal) := fun l y => by
    rw [cols_at 384 s.dqt 0 o l y ⟨_, rr y⟩ rfl, h.dq0, if_neg (by show ¬ o + y.val < o; omega)]
  have t1 : ∀ l (y : Fin 384), cols 384 s.dqt 1 o (ValueIdx.ix3 0 l y) = ((H1.dqTo (384 * j) (o + y.val) l : ℝ) : EReal) := fun l y => by
    rw [cols_at 384 s.dqt 1 o l y ⟨_, rr y⟩ rfl, h.dq1, if_neg (by show ¬ o + y.val < o; omega)]
  refine ⟨fun x l => keys384 K0 q0 d0 r0 ho _ x l (h.dk0 x l), fun x l => values384 K0 q0 e0 ho _ x l (h.dv0 x l),
    fun x l => keys384 K1 q1 d1 r1 ho _ x l (h.dk1 x l), fun x l => values384 K1 q1 e1 ho _ x l (h.dv1 x l), fun l r => ?_, fun l r => ?_⟩
  · by_cases hr : r.val < o ∨ o + 384 ≤ r.val
    · unfold step384
      dsimp only
      rw [put2_off _ _ _ _ _ _ _ hr, h.dq0]
      exact congrArg (fun n => ((H0.dqTo n r.val l : ℝ) : EReal)) (by split_ifs <;> omega)
    · unfold step384
      dsimp only
      rw [put2_first _ _ _ _ l r (⟨r.val - o, by omega⟩ : Fin 384) (by show r.val = o + (r.val - o); omega)]
      refine (queries384 K0 q0 d0 ho _ l _ (t0 l _)).trans ?_
      rw [if_pos (by omega)]
      exact congrArg (fun n => ((H0.dqTo (384 * j + 384) n l : ℝ) : EReal)) (by show o + (r.val - o) = r.val; omega)
  · by_cases hr : r.val < o ∨ o + 384 ≤ r.val
    · unfold step384
      dsimp only
      rw [put2_off _ _ _ _ _ _ _ hr, h.dq1]
      exact congrArg (fun n => ((H1.dqTo n r.val l : ℝ) : EReal)) (by split_ifs <;> omega)
    · unfold step384
      dsimp only
      rw [put2_second _ _ _ _ l r (⟨r.val - o, by omega⟩ : Fin 384) (by show r.val = o + (r.val - o); omega)]
      refine (queries384 K1 q1 d1 ho _ l _ (t1 l _)).trans ?_
      rw [if_pos (by omega)]
      exact congrArg (fun n => ((H1.dqTo (384 * j + 384) n l : ℝ) : EReal)) (by show o + (r.val - o) = r.val; omega)

theorem upto_diag (K0 : KeyReads H0 j K.ka0 K.va0 K.kat0) (K1 : KeyReads H1 j K.ka1 K.va1 K.kat1) (B0 : BufReads H0 0 B) (B1 : BufReads H1 1 B)
    (hj : j < 11) {d : Vec Ideal S2x128x4224 .f32}
    (h0 : ∀ l (r : Fin 4224), d (ValueIdx.ix3 0 l r) = ((H0.dqTo (384 * j) r.val l : ℝ) : EReal))
    (h1 : ∀ l (r : Fin 4224), d (ValueIdx.ix3 1 l r) = ((H1.dqTo (384 * j) r.val l : ℝ) : EReal)) : Upto H0 H1 j (384 * j + 384) (stepDiag (BitVec.ofNat 32 j) K B (384 * j) d) := by
  have rr : ∀ y : Fin 384, 384 * j + y.val < 4224 := fun y => by omega
  have q0 : ∀ l (y : Fin 384), cols 384 B.qat 0 (384 * j) (ValueIdx.ix3 0 l y) = ((H0.qa (384 * j + y.val) l : ℝ) : EReal) :=
    fun l y => (cols_at 384 B.qat 0 (384 * j) l y ⟨_, rr y⟩ rfl).trans (B0.qat l ⟨_, rr y⟩)
  have q1 : ∀ l (y : Fin 384), cols 384 B.qat 1 (384 * j) (ValueIdx.ix3 0 l y) = ((H1.qa (384 * j + y.val) l : ℝ) : EReal) :=
    fun l y => (cols_at 384 B.qat 1 (384 * j) l y ⟨_, rr y⟩ rfl).trans (B1.qat l ⟨_, rr y⟩)
  have d0 : ∀ l (y : Fin 384), cols 384 B.doat 0 (384 * j) (ValueIdx.ix3 0 l y) = ((H0.doa (384 * j + y.val) l : ℝ) : EReal) :=
    fun l y => (cols_at 384 B.doat 0 (384 * j) l y ⟨_, rr y⟩ rfl).trans (B0.doat l ⟨_, rr y⟩)
  have d1 : ∀ l (y : Fin 384), cols 384 B.doat 1 (384 * j) (ValueIdx.ix3 0 l y) = ((H1.doa (384 * j + y.val) l : ℝ) : EReal) :=
    fun l y => (cols_at 384 B.doat 1 (384 * j) l y ⟨_, rr y⟩ rfl).trans (B1.doat l ⟨_, rr y⟩)
  have r0 : ∀ l (y : Fin 384), rows 384 B.qa 0 (384 * j) (ValueIdx.ix3 0 y l) = ((H0.qa (384 * j + y.val) l : ℝ) : EReal) :=
    fun l y => (rows_at 384 B.qa 0 (384 * j) l y ⟨_, rr y⟩ rfl).trans (B0.qa l ⟨_, rr y⟩)
  have r1 : ∀ l (y : Fin 384), rows 384 B.qa 1 (384 * j) (ValueIdx.ix3 0 y l) = ((H1.qa (384 * j + y.val) l : ℝ) : EReal) :=
    fun l y => (rows_at 384 B.qa 1 (384 * j) l y ⟨_, rr y⟩ rfl).trans (B1.qa l ⟨_, rr y⟩)
  have e0 : ∀ l (y : Fin 384), rows 384 B.doa 0 (384 * j) (ValueIdx.ix3 0 y l) = ((H0.doa (384 * j + y.val) l : ℝ) : EReal) :=
    fun l y => (rows_at 384 B.doa 0 (384 * j) l y ⟨_, rr y⟩ rfl).trans (B0.doa l ⟨_, rr y⟩)
  have e1 : ∀ l (y : Fin 384), rows 384 B.doa 1 (384 * j) (ValueIdx.ix3 0 y l) = ((H1.doa (384 * j + y.val) l : ℝ) : EReal) :=
    fun l y => (rows_at 384 B.doa 1 (384 * j) l y ⟨_, rr y⟩ rfl).trans (B1.doa l ⟨_, rr y⟩)
  have t0 : ∀ l (y : Fin 384), cols 384 d 0 (384 * j) (ValueIdx.ix3 0 l y) = ((H0.dqTo (384 * j) (384 * j + y.val) l : ℝ) : EReal) := fun l y => by
    rw [cols_at 384 d 0 (384 * j) l y ⟨_, rr y⟩ rfl, h0]
  have t1 : ∀ l (y : Fin 384), cols 384 d 1 (384 * j) (ValueIdx.ix3 0 l y) = ((H1.dqTo (384 * j) (384 * j + y.val) l : ℝ) : EReal) := fun l y => by
    rw [cols_at 384 d 1 (384 * j) l y ⟨_, rr y⟩ rfl, h1]
  refine ⟨fun x l => keysD K0 hj q0 d0 r0 x l, fun x l => valuesD K0 hj q0 e0 x l,
    fun x l => keysD K1 hj q1 d1 r1 x l, fun x l => valuesD K1 hj q1 e1 x l, fun l r => ?_, fun l r => ?_⟩
  · by_cases hr : r.val < 384 * j ∨ 384 * j + 384 ≤ r.val
    · unfold stepDiag
      dsimp only
      rw [put2_off _ _ _ _ _ _ _ hr, h0]
      split_ifs with hlt
      · rw [H0.dqTo_after _ _ (by omega)]
      · rfl
    · unfold stepDiag
      dsimp only
      rw [put2_first _ _ _ _ l r (⟨r.val - 384 * j, by omega⟩ : Fin 384) (by show r.val = 384 * j + (r.val - 384 * j); omega)]
      refine (queriesD K0 hj q0 d0 _ l _ (t0 l _)).trans ?_
      rw [if_pos (by omega)]
      exact congrArg (fun n => ((H0.dqTo (384 * j + 384) n l : ℝ) : EReal)) (by show 384 * j + (r.val - 384 * j) = r.val; omega)
  · by_cases hr : r.val < 384 * j ∨ 384 * j + 384 ≤ r.val
    · unfold stepDiag
      dsimp only
      rw [put2_off _ _ _ _ _ _ _ hr, h1]
      split_ifs with hlt
      · rw [H1.dqTo_after _ _ (by omega)]
      · rfl
    · unfold stepDiag
      dsimp only
      rw [put2_second _ _ _ _ l r (⟨r.val - 384 * j, by omega⟩ : Fin 384) (by show r.val = 384 * j + (r.val - 384 * j); omega)]
      refine (queriesD K1 hj q1 d1 _ l _ (t1 l _)).trans ?_
      rw [if_pos (by omega)]
      exact congrArg (fun n => ((H1.dqTo (384 * j + 384) n l : ℝ) : EReal)) (by show 384 * j + (r.val - 384 * j) = r.val; omega)

theorem upto_run768 (K0 : KeyReads H0 j K.ka0 K.va0 K.kat0) (K1 : KeyReads H1 j K.ka1 K.va1 K.kat1) (B0 : BufReads H0 0 B) (B1 : BufReads H1 1 B)
    {s : St Ideal} (h : Upto H0 H1 j (384 * (j + 1)) s) :
    ∀ k, j + 1 + 2 * k ≤ 11 → Upto H0 H1 j (384 * (j + 1 + 2 * k)) (run768 K B (j + 1) s k)
  | 0, _ => h
  | k + 1, hk => by
    have ih := upto_run768 K0 K1 B0 B1 h k (by omega)
    have := upto_step768 K0 K1 B0 B1 (by omega) (by omega) ih
    have e : 384 * (j + 1 + 2 * (k + 1)) = 384 * (j + 1 + 2 * k) + 768 := by omega
    rw [e]
    exact this

/-- After the whole key block every query is done. -/
theorem upto_keyBlock (K0 : KeyReads H0 j K.ka0 K.va0 K.kat0) (K1 : KeyReads H1 j K.ka1 K.va1 K.kat1) (B0 : BufReads H0 0 B) (B1 : BufReads H1 1 B)
    (hj : j < 11) {d : Vec Ideal S2x128x4224 .f32}
    (h0 : ∀ l (r : Fin 4224), d (ValueIdx.ix3 0 l r) = ((H0.dqTo (384 * j) r.val l : ℝ) : EReal))
    (h1 : ∀ l (r : Fin 4224), d (ValueIdx.ix3 1 l r) = ((H1.dqTo (384 * j) r.val l : ℝ) : EReal)) :
    Upto H0 H1 j 4224 (keyBlock j K B d) := by
  have hd := upto_diag K0 K1 B0 B1 hj h0 h1
  have h7 := upto_run768 K0 K1 B0 B1 (by rw [Nat.mul_add, Nat.mul_one]; exact hd) ((10 - j) / 2) (by omega)
  unfold keyBlock
  rcases Nat.mod_two_eq_zero_or_one (10 - j) with e | e
  · rw [e]
    have : 384 * (j + 1 + 2 * ((10 - j) / 2)) = 4224 := by omega
    rw [this] at h7
    exact h7
  · rw [e]
    have : 384 * (j + 1 + 2 * ((10 - j) / 2)) = 3840 := by omega
    rw [this] at h7
    exact upto_step384 K0 K1 B0 B1 (by omega) (by omega) h7

end Cert.KernelIdeal.Grad

end
-- ==== Proof.Grad.Operands.lean ====
/- The scratch buffers and the key block's operands hold the extended rows, when the arrays they are made from hold reals. -/
module

public import proofs.«01_k».proof.Proof.Grad.Augment
public import proofs.«01_k».proof.Proof.Grad.Lanes
public import proofs.«01_k».proof.Proof.Grad.Steps

@[expose] public section

set_option maxRecDepth 16384

noncomputable section

namespace Cert.KernelIdeal.Grad

open Cert.KernelIdeal Cert.KernelIdeal.Gen Cert.KernelIdeal.Model Cert.Grad
open Idealize.ShloMosaic Idealize.ShloMosaic.TcCoe Idealize.ShloMosaic.ValueIdx
open scoped BigOperators

/-- The lane of a head's statistics. -/
def statLane (hd : Fin 2) : Fin 128 := ⟨hd.val, by omega⟩

section
variable (hd : Fin 2) (R : Rows) {q d k v : Vec Ideal S384x128 .bf16} {lse del c : Vec Ideal S1x384x128 .f32} {n : ℕ}

theorem real_sub (x : ℝ) : ((x : ℝ) : EReal) - ((x : ℝ) : EReal) = 0 := by rw [← EReal.coe_sub, sub_self, EReal.coe_zero]
theorem zero_sub_zero : (0 : EReal) - 0 = 0 := by rw [sub_zero]

/-- The queries' operand of one block of the first head. -/
theorem qa0_at (hq : ∀ x l, q (ValueIdx.ix2 x l) = ((R.q (384 * n + x.val) l : ℝ) : EReal))
    (hl : ∀ x, lse (ValueIdx.ix3 0 x (statLane 0)) = ((R.lse (384 * n + x.val) : ℝ) : EReal)) (x : Fin 384) (l : Fin 128) :
    qa0 q lse (ValueIdx.ix2 x l) = (((mkHead 0 R).qa (384 * n + x.val) l : ℝ) : EReal) := by
  unfold qa0
  rw [colIn_at 69 (by decide), colIn_at 68 (by decide), colIn_at 67 (by decide), onesIn_at 64 67 (by decide) (by decide), keep0_at, shapeCast_self,
    col0_at, col0_at, col0_at, hi_at, mid_at, lo_at, neg_at, show (0 : Fin 128) = statLane 0 from rfl, hl, hq, ← EReal.coe_neg, real_sub, zero_sub_zero]
  show _ = (((if l.val < 64 then R.q (384 * n + x.val) l else if 64 ≤ l.val ∧ l.val < 67 then 1 else if l.val = 67 then -R.lse (384 * n + x.val) else 0 : ℝ)) : EReal)
  split_ifs <;> first | rfl | omega

theorem doa0_at (hq : ∀ x l, d (ValueIdx.ix2 x l) = ((R.d (384 * n + x.val) l : ℝ) : EReal))
    (hl : ∀ x, del (ValueIdx.ix3 0 x (statLane 0)) = ((R.del (384 * n + x.val) : ℝ) : EReal)) (x : Fin 384) (l : Fin 128) :
    doa0 d del (ValueIdx.ix2 x l) = (((mkHead 0 R).doa (384 * n + x.val) l : ℝ) : EReal) := by
  unfold doa0
  rw [colIn_at 66 (by decide), colIn_at 65 (by decide), colIn_at 64 (by decide), keep0_at, shapeCast_self,
    col0_at, col0_at, col0_at, hi_at, mid_at, lo_at, neg_at, show (0 : Fin 128) = statLane 0 from rfl, hl, hq, ← EReal.coe_neg, real_sub, zero_sub_zero]
  show _ = (((if l.val < 64 then R.d (384 * n + x.val) l else if l.val = 64 then -R.del (384 * n + x.val) else 0 : ℝ)) : EReal)
  split_ifs <;> first | rfl | omega

theorem va0_at (hq : ∀ x l, v (ValueIdx.ix2 x l) = ((R.v (384 * n + x.val) l : ℝ) : EReal)) (x : Fin 384) (l : Fin 128) :
    va0 v (ValueIdx.ix2 x l) = (((mkHead 0 R).va (384 * n + x.val) l : ℝ) : EReal) := by
  unfold va0
  rw [onesIn_at 64 67 (by decide) (by decide), keep0_at, shapeCast_self, hq]
  show _ = (((if l.val < 64 then R.v (384 * n + x.val) l else if 64 ≤ l.val ∧ l.val < 67 then 1 else 0 : ℝ)) : EReal)
  split_ifs <;> first | rfl | omega

theorem ka0_at (hn : n < 11) (hq : ∀ x l, k (ValueIdx.ix2 x l) = ((R.k (384 * n + x.val) l : ℝ) : EReal))
    (hl : ∀ x, c (ValueIdx.ix3 0 x (statLane 0)) = ((R.c (384 * n + x.val) : ℝ) : EReal)) (x : Fin 384) (l : Fin 128) (hx : 112 ≤ 384 * n + x.val) :
    ka0 (BitVec.ofNat 32 n) k c (ValueIdx.ix2 x l) = (((mkHead 0 R).ka (384 * n + x.val) l : ℝ) : EReal) := by
  unfold ka0
  rw [onesIn_at 67 70 (by decide) (by decide), colIn_at 66 (by decide), colIn_at 65 (by decide), colIn_at 64 (by decide), keep0_at, shapeCast_self,
    col0_at, col0_at, col0_at, hi_at, mid_at, lo_at, keyRow_at n hn, if_pos hx, show (0 : Fin 128) = statLane 0 from rfl, hl, hq, ← EReal.coe_neg, real_sub, zero_sub_zero]
  show _ = (((if l.val < 64 then R.k (384 * n + x.val) l else if l.val = 64 then -R.c (384 * n + x.val) else if 67 ≤ l.val ∧ l.val < 70 then 1 else 0 : ℝ)) : EReal)
  split_ifs <;> first | rfl | omega

/-- A row put in front: its score with every query is the bottom. -/
theorem ka0_front (hn : n < 11) (x : Fin 384) (r : ℕ) (hx : 384 * n + x.val < 112) :
    ∑ l : Fin 128, ka0 (BitVec.ofNat 32 n) k c (ValueIdx.ix2 x l) * (((mkHead 0 R).qa r l : ℝ) : EReal) = ⊥ := by
  refine sum_eq_bot _ _ 64 (Finset.mem_univ _) ?_
  unfold ka0
  rw [onesIn_at 67 70 (by decide) (by decide), colIn_at 66 (by decide), colIn_at 65 (by decide), colIn_at 64 (by decide), if_neg (by decide), if_neg (by decide),
    if_neg (by decide), if_pos (by decide), col0_at, hi_at, keyRow_at n hn, if_neg (by omega), qa_aux 0 R r 64 rfl, EReal.coe_one, mul_one]

/-- The queries' operand of one block of the second head. -/
theorem qa1_at (hq : ∀ x l, q (ValueIdx.ix2 x l) = ((R.q (384 * n + x.val) l : ℝ) : EReal))
    (hl : ∀ x, lse (ValueIdx.ix3 0 x (statLane 1)) = ((R.lse (384 * n + x.val) : ℝ) : EReal)) (x : Fin 384) (l : Fin 128) :
    qa1 q lse (ValueIdx.ix2 x l) = (((mkHead 1 R).qa (384 * n + x.val) l : ℝ) : EReal) := by
  unfold qa1
  rw [colIn_at 5 (by decide), colIn_at 4 (by decide), colIn_at 3 (by decide), onesIn_at 0 3 (by decide) (by decide), keep1_at, shapeCast_self,
    col1_at, col1_at, col1_at, hi_at, mid_at, lo_at, neg_at, show (1 : Fin 128) = statLane 1 from rfl, hl, hq, ← EReal.coe_neg, real_sub, zero_sub_zero]
  show _ = (((if ¬ l.val < 64 then R.q (384 * n + x.val) l else if 0 ≤ l.val ∧ l.val < 3 then 1 else if l.val = 3 then -R.lse (384 * n + x.val) else 0 : ℝ)) : EReal)
  split_ifs <;> first | rfl | omega

theorem doa1_at (hq : ∀ x l, d (ValueIdx.ix2 x l) = ((R.d (384 * n + x.val) l : ℝ) : EReal))
    (hl : ∀ x, del (ValueIdx.ix3 0 x (statLane 1)) = ((R.del (384 * n + x.val) : ℝ) : EReal)) (x : Fin 384) (l : Fin 128) :
    doa1 d del (ValueIdx.ix2 x l) = (((mkHead 1 R).doa (384 * n + x.val) l : ℝ) : EReal) := by
  unfold doa1
  rw [colIn_at 2 (by decide), colIn_at 1 (by decide), colIn_at 0 (by decide), keep1_at, shapeCast_self,
    col1_at, col1_at, col1_at, hi_at, mid_at, lo_at, neg_at, show (1 : Fin 128) = statLane 1 from rfl, hl, hq, ← EReal.coe_neg, real_sub, zero_sub_zero]
  show _ = (((if ¬ l.val < 64 then R.d (384 * n + x.val) l else if l.val = 0 then -R.del (384 * n + x.val) else 0 : ℝ)) : EReal)
  split_ifs <;> first | rfl | omega

theorem va1_at (hq : ∀ x l, v (ValueIdx.ix2 x l) = ((R.v (384 * n + x.val) l : ℝ) : EReal)) (x : Fin 384) (l : Fin 128) :
    va1 v (ValueIdx.ix2 x l) = (((mkHead 1 R).va (384 * n + x.val) l : ℝ) : EReal) := by
  unfold va1
  rw [onesIn_at 0 3 (by decide) (by decide), keep1_at, shapeCast_self, hq]
  show _ = (((if ¬ l.val < 64 then R.v (384 * n + x.val) l else if 0 ≤ l.val ∧ l.val < 3 then 1 else 0 : ℝ)) : EReal)
  split_ifs <;> first | rfl | omega

theorem ka1_at (hn : n < 11) (hq : ∀ x l, k (ValueIdx.ix2 x l) = ((R.k (384 * n + x.val) l : ℝ) : EReal))
    (hl : ∀ x, c (ValueIdx.ix3 0 x (statLane 1)) = ((R.c (384 * n + x.val) : ℝ) : EReal)) (x : Fin 384) (l : Fin 128) (hx : 112 ≤ 384 * n + x.val) :
    ka1 (BitVec.ofNat 32 n) k c (ValueIdx.ix2 x l) = (((mkHead 1 R).ka (384 * n + x.val) l : ℝ) : EReal) := by
  unfold ka1
  rw [onesIn_at 3 6 (by decide) (by decide), colIn_at 2 (by decide), colIn_at 1 (by decide), colIn_at 0 (by decide), keep1_at, shapeCast_self,
    col1_at, col1_at, col1_at, hi_at, mid_at, lo_at, keyRow_at n hn, if_pos hx, show (1 : Fin 128) = statLane 1 from rfl, hl, hq, ← EReal.coe_neg, real_sub, zero_sub_zero]
  show _ = (((if ¬ l.val < 64 then R.k (384 * n + x.val) l else if l.val = 0 then -R.c (384 * n + x.val) else if 3 ≤ l.val ∧ l.val < 6 then 1 else 0 : ℝ)) : EReal)
  split_ifs <;> first | rfl | omega

/-- A row put in front: its score with every query is the bottom. -/
theorem ka1_front (hn : n < 11) (x : Fin 384) (r : ℕ) (hx : 384 * n + x.val < 112) :
    ∑ l : Fin 128, ka1 (BitVec.ofNat 32 n) k c (ValueIdx.ix2 x l) * (((mkHead 1 R).qa r l : ℝ) : EReal) = ⊥ := by
  refine sum_eq_bot _ _ 0 (Finset.mem_univ _) ?_
  unfold ka1
  rw [onesIn_at 3 6 (by decide) (by decide), colIn_at 2 (by decide), colIn_at 1 (by decide), colIn_at 0 (by decide), if_neg (by decide), if_neg (by decide),
    if_neg (by decide), if_pos (by decide), col1_at, hi_at, keyRow_at n hn, if_neg (by omega), qa_aux 1 R r 0 rfl, EReal.coe_one, mul_one]

end

/-! ## The buffers -/

variable {R0 R1 : Rows} {q d : Vec Ideal S4224x128 .bf16} {lse del : Vec Ideal S1x4224x128 .f32}

theorem blk2_at {α : Type} (x : S4224x128.Idx → α) (n : ℕ) (hn : n < 11) (y : Fin 384) (l : Fin 128) :
    blk2 x n (ValueIdx.ix2 y l) = x (ValueIdx.ix2 (⟨384 * n + y.val, by omega⟩ : Fin 4224) l) := by
  refine congrArg (fun z => x (ValueIdx.ix2 z l)) (Fin.ext ?_)
  show (384 * n + y.val) % 4224 = _
  exact Nat.mod_eq_of_lt (by omega)

theorem blk3_at {α : Type} (x : S1x4224x128.Idx → α) (n : ℕ) (hn : n < 11) (y : Fin 384) (l : Fin 128) :
    blk3 x n (ValueIdx.ix3 0 y l) = x (ValueIdx.ix3 0 (⟨384 * n + y.val, by omega⟩ : Fin 4224) l) := by
  refine congrArg (fun z => x (ValueIdx.ix3 0 z l)) (Fin.ext ?_)
  show (384 * n + y.val) % 4224 = _
  exact Nat.mod_eq_of_lt (by omega)

theorem row_split (r : Fin 4224) : 384 * (r.val / 384) + r.val % 384 = r.val := by omega

/-- The buffers hold head 0 of the pair. -/
theorem fill_reads0 (hq : ∀ (r : Fin 4224) l, q (ValueIdx.ix2 r l) = ((R0.q r.val l : ℝ) : EReal))
    (hd : ∀ (r : Fin 4224) l, d (ValueIdx.ix2 r l) = ((R0.d r.val l : ℝ) : EReal))
    (hl : ∀ r : Fin 4224, lse (ValueIdx.ix3 0 r (statLane 0)) = ((R0.lse r.val : ℝ) : EReal))
    (hdel : ∀ r : Fin 4224, del (ValueIdx.ix3 0 r (statLane 0)) = ((R0.del r.val : ℝ) : EReal)) :
    BufReads (mkHead 0 R0) 0 (fill q d lse del) := by
  have hQ : ∀ (r : Fin 4224) l, qa0 (blk2 q (r.val / 384)) (blk3 lse (r.val / 384)) (ValueIdx.ix2 (⟨r.val % 384, Nat.mod_lt _ (by decide)⟩ : Fin 384) l)
      = (((mkHead 0 R0).qa r.val l : ℝ) : EReal) := fun r l => by
    have hr := r.isLt
    rw [qa0_at (n := r.val / 384) R0 (fun x l => by rw [blk2_at _ _ (by omega), hq]) (fun x => by rw [blk3_at _ _ (by omega), hl])]
    show (((mkHead 0 R0).qa (384 * (r.val / 384) + r.val % 384) l : ℝ) : EReal) = _
    rw [row_split]
  have hD : ∀ (r : Fin 4224) l, doa0 (blk2 d (r.val / 384)) (blk3 del (r.val / 384)) (ValueIdx.ix2 (⟨r.val % 384, Nat.mod_lt _ (by decide)⟩ : Fin 384) l)
      = (((mkHead 0 R0).doa r.val l : ℝ) : EReal) := fun r l => by
    have hr := r.isLt
    rw [doa0_at (n := r.val / 384) R0 (fun x l => by rw [blk2_at _ _ (by omega), hd]) (fun x => by rw [blk3_at _ _ (by omega), hdel])]
    show (((mkHead 0 R0).doa (384 * (r.val / 384) + r.val % 384) l : ℝ) : EReal) = _
    rw [row_split]
  exact ⟨fun l r => (tr_at _ _ l).trans (hQ r l), fun l r => (tr_at _ _ l).trans (hD r l), fun l r => hQ r l, fun l r => hD r l⟩

/-- A key block's operands hold head 0 of the pair. -/
theorem keys_reads0 {j : ℕ} (hj : j < 11) {k v : Vec Ideal S384x128 .bf16} {c : Vec Ideal S1x384x128 .f32}
    (hk : ∀ x l, k (ValueIdx.ix2 x l) = ((R0.k (384 * j + x.val) l : ℝ) : EReal))
    (hv : ∀ x l, v (ValueIdx.ix2 x l) = ((R0.v (384 * j + x.val) l : ℝ) : EReal))
    (hc : ∀ x, c (ValueIdx.ix3 0 x (statLane 0)) = ((R0.c (384 * j + x.val) : ℝ) : EReal)) :
    KeyReads (mkHead 0 R0) j (keys (BitVec.ofNat 32 j) k v c).ka0 (keys (BitVec.ofNat 32 j) k v c).va0 (keys (BitVec.ofNat 32 j) k v c).kat0 :=
  ⟨fun x l => va0_at R0 hv x l, fun x l hx => ka0_at R0 hj hk hc x l hx, fun x r hx => ka0_front R0 hj x r hx, fun l x => tr_at _ x l⟩

/-- The buffers hold head 1 of the pair. -/
theorem fill_reads1 (hq : ∀ (r : Fin 4224) l, q (ValueIdx.ix2 r l) = ((R1.q r.val l : ℝ) : EReal))
    (hd : ∀ (r : Fin 4224) l, d (ValueIdx.ix2 r l) = ((R1.d r.val l : ℝ) : EReal))
    (hl : ∀ r : Fin 4224, lse (ValueIdx.ix3 0 r (statLane 1)) = ((R1.lse r.val : ℝ) : EReal))
    (hdel : ∀ r : Fin 4224, del (ValueIdx.ix3 0 r (statLane 1)) = ((R1.del r.val : ℝ) : EReal)) :
    BufReads (mkHead 1 R1) 1 (fill q d lse del) := by
  have hQ : ∀ (r : Fin 4224) l, qa1 (blk2 q (r.val / 384)) (blk3 lse (r.val / 384)) (ValueIdx.ix2 (⟨r.val % 384, Nat.mod_lt _ (by decide)⟩ : Fin 384) l)
      = (((mkHead 1 R1).qa r.val l : ℝ) : EReal) := fun r l => by
    have hr := r.isLt
    rw [qa1_at (n := r.val / 384) R1 (fun x l => by rw [blk2_at _ _ (by omega), hq]) (fun x => by rw [blk3_at _ _ (by omega), hl])]
    show (((mkHead 1 R1).qa (384 * (r.val / 384) + r.val % 384) l : ℝ) : EReal) = _
    rw [row_split]
  have hD : ∀ (r : Fin 4224) l, doa1 (blk2 d (r.val / 384)) (blk3 del (r.val / 384)) (ValueIdx.ix2 (⟨r.val % 384, Nat.mod_lt _ (by decide)⟩ : Fin 384) l)
      = (((mkHead 1 R1).doa r.val l : ℝ) : EReal) := fun r l => by
    have hr := r.isLt
    rw [doa1_at (n := r.val / 384) R1 (fun x l => by rw [blk2_at _ _ (by omega), hd]) (fun x => by rw [blk3_at _ _ (by omega), hdel])]
    show (((mkHead 1 R1).doa (384 * (r.val / 384) + r.val % 384) l : ℝ) : EReal) = _
    rw [row_split]
  exact ⟨fun l r => (tr_at _ _ l).trans (hQ r l), fun l r => (tr_at _ _ l).trans (hD r l), fun l r => hQ r l, fun l r => hD r l⟩

/-- A key block's operands hold head 1 of the pair. -/
theorem keys_reads1 {j : ℕ} (hj : j < 11) {k v : Vec Ideal S384x128 .bf16} {c : Vec Ideal S1x384x128 .f32}
    (hk : ∀ x l, k (ValueIdx.ix2 x l) = ((R1.k (384 * j + x.val) l : ℝ) : EReal))
    (hv : ∀ x l, v (ValueIdx.ix2 x l) = ((R1.v (384 * j + x.val) l : ℝ) : EReal))
    (hc : ∀ x, c (ValueIdx.ix3 0 x (statLane 1)) = ((R1.c (384 * j + x.val) : ℝ) : EReal)) :
    KeyReads (mkHead 1 R1) j (keys (BitVec.ofNat 32 j) k v c).ka1 (keys (BitVec.ofNat 32 j) k v c).va1 (keys (BitVec.ofNat 32 j) k v c).kat1 :=
  ⟨fun x l => va1_at R1 hv x l, fun x l hx => ka1_at R1 hj hk hc x l hx, fun x r hx => ka1_front R1 hj x r hx, fun l x => tr_at _ x l⟩

end Cert.KernelIdeal.Grad

end
-- ==== Proof.Grad.Pair.lean ====
/- A pair of heads from key block to key block: when the arrays the kernel reads hold reals, the state each key block
   ends in is the sums over all the queries, and the transposed gradient is the sum over the keys so far. -/
module

public import proofs.«01_k».proof.Proof.Attn.Run
public import proofs.«01_k».proof.Proof.Grad.Operands

@[expose] public section

set_option maxRecDepth 16384

noncomputable section

namespace Cert.Grad

/-- The padded arrays that the kernel reads: by row and column, and by row and head. -/
structure Data where
  q : ℕ → ℕ → ℝ
  k : ℕ → ℕ → ℝ
  v : ℕ → ℕ → ℝ
  d : ℕ → ℕ → ℝ
  lse : ℕ → ℕ → ℝ
  del : ℕ → ℕ → ℝ
  c : ℕ → ℕ → ℝ

/-- One pair's columns and one of its heads' numbers. -/
def Data.rows (D : Data) (p : Fin 4) (hd : Fin 2) : Rows where
  q r l := D.q r (128 * p.val + l.val)
  d r l := D.d r (128 * p.val + l.val)
  k r l := D.k r (128 * p.val + l.val)
  v r l := D.v r (128 * p.val + l.val)
  lse r := D.lse r (2 * p.val + hd.val)
  del r := D.del r (2 * p.val + hd.val)
  c r := D.c r (2 * p.val + hd.val)

def Data.head (D : Data) (p : Fin 4) (hd : Fin 2) : Head := mkHead hd (D.rows p hd)

end Cert.Grad

namespace Cert.KernelIdeal.Grad

open Cert.KernelIdeal Cert.KernelIdeal.Gen Cert.KernelIdeal.Model Cert.KernelIdeal.Attn Cert.Grad
open Idealize.ShloMosaic Idealize.ShloMosaic.TcCoe Idealize.ShloMosaic.ValueIdx

variable (m : (ℓ : Loc nD τ sig) → Buf (Elt Ideal) ℓ)

/-- The arrays the kernel reads hold the data `D`. -/
structure Holds (c : Dev nD) (D : Data) : Prop where
  q : ∀ (r : Fin 4224) (i : Fin 512), V m c main_v38 (ValueIdx.ix2 r i) = ((D.q r.val i.val : ℝ) : EReal)
  k : ∀ (r : Fin 4224) (i : Fin 512), V m c main_v40 (ValueIdx.ix2 r i) = ((D.k r.val i.val : ℝ) : EReal)
  v : ∀ (r : Fin 4224) (i : Fin 512), V m c main_v42 (ValueIdx.ix2 r i) = ((D.v r.val i.val : ℝ) : EReal)
  d : ∀ (r : Fin 4224) (i : Fin 512), V m c main_v44 (ValueIdx.ix2 r i) = ((D.d r.val i.val : ℝ) : EReal)
  lse : ∀ (p : Fin 4) (r : Fin 4224) (hd : Fin 2), V m c main_v47 (ValueIdx.ix3 p r (statLane hd)) = ((D.lse r.val (2 * p.val + hd.val) : ℝ) : EReal)
  del : ∀ (p : Fin 4) (r : Fin 4224) (hd : Fin 2), V m c main_v50 (ValueIdx.ix3 p r (statLane hd)) = ((D.del r.val (2 * p.val + hd.val) : ℝ) : EReal)
  c : ∀ (p : Fin 4) (r : Fin 4224) (hd : Fin 2), V m c main_v53 (ValueIdx.ix3 p r (statLane hd)) = ((D.c r.val (2 * p.val + hd.val) : ℝ) : EReal)

variable {m} {c : Dev nD} {D : Data} (H : Holds m c D)

include H

theorem bufs0 (p : Fin 4) : BufReads (D.head p 0) 0 (pairBufs m c p) :=
  fill_reads0 (R0 := D.rows p 0) (fun r l => H.q r _) (fun r l => H.d r _) (fun r => H.lse p r 0) (fun r => H.del p r 0)
theorem bufs1 (p : Fin 4) : BufReads (D.head p 1) 1 (pairBufs m c p) :=
  fill_reads1 (R1 := D.rows p 1) (fun r l => H.q r _) (fun r l => H.d r _) (fun r => H.lse p r 1) (fun r => H.del p r 1)

/-- A key block's operands hold each head of the pair. -/
theorem keys0 (p : Fin 4) (j : Fin 11) : KeyReads (D.head p 0) j.val
    (keys (BitVec.ofNat 32 j.val) (stripBlk (V m c main_v40) p j) (stripBlk (V m c main_v42) p j) (slabBlk (V m c main_v53) p j)).ka0
    (keys (BitVec.ofNat 32 j.val) (stripBlk (V m c main_v40) p j) (stripBlk (V m c main_v42) p j) (slabBlk (V m c main_v53) p j)).va0
    (keys (BitVec.ofNat 32 j.val) (stripBlk (V m c main_v40) p j) (stripBlk (V m c main_v42) p j) (slabBlk (V m c main_v53) p j)).kat0 := by
  have hj := j.isLt
  have hk : ∀ (x : Fin 384) (l : Fin 128), stripBlk (V m c main_v40) p j (ValueIdx.ix2 x l) = (((D.rows p 0).k (384 * j.val + x.val) l : ℝ) : EReal) := fun x l => H.k _ _
  have hv : ∀ (x : Fin 384) (l : Fin 128), stripBlk (V m c main_v42) p j (ValueIdx.ix2 x l) = (((D.rows p 0).v (384 * j.val + x.val) l : ℝ) : EReal) := fun x l => H.v _ _
  have hc : ∀ (x : Fin 384), slabBlk (V m c main_v53) p j (ValueIdx.ix3 0 x (statLane 0)) = (((D.rows p 0).c (384 * j.val + x.val) : ℝ) : EReal) := fun x => H.c p _ 0
  exact keys_reads0 hj hk hv hc

theorem keys1 (p : Fin 4) (j : Fin 11) : KeyReads (D.head p 1) j.val
    (keys (BitVec.ofNat 32 j.val) (stripBlk (V m c main_v40) p j) (stripBlk (V m c main_v42) p j) (slabBlk (V m c main_v53) p j)).ka1
    (keys (BitVec.ofNat 32 j.val) (stripBlk (V m c main_v40) p j) (stripBlk (V m c main_v42) p j) (slabBlk (V m c main_v53) p j)).va1
    (keys (BitVec.ofNat 32 j.val) (stripBlk (V m c main_v40) p j) (stripBlk (V m c main_v42) p j) (slabBlk (V m c main_v53) p j)).kat1 := by
  have hj := j.isLt
  have hk : ∀ (x : Fin 384) (l : Fin 128), stripBlk (V m c main_v40) p j (ValueIdx.ix2 x l) = (((D.rows p 1).k (384 * j.val + x.val) l : ℝ) : EReal) := fun x l => H.k _ _
  have hv : ∀ (x : Fin 384) (l : Fin 128), stripBlk (V m c main_v42) p j (ValueIdx.ix2 x l) = (((D.rows p 1).v (384 * j.val + x.val) l : ℝ) : EReal) := fun x l => H.v _ _
  have hc : ∀ (x : Fin 384), slabBlk (V m c main_v53) p j (ValueIdx.ix3 0 x (statLane 1)) = (((D.rows p 1).c (384 * j.val + x.val) : ℝ) : EReal) := fun x => H.c p _ 1
  exact keys_reads1 hj hk hv hc

/-- A key block's state, from the gradient of the keys before it. -/
theorem block_upto (p : Fin 4) (j : Fin 11) {d : Vec Ideal S2x128x4224 .f32}
    (h0 : ∀ l (r : Fin 4224), d (ValueIdx.ix3 0 l r) = (((D.head p 0).dqTo (384 * j.val) r.val l : ℝ) : EReal))
    (h1 : ∀ l (r : Fin 4224), d (ValueIdx.ix3 1 l r) = (((D.head p 1).dqTo (384 * j.val) r.val l : ℝ) : EReal)) :
    Upto (D.head p 0) (D.head p 1) j.val 4224 (blockSt m c p j d) := by
  unfold blockSt
  exact upto_keyBlock (keys0 H p j) (keys1 H p j) (bufs0 H p) (bufs1 H p) j.isLt h0 h1

omit H in
theorem upto_all {H0 H1 : Head} {j : ℕ} {s : St Ideal} (h : Upto H0 H1 j 4224 s) :
    (∀ l (r : Fin 4224), s.dqt (ValueIdx.ix3 0 l r) = ((H0.dqTo (384 * (j + 1)) r.val l : ℝ) : EReal))
    ∧ ∀ l (r : Fin 4224), s.dqt (ValueIdx.ix3 1 l r) = ((H1.dqTo (384 * (j + 1)) r.val l : ℝ) : EReal) :=
  ⟨fun l r => (h.dq0 l r).trans (congrArg (fun n => ((H0.dqTo n r.val l : ℝ) : EReal)) (if_pos r.isLt)),
    fun l r => (h.dq1 l r).trans (congrArg (fun n => ((H1.dqTo n r.val l : ℝ) : EReal)) (if_pos r.isLt))⟩

/-- The transposed gradient before key block `n`. -/
theorem dqt_at (p : Fin 4) (n : ℕ) (hn : n ≤ 11) :
    (∀ l (r : Fin 4224), pairDqt m c p n (ValueIdx.ix3 0 l r) = (((D.head p 0).dqTo (384 * n) r.val l : ℝ) : EReal))
    ∧ ∀ l (r : Fin 4224), pairDqt m c p n (ValueIdx.ix3 1 l r) = (((D.head p 1).dqTo (384 * n) r.val l : ℝ) : EReal) := by
  induction n with
  | zero =>
    have h0 : ∀ i, pairDqt m c p 0 i = (0 : EReal) := fun i => Ideal.ofBits_zero_f32
    have hz : ∀ (K : Head) (r : ℕ) l, K.dqTo (384 * 0) r l = 0 := fun K r l => Finset.sum_range_zero _
    exact ⟨fun l r => (h0 _).trans (EReal.coe_zero.symm.trans (congrArg Real.toEReal (hz _ _ _).symm)), fun l r => (h0 _).trans (EReal.coe_zero.symm.trans (congrArg Real.toEReal (hz _ _ _).symm))⟩
  | succ n ih =>
    have ih' := ih (by omega)
    have hb := block_upto H p ⟨n, by omega⟩ ih'.1 ih'.2
    have e := pairDqt_succ m c p ⟨n, by omega⟩
    dsimp only at e
    rw [e]
    exact upto_all hb

/-- The state that key block `j` ends in. -/
theorem stAt_upto (p : Fin 4) (j : Fin 11) : Upto (D.head p 0) (D.head p 1) j.val 4224 (stAt m c p j) := by
  have h := dqt_at H p j.val (by omega)
  exact block_upto H p j h.1 h.2

/-- After the last key block the transposed gradient is the sum over all the keys. -/
theorem dqt_last (p : Fin 4) (j : Fin 11) (hj : j.val = 10) :
    (∀ l (r : Fin 4224), (stAt m c p j).dqt (ValueIdx.ix3 0 l r) = (((D.head p 0).dqTo 4224 r.val l : ℝ) : EReal))
    ∧ ∀ l (r : Fin 4224), (stAt m c p j).dqt (ValueIdx.ix3 1 l r) = (((D.head p 1).dqTo 4224 r.val l : ℝ) : EReal) := by
  have h := dqt_at H p (j.val + 1) (by omega)
  rw [pairDqt_succ, hj] at h
  exact h

end Cert.KernelIdeal.Grad

end
-- ==== Proof.Grad.Results.lean ====
/- Each block of the kernel's five results, when the arrays it reads hold reals. -/
module

public import proofs.«01_k».proof.Proof.Grad.Outputs
public import proofs.«01_k».proof.Proof.Grad.Pair

@[expose] public section

set_option maxRecDepth 16384

noncomputable section

namespace Cert.Grad

/-- The pair, the head within it and the lane of column `i`. -/
def pairC (i : Fin 512) : Fin 4 := ⟨i.val / 128, by omega⟩
def headC (i : Fin 512) : Fin 2 := ⟨i.val % 128 / 64, by omega⟩
def laneC (i : Fin 512) : Fin 128 := ⟨i.val % 128, Nat.mod_lt _ (by decide)⟩

/-- The results: by row and column, by pair, row and lane, and by pair, row of eight and row. -/
def Data.dq (D : Data) (r : Fin 4224) (i : Fin 512) : ℝ := (D.head (pairC i) (headC i)).dqTo 4224 r.val (laneC i) * (1 / 8)
def Data.dk (D : Data) (r : Fin 4224) (i : Fin 512) : ℝ := (D.head (pairC i) (headC i)).dkTo 4224 r.val (laneC i)
def Data.dv (D : Data) (r : Fin 4224) (i : Fin 512) : ℝ := (D.head (pairC i) (headC i)).dvTo 4224 r.val (laneC i)
def Data.dck (D : Data) (p : Fin 4) (r : Fin 4224) (l : Fin 128) : ℝ :=
  if l.val = 0 then (D.head p 0).dkTo 4224 r.val 64 else if l.val = 1 then (D.head p 1).dkTo 4224 r.val 0 else 0
def Data.dcq (D : Data) (p : Fin 4) (u : Fin 8) (r : Fin 4224) : ℝ :=
  if u.val = 0 then (D.head p 0).dqTo 4224 r.val 67 else if u.val = 1 then (D.head p 1).dqTo 4224 r.val 3 else 0

end Cert.Grad

namespace Cert.KernelIdeal.Grad

open Cert.KernelIdeal Cert.KernelIdeal.Gen Cert.KernelIdeal.Model Cert.KernelIdeal.Attn Cert.Grad
open Idealize.ShloMosaic Idealize.ShloMosaic.TcCoe Idealize.ShloMosaic.ValueIdx
open Idealize.ShloMosaic.Pipeline (Dat Cfg Window)

/-- A choice between the two heads by the lane is the choice by the column. -/
theorem by_head (f : Fin 2 → ℝ) (p : Fin 4) (l : Fin 128) (i : Fin 512) (hi : i.val = 128 * p.val + l.val) :
    (if l.val < 64 then ((f 0 : ℝ) : EReal) else ((f 1 : ℝ) : EReal)) = ((f (headC i) : ℝ) : EReal) := by
  have hp := p.isLt
  have hl := l.isLt
  by_cases h : l.val < 64
  · rw [if_pos h, show headC i = 0 from Fin.ext (by show i.val % 128 / 64 = 0; omega)]
  · rw [if_neg h, show headC i = 1 from Fin.ext (by show i.val % 128 / 64 = 1; omega)]

theorem pairC_eq (p : Fin 4) (l : Fin 128) (i : Fin 512) (hi : i.val = 128 * p.val + l.val) : pairC i = p ∧ laneC i = l :=
  ⟨Fin.ext (by show i.val / 128 = p.val; omega), Fin.ext (by show i.val % 128 = l.val; omega)⟩

variable {m : (ℓ : Loc nD τ sig) → Buf (Elt Ideal) ℓ} {c : Dev nD} {D : Data} (H : Holds m c D)
include H

/-! ## One block -/

theorem dqOut_at (p : Fin 4) (j : Fin 11) (hj : j.val = 10) (r : Fin 4224) (l : Fin 128) (i : Fin 512) (hi : i.val = 128 * p.val + l.val) :
    dqOut (stAt m c p j).dqt (ValueIdx.ix2 r l) = ((D.dq r i : ℝ) : EReal) := by
  have hr := r.isLt
  obtain ⟨h0, h1⟩ := dqt_last H p j hj
  refine (pay419_at _ _ (⟨r.val % 384, Nat.mod_lt _ (by decide)⟩ : Fin 384) l).trans ?_
  rw [cols_at 384 _ 0 _ l _ r (by show r.val = 384 * (r.val / 384) + r.val % 384; omega),
    cols_at 384 _ 1 _ l _ r (by show r.val = 384 * (r.val / 384) + r.val % 384; omega), h0, h1,
    by_head (fun hd => (D.head p hd).dqTo 4224 r.val l) p l i hi, ← EReal.coe_mul]
  unfold Data.dq
  rw [(pairC_eq p l i hi).1, (pairC_eq p l i hi).2]

theorem dcqOut_at (p : Fin 4) (j : Fin 11) (hj : j.val = 10) (u : Fin 8) (r : Fin 4224) :
    dcqOut (stAt m c p j).dqt (ValueIdx.ix3 0 u r) = ((D.dcq p u r : ℝ) : EReal) := by
  have hr := r.isLt
  obtain ⟨h0, h1⟩ := dqt_last H p j hj
  refine (pay420_at _ _ u (⟨r.val % 384, Nat.mod_lt _ (by decide)⟩ : Fin 384)).trans ?_
  rw [cols_at 384 _ 0 _ 67 _ r (by show r.val = 384 * (r.val / 384) + r.val % 384; omega),
    cols_at 384 _ 1 _ 3 _ r (by show r.val = 384 * (r.val / 384) + r.val % 384; omega), h0, h1]
  unfold Data.dcq
  split_ifs <;> rfl

theorem dkOut_at (p : Fin 4) (j : Fin 11) (x : Fin 384) (l : Fin 128) (r : Fin 4224) (hr : r.val = 384 * j.val + x.val) (i : Fin 512) (hi : i.val = 128 * p.val + l.val) :
    k0_pay534 (stAt m c p j).dk0 (stAt m c p j).dk1 (ValueIdx.ix2 x l) = ((D.dk r i : ℝ) : EReal) := by
  have h := stAt_upto H p j
  rw [pay534_at, h.dk0, h.dk1, by_head (fun hd => (D.head p hd).dkTo 4224 (384 * j.val + x.val) l) p l i hi]
  unfold Data.dk
  rw [(pairC_eq p l i hi).1, (pairC_eq p l i hi).2, hr]

theorem dvOut_at (p : Fin 4) (j : Fin 11) (x : Fin 384) (l : Fin 128) (r : Fin 4224) (hr : r.val = 384 * j.val + x.val) (i : Fin 512) (hi : i.val = 128 * p.val + l.val) :
    k0_pay535 (stAt m c p j).dv0 (stAt m c p j).dv1 (ValueIdx.ix2 x l) = ((D.dv r i : ℝ) : EReal) := by
  have h := stAt_upto H p j
  rw [pay535_at, h.dv0, h.dv1, by_head (fun hd => (D.head p hd).dvTo 4224 (384 * j.val + x.val) l) p l i hi]
  unfold Data.dv
  rw [(pairC_eq p l i hi).1, (pairC_eq p l i hi).2, hr]

theorem dckOut_at (p : Fin 4) (j : Fin 11) (x : Fin 384) (l : Fin 128) (r : Fin 4224) (hr : r.val = 384 * j.val + x.val) :
    k0_pay1 (stAt m c p j).dk0 (stAt m c p j).dk1 lane (ValueIdx.ix3 0 x l) = ((D.dck p r l : ℝ) : EReal) := by
  have h := stAt_upto H p j
  rw [pay1_at, h.dk0, h.dk1]
  unfold Data.dck
  rw [hr]
  split_ifs <;> rfl

end Cert.KernelIdeal.Grad

end
-- ==== Proof.Grad.Spec.lean ====
/- The gradient of the forgetting attention over the reals, and the equation: the sums that the kernel forms over the
   padded rows, with the two statistics folded into its operands, are that gradient. -/
module

public import proofs.«01_k».proof.Proof.Grad.Results

@[expose] public section

set_option maxRecDepth 16384

noncomputable section

namespace Cert.Grad

/-- The arguments as reals: by row and column, the decays by row and head. -/
structure Args where
  q : Fin 4112 → Fin 512 → ℝ
  k : Fin 4112 → Fin 512 → ℝ
  v : Fin 4112 → Fin 512 → ℝ
  d : Fin 4112 → Fin 512 → ℝ
  c : Fin 4112 → Fin 8 → ℝ

/-- Column `e` of head `h`, and the head of a column. -/
def hcol (h : Fin 8) (e : Fin 64) : Fin 512 := ⟨64 * h.val + e.val, by omega⟩
def headOf (x : Fin 512) : Fin 8 := ⟨x.val / 64, by omega⟩

namespace Args

variable (A : Args)

/-- The score of query `i` and key `j`, less the key's decay. -/
def score (h : Fin 8) (i j : Fin 4112) : ℝ := (∑ e, A.q i (hcol h e) * A.k j (hcol h e)) * (1 / 8) - A.c j h
/-- What the weights of query `i` are divided by. -/
def total (h : Fin 8) (i : Fin 4112) : ℝ := ∑ j : Fin 4112, if j ≤ i then Real.exp (A.score h i j) else 0
/-- The weight of key `j` for query `i`. -/
def weight (h : Fin 8) (i j : Fin 4112) : ℝ := if j ≤ i then Real.exp (A.score h i j) / A.total h i else 0
/-- The gradient of a weight. -/
def value (h : Fin 8) (i j : Fin 4112) : ℝ := ∑ e, A.d i (hcol h e) * A.v j (hcol h e)
def mean (h : Fin 8) (i : Fin 4112) : ℝ := ∑ j, A.weight h i j * A.value h i j
/-- The gradient of a score. -/
def slope (h : Fin 8) (i j : Fin 4112) : ℝ := A.weight h i j * (A.value h i j - A.mean h i)

/-- The gradients of the queries, the keys, the values and the two decays (the keys' with the sign of the score's). -/
def dq (i : Fin 4112) (x : Fin 512) : ℝ := (∑ j, A.slope (headOf x) i j * A.k j x) * (1 / 8)
def dk (j : Fin 4112) (x : Fin 512) : ℝ := ∑ i, A.slope (headOf x) i j * (A.q i x * (1 / 8))
def dv (j : Fin 4112) (x : Fin 512) : ℝ := ∑ i, A.weight (headOf x) i j * A.d i x
def dck (j : Fin 4112) (h : Fin 8) : ℝ := ∑ i, A.slope h i j
def dcq (i : Fin 4112) (h : Fin 8) : ℝ := ∑ j, A.slope h i j

theorem total_pos (h : Fin 8) (i : Fin 4112) : 0 < A.total h i := by
  unfold total
  refine Finset.sum_pos' (fun j _ => ?_) ⟨i, Finset.mem_univ _, ?_⟩
  · split_ifs
    · exact (Real.exp_pos _).le
    · exact le_refl _
  · rw [if_pos (le_refl i)]; exact Real.exp_pos _

end Args

/-! ## Padding -/

/-- Zero in the 112 rows in front. -/
def front (f : Fin 4112 → ℝ) (r : ℕ) : ℝ := if h : 112 ≤ r ∧ r < 4224 then f ⟨r - 112, by omega⟩ else 0
def atCol {n : ℕ} (f : Fin n → ℝ) (x : ℕ) : ℝ := if h : x < n then f ⟨x, h⟩ else 0

theorem front_row (f : Fin 4112 → ℝ) (i : Fin 4112) : front f (112 + i.val) = f i := by
  have hi := i.isLt
  unfold front
  rw [dif_pos ⟨by omega, by omega⟩]
  exact congrArg f (Fin.ext (by show 112 + i.val - 112 = i.val; omega))
theorem front_before (f : Fin 4112 → ℝ) {r : ℕ} (h : r < 112) : front f r = 0 := dif_neg (by omega)
theorem atCol_at {n : ℕ} (f : Fin n → ℝ) {x : ℕ} (y : Fin n) (h : x = y.val) : atCol f x = f y := by
  subst h
  exact dif_pos y.isLt

/-- A row is one of those in front or holds a row of the arguments. -/
theorem row_cases (r : Fin 4224) : r.val < 112 ∨ ∃ i : Fin 4112, r.val = 112 + i.val := by
  have hr := r.isLt
  by_cases h : r.val < 112
  · exact Or.inl h
  · exact Or.inr ⟨⟨r.val - 112, by omega⟩, by show r.val = 112 + (r.val - 112); omega⟩

/-- The padded arrays: the queries scaled, the logarithm of the total and the mean of the weights' gradient with them. -/
def Args.data (A : Args) : Data where
  q r x := front (fun i => atCol (A.q i) x * (1 / 8)) r
  k r x := front (fun i => atCol (A.k i) x) r
  v r x := front (fun i => atCol (A.v i) x) r
  d r x := front (fun i => atCol (A.d i) x) r
  lse r h := front (fun i => atCol (fun h => Real.log (A.total h i)) h) r
  del r h := front (fun i => atCol (fun h => A.mean h i) h) r
  c r h := front (fun i => atCol (A.c i) h) r

/-- The padded results. -/
def Args.dqPad (A : Args) (r : Fin 4224) (x : Fin 512) : ℝ := front (fun i => A.dq i x) r.val
def Args.dkPad (A : Args) (r : Fin 4224) (x : Fin 512) : ℝ := front (fun i => A.dk i x) r.val
def Args.dvPad (A : Args) (r : Fin 4224) (x : Fin 512) : ℝ := front (fun i => A.dv i x) r.val
def Args.dckPad (A : Args) (p : Fin 4) (r : Fin 4224) (l : Fin 128) : ℝ :=
  if h : l.val < 2 then front (fun i => A.dck i ⟨2 * p.val + l.val, by omega⟩) r.val else 0
def Args.dcqPad (A : Args) (p : Fin 4) (u : Fin 8) (r : Fin 4224) : ℝ :=
  if h : u.val < 2 then front (fun i => A.dcq i ⟨2 * p.val + u.val, by omega⟩) r.val else 0

/-! ## The kernel's sums -/

/-- Head `hd` of pair `p`. -/
def pairHead (p : Fin 4) (hd : Fin 2) : Fin 8 := ⟨2 * p.val + hd.val, by omega⟩

variable (A : Args) (p : Fin 4) (hd : Fin 2)

theorem hcol_eq (e : Fin 64) : 128 * p.val + (col hd e).val = (hcol (pairHead p hd) e).val := by
  show 128 * p.val + (64 * hd.val + e.val) = 64 * (2 * p.val + hd.val) + e.val
  omega

theorem q_row (i : Fin 4112) (e : Fin 64) : (A.data.rows p hd).q (112 + i.val) (col hd e) = A.q i (hcol (pairHead p hd) e) * (1 / 8) :=
  (front_row (fun i => atCol (A.q i) (128 * p.val + (col hd e).val) * (1 / 8)) i).trans (congrArg (· * (1 / 8 : ℝ)) (atCol_at (A.q i) _ (hcol_eq p hd e)))
theorem d_row (i : Fin 4112) (e : Fin 64) : (A.data.rows p hd).d (112 + i.val) (col hd e) = A.d i (hcol (pairHead p hd) e) :=
  (front_row (fun i => atCol (A.d i) (128 * p.val + (col hd e).val)) i).trans (atCol_at (A.d i) _ (hcol_eq p hd e))
theorem k_row (i : Fin 4112) (e : Fin 64) : (A.data.rows p hd).k (112 + i.val) (col hd e) = A.k i (hcol (pairHead p hd) e) :=
  (front_row (fun i => atCol (A.k i) (128 * p.val + (col hd e).val)) i).trans (atCol_at (A.k i) _ (hcol_eq p hd e))
theorem v_row (i : Fin 4112) (e : Fin 64) : (A.data.rows p hd).v (112 + i.val) (col hd e) = A.v i (hcol (pairHead p hd) e) :=
  (front_row (fun i => atCol (A.v i) (128 * p.val + (col hd e).val)) i).trans (atCol_at (A.v i) _ (hcol_eq p hd e))
theorem lse_row (i : Fin 4112) : (A.data.rows p hd).lse (112 + i.val) = Real.log (A.total (pairHead p hd) i) :=
  (front_row (fun i => atCol (fun h => Real.log (A.total h i)) (2 * p.val + hd.val)) i).trans (atCol_at (fun h => Real.log (A.total h i)) (pairHead p hd) rfl)
theorem del_row (i : Fin 4112) : (A.data.rows p hd).del (112 + i.val) = A.mean (pairHead p hd) i :=
  (front_row (fun i => atCol (fun h => A.mean h i) (2 * p.val + hd.val)) i).trans (atCol_at (fun h => A.mean h i) (pairHead p hd) rfl)
theorem c_row (i : Fin 4112) : (A.data.rows p hd).c (112 + i.val) = A.c i (pairHead p hd) :=
  (front_row (fun i => atCol (A.c i) (2 * p.val + hd.val)) i).trans (atCol_at (A.c i) (pairHead p hd) rfl)

/-- The kernel's weight is the weight. -/
theorem p_at (i j : Fin 4112) : (A.data.head p hd).p (112 + j.val) (112 + i.val) = A.weight (pairHead p hd) i j := by
  unfold Head.p Args.weight
  by_cases h : j ≤ i
  · rw [if_neg (by rw [Fin.le_def] at h; omega), if_pos h]
    unfold Data.head
    rw [dot_score, lse_row, c_row, Real.exp_sub, Real.exp_log (A.total_pos _ _)]
    refine congrArg (fun t => Real.exp t / _) ?_
    unfold Args.score
    refine congrArg (· - _) ?_
    rw [Finset.sum_mul]
    refine Finset.sum_congr rfl fun e _ => ?_
    rw [q_row, k_row]
    ring
  · rw [if_pos (by rw [Fin.le_def] at h; omega), if_neg h]

/-- The kernel's gradient of a score is the gradient of the score. -/
theorem ds_at (i j : Fin 4112) : (A.data.head p hd).ds (112 + j.val) (112 + i.val) = A.slope (pairHead p hd) i j := by
  unfold Head.ds Args.slope
  rw [p_at]
  unfold Data.head
  rw [dot_value, del_row]
  refine congrArg (fun t : ℝ => A.weight (pairHead p hd) i j * (t - A.mean (pairHead p hd) i)) ?_
  unfold Args.value
  refine Finset.sum_congr rfl fun e _ => ?_
  rw [d_row, v_row, mul_comm]

/-- A sum over the padded rows. -/
theorem sum_front (f : ℕ → ℝ) (h : ∀ r < 112, f r = 0) : ∑ r ∈ Finset.range 4224, f r = ∑ i : Fin 4112, f (112 + i.val) := by
  rw [show (4224 : ℕ) = 112 + 4112 from rfl, Finset.sum_range_add, Finset.sum_eq_zero (fun r hr => h r (Finset.mem_range.mp hr)), zero_add,
    Finset.sum_range (fun x => f (112 + x))]

theorem dvTo_row (j : Fin 4112) (l : Fin 128) : (A.data.head p hd).dvTo 4224 (112 + j.val) l
    = ∑ i : Fin 4112, A.weight (pairHead p hd) i j * (A.data.head p hd).doa (112 + i.val) l := by
  unfold Head.dvTo
  rw [sum_front _ fun r hr => by rw [Head.p_after _ (by omega), zero_mul]]
  exact Finset.sum_congr rfl fun i _ => by rw [p_at]
theorem dkTo_row (j : Fin 4112) (l : Fin 128) : (A.data.head p hd).dkTo 4224 (112 + j.val) l
    = ∑ i : Fin 4112, A.slope (pairHead p hd) i j * (A.data.head p hd).qa (112 + i.val) l := by
  unfold Head.dkTo
  rw [sum_front _ fun r hr => by rw [Head.ds_after _ (by omega), zero_mul]]
  exact Finset.sum_congr rfl fun i _ => by rw [ds_at]
theorem dqTo_row (i : Fin 4112) (l : Fin 128) : (A.data.head p hd).dqTo 4224 (112 + i.val) l
    = ∑ j : Fin 4112, (A.data.head p hd).ka (112 + j.val) l * A.slope (pairHead p hd) i j := by
  unfold Head.dqTo
  rw [sum_front _ fun r hr => by rw [Head.ds_front _ _ (by omega), mul_zero]]
  exact Finset.sum_congr rfl fun i _ => by rw [ds_at]

theorem dvTo_front {r : ℕ} (h : r < 112) (l : Fin 128) : (A.data.head p hd).dvTo 4224 r l = 0 :=
  Finset.sum_eq_zero fun x _ => by rw [Head.p_front _ _ h, zero_mul]
theorem dkTo_front {r : ℕ} (h : r < 112) (l : Fin 128) : (A.data.head p hd).dkTo 4224 r l = 0 :=
  Finset.sum_eq_zero fun x _ => by rw [Head.ds_front _ _ h, zero_mul]
theorem dqTo_front {r : ℕ} (h : r < 112) (l : Fin 128) : (A.data.head p hd).dqTo 4224 r l = 0 :=
  Finset.sum_eq_zero fun s _ => by
    by_cases hs : s < 112
    · rw [Head.ds_front _ _ hs, mul_zero]
    · rw [Head.ds_after _ (by omega), mul_zero]

/-! ## The results -/

theorem col_cases (x : Fin 512) : ∃ e : Fin 64, laneC x = col (headC x) e ∧ hcol (pairHead (pairC x) (headC x)) e = x
    ∧ pairHead (pairC x) (headC x) = headOf x := by
  have hx := x.isLt
  refine ⟨⟨x.val % 64, Nat.mod_lt _ (by decide)⟩, Fin.ext ?_, Fin.ext ?_, Fin.ext ?_⟩
  · show x.val % 128 = 64 * (x.val % 128 / 64) + x.val % 64
    omega
  · show 64 * (2 * (x.val / 128) + x.val % 128 / 64) + x.val % 64 = x.val
    omega
  · show 2 * (x.val / 128) + x.val % 128 / 64 = x.val / 64
    omega

theorem dq_eq (r : Fin 4224) (x : Fin 512) : A.data.dq r x = A.dqPad r x := by
  unfold Data.dq Args.dqPad
  obtain ⟨e, he, hx, hh⟩ := col_cases x
  rcases row_cases r with h | ⟨i, hi⟩
  · rw [dqTo_front _ _ _ h, front_before _ h, zero_mul]
  · rw [hi, front_row, dqTo_row, he, hh]
    unfold Args.dq
    refine congrArg (· * (1 / 8 : ℝ)) (Finset.sum_congr rfl fun j _ => ?_)
    rw [show (A.data.head (pairC x) (headC x)).ka (112 + j.val) (col (headC x) e) = A.k j x from (ka_col _ _ _ _).trans ((k_row A _ _ j e).trans (by rw [hx])), mul_comm]

theorem dk_eq (r : Fin 4224) (x : Fin 512) : A.data.dk r x = A.dkPad r x := by
  unfold Data.dk Args.dkPad
  obtain ⟨e, he, hx, hh⟩ := col_cases x
  rcases row_cases r with h | ⟨i, hi⟩
  · rw [dkTo_front _ _ _ h, front_before _ h]
  · rw [hi, front_row, dkTo_row, he, hh]
    unfold Args.dk
    refine Finset.sum_congr rfl fun j _ => ?_
    rw [show (A.data.head (pairC x) (headC x)).qa (112 + j.val) (col (headC x) e) = A.q j x * (1 / 8) from (qa_col _ _ _ _).trans ((q_row A _ _ j e).trans (by rw [hx]))]

theorem dv_eq (r : Fin 4224) (x : Fin 512) : A.data.dv r x = A.dvPad r x := by
  unfold Data.dv Args.dvPad
  obtain ⟨e, he, hx, hh⟩ := col_cases x
  rcases row_cases r with h | ⟨i, hi⟩
  · rw [dvTo_front _ _ _ h, front_before _ h]
  · rw [hi, front_row, dvTo_row, he, hh]
    unfold Args.dv
    refine Finset.sum_congr rfl fun j _ => ?_
    rw [show (A.data.head (pairC x) (headC x)).doa (112 + j.val) (col (headC x) e) = A.d j x from (doa_col _ _ _ _).trans ((d_row A _ _ j e).trans (by rw [hx]))]

/-- The keys' decay: the sum of the scores' gradients over the queries. -/
theorem dkTo_aux (r : Fin 4224) (l : Fin 128) (hl : l.val = aux hd) : (A.data.head p hd).dkTo 4224 r.val l = front (fun i => A.dck i (pairHead p hd)) r.val := by
  rcases row_cases r with h | ⟨i, hi⟩
  · rw [dkTo_front _ _ _ h, front_before _ h]
  · rw [hi, front_row, dkTo_row]
    exact Finset.sum_congr rfl fun j _ => by rw [show (A.data.head p hd).qa (112 + j.val) l = 1 from qa_aux _ _ _ _ hl, mul_one]

theorem dqTo_aux (r : Fin 4224) (l : Fin 128) (hl : l.val = aux hd + 3) : (A.data.head p hd).dqTo 4224 r.val l = front (fun i => A.dcq i (pairHead p hd)) r.val := by
  rcases row_cases r with h | ⟨i, hi⟩
  · rw [dqTo_front _ _ _ h, front_before _ h]
  · rw [hi, front_row, dqTo_row]
    exact Finset.sum_congr rfl fun j _ => by rw [show (A.data.head p hd).ka (112 + j.val) l = 1 from ka_aux _ _ _ _ hl, one_mul]

theorem dck_eq (r : Fin 4224) (l : Fin 128) : A.data.dck p r l = A.dckPad p r l := by
  unfold Data.dck Args.dckPad
  by_cases h0 : l.val = 0
  · rw [if_pos h0, dif_pos (by omega), dkTo_aux A p 0 r 64 rfl]
    exact congrArg (fun h => front (fun i => A.dck i h) r.val) (Fin.ext (by show 2 * p.val + 0 = 2 * p.val + l.val; omega))
  · by_cases h1 : l.val = 1
    · rw [if_neg h0, if_pos h1, dif_pos (by omega), dkTo_aux A p 1 r 0 rfl]
      exact congrArg (fun h => front (fun i => A.dck i h) r.val) (Fin.ext (by show 2 * p.val + 1 = 2 * p.val + l.val; omega))
    · rw [if_neg h0, if_neg h1, dif_neg (by omega)]

theorem dcq_eq (u : Fin 8) (r : Fin 4224) : A.data.dcq p u r = A.dcqPad p u r := by
  unfold Data.dcq Args.dcqPad
  by_cases h0 : u.val = 0
  · rw [if_pos h0, dif_pos (by omega), dqTo_aux A p 0 r 67 rfl]
    exact congrArg (fun h => front (fun i => A.dcq i h) r.val) (Fin.ext (by show 2 * p.val + 0 = 2 * p.val + u.val; omega))
  · by_cases h1 : u.val = 1
    · rw [if_neg h0, if_pos h1, dif_pos (by omega), dqTo_aux A p 1 r 3 rfl]
      exact congrArg (fun h => front (fun i => A.dcq i h) r.val) (Fin.ext (by show 2 * p.val + 1 = 2 * p.val + u.val; omega))
    · rw [if_neg h0, if_neg h1, dif_neg (by omega)]

end Cert.Grad

end
-- ==== Proof.Grad.Softmax.lean ====
/- The host lines both programs have, read at an index when the arguments hold reals: the scores' product, the causal
   mask, the row maximum (some real), the exponentials, their sum and the weights. -/
module

public import proofs.«01_k».proof.Proof.Grad.Spec
public import proofs.«01_k».proof.Proof.Gen.ReferenceIdeal.Read
public import Idealize.ShloMosaic.Lib.KernelVsHost
public import Idealize.ShloMosaic.Lib.IdealHost

@[expose] public section

set_option maxRecDepth 16384

noncomputable section

namespace Cert.Grad

open Cert.ReferenceIdeal Cert.ReferenceIdeal.Gen Cert.ReferenceIdeal.Read
open Idealize.ShloMosaic Idealize.ShloMosaic.ValueIdx Idealize.ShloMosaic.WordCmp

variable {F : FTy → Type} [FloatOps F]

/-- The arrays of the host lines over the extended reals. -/
abbrev Rows512 := FVec Ideal S4112x512 .f32
abbrev Rows8 := FVec Ideal S4112x8 .f32
abbrev Square := FVec Ideal S8x4112x4112 .f32
abbrev HeadRows := FVec Ideal S8x4112 .f32
abbrev HeadCol := FVec Ideal S8x4112x1 .f32

/-- The five arguments hold the reals `A`. -/
structure Real5 (A : Args) (q k v : Rows512) (c : Rows8) (d : Rows512) : Prop where
  q : ∀ i x, q (ValueIdx.ix2 i x) = ((A.q i x : ℝ) : EReal)
  k : ∀ i x, k (ValueIdx.ix2 i x) = ((A.k i x : ℝ) : EReal)
  v : ∀ i x, v (ValueIdx.ix2 i x) = ((A.v i x : ℝ) : EReal)
  c : ∀ i h, c (ValueIdx.ix2 i h) = ((A.c i h : ℝ) : EReal)
  d : ∀ i x, d (ValueIdx.ix2 i x) = ((A.d i x : ℝ) : EReal)

theorem ofBits_bot : Ideal.ofBits .f32 0xFF800000#32 = ⊥ := by
  simp [Ideal.ofBits, Ideal.ieee]
theorem ofBits_eighth : Ideal.ofBits .f32 0x3E000000#32 = ((1 / 8 : ℝ) : EReal) := by
  simp [Ideal.ofBits, Ideal.ieee, -EReal.coe_mul]; norm_num

theorem div_real {x y : ℝ} (h : y ≠ 0) : Ideal.div (x : EReal) (y : EReal) = ((x / y : ℝ) : EReal) := by
  rw [Ideal.div_coe h, ← EReal.coe_mul, mul_one_div]

/-! ## The columns of a head -/

theorem idx0_eq (i : Fin 4112) (h : Fin 8) (e : Fin 64) : idx_main_v0 (ValueIdx.ix3 i h e) = ValueIdx.ix2 i (hcol h e) := by
  funext a
  refine Fin.ext ?_
  match a with
  | ⟨0, _⟩ => show ((i.val * 8 + h.val) * 64 + e.val) / 512 = i.val; omega
  | ⟨1, _⟩ => show ((i.val * 8 + h.val) * 64 + e.val) % 512 = 64 * h.val + e.val; omega

theorem split_at (x : Rows512) (i : Fin 4112) (h : Fin 8) (e : Fin 64) : val_main_v0 (F := Ideal) x (ValueIdx.ix3 i h e) = x (ValueIdx.ix2 i (hcol h e)) := by
  rw [val_main_v0_apply, idx0_eq]

/-! ## The scores -/

section
variable {A : Args} {q k v d : Rows512} {c : Rows8} (R : Real5 A q k v c d)
include R

theorem dot_at (h : Fin 8) (i j : Fin 4112) :
    val_main_v4 (F := Ideal) q k (ValueIdx.ix3 h i j) = (((∑ e, A.q i (hcol h e) * A.k j (hcol h e)) * (1 / 8) : ℝ) : EReal) := by
  rw [val_main_v4_apply, val_main_v3_apply, val_main_cst_apply, val_main_v2_apply, EReal.coe_mul, coe_sum]
  refine congrArg₂ (· * ·) (Finset.sum_congr rfl fun e _ => ?_) ofBits_eighth
  rw [EReal.coe_mul]
  exact congrArg₂ (· * ·)
    ((congrArg (val_main_v0 (F := Ideal) q) (funext fun a => Fin.ext (by match a with | ⟨0, _⟩ => rfl | ⟨1, _⟩ => rfl | ⟨2, _⟩ => rfl))).trans ((split_at q i h e).trans (R.q _ _)))
    ((congrArg (val_main_v0 (F := Ideal) k) (funext fun a => Fin.ext (by match a with | ⟨0, _⟩ => rfl | ⟨1, _⟩ => rfl | ⟨2, _⟩ => rfl))).trans ((split_at k j h e).trans (R.k _ _)))

theorem keyDecay_at (h : Fin 8) (i j : Fin 4112) : val_main_v10 (F := Ideal) c (ValueIdx.ix3 h i j) = ((A.c j h : ℝ) : EReal) := by
  rw [val_main_v10_apply, val_main_v8_apply, val_main_v7_apply]
  exact (congrArg c (funext fun a => Fin.ext (by match a with | ⟨0, _⟩ => rfl | ⟨1, _⟩ => rfl))).trans (R.c j h)

theorem queryDecay_at (h : Fin 8) (i j : Fin 4112) : val_main_v9 (F := Ideal) c (ValueIdx.ix3 h i j) = ((A.c i h : ℝ) : EReal) := by
  rw [val_main_v9_apply, val_main_v6_apply, val_main_v5_apply]
  exact (congrArg c (funext fun a => Fin.ext (by match a with | ⟨0, _⟩ => rfl | ⟨1, _⟩ => rfl))).trans (R.c i h)

end

/-- The causal mask. -/
theorem mask_at (h : Fin 8) (i j : Fin 4112) : val_main_v19_1 (F := Ideal) (ValueIdx.ix3 h i j) = if j ≤ i then 1#1 else 0#1 := by
  have hi := i.isLt
  have hj := j.isLt
  have e : val_main_v19_1 (F := Ideal) (ValueIdx.ix3 h i j) = IntOp.cmpi .sle (BitVec.ofNat 32 j.val) (BitVec.ofNat 32 i.val) := by
    rw [val_main_v19_1_apply, val_main_v18_apply, val_main_v16_apply, val_main_v14_apply, val_main_v13_apply,
      val_main_v17_apply, val_main_v15_apply, val_main_v13_apply]
  rw [e, show IntOp.cmpi .sle (BitVec.ofNat 32 j.val) (BitVec.ofNat 32 i.val) = _ from cmpi_sle_ofNat (by omega) (by omega)]
  by_cases hji : j ≤ i
  · rw [if_pos hji, decide_eq_true (by rwa [Fin.le_def] at hji)]; rfl
  · rw [if_neg hji, decide_eq_false (by rwa [Fin.le_def] at hji)]; rfl

/-- A row under the mask: what is there up to the query, nothing after it. -/
theorem masked_at (x : Square) (h : Fin 8) (i j : Fin 4112) :
    select (val_main_v19_1 (F := Ideal)) x (val_main_call0_v2 (F := Ideal)) (ValueIdx.ix3 h i j) = if j ≤ i then x (ValueIdx.ix3 h i j) else ⊥ := by
  show Scalar.select (val_main_v19_1 (F := Ideal) (ValueIdx.ix3 h i j)) _ (val_main_call0_v2 (F := Ideal) (ValueIdx.ix3 h i j)) = _
  rw [Cert.KernelIdeal.Grad.select_of _ (j ≤ i) (mask_at h i j)]
  refine if_congr Iff.rfl rfl ?_
  exact ofBits_bot

/-! ## The maximum of a row -/

/-- The greatest of finitely many numbers, each a real or the bottom and one of them a real, is a real. -/
theorem fold_real {ι : Type*} (s : Finset ι) (f : ι → EReal) (ht : ∀ i ∈ s, f i < ⊤) (i : ι) (hi : i ∈ s) (hb : ⊥ < f i) :
    ∃ μ : ℝ, s.fold max ⊥ f = (μ : EReal) := by
  have h1 : s.fold max ⊥ f < ⊤ := (Finset.fold_max_lt _).mpr ⟨bot_lt_top, ht⟩
  have h2 : ⊥ < s.fold max ⊥ f := (Finset.lt_fold_max _).mpr (Or.inr ⟨i, hi, hb⟩)
  exact ⟨_, (EReal.coe_toReal h1.ne h2.ne').symm⟩

/-- The maximum of every row, from the bottom. -/
def rowMax (x : FVec F S8x4112x4112 .f32) : FVec F S8x4112 .f32 :=
  Host.reduce FloatOps.maximumf x (constant S_ .f32 0xFF800000#32) reducesTo_S8x4112x4112_S8x4112_d2 h_S_

theorem rowMax_real (x : Square) (h : Fin 8) (i : Fin 4112) (f : Fin 4112 → ℝ)
    (hx : ∀ j, x (ValueIdx.ix3 h i j) = if j ≤ i then ((f j : ℝ) : EReal) else ⊥) :
    ∃ μ : ℝ, rowMax x (ValueIdx.ix2 h i) = (μ : EReal) := by
  have e : rowMax x (ValueIdx.ix2 h i) = (Finset.univ : Finset (Fin 4112)).fold max ⊥ (fun j => x (ValueIdx.ix3 h i j)) := by
    unfold rowMax
    refine (Host.reduce_eq_fold_single (max : EReal → EReal → EReal) x _ reducesTo_S8x4112x4112_S8x4112_d2 (by decide) h_S_ _).trans ?_
    refine congrArg₂ (fun b g => (Finset.univ : Finset (Fin 4112)).fold (max : EReal → EReal → EReal) b g) ofBits_bot (funext fun j => ?_)
    exact congrArg x (funext fun a => Fin.ext (by match a with | ⟨0, _⟩ => rfl | ⟨1, _⟩ => rfl | ⟨2, _⟩ => rfl))
  rw [e]
  refine fold_real _ _ (fun j _ => ?_) i (Finset.mem_univ _) ?_
  · show x (ValueIdx.ix3 h i j) < ⊤
    rw [hx]
    split_ifs
    · exact EReal.coe_lt_top _
    · exact bot_lt_top
  · show ⊥ < x (ValueIdx.ix3 h i i)
    rw [hx, if_pos (le_refl i)]
    exact EReal.bot_lt_coe _

/-! ## The exponentials, their sum and the weights -/

/-- A number of every row as a column, and along the row. -/
def asCol (y : FVec F S8x4112 .f32) : FVec F S8x4112x1 .f32 := broadcastInDim S8x4112x1 ![0, 1] bcast_S8x4112_S8x4112x1_0_1 y
def along (y : FVec F S8x4112x1 .f32) : FVec F S8x4112x4112 .f32 := broadcastInDim S8x4112x4112 ![0, 1, 2] bcast_S8x4112x1_S8x4112x4112_0_1_2 y

theorem asCol_at (y : HeadRows) (h : Fin 8) (i : Fin 4112) (z : Fin 1) : asCol y (ValueIdx.ix3 h i z) = y (ValueIdx.ix2 h i) :=
  broadcastInDim_apply _ bcast_S8x4112_S8x4112x1_0_1 y _ (ValueIdx.ix2 h i) (fun a => match a with | ⟨0, _⟩ => rfl | ⟨1, _⟩ => rfl)
theorem along_at (y : HeadCol) (h : Fin 8) (i j : Fin 4112) : along y (ValueIdx.ix3 h i j) = y (ValueIdx.ix3 h i 0) :=
  broadcastInDim_apply _ bcast_S8x4112x1_S8x4112x4112_0_1_2 y _ (ValueIdx.ix3 h i 0) (fun a => match a with | ⟨0, _⟩ => rfl | ⟨1, _⟩ => rfl | ⟨2, _⟩ => rfl)

/-- The sum of every row. -/
def rowSum (x : FVec F S8x4112x4112 .f32) : FVec F S8x4112 .f32 :=
  Host.reduceAdd x (constant S_ .f32 0x00000000#32) reducesTo_S8x4112x4112_S8x4112_d2 h_S_

theorem rowSum_at (x : Square) (h : Fin 8) (i : Fin 4112) (f : Fin 4112 → ℝ) (hx : ∀ j, x (ValueIdx.ix3 h i j) = ((f j : ℝ) : EReal)) :
    rowSum x (ValueIdx.ix2 h i) = ((∑ j, f j : ℝ) : EReal) := by
  unfold rowSum
  simp only [Host.reduceAdd, Ideal.hostReduceAdd_def]
  rw [Ideal.hostReduceAdd_single reducesTo_S8x4112x4112_S8x4112_d2 (by decide), coe_sum]
  refine (congrArg₂ (· + ·) Ideal.ofBits_zero_f32 (Finset.sum_congr rfl fun j _ => ?_)).trans (zero_add _)
  exact (congrArg x (funext fun a => Fin.ext (by match a with | ⟨0, _⟩ => rfl | ⟨1, _⟩ => rfl | ⟨2, _⟩ => rfl))).trans (hx j)

/-- The exponentials of the scores less a number of the row. -/
def expOf (x : FVec F S8x4112x4112 .f32) (μ : FVec F S8x4112 .f32) : FVec F S8x4112x4112 .f32 := Host.exp (subf x (along (asCol μ)))
/-- The exponentials over their sum. -/
def weightOf (e : FVec F S8x4112x4112 .f32) : FVec F S8x4112x4112 .f32 := Host.divf e (along (asCol (rowSum e)))

section
variable {A : Args} {x : Square} {m : HeadRows} {h : Fin 8} {i : Fin 4112} {t μ : ℝ}
  (hx : ∀ j, x (ValueIdx.ix3 h i j) = if j ≤ i then ((A.score h i j + t : ℝ) : EReal) else ⊥)
  (hm : m (ValueIdx.ix2 h i) = (μ : EReal))
include hx hm

theorem exp_at (j : Fin 4112) : expOf x m (ValueIdx.ix3 h i j)
    = ((Real.exp (t - μ) * (if j ≤ i then Real.exp (A.score h i j) else 0) : ℝ) : EReal) := by
  show Ideal.exp (x (ValueIdx.ix3 h i j) - along (asCol m) (ValueIdx.ix3 h i j)) = _
  rw [along_at, asCol_at, hm, hx]
  split_ifs
  · rw [← EReal.coe_sub, Ideal.exp_coe, ← Real.exp_add]
    exact congrArg (fun r : ℝ => ((Real.exp r : ℝ) : EReal)) (by ring)
  · rw [EReal.bot_sub, Ideal.exp_bot, mul_zero, EReal.coe_zero]

theorem sum_at : rowSum (expOf x m) (ValueIdx.ix2 h i) = ((Real.exp (t - μ) * A.total h i : ℝ) : EReal) := by
  rw [rowSum_at _ h i _ (exp_at hx hm)]
  unfold Args.total
  rw [Finset.mul_sum]

theorem weight_at (j : Fin 4112) : weightOf (expOf x m) (ValueIdx.ix3 h i j) = ((A.weight h i j : ℝ) : EReal) := by
  have h0 := (Real.exp_pos (t - μ)).ne'
  have h1 := (A.total_pos h i).ne'
  show Ideal.div (expOf x m (ValueIdx.ix3 h i j)) (along (asCol (rowSum (expOf x m))) (ValueIdx.ix3 h i j)) = _
  rw [along_at, asCol_at, sum_at hx hm, exp_at hx hm, div_real (mul_ne_zero h0 h1), mul_div_mul_left _ _ h0]
  unfold Args.weight
  split_ifs
  · rfl
  · rw [zero_div]

end

end Cert.Grad

end
-- ==== Proof.Grad.Finite.lean ====
/- The precondition over the extended reals: every argument is an array of reals. -/
module

public import proofs.«01_k».proof.Pre_finite
public import proofs.«01_k».proof.Proof.Grad.Softmax
public import Idealize.ShloMosaic.Lib.ReduceAll
public import Idealize.ShloMosaic.Lib.Affine

@[expose] public section

set_option maxRecDepth 16384

noncomputable section

namespace Cert.Grad

open Idealize.ShloMosaic Idealize.ShloMosaic.ValueIdx

/-- The side conditions of the precondition's operations. -/
theorem pre_facts : Cert.Pre_finite.Facts where
  bcast_S_S4112x512 := by decide
  reducesTo_S4112x512_S_d0_1 := by decide
  h_S_ := by decide
  bcast_S_S4112x8 := by decide
  reducesTo_S4112x8_S_d0_1 := by decide

theorem ofBits_top : Ideal.ofBits .f32 0x7F800000#32 = ⊤ := by
  simp [Ideal.ofBits, Ideal.ieee]

/-- A number whose absolute value is below the top is a real. -/
theorem real_of_abs {x : EReal} (h : Ideal.cmp .olt (max x (-x)) ⊤ = 1#1) : x = ((x.toReal : ℝ) : EReal) := by
  have h1 : max x (-x) < ⊤ := by
    by_contra hn
    simp [Ideal.cmp, hn] at h
  obtain ⟨ht, hb⟩ := max_lt_iff.mp h1
  refine (EReal.coe_toReal ht.ne fun e => ?_).symm
  rw [e] at hb
  exact absurd hb (by simp)

/-- An array all of whose absolute values are below the top is an array of reals. -/
theorem real_of_all {s : Shape} {axes : List (Fin s.rank)} (x : FVec Ideal s .f32) (dims : Fin 0 → Fin s.rank)
    (hb : Cert.Pre_finite.S_.BroadcastsInDim s dims) (hr : s.ReducesTo axes Cert.Pre_finite.S_) (hu : 0 < Cert.Pre_finite.S_.numel)
    (j : Cert.Pre_finite.S_.Idx)
    (e : Host.reduce IntOp.andi (cmpf .olt (Host.absf x) (broadcastInDim s dims hb (constant (F := Ideal) Cert.Pre_finite.S_ .f32 0x7F800000#32)))
      (constantI Cert.Pre_finite.S_ 1 1#1) hr hu j = 1#1) (i : s.Idx) : x i = (((x i).toReal : ℝ) : EReal) := by
  haveI : Subsingleton Cert.Pre_finite.S_.Idx := ⟨fun a b => funext fun k => k.elim0⟩
  have h := Host.reduce_andi_all _ _ hr hu j e i
  refine real_of_abs ?_
  rw [← ofBits_top]
  exact h

/-- The arguments' reals. -/
def argsOf (q k v : Rows512) (c : Rows8) (d : Rows512) : Args where
  q i x := (q (ValueIdx.ix2 i x)).toReal
  k i x := (k (ValueIdx.ix2 i x)).toReal
  v i x := (v (ValueIdx.ix2 i x)).toReal
  d i x := (d (ValueIdx.ix2 i x)).toReal
  c i h := (c (ValueIdx.ix2 i h)).toReal

theorem real5_of [Cert.Pre_finite.Facts] (q k v : Rows512) (c : Rows8) (d : Rows512)
    (h : Cert.Pre_finite.fn (F := Ideal) q k v c d = fun _ => 1#1) : Real5 (argsOf q k v c d) q k v c d := by
  have h0 := congrFun h (fun a => a.elim0)
  unfold Cert.Pre_finite.fn Cert.Pre_finite.fn_part1 at h0
  obtain ⟨h1, hd⟩ := IntOp.andi_eq_one.1 h0
  obtain ⟨h2, hc⟩ := IntOp.andi_eq_one.1 h1
  obtain ⟨h3, hv⟩ := IntOp.andi_eq_one.1 h2
  obtain ⟨hq, hk⟩ := IntOp.andi_eq_one.1 h3
  exact ⟨fun i x => real_of_all q _ _ _ _ _ hq _, fun i x => real_of_all k _ _ _ _ _ hk _, fun i x => real_of_all v _ _ _ _ _ hv _,
    fun i x => real_of_all c _ _ _ _ _ hc _, fun i x => real_of_all d _ _ _ _ _ hd _⟩

end Cert.Grad

end
-- ==== Proof.Grad.Arrays.lean ====
/- The kernel's five results as arrays, when the arrays it reads hold reals: every element is in a block that some grid
   point writes back. -/
module

public import proofs.«01_k».proof.Proof.Grad.Results

@[expose] public section

set_option maxRecDepth 16384

noncomputable section

namespace Cert.KernelIdeal.Grad

open Cert.KernelIdeal Cert.KernelIdeal.Gen Cert.KernelIdeal.Model Cert.KernelIdeal.Attn Cert.Grad
open Idealize.ShloMosaic Idealize.ShloMosaic.TcCoe Idealize.ShloMosaic.ValueIdx
open Idealize.ShloMosaic.Pipeline (Dat Cfg Window)

theorem last_key (t : Fin cfg0.N) (h : t.val % 11 = 10) : (keyOf t).val = 10 := h

variable {m : (ℓ : Loc nD τ sig) → Buf (Elt Ideal) ℓ} {c : Dev nD} {D : Data} (H : Holds m c D)
include H

theorem arr7 : (dats m 0 c).arrAt 7 cfg0.N = fun i : S4224x512.Idx => ((D.dq (i 0) (i 1) : ℝ) : EReal) := by
  refine (dats m 0 c).arrAt_eq_of_covers 7 _ (by decide +kernel) fun t hf y => ?_
  have hp : (pairOf t).val = t.val / 11 := rfl
  have hk : (keyOf t).val = t.val % 11 := rfl
  have ht := (flush0_7 t).mp hf
  have e0 : (((cfg0.win 7).blk t).view.emb y 0).val = (y 0).val := by blk_simp [idx t]
  have e1 : (((cfg0.win 7).blk t).view.emb y 1).val = 128 * (t.val / 11) + (y 1).val := by blk_simp [idx t]; omega
  rw [after0_7]
  refine (congrArg (dqOut (stAt m c (pairOf t) (keyOf t)).dqt) (a₂ := ValueIdx.ix2 (((cfg0.win 7).blk t).view.emb y 0) (⟨(y 1).val, (y 1).isLt⟩ : Fin 128)) ?_).trans
    (dqOut_at H (pairOf t) (keyOf t) (last_key t ht) _ _ _ (e1.trans (by rw [hp])))
  funext a
  fin_cases a
  · exact Fin.ext e0.symm
  · rfl

theorem arr8 : (dats m 0 c).arrAt 8 cfg0.N = fun i : S4224x512.Idx => ((D.dk (i 0) (i 1) : ℝ) : EReal) := by
  refine (dats m 0 c).arrAt_eq_of_covers 8 _ (by decide +kernel) fun t hf y => ?_
  have hp : (pairOf t).val = t.val / 11 := rfl
  have hk : (keyOf t).val = t.val % 11 := rfl
  have e0 : (((cfg0.win 8).blk t).view.emb y 0).val = 384 * (t.val % 11) + (y 0).val := by blk_simp [idx t]; omega
  have e1 : (((cfg0.win 8).blk t).view.emb y 1).val = 128 * (t.val / 11) + (y 1).val := by blk_simp [idx t]; omega
  rw [after0_8]
  refine (congrArg (k0_pay534 (stAt m c (pairOf t) (keyOf t)).dk0 (stAt m c (pairOf t) (keyOf t)).dk1)
    (a₂ := ValueIdx.ix2 (⟨(y 0).val, (y 0).isLt⟩ : Fin 384) (⟨(y 1).val, (y 1).isLt⟩ : Fin 128)) ?_).trans
    (dkOut_at H (pairOf t) (keyOf t) _ _ _ (e0.trans (by rw [hk])) _ (e1.trans (by rw [hp])))
  funext a
  fin_cases a <;> rfl

theorem arr9 : (dats m 0 c).arrAt 9 cfg0.N = fun i : S4224x512.Idx => ((D.dv (i 0) (i 1) : ℝ) : EReal) := by
  refine (dats m 0 c).arrAt_eq_of_covers 9 _ (by decide +kernel) fun t hf y => ?_
  have hp : (pairOf t).val = t.val / 11 := rfl
  have hk : (keyOf t).val = t.val % 11 := rfl
  have e0 : (((cfg0.win 9).blk t).view.emb y 0).val = 384 * (t.val % 11) + (y 0).val := by blk_simp [idx t]; omega
  have e1 : (((cfg0.win 9).blk t).view.emb y 1).val = 128 * (t.val / 11) + (y 1).val := by blk_simp [idx t]; omega
  rw [after0_9]
  refine (congrArg (k0_pay535 (stAt m c (pairOf t) (keyOf t)).dv0 (stAt m c (pairOf t) (keyOf t)).dv1)
    (a₂ := ValueIdx.ix2 (⟨(y 0).val, (y 0).isLt⟩ : Fin 384) (⟨(y 1).val, (y 1).isLt⟩ : Fin 128)) ?_).trans
    (dvOut_at H (pairOf t) (keyOf t) _ _ _ (e0.trans (by rw [hk])) _ (e1.trans (by rw [hp])))
  funext a
  fin_cases a <;> rfl

theorem arr10 : (dats m 0 c).arrAt 10 cfg0.N = fun i : S4x4224x128.Idx => ((D.dck (i 0) (i 1) (i 2) : ℝ) : EReal) := by
  refine (dats m 0 c).arrAt_eq_of_covers 10 _ (by decide +kernel) fun t hf y => ?_
  have hp : (pairOf t).val = t.val / 11 := rfl
  have hk : (keyOf t).val = t.val % 11 := rfl
  have y0 : (y 0).val < 1 := (y 0).isLt
  have e0 : ((cfg0.win 10).blk t).view.emb y 0 = pairOf t := Fin.ext (by rw [hp]; blk_simp [idx t])
  have e1 : (((cfg0.win 10).blk t).view.emb y 1).val = 384 * (t.val % 11) + (y 1).val := by blk_simp [idx t]; omega
  have e2 : ((cfg0.win 10).blk t).view.emb y 2 = (⟨(y 2).val, (y 2).isLt⟩ : Fin 128) := Fin.ext (by blk_simp [idx t])
  rw [after0_10]
  dsimp only
  rw [e0, e2]
  refine (congrArg (k0_pay1 (stAt m c (pairOf t) (keyOf t)).dk0 (stAt m c (pairOf t) (keyOf t)).dk1 lane)
    (a₂ := ValueIdx.ix3 (0 : Fin 1) (⟨(y 1).val, (y 1).isLt⟩ : Fin 384) (⟨(y 2).val, (y 2).isLt⟩ : Fin 128)) ?_).trans
    (dckOut_at H (pairOf t) (keyOf t) _ _ _ (e1.trans (by rw [hk])))
  funext a
  fin_cases a
  · exact Fin.ext (by show (y 0).val = 0; omega)
  · rfl
  · rfl

theorem arr11 : (dats m 0 c).arrAt 11 cfg0.N = fun i : S4x8x4224.Idx => ((D.dcq (i 0) (i 1) (i 2) : ℝ) : EReal) := by
  refine (dats m 0 c).arrAt_eq_of_covers 11 _ (by decide +kernel) fun t hf y => ?_
  have hp : (pairOf t).val = t.val / 11 := rfl
  have hk : (keyOf t).val = t.val % 11 := rfl
  have ht := (flush0_11 t).mp hf
  have y0 : (y 0).val < 1 := (y 0).isLt
  have e0 : ((cfg0.win 11).blk t).view.emb y 0 = pairOf t := Fin.ext (by rw [hp]; blk_simp [idx t])
  have e1 : ((cfg0.win 11).blk t).view.emb y 1 = (⟨(y 1).val, (y 1).isLt⟩ : Fin 8) := Fin.ext (by blk_simp [idx t])
  have e2 : ((cfg0.win 11).blk t).view.emb y 2 = (⟨(y 2).val, (y 2).isLt⟩ : Fin 4224) := Fin.ext (by blk_simp [idx t])
  rw [after0_11]
  dsimp only
  rw [e0, e1, e2]
  refine (congrArg (dcqOut (stAt m c (pairOf t) (keyOf t)).dqt)
    (a₂ := ValueIdx.ix3 (0 : Fin 1) (⟨(y 1).val, (y 1).isLt⟩ : Fin 8) (⟨(y 2).val, (y 2).isLt⟩ : Fin 4224)) ?_).trans
    (dcqOut_at H (pairOf t) (keyOf t) (last_key t ht) _ _)
  funext a
  fin_cases a
  · exact Fin.ext (by show (y 0).val = 0; omega)
  · rfl
  · rfl

end Cert.KernelIdeal.Grad

end
-- ==== Proof.Grad.Pads.lean ====
/- The padded arrays at an index: the 112 rows in front and the lanes and sublanes at the end are zero. -/
module

public import proofs.«01_k».proof.Proof.Grad.Softmax

@[expose] public section

set_option maxRecDepth 16384

noncomputable section

namespace Cert.Grad

open Cert.ReferenceIdeal Cert.ReferenceIdeal.Gen
open Idealize.ShloMosaic Idealize.ShloMosaic.ValueIdx

variable {F : FTy → Type} [FloatOps F]

/-- The padding value. -/
def padZero : FVec F S_ .f32 := sitofp (F := F) .f32 (constantI S_ 32 0#32)

theorem padZero_at (i : S_.Idx) : padZero (F := Ideal) i = (0 : EReal) := by
  show ((((0#32 : BitVec 32).toInt : ℤ) : ℝ) : EReal) = 0
  simp

def padRows (x : FVec F S4112x512 .f32) : FVec F S4224x512 .f32 :=
  pad S4224x512 ![112, 0] ![0, 0] ![0, 0] x padZero pads_S4112x512_S4224x512_11200_000 h_S_
def padLanes (x : FVec F S4x4112x2 .f32) : FVec F S4x4224x128 .f32 :=
  pad S4x4224x128 ![0, 112, 0] ![0, 0, 126] ![0, 0, 0] x padZero pads_S4x4112x2_S4x4224x128_000_11200_01260 h_S_
def padSublanes (x : FVec F S4x2x4112 .f32) : FVec F S4x8x4224 .f32 :=
  pad S4x8x4224 ![0, 0, 112] ![0, 6, 0] ![0, 0, 0] x padZero pads_S4x2x4112_S4x8x4224_000_060_11200 h_S_

theorem padRows_at (x : Rows512) (f : Fin 4112 → Fin 512 → ℝ) (hx : ∀ i y, x (ValueIdx.ix2 i y) = ((f i y : ℝ) : EReal))
    (r : Fin 4224) (y : Fin 512) : padRows x (ValueIdx.ix2 r y) = ((front (fun i => f i y) r.val : ℝ) : EReal) := by
  unfold padRows
  rcases row_cases r with h | ⟨i, hi⟩
  · rw [pad_apply_of_not_inside _ _ _ _ _ _ _ _ (0 : Fin 2) (fun hin => by have h1 : 112 ≤ r.val := hin.1; omega), padZero_at, front_before _ h, EReal.coe_zero]
  · rw [pad_apply_of_inside _ _ _ _ _ _ _ _ (ValueIdx.ix2 i y) (fun a => match a with
      | ⟨0, _⟩ => by show r.val = 112 + i.val * 1; omega
      | ⟨1, _⟩ => by show y.val = 0 + y.val * 1; omega), hx, hi, front_row]

theorem padLanes_at (x : FVec Ideal S4x4112x2 .f32) (f : Fin 4112 → Fin 8 → ℝ)
    (hx : ∀ p i hd, x (ValueIdx.ix3 p i hd) = ((f i (pairHead p hd) : ℝ) : EReal))
    (p : Fin 4) (r : Fin 4224) (l : Fin 128) (hd : Fin 2) (hl : l.val = hd.val) :
    padLanes x (ValueIdx.ix3 p r l) = ((front (fun i => f i (pairHead p hd)) r.val : ℝ) : EReal) := by
  unfold padLanes
  rcases row_cases r with h | ⟨i, hi⟩
  · rw [pad_apply_of_not_inside _ _ _ _ _ _ _ _ (1 : Fin 3) (fun hin => by have h1 : 112 ≤ r.val := hin.1; omega), padZero_at, front_before _ h, EReal.coe_zero]
  · rw [pad_apply_of_inside _ _ _ _ _ _ _ _ (ValueIdx.ix3 p i hd) (fun a => match a with
      | ⟨0, _⟩ => by show p.val = 0 + p.val * 1; omega
      | ⟨1, _⟩ => by show r.val = 112 + i.val * 1; omega
      | ⟨2, _⟩ => by show l.val = 0 + hd.val * 1; omega), hx, hi, front_row]

theorem padLanes_out (x : FVec Ideal S4x4112x2 .f32) (p : Fin 4) (r : Fin 4224) (l : Fin 128) (hl : ¬ l.val < 2) :
    padLanes x (ValueIdx.ix3 p r l) = ((0 : ℝ) : EReal) := by
  unfold padLanes
  rw [pad_apply_of_not_inside _ _ _ _ _ _ _ _ (2 : Fin 3) (fun hin => by
    have h1 : (l.val - 0) / (0 + 1) < 2 := hin.2.2
    omega), padZero_at, EReal.coe_zero]

theorem padSublanes_at (x : FVec Ideal S4x2x4112 .f32) (f : Fin 4112 → Fin 8 → ℝ)
    (hx : ∀ p hd i, x (ValueIdx.ix3 p hd i) = ((f i (pairHead p hd) : ℝ) : EReal))
    (p : Fin 4) (u : Fin 8) (r : Fin 4224) (hd : Fin 2) (hl : u.val = hd.val) :
    padSublanes x (ValueIdx.ix3 p u r) = ((front (fun i => f i (pairHead p hd)) r.val : ℝ) : EReal) := by
  unfold padSublanes
  rcases row_cases r with h | ⟨i, hi⟩
  · rw [pad_apply_of_not_inside _ _ _ _ _ _ _ _ (2 : Fin 3) (fun hin => by have h1 : 112 ≤ r.val := hin.1; omega), padZero_at, front_before _ h, EReal.coe_zero]
  · rw [pad_apply_of_inside _ _ _ _ _ _ _ _ (ValueIdx.ix3 p hd i) (fun a => match a with
      | ⟨0, _⟩ => by show p.val = 0 + p.val * 1; omega
      | ⟨1, _⟩ => by show u.val = 0 + hd.val * 1; omega
      | ⟨2, _⟩ => by show r.val = 112 + i.val * 1; omega), hx, hi, front_row]

theorem padSublanes_out (x : FVec Ideal S4x2x4112 .f32) (p : Fin 4) (u : Fin 8) (r : Fin 4224) (hl : ¬ u.val < 2) :
    padSublanes x (ValueIdx.ix3 p u r) = ((0 : ℝ) : EReal) := by
  unfold padSublanes
  rw [pad_apply_of_not_inside _ _ _ _ _ _ _ _ (1 : Fin 3) (fun hin => by
    have h1 : (u.val - 0) / (0 + 1) < 2 := hin.2.2
    omega), padZero_at, EReal.coe_zero]

end Cert.Grad

end
-- ==== Proof.Grad.Host.lean ====
/- What the host lines hand the kernel: when the arguments hold reals, the padded arrays hold the data of the real
   gradient (the scaled queries, the logarithm of every row's total, the mean of its weights' gradient, the decays). -/
module

public import proofs.«01_k».proof.Proof.Grad.Pads
public import Idealize.ShloMosaic.Lib.Claim

@[expose] public section

set_option maxRecDepth 16384

noncomputable section

namespace Cert.KernelIdeal.Grad

open Cert.KernelIdeal Cert.KernelIdeal.Gen Cert.Grad
open Cert.ReferenceIdeal.Read (val_main_v0 val_main_v4 val_main_v10 val_main_v19_1 val_main_call0_v2)
open Idealize.ShloMosaic Idealize.ShloMosaic.TcCoe Idealize.ShloMosaic.ValueIdx Idealize.ShloMosaic.StableHlo

/-! ## The arrays as terms of the arguments -/

variable {F : FTy → Type} [FloatOps F]

/-- The masked scores. -/
def hostScores (q k : FVec F S4112x512 .f32) (c : FVec F S4112x8 .f32) : FVec F S8x4112x4112 .f32 :=
  select (val_main_v19_1 (F := F)) (subf (val_main_v4 (F := F) q k) (val_main_v10 (F := F) c)) (val_main_call0_v2 (F := F))
def hostExp (q k : FVec F S4112x512 .f32) (c : FVec F S4112x8 .f32) : FVec F S8x4112x4112 .f32 :=
  expOf (hostScores q k c) (rowMax (hostScores q k c))
/-- A row's maximum and the logarithm of its sum, by row and head. -/
def lseOf (μ s : FVec F S8x4112 .f32) : FVec F S4112x8 .f32 :=
  transpose S4112x8 [1, 0] (shapeCast S8x4112 (addf (asCol μ) (Host.log (asCol s))) shapeCasts_S8x4112x1_S8x4112) transposes_S8x4112_S4112x8_1_0
/-- The logarithm of every row's total. -/
def hostLse (q k : FVec F S4112x512 .f32) (c : FVec F S4112x8 .f32) : FVec F S4112x8 .f32 :=
  lseOf (rowMax (hostScores q k c)) (rowSum (hostExp q k c))
def hostDot (v : FVec F S4112x8x64 .f32) (w : FVec F S8x4112x4112 .f32) : FVec F S8x64x4112 .f32 :=
  Host.dotGeneral dot_S4112x8x64_S8x4112x4112_S8x64x4112_0_2_2_1_1_0 none v w
/-- The gradient times the attention's result, summed over a head's columns. -/
def meanOf (d : FVec F S4112x8x64 .f32) (o : FVec F S8x64x4112 .f32) : FVec F S4112x8 .f32 :=
  Host.reduceAdd (mulf d (transpose S4112x8x64 [2, 0, 1] o transposes_S8x64x4112_S4112x8x64_2_0_1)) (constant S_ .f32 0x00000000#32) reducesTo_S4112x8x64_S4112x8_d2 h_S_
/-- The mean of every row's weights' gradient. -/
def hostMean (d v : FVec F S4112x512 .f32) (w : FVec F S8x4112x4112 .f32) : FVec F S4112x8 .f32 :=
  meanOf (val_main_v0 (F := F) d) (hostDot (val_main_v0 (F := F) v) w)
def perPair (y : FVec F S4112x8 .f32) : FVec F S4x4112x2 .f32 :=
  transpose S4x4112x2 [1, 0, 2] (shapeCast S4112x4x2 y shapeCasts_S4112x8_S4112x4x2) transposes_S4112x4x2_S4x4112x2_1_0_2
/-- The queries over eight. -/
def hostScale (q : FVec F S4112x512 .f32) : FVec F S4112x512 .f32 :=
  mulf q (broadcastInDim S4112x512 ![] bcast_S_S4112x512 (constant S_ .f32 0x3E000000#32))

section
variable [Named F] (m : (ℓ : Loc nD τ sig) → Buf (Elt F) ℓ) (c : Dev nD)

/-- The arguments on device `c`. -/
abbrev argQ : FVec F S4112x512 .f32 := m ((c : Thread nD τ).loc main_arg0)
abbrev argK : FVec F S4112x512 .f32 := m ((c : Thread nD τ).loc main_arg1)
abbrev argV : FVec F S4112x512 .f32 := m ((c : Thread nD τ).loc main_arg2)
abbrev argC : FVec F S4112x8 .f32 := m ((c : Thread nD τ).loc main_arg3)
abbrev argD : FVec F S4112x512 .f32 := m ((c : Thread nD τ).loc main_arg4)

theorem V38 : V m c main_v38 = truncf .bf16 (padRows (hostScale (argQ m c))) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl
theorem V40 : V m c main_v40 = truncf .bf16 (padRows (argK m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl
theorem V42 : V m c main_v42 = truncf .bf16 (padRows (argV m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl
theorem V44 : V m c main_v44 = truncf .bf16 (padRows (argD m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl
theorem V47 : V m c main_v47 = padLanes (perPair (hostLse (argQ m c) (argK m c) (argC m c))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl
theorem V50 : V m c main_v50 = padLanes (perPair (hostMean (argD m c) (argV m c) (weightOf (hostExp (argQ m c) (argK m c) (argC m c))))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl
theorem V53 : V m c main_v53 = padLanes (perPair (argC m c)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results
  rfl

end

/-! ## The arrays at an index -/

theorem lseOf_at (μ s : HeadRows) (i : Fin 4112) (h : Fin 8) : lseOf μ s (ValueIdx.ix2 i h) = μ (ValueIdx.ix2 h i) + Ideal.log (s (ValueIdx.ix2 h i)) := by
  unfold lseOf
  rw [transpose_apply [1, 0] _ transposes_S8x4112_S4112x8_1_0 _ (ValueIdx.ix2 h i) (fun b => match b with | ⟨0, _⟩ => rfl | ⟨1, _⟩ => rfl),
    shapeCast_apply _ shapeCasts_S8x4112x1_S8x4112 (ValueIdx.ix2 h i) (ValueIdx.ix3 h i 0) (by
      rewrite [Shape.rowMajor_val_two, Shape.rowMajor_val_three]
      show (h.val * 4112 + i.val) * 1 + 0 = h.val * 4112 + i.val
      omega)]
  show asCol μ (ValueIdx.ix3 h i 0) + Ideal.log (asCol s (ValueIdx.ix3 h i 0)) = _
  rw [asCol_at, asCol_at]

theorem meanOf_at (d : FVec Ideal S4112x8x64 .f32) (o : FVec Ideal S8x64x4112 .f32) (i : Fin 4112) (h : Fin 8) :
    meanOf d o (ValueIdx.ix2 i h) = ∑ e : Fin 64, d (ValueIdx.ix3 i h e) * o (ValueIdx.ix3 h e i) := by
  unfold meanOf
  simp only [Host.reduceAdd, Ideal.hostReduceAdd_def]
  rw [Ideal.hostReduceAdd_single reducesTo_S4112x8x64_S4112x8_d2 (by decide)]
  refine (congrArg₂ (· + ·) Ideal.ofBits_zero_f32 (Finset.sum_congr rfl fun e _ => ?_)).trans (zero_add _)
  exact congrArg₂ (· * ·) (congrArg d (funext fun a => Fin.ext (by match a with | ⟨0, _⟩ => rfl | ⟨1, _⟩ => rfl | ⟨2, _⟩ => rfl)))
    (transpose_apply [2, 0, 1] o transposes_S8x64x4112_S4112x8x64_2_0_1 _ (ValueIdx.ix3 h e i) (fun b => match b with | ⟨0, _⟩ => rfl | ⟨1, _⟩ => rfl | ⟨2, _⟩ => rfl))

theorem perPair_at (y : FVec Ideal S4112x8 .f32) (f : Fin 4112 → Fin 8 → ℝ) (hy : ∀ i h, y (ValueIdx.ix2 i h) = ((f i h : ℝ) : EReal))
    (p : Fin 4) (i : Fin 4112) (hd : Fin 2) : perPair y (ValueIdx.ix3 p i hd) = ((f i (pairHead p hd) : ℝ) : EReal) := by
  unfold perPair
  rw [transpose_apply [1, 0, 2] _ transposes_S4112x4x2_S4x4112x2_1_0_2 _ (ValueIdx.ix3 i p hd) (fun b => match b with | ⟨0, _⟩ => rfl | ⟨1, _⟩ => rfl | ⟨2, _⟩ => rfl),
    shapeCast_apply y shapeCasts_S4112x8_S4112x4x2 (ValueIdx.ix3 i p hd) (ValueIdx.ix2 i (pairHead p hd)) (by
      rewrite [Shape.rowMajor_val_two, Shape.rowMajor_val_three]
      show i.val * 8 + (2 * p.val + hd.val) = (i.val * 4 + p.val) * 2 + hd.val
      omega), hy]

section
variable {A : Args} {q k v d : Rows512} {c : Rows8} (R : Real5 A q k v c d)
include R

theorem hostScores_at (h : Fin 8) (i j : Fin 4112) :
    hostScores q k c (ValueIdx.ix3 h i j) = if j ≤ i then ((A.score h i j + 0 : ℝ) : EReal) else ⊥ := by
  unfold hostScores
  rw [masked_at]
  refine if_congr Iff.rfl ?_ rfl
  show val_main_v4 (F := Ideal) q k (ValueIdx.ix3 h i j) - val_main_v10 (F := Ideal) c (ValueIdx.ix3 h i j) = _
  rw [dot_at R, keyDecay_at R, ← EReal.coe_sub, add_zero]
  rfl

theorem hostMax_real (h : Fin 8) (i : Fin 4112) : ∃ μ : ℝ, rowMax (hostScores q k c) (ValueIdx.ix2 h i) = (μ : EReal) :=
  rowMax_real _ h i _ (hostScores_at R h i)

theorem hostLse_at (i : Fin 4112) (h : Fin 8) : hostLse q k c (ValueIdx.ix2 i h) = ((Real.log (A.total h i) : ℝ) : EReal) := by
  obtain ⟨μ, hμ⟩ := hostMax_real R h i
  have hs := sum_at (hostScores_at R h i) hμ
  have h0 := Real.exp_pos (0 - μ)
  have h1 := A.total_pos h i
  unfold hostLse
  rw [lseOf_at, hμ]
  unfold hostExp
  rw [hs, Ideal.log_coe, if_neg (not_le.mpr (mul_pos h0 h1)), Real.log_mul h0.ne' h1.ne', Real.log_exp, ← EReal.coe_add]
  exact congrArg Real.toEReal (by ring)

theorem hostWeight_at (h : Fin 8) (i j : Fin 4112) : weightOf (hostExp q k c) (ValueIdx.ix3 h i j) = ((A.weight h i j : ℝ) : EReal) := by
  obtain ⟨μ, hμ⟩ := hostMax_real R h i
  exact weight_at (hostScores_at R h i) hμ j

end

open Cert.ReferenceIdeal.Read (lidx_main_v49 ridx_main_v49 lhs_main_v49_0 lhs_main_v49_1 lhs_main_v49_2 rhs_main_v49_0 rhs_main_v49_1 rhs_main_v49_2) in
theorem hostDot_at (v : FVec Ideal S4112x8x64 .f32) (w : Square) (h : Fin 8) (e : Fin 64) (i : Fin 4112) :
    hostDot v w (ValueIdx.ix3 h e i) = ∑ j : Fin 4112, v (ValueIdx.ix3 j h e) * w (ValueIdx.ix3 h i j) := by
  unfold hostDot
  simp only [Host.dotGeneral]
  rw [Ideal.dotGeneral_apply, ← Equiv.sum_comp (ValueIdx.contrEquiv1 dot_S4112x8x64_S8x4112x4112_S8x64x4112_0_2_2_1_1_0 4112 rfl rfl).symm]
  refine Finset.sum_congr rfl fun j _ => ?_
  have hj := ValueIdx.contrEquiv1_symm_val dot_S4112x8x64_S8x4112x4112_S8x64x4112_0_2_2_1_1_0 4112 rfl rfl j
  refine congrArg₂ (· * ·) (congrArg v (funext fun a => Fin.ext ?_)) (congrArg w (funext fun a => Fin.ext ?_))
  · match a with
    | ⟨0, _⟩ => exact (lhs_main_v49_0 _ _).trans hj
    | ⟨1, _⟩ => exact lhs_main_v49_1 _ _
    | ⟨2, _⟩ => exact lhs_main_v49_2 _ _
  · match a with
    | ⟨0, _⟩ => exact rhs_main_v49_0 _ _
    | ⟨1, _⟩ => exact rhs_main_v49_1 _ _
    | ⟨2, _⟩ => exact (rhs_main_v49_2 _ _).trans hj

section
variable {A : Args} {q k v d : Rows512} {c : Rows8} (R : Real5 A q k v c d)
include R

theorem hostMean_at (i : Fin 4112) (h : Fin 8) : hostMean d v (weightOf (hostExp q k c)) (ValueIdx.ix2 i h) = ((A.mean h i : ℝ) : EReal) := by
  have ho : ∀ e : Fin 64, hostDot (val_main_v0 (F := Ideal) v) (weightOf (hostExp q k c)) (ValueIdx.ix3 h e i)
      = ((∑ j, A.v j (hcol h e) * A.weight h i j : ℝ) : EReal) := fun e => by
    rw [hostDot_at, ← coe_sum_mul]
    exact Finset.sum_congr rfl fun j _ => by rw [split_at, R.v, hostWeight_at R]
  have hm : A.mean h i = ∑ e, A.d i (hcol h e) * ∑ j, A.v j (hcol h e) * A.weight h i j := by
    unfold Args.mean Args.value
    simp only [Finset.mul_sum]
    rw [Finset.sum_comm]
    exact Finset.sum_congr rfl fun e _ => Finset.sum_congr rfl fun j _ => by ring
  unfold hostMean
  rw [meanOf_at, hm, ← coe_sum_mul]
  exact Finset.sum_congr rfl fun e _ => by rw [ho, split_at, R.d]

end

/-! ## What the kernel reads -/

theorem holds (m : (ℓ : Loc nD τ sig) → Buf (Elt Ideal) ℓ) (c : Dev nD) (A : Args)
    (R : Real5 A (argQ m c) (argK m c) (argV m c) (argC m c) (argD m c)) : Holds m c A.data where
  q r y := by
    have hx : ∀ i y, hostScale (argQ m c) (ValueIdx.ix2 i y)
        = ((A.q i y * (1 / 8) : ℝ) : EReal) := fun i y => by
      rw [EReal.coe_mul, ← R.q]
      exact congrArg (fun t : EReal => argQ m c (ValueIdx.ix2 i y) * t) ofBits_eighth
    rw [V38]
    refine (padRows_at _ _ hx r y).trans ?_
    exact congrArg (fun f : Fin 4112 → ℝ => ((front f r.val : ℝ) : EReal))
      (show (fun i => A.q i y * (1 / 8)) = fun i => atCol (A.q i) y.val * (1 / 8) from
        funext fun i => congrArg (fun t : ℝ => t * (1 / 8)) (atCol_at (A.q i) y rfl).symm)
  k r y := by
    rw [V40]
    exact (padRows_at _ _ R.k r y).trans (congrArg (fun f => ((front f r.val : ℝ) : EReal)) (funext fun i => (atCol_at (A.k i) y rfl).symm))
  v r y := by
    rw [V42]
    exact (padRows_at _ _ R.v r y).trans (congrArg (fun f => ((front f r.val : ℝ) : EReal)) (funext fun i => (atCol_at (A.v i) y rfl).symm))
  d r y := by
    rw [V44]
    exact (padRows_at _ _ R.d r y).trans (congrArg (fun f => ((front f r.val : ℝ) : EReal)) (funext fun i => (atCol_at (A.d i) y rfl).symm))
  lse p r hd := by
    rw [V47]
    exact (padLanes_at _ _ (perPair_at _ _ (hostLse_at R)) p r (statLane hd) hd rfl).trans
      (congrArg (fun f => ((front f r.val : ℝ) : EReal)) (funext fun i => (atCol_at (fun h => Real.log (A.total h i)) (pairHead p hd) rfl).symm))
  del p r hd := by
    rw [V50]
    exact (padLanes_at _ _ (perPair_at _ _ (hostMean_at R)) p r (statLane hd) hd rfl).trans
      (congrArg (fun f => ((front f r.val : ℝ) : EReal)) (funext fun i => (atCol_at (fun h => A.mean h i) (pairHead p hd) rfl).symm))
  c p r hd := by
    rw [V53]
    exact (padLanes_at _ _ (perPair_at _ _ R.c) p r (statLane hd) hd rfl).trans
      (congrArg (fun f => ((front f r.val : ℝ) : EReal)) (funext fun i => (atCol_at (A.c i) (pairHead p hd) rfl).symm))

end Cert.KernelIdeal.Grad

end
-- ==== Proof.Grad.Chain.lean ====
/- The reference's lines up to the gradient of a score, read at an index when the arguments hold reals: the softmax with
   its row maximum, the gradient of a weight, and the derivative of the division by the row's sum. -/
module

public import proofs.«01_k».proof.Proof.Grad.Softmax

@[expose] public section

set_option maxRecDepth 16384

noncomputable section

namespace Cert.Grad

open Cert.ReferenceIdeal Cert.ReferenceIdeal.Gen Cert.ReferenceIdeal.Read
open Idealize.ShloMosaic Idealize.ShloMosaic.ValueIdx

/-- An index is given by its coordinates. -/
theorem ix2_of {n0 n1 : ℕ} (f : (⟨2, ![n0, n1]⟩ : Shape).Idx) (x : Fin n0) (y : Fin n1)
    (h0 : (f 0).val = x.val) (h1 : (f 1).val = y.val) : f = ValueIdx.ix2 x y :=
  funext fun a => Fin.ext (match a with | ⟨0, _⟩ => h0 | ⟨1, _⟩ => h1)
theorem ix3_of {n0 n1 n2 : ℕ} (f : (⟨3, ![n0, n1, n2]⟩ : Shape).Idx) (x : Fin n0) (y : Fin n1) (z : Fin n2)
    (h0 : (f 0).val = x.val) (h1 : (f 1).val = y.val) (h2 : (f 2).val = z.val) : f = ValueIdx.ix3 x y z :=
  funext fun a => Fin.ext (match a with | ⟨0, _⟩ => h0 | ⟨1, _⟩ => h1 | ⟨2, _⟩ => h2)

theorem ofBits_one : Ideal.ofBits .f32 0x3F800000#32 = ((1 : ℝ) : EReal) := by
  simp [Ideal.ofBits, Ideal.ieee, -EReal.coe_mul]; norm_num

/-- A sum from zero of reals. -/
theorem zero_sum {n : ℕ} (f : Fin n → EReal) (g : Fin n → ℝ) (h : ∀ k, f k = ((g k : ℝ) : EReal)) :
    Ideal.ofBits .f32 0x00000000#32 + ∑ k, f k = ((∑ k, g k : ℝ) : EReal) := by
  rw [Ideal.ofBits_zero_f32, zero_add, coe_sum]
  exact Finset.sum_congr rfl fun k _ => h k

section
variable {F : FTy → Type} [FloatOps F] (x0 x1 : FVec F S4112x512 .f32) (x3 : FVec F S4112x8 .f32)

theorem v20_eq : val_main_v20 (F := F) x0 x1 x3 = rowMax (val_main_v19_0 (F := F) x0 x1 x3) := rfl
theorem v40_eq : val_main_v40 (F := F) x0 x1 x3 = expOf (val_main_v19_0 (F := F) x0 x1 x3) (val_main_v27 (F := F) x0 x1 x3) := rfl
theorem v41_eq : val_main_v41 (F := F) x0 x1 x3 = rowSum (val_main_v40 (F := F) x0 x1 x3) := rfl
theorem v42_eq : val_main_v42 (F := F) x0 x1 x3 = asCol (val_main_v41 (F := F) x0 x1 x3) := rfl
theorem v44_eq : val_main_v44 (F := F) x0 x1 x3 = weightOf (val_main_v40 (F := F) x0 x1 x3) := rfl
theorem v58_eq : val_main_v58 (F := F) x0 x1 x3 = along (val_main_v47 (F := F) x0 x1 x3) := rfl
theorem v64_eq : val_main_v64 (F := F) x0 x1 x3 = along (val_main_v42 (F := F) x0 x1 x3) := rfl
end

section
variable {A : Args} {q k v d : Rows512} {c : Rows8} (R : Real5 A q k v c d)
include R

/-! ## The softmax -/

theorem scores_at (h : Fin 8) (i j : Fin 4112) :
    val_main_v19_0 (F := Ideal) q k c (ValueIdx.ix3 h i j) = if j ≤ i then ((A.score h i j + A.c i h : ℝ) : EReal) else ⊥ := by
  unfold val_main_v19_0
  rw [masked_at]
  refine if_congr Iff.rfl ?_ rfl
  rw [val_main_v12_apply, val_main_v11_apply, dot_at R, queryDecay_at R, keyDecay_at R]
  refine (congrArg₂ (· + ·) rfl (EReal.coe_sub _ _).symm).trans ((EReal.coe_add _ _).symm.trans (congrArg Real.toEReal ?_))
  unfold Args.score
  ring

theorem top_real (h : Fin 8) (i : Fin 4112) : ∃ μ : ℝ, val_main_v27 (F := Ideal) q k c (ValueIdx.ix2 h i) = (μ : EReal) := by
  obtain ⟨μ, hμ⟩ := rowMax_real _ h i _ (scores_at R h i)
  refine ⟨μ, ?_⟩
  rw [val_main_v27_apply, v20_eq, hμ, val_main_v26_apply]
  exact (congrArg (fun t : EReal => max t (μ : EReal)) ofBits_bot).trans (max_eq_right bot_le)

/-- The exponentials of a row and their sum, up to one positive factor. -/
theorem exps_at (h : Fin 8) (i : Fin 4112) : ∃ s : ℝ, 0 < s ∧
    (∀ j, val_main_v40 (F := Ideal) q k c (ValueIdx.ix3 h i j) = ((s * (if j ≤ i then Real.exp (A.score h i j) else 0) : ℝ) : EReal)) ∧
    ∀ z, val_main_v42 (F := Ideal) q k c (ValueIdx.ix3 h i z) = ((s * A.total h i : ℝ) : EReal) := by
  obtain ⟨μ, hμ⟩ := top_real R h i
  refine ⟨Real.exp (A.c i h - μ), Real.exp_pos _, fun j => ?_, fun z => ?_⟩
  · rw [v40_eq]
    exact exp_at (scores_at R h i) hμ j
  · rw [v42_eq, asCol_at, v41_eq, v40_eq]
    exact sum_at (scores_at R h i) hμ

theorem weights_at (h : Fin 8) (i j : Fin 4112) : val_main_v44 (F := Ideal) q k c (ValueIdx.ix3 h i j) = ((A.weight h i j : ℝ) : EReal) := by
  obtain ⟨μ, hμ⟩ := top_real R h i
  rw [v44_eq, v40_eq]
  exact weight_at (scores_at R h i) hμ j

/-! ## The gradient of a weight -/

theorem grad_at (h : Fin 8) (e : Fin 64) (i : Fin 4112) : val_main_v53 (F := Ideal) d (ValueIdx.ix3 h e i) = ((A.d i (hcol h e) : ℝ) : EReal) := by
  rw [val_main_v53_apply, show idx_main_v53 (ValueIdx.ix3 h e i) = ValueIdx.ix3 i h e from ix3_of _ _ _ _ rfl rfl rfl]
  exact (split_at d i h e).trans (R.d _ _)

theorem values_at (h : Fin 8) (i j : Fin 4112) : val_main_v54 (F := Ideal) v d (ValueIdx.ix3 h i j) = ((A.value h i j : ℝ) : EReal) := by
  rw [val_main_v54_apply]
  unfold Args.value
  rw [← coe_sum_mul]
  refine Finset.sum_congr rfl fun e _ => ?_
  rw [show lidx_main_v54 (ValueIdx.ix3 h i j) e = ValueIdx.ix3 h e i from ix3_of _ _ _ _ rfl rfl rfl,
    show ridx_main_v54 (ValueIdx.ix3 h i j) e = ValueIdx.ix3 j h e from ix3_of _ _ _ _ rfl rfl rfl, grad_at R]
  exact congrArg₂ (· * ·) rfl ((split_at v j h e).trans (R.v _ _))

/-! ## The gradient of a score -/

theorem inverse_at (h : Fin 8) (i : Fin 4112) (s : ℝ) (hs : 0 < s)
    (hl : ∀ z, val_main_v42 (F := Ideal) q k c (ValueIdx.ix3 h i z) = ((s * A.total h i : ℝ) : EReal)) (j : Fin 4112) :
    val_main_v58 (F := Ideal) q k c (ValueIdx.ix3 h i j) = ((1 / ((s * A.total h i) * (s * A.total h i)) : ℝ) : EReal) := by
  have h1 : s * A.total h i ≠ 0 := (mul_pos hs (A.total_pos h i)).ne'
  rw [v58_eq, along_at, val_main_v47_apply, val_main_v45_apply, hl, val_main_v46_apply]
  refine (congrArg₂ Ideal.div ofBits_one (EReal.coe_mul _ _).symm).trans (div_real (mul_ne_zero h1 h1))

/-- The sum of a row that the derivative of the division by the sum brings in. -/
theorem back_at (h : Fin 8) (i : Fin 4112) (s : ℝ) (hs : 0 < s)
    (he : ∀ j, val_main_v40 (F := Ideal) q k c (ValueIdx.ix3 h i j) = ((s * (if j ≤ i then Real.exp (A.score h i j) else 0) : ℝ) : EReal))
    (hl : ∀ z, val_main_v42 (F := Ideal) q k c (ValueIdx.ix3 h i z) = ((s * A.total h i : ℝ) : EReal)) (j : Fin 4112) :
    val_main_v67 (F := Ideal) q k v c d (ValueIdx.ix3 h i j)
      = ((-∑ t, A.value h i t * (1 / ((s * A.total h i) * (s * A.total h i))) * (s * (if t ≤ i then Real.exp (A.score h i t) else 0)) : ℝ) : EReal) := by
  have h61 : val_main_v61 (F := Ideal) q k v c d (ValueIdx.ix2 h i)
      = ((∑ t, A.value h i t * (1 / ((s * A.total h i) * (s * A.total h i))) * (s * (if t ≤ i then Real.exp (A.score h i t) else 0)) : ℝ) : EReal) := by
    rw [val_main_v61_apply]
    refine zero_sum _ _ fun t => ?_
    rw [show idx_main_v61 (ValueIdx.ix2 h i) t = ValueIdx.ix3 h i t from ix3_of _ _ _ _ rfl rfl rfl, val_main_v60_apply, val_main_v59_apply,
      values_at R, inverse_at R h i s hs hl, he]
    exact (congrArg₂ (· * ·) (EReal.coe_mul _ _).symm rfl).trans (EReal.coe_mul _ _).symm
  rw [val_main_v67_apply, show idx_main_v67 (ValueIdx.ix3 h i j) = ValueIdx.ix2 h i from ix2_of _ _ _ rfl rfl, val_main_v66_apply]
  refine (zero_sum _ (fun _ : Fin 1 => -∑ t, A.value h i t * (1 / ((s * A.total h i) * (s * A.total h i))) * (s * (if t ≤ i then Real.exp (A.score h i t) else 0))) fun z => ?_).trans
    (congrArg Real.toEReal (by rw [Fin.sum_univ_one]))
  rw [val_main_v63_apply, val_main_v62_apply, show idx_main_v62 (idx_main_v66 (ValueIdx.ix2 h i) z) = ValueIdx.ix2 h i from
    ix2_of _ _ _ (by show ((h.val * 4112 + i.val) * 1 + z.val) / 4112 = h.val; omega) (by show ((h.val * 4112 + i.val) * 1 + z.val) % 4112 = i.val; omega), h61]
  exact (EReal.coe_neg _).symm

theorem slopes_at (h : Fin 8) (i j : Fin 4112) : val_main_v70 (F := Ideal) q k v c d (ValueIdx.ix3 h i j) = ((A.slope h i j : ℝ) : EReal) := by
  rw [val_main_v70_apply, Cert.KernelIdeal.Grad.select_of _ (j ≤ i) (mask_at h i j)]
  obtain ⟨s, hs, he, hl⟩ := exps_at R h i
  have h1 := A.total_pos h i
  split_ifs with hj
  · rw [val_main_v69_apply, val_main_v68_apply, val_main_v65_apply, v64_eq, along_at, hl, values_at R, back_at R h i s hs he hl, he]
    refine (congrArg₂ (· * ·) ((congrArg₂ (· + ·) (div_real (mul_pos hs h1).ne') rfl).trans (EReal.coe_add _ _).symm) rfl).trans
      ((EReal.coe_mul _ _).symm.trans (congrArg Real.toEReal ?_))
    have hm : ∑ t, A.value h i t * (1 / ((s * A.total h i) * (s * A.total h i))) * (s * (if t ≤ i then Real.exp (A.score h i t) else 0))
        = A.mean h i / (s * A.total h i) := by
      unfold Args.mean Args.weight
      rw [Finset.sum_div]
      refine Finset.sum_congr rfl fun t _ => ?_
      split_ifs
      · field_simp
      · simp
    rw [hm]
    unfold Args.slope Args.weight
    rw [if_pos hj, if_pos hj]
    field_simp
    ring
  · rw [show A.slope h i j = 0 by unfold Args.slope Args.weight; rw [if_neg hj, zero_mul], EReal.coe_zero]
    exact Ideal.ofBits_zero_f32

end

end Cert.Grad

end
-- ==== Proof.Grad.Reference.lean ====
/- The reference's results: from the gradient of a score to the gradients of the queries, the keys, the values and the
   two decays, laid out and padded. -/
module

public import proofs.«01_k».proof.Proof.Grad.Chain
public import proofs.«01_k».proof.Proof.Grad.Pads

@[expose] public section

set_option maxRecDepth 16384

noncomputable section

namespace Cert.Grad

open Cert.ReferenceIdeal Cert.ReferenceIdeal.Gen Cert.ReferenceIdeal.Read
open Idealize.ShloMosaic Idealize.ShloMosaic.ValueIdx

/-- The column of a head that a column is. -/
def inHead (x : Fin 512) : Fin 64 := ⟨x.val % 64, by omega⟩
theorem hcol_headOf (x : Fin 512) : hcol (headOf x) (inHead x) = x := Fin.ext (by show 64 * (x.val / 64) + x.val % 64 = x.val; omega)

section
variable {F : FTy → Type} [FloatOps F] (x0 x1 x2 : FVec F S4112x512 .f32) (x3 : FVec F S4112x8 .f32) (x4 : FVec F S4112x512 .f32)

theorem v91_eq : val_main_v91 (F := F) x0 x1 x2 x3 x4 = padLanes (val_main_v90 (F := F) x0 x1 x2 x3 x4) := rfl
theorem v94_eq : val_main_v94 (F := F) x0 x1 x2 x3 x4 = padSublanes (val_main_v93 (F := F) x0 x1 x2 x3 x4) := rfl
theorem v95_eq : val_main_v95 (F := F) x0 x1 x2 x3 x4 = padRows (val_main_v87 (F := F) x0 x1 x2 x3 x4) := rfl
theorem v96_eq : val_main_v96 (F := F) x0 x1 x2 x3 x4 = padRows (val_main_v86 (F := F) x0 x1 x2 x3 x4) := rfl
theorem v98_eq : val_main_v98 (F := F) x0 x1 x3 x4 = padRows (val_main_v57 (F := F) x0 x1 x3 x4) := rfl
end

section
variable {A : Args} {q k v d : Rows512} {c : Rows8} (R : Real5 A q k v c d)
include R

/-! ## The decays -/

theorem row_at (i : Fin 4112) (h : Fin 8) : val_main_v79 (F := Ideal) q k v c d (ValueIdx.ix2 i h) = ((A.dcq i h : ℝ) : EReal) := by
  have h71 : val_main_v71 (F := Ideal) q k v c d (ValueIdx.ix2 h i) = ((A.dcq i h : ℝ) : EReal) := by
    rw [val_main_v71_apply]
    refine zero_sum _ (fun j => A.slope h i j) fun j => ?_
    rw [show idx_main_v71 (ValueIdx.ix2 h i) j = ValueIdx.ix3 h i j from ix3_of _ _ _ _ rfl rfl rfl, slopes_at R]
  rw [val_main_v79_apply, show idx_main_v79 (ValueIdx.ix2 i h) = ValueIdx.ix2 h i from ix2_of _ _ _ rfl rfl, val_main_v78_apply]
  refine (zero_sum _ (fun _ : Fin 1 => A.dcq i h) fun z => ?_).trans (congrArg Real.toEReal (by rw [Fin.sum_univ_one]))
  rw [val_main_v72_apply, show idx_main_v72 (idx_main_v78 (ValueIdx.ix2 h i) z) = ValueIdx.ix2 h i from
    ix2_of _ _ _ (by show ((h.val * 4112 + i.val) * 1 + z.val) / 4112 = h.val; omega) (by show ((h.val * 4112 + i.val) * 1 + z.val) % 4112 = i.val; omega), h71]

theorem column_at (j : Fin 4112) (h : Fin 8) : val_main_v77 (F := Ideal) q k v c d (ValueIdx.ix2 j h) = ((-A.dck j h : ℝ) : EReal) := by
  have h74 : val_main_v74 (F := Ideal) q k v c d (ValueIdx.ix2 h j) = ((-A.dck j h : ℝ) : EReal) := by
    rw [val_main_v74_apply]
    refine (zero_sum _ (fun i => -A.slope h i j) fun i => ?_).trans (congrArg Real.toEReal (Finset.sum_neg_distrib _))
    rw [show idx_main_v74 (ValueIdx.ix2 h j) i = ValueIdx.ix3 h i j from ix3_of _ _ _ _ rfl rfl rfl, val_main_v73_apply, slopes_at R]
    exact (EReal.coe_neg _).symm
  rw [val_main_v77_apply, show idx_main_v77 (ValueIdx.ix2 j h) = ValueIdx.ix2 h j from ix2_of _ _ _ rfl rfl, val_main_v76_apply]
  refine (zero_sum _ (fun _ : Fin 1 => -A.dck j h) fun z => ?_).trans (congrArg Real.toEReal (by rw [Fin.sum_univ_one]))
  rw [val_main_v75_apply, show idx_main_v75 (idx_main_v76 (ValueIdx.ix2 h j) z) = ValueIdx.ix2 h j from
    ix2_of _ _ _ (by show ((h.val * 1 + z.val) * 4112 + j.val) / 4112 = h.val; omega) (by show ((h.val * 1 + z.val) * 4112 + j.val) % 4112 = j.val; omega), h74]

theorem keyDecays_at (p : Fin 4) (i : Fin 4112) (hd : Fin 2) :
    val_main_v90 (F := Ideal) q k v c d (ValueIdx.ix3 p i hd) = ((A.dck i (pairHead p hd) : ℝ) : EReal) := by
  rw [val_main_v90_apply, val_main_v89_apply, val_main_v88_apply,
    show idx_main_v88 (idx_main_v89 (ValueIdx.ix3 p i hd)) = ValueIdx.ix2 i (pairHead p hd) from
      ix2_of _ _ _ (by show ((i.val * 4 + p.val) * 2 + hd.val) / 8 = i.val; omega) (by show ((i.val * 4 + p.val) * 2 + hd.val) % 8 = 2 * p.val + hd.val; omega),
    column_at R]
  exact (EReal.coe_neg _).symm.trans (congrArg Real.toEReal (neg_neg _))

theorem queryDecays_at (p : Fin 4) (hd : Fin 2) (i : Fin 4112) :
    val_main_v93 (F := Ideal) q k v c d (ValueIdx.ix3 p hd i) = ((A.dcq i (pairHead p hd) : ℝ) : EReal) := by
  rw [val_main_v93_apply, val_main_v92_apply,
    show idx_main_v92 (idx_main_v93 (ValueIdx.ix3 p hd i)) = ValueIdx.ix2 i (pairHead p hd) from
      ix2_of _ _ _ (by show ((i.val * 4 + p.val) * 2 + hd.val) / 8 = i.val; omega) (by show ((i.val * 4 + p.val) * 2 + hd.val) % 8 = 2 * p.val + hd.val; omega),
    row_at R]

theorem dck_result (p : Fin 4) (r : Fin 4224) (l : Fin 128) :
    val_main_v91 (F := Ideal) q k v c d (ValueIdx.ix3 p r l) = ((A.dckPad p r l : ℝ) : EReal) := by
  rw [v91_eq]
  unfold Args.dckPad
  split_ifs with h
  · exact padLanes_at _ A.dck (keyDecays_at R) p r l ⟨l.val, h⟩ rfl
  · exact padLanes_out _ p r l h

theorem dcq_result (p : Fin 4) (u : Fin 8) (r : Fin 4224) :
    val_main_v94 (F := Ideal) q k v c d (ValueIdx.ix3 p u r) = ((A.dcqPad p u r : ℝ) : EReal) := by
  rw [v94_eq]
  unfold Args.dcqPad
  split_ifs with h
  · exact padSublanes_at _ A.dcq (queryDecays_at R) p u r ⟨u.val, h⟩ rfl
  · exact padSublanes_out _ p u r h

/-! ## The queries, the keys and the values -/

theorem scaled_at (h : Fin 8) (i j : Fin 4112) : val_main_v81 (F := Ideal) q k v c d (ValueIdx.ix3 h i j) = ((A.slope h i j * (1 / 8) : ℝ) : EReal) := by
  rw [val_main_v81_apply, slopes_at R, val_main_v80_apply]
  exact (congrArg₂ (· * ·) rfl ofBits_eighth).trans (EReal.coe_mul _ _).symm

theorem queries_at (i : Fin 4112) (x : Fin 512) : val_main_v87 (F := Ideal) q k v c d (ValueIdx.ix2 i x) = ((A.dq i x : ℝ) : EReal) := by
  rw [val_main_v87_apply, val_main_v85_apply,
    show idx_main_v85 (idx_main_v87 (ValueIdx.ix2 i x)) = ValueIdx.ix3 (headOf x) i (inHead x) from
      ix3_of _ _ _ _ (by show (i.val * 512 + x.val) / 64 % 8 = x.val / 64; omega) (by show (i.val * 512 + x.val) / 512 = i.val; omega)
        (by show (i.val * 512 + x.val) % 64 = x.val % 64; omega), val_main_v84_apply]
  have e : A.dq i x = ∑ j, A.slope (headOf x) i j * (1 / 8) * A.k j x := by
    unfold Args.dq
    rw [Finset.sum_mul]
    exact Finset.sum_congr rfl fun j _ => by ring
  rw [e, ← coe_sum_mul]
  refine Finset.sum_congr rfl fun j _ => ?_
  rw [show lidx_main_v84 (ValueIdx.ix3 (headOf x) i (inHead x)) j = ValueIdx.ix3 (headOf x) i j from ix3_of _ _ _ _ rfl rfl rfl,
    show ridx_main_v84 (ValueIdx.ix3 (headOf x) i (inHead x)) j = ValueIdx.ix3 j (headOf x) (inHead x) from ix3_of _ _ _ _ rfl rfl rfl, scaled_at R]
  exact congrArg₂ (· * ·) rfl ((split_at k j _ _).trans ((R.k _ _).trans (by rw [hcol_headOf])))

theorem keys_at (j : Fin 4112) (x : Fin 512) : val_main_v86 (F := Ideal) q k v c d (ValueIdx.ix2 j x) = ((A.dk j x : ℝ) : EReal) := by
  rw [val_main_v86_apply, val_main_v83_apply,
    show idx_main_v83 (idx_main_v86 (ValueIdx.ix2 j x)) = ValueIdx.ix3 (headOf x) j (inHead x) from
      ix3_of _ _ _ _ (by show (j.val * 512 + x.val) / 64 % 8 = x.val / 64; omega) (by show (j.val * 512 + x.val) / 512 = j.val; omega)
        (by show (j.val * 512 + x.val) % 64 = x.val % 64; omega), val_main_v82_apply]
  have e : A.dk j x = ∑ i, A.slope (headOf x) i j * (1 / 8) * A.q i x := by
    unfold Args.dk
    exact Finset.sum_congr rfl fun i _ => by ring
  rw [e, ← coe_sum_mul]
  refine Finset.sum_congr rfl fun i _ => ?_
  rw [show lidx_main_v82 (ValueIdx.ix3 (headOf x) j (inHead x)) i = ValueIdx.ix3 (headOf x) i j from ix3_of _ _ _ _ rfl rfl rfl,
    show ridx_main_v82 (ValueIdx.ix3 (headOf x) j (inHead x)) i = ValueIdx.ix3 i (headOf x) (inHead x) from ix3_of _ _ _ _ rfl rfl rfl, scaled_at R]
  exact congrArg₂ (· * ·) rfl ((split_at q i _ _).trans ((R.q _ _).trans (by rw [hcol_headOf])))

theorem valueRows_at (j : Fin 4112) (x : Fin 512) : val_main_v57 (F := Ideal) q k c d (ValueIdx.ix2 j x) = ((A.dv j x : ℝ) : EReal) := by
  rw [val_main_v57_apply, val_main_v56_apply,
    show idx_main_v56 (idx_main_v57 (ValueIdx.ix2 j x)) = ValueIdx.ix3 (headOf x) (inHead x) j from
      ix3_of _ _ _ _ (by show (j.val * 512 + x.val) / 64 % 8 = x.val / 64; omega) (by show (j.val * 512 + x.val) % 64 = x.val % 64; omega)
        (by show (j.val * 512 + x.val) / 512 = j.val; omega), val_main_v55_apply]
  have e : A.dv j x = ∑ i, A.d i x * A.weight (headOf x) i j := by
    unfold Args.dv
    exact Finset.sum_congr rfl fun i _ => by ring
  rw [e, ← coe_sum_mul]
  refine Finset.sum_congr rfl fun i _ => ?_
  rw [show lidx_main_v55 (ValueIdx.ix3 (headOf x) (inHead x) j) i = ValueIdx.ix3 (headOf x) (inHead x) i from ix3_of _ _ _ _ rfl rfl rfl,
    show ridx_main_v55 (ValueIdx.ix3 (headOf x) (inHead x) j) i = ValueIdx.ix3 (headOf x) i j from ix3_of _ _ _ _ rfl rfl rfl, grad_at R, weights_at R, hcol_headOf]

theorem dq_result (r : Fin 4224) (x : Fin 512) : val_main_v95 (F := Ideal) q k v c d (ValueIdx.ix2 r x) = ((A.dqPad r x : ℝ) : EReal) := by
  rw [v95_eq]
  exact padRows_at _ A.dq (queries_at R) r x
theorem dk_result (r : Fin 4224) (x : Fin 512) : val_main_v97 (F := Ideal) q k v c d (ValueIdx.ix2 r x) = ((A.dkPad r x : ℝ) : EReal) := by
  rw [val_main_v97_apply, v96_eq]
  exact padRows_at _ A.dk (keys_at R) r x
theorem dv_result (r : Fin 4224) (x : Fin 512) : val_main_v99 (F := Ideal) q k c d (ValueIdx.ix2 r x) = ((A.dvPad r x : ℝ) : EReal) := by
  rw [val_main_v99_apply, v98_eq]
  exact padRows_at _ A.dv (valueRows_at R) r x

end

end Cert.Grad

end
-- ==== Proof.Grad.Runs.lean ====
/- The two programs over the extended reals: from arguments that hold reals, either ends with the padded gradient in its
   result arrays and the arguments as they were. -/
module

public import proofs.«01_k».proof.Proof.Attn.Frames
public import proofs.«01_k».proof.Proof.Grad.Arrays
public import proofs.«01_k».proof.Proof.Grad.Host
public import proofs.«01_k».proof.Proof.Grad.Reference
public import proofs.«01_k».proof.Proof.Gen.ReferenceIdeal.Run
public import Idealize.ShloMosaic.Lib.Claim
public import Idealize.ShloMosaic.Lib.Quiescent

@[expose] public section

set_option maxRecDepth 16384

noncomputable section

open Idealize.ShloMosaic Idealize.ShloMosaic.TcCoe
open Idealize.SL.Sem

namespace Cert.Grad

/-- The five results. -/
def Args.rows (f : Fin 4224 → Fin 512 → ℝ) : (⟨2, ![4224, 512]⟩ : Shape).Idx → EReal := fun i => ((f (i 0) (i 1) : ℝ) : EReal)
def Args.lanes (f : Fin 4 → Fin 4224 → Fin 128 → ℝ) : (⟨3, ![4, 4224, 128]⟩ : Shape).Idx → EReal := fun i => ((f (i 0) (i 1) (i 2) : ℝ) : EReal)
def Args.sublanes (f : Fin 4 → Fin 8 → Fin 4224 → ℝ) : (⟨3, ![4, 8, 4224]⟩ : Shape).Idx → EReal := fun i => ((f (i 0) (i 1) (i 2) : ℝ) : EReal)

theorem ix2_self {n0 n1 : ℕ} (i : (⟨2, ![n0, n1]⟩ : Shape).Idx) : i = ValueIdx.ix2 (i 0) (i 1) := ix2_of i _ _ rfl rfl
theorem ix3_self {n0 n1 n2 : ℕ} (i : (⟨3, ![n0, n1, n2]⟩ : Shape).Idx) : i = ValueIdx.ix3 (i 0) (i 1) (i 2) := ix3_of i _ _ _ rfl rfl rfl

end Cert.Grad

namespace Cert.KernelIdeal.Grad

open Cert.KernelIdeal Cert.KernelIdeal.Gen Cert.KernelIdeal.Attn Cert.Grad

theorem run (m : (ℓ : Loc nD τ sig) → Buf (Elt Ideal) ℓ) (ρ : Dev nD → PrngReg) (A : Dev nD → Args)
    (R : ∀ c, Real5 (A c) (argQ m c) (argK m c) (argV m c) (argC m c) (argD m c)) :
    θ_run (defs (F := Ideal)) (onTc (τ := τ) (main (F := Ideal))) ⟨m, fun _ => 0, ρ⟩ (fun r => ∀ c : Dev nD,
      r.2.mem ((c.tc : Thread nD τ).loc main_v54_0) = Args.rows (A c).dqPad
      ∧ r.2.mem ((c.tc : Thread nD τ).loc main_v54_1) = Args.rows (A c).dkPad
      ∧ r.2.mem ((c.tc : Thread nD τ).loc main_v54_2) = Args.rows (A c).dvPad
      ∧ r.2.mem ((c.tc : Thread nD τ).loc main_v54_3) = Args.lanes (A c).dckPad
      ∧ r.2.mem ((c.tc : Thread nD τ).loc main_v54_4) = Args.sublanes (A c).dcqPad
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (θ_run_and (run_main (F := Ideal) m ρ) (frame m ρ)) fun r h c => ?_
  have H := holds m c (A c) (R c)
  have h1 := (h.1.1 c).1
  have e0 : r.2.mem ((c.tc : Thread nD τ).loc main_v54_0) = (dats m 0 c).arrAt 7 cfg0.N := h1 7
  have e1 : r.2.mem ((c.tc : Thread nD τ).loc main_v54_1) = (dats m 0 c).arrAt 8 cfg0.N := h1 8
  have e2 : r.2.mem ((c.tc : Thread nD τ).loc main_v54_2) = (dats m 0 c).arrAt 9 cfg0.N := h1 9
  have e3 : r.2.mem ((c.tc : Thread nD τ).loc main_v54_3) = (dats m 0 c).arrAt 10 cfg0.N := h1 10
  have e4 : r.2.mem ((c.tc : Thread nD τ).loc main_v54_4) = (dats m 0 c).arrAt 11 cfg0.N := h1 11
  refine ⟨?_, ?_, ?_, ?_, ?_, h.2.1 c⟩
  · rw [e0, arr7 H]; exact funext fun i => congrArg Real.toEReal (dq_eq (A c) (i 0) (i 1))
  · rw [e1, arr8 H]; exact funext fun i => congrArg Real.toEReal (dk_eq (A c) (i 0) (i 1))
  · rw [e2, arr9 H]; exact funext fun i => congrArg Real.toEReal (dv_eq (A c) (i 0) (i 1))
  · rw [e3, arr10 H]; exact funext fun i => congrArg Real.toEReal (dck_eq (A c) (i 0) (i 1) (i 2))
  · rw [e4, arr11 H]; exact funext fun i => congrArg Real.toEReal (dcq_eq (A c) (i 0) (i 1) (i 2))

end Cert.KernelIdeal.Grad

namespace Cert.ReferenceIdeal.Grad

open Cert.ReferenceIdeal Cert.ReferenceIdeal.Gen Cert.ReferenceIdeal.Read Cert.Grad

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (Cert.ReferenceIdeal.Value.run (F := Ideal) m ρ) fun r h =>
    ⟨fun c => (h c).2.2.2.2.2, sem_eq_zero_of_no_sems rfl r.2⟩

theorem run (m : (ℓ : Loc nD τ sig) → Buf (Elt Ideal) ℓ) (ρ : Dev nD → PrngReg) (A : Dev nD → Args)
    (R : ∀ c : Dev nD, Real5 (A c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) :
    θ_run (defs (F := Ideal)) (onTc (τ := τ) (main (F := Ideal))) ⟨m, fun _ => 0, ρ⟩ (fun r => ∀ c : Dev nD,
      r.2.mem ((c.tc : Thread nD τ).loc main_v95) = Args.rows (A c).dqPad
      ∧ r.2.mem ((c.tc : Thread nD τ).loc main_v97) = Args.rows (A c).dkPad
      ∧ r.2.mem ((c.tc : Thread nD τ).loc main_v99) = Args.rows (A c).dvPad
      ∧ r.2.mem ((c.tc : Thread nD τ).loc main_v91) = Args.lanes (A c).dckPad
      ∧ r.2.mem ((c.tc : Thread nD τ).loc main_v94) = Args.sublanes (A c).dcqPad
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Cert.ReferenceIdeal.Value.run (F := Ideal) m ρ) fun r h c => ?_
  obtain ⟨h0, h1, h2, h3, h4, h5⟩ := h c
  refine ⟨h0.trans ((val_main_v95_eq m c).trans (funext fun i => ?_)), h1.trans ((val_main_v97_eq m c).trans (funext fun i => ?_)),
    h2.trans ((val_main_v99_eq m c).trans (funext fun i => ?_)), h3.trans ((val_main_v91_eq m c).trans (funext fun i => ?_)),
    h4.trans ((val_main_v94_eq m c).trans (funext fun i => ?_)), h5⟩
  · rw [ix2_self i]; exact dq_result (R c) _ _
  · rw [ix2_self i]; exact dk_result (R c) _ _
  · rw [ix2_self i]; exact dv_result (R c) _ _
  · rw [ix3_self i]; exact dck_result (R c) _ _ _
  · rw [ix3_self i]; exact dcq_result (R c) _ _ _

end Cert.ReferenceIdeal.Grad

end
-- ==== Proof.Weights.Sum.lean ====
/- A weight gradient as a sum over the rows: the rows of a padded array taken 384 at a time, eleven times, sum to the
   sum over the rows that are not padding. -/
module

public import Idealize.ShloMosaic.Lib.Pipeline.Value
public import Idealize.ShloMosaic.Lib.KernelVsHost
public import Idealize.ShloMosaic.Lib.ValueIdx
public import Idealize.ShloMosaic.PureOps.Ideal.Laws

@[expose] public section

set_option maxRecDepth 16384

noncomputable section

namespace Cert.Weights

open Idealize.ShloMosaic Idealize.ShloMosaic.ValueIdx

/-- A matrix of extended reals. -/
abbrev Mat (a b : ℕ) : Type := (⟨2, ![a, b]⟩ : Shape).Idx → EReal

/-- The gradient of a weight: the rows' gradients times the rows, summed over the rows. -/
def grad {w : ℕ} (d : Mat 4112 w) (h : Mat 4112 1024) : Mat w 1024 := fun i =>
  ∑ k : Fin 4112, d (ix2 k (i 0)) * h (ix2 k (i 1))

/-- The product a row contributes, zero past the last row. -/
def rowTerm {w : ℕ} (D : Mat 4224 w) (H : Mat 4224 1024) (i : (⟨2, ![w, 1024]⟩ : Shape).Idx) (r : ℕ) : EReal :=
  if h : r < 4224 then D (ix2 ⟨r, h⟩ (i 0)) * H (ix2 ⟨r, h⟩ (i 1)) else 0

/-- What 384 rows contribute. -/
def blockSum {w : ℕ} (D : Mat 4224 w) (H : Mat 4224 1024) (n : ℕ) (i : (⟨2, ![w, 1024]⟩ : Shape).Idx) : EReal :=
  ∑ k : Fin 384, rowTerm D H i (384 * n + k.val)

/-- 112 rows of zeros and then the rows of `x`. -/
structure Padded {w : ℕ} (P : Mat 4224 w) (x : Mat 4112 w) : Prop where
  before : ∀ (r : Fin 4224) (y : Fin w), r.val < 112 → P (ix2 r y) = 0
  row : ∀ (r : Fin 4224) (i : Fin 4112) (y : Fin w), r.val = 112 + i.val → P (ix2 r y) = x (ix2 i y)

theorem padded_pad {w : ℕ} (x : Mat 4112 w) {u : Shape} (z : u.Idx → EReal) (hz : ∀ i, z i = 0)
    (hp : (⟨2, ![4112, w]⟩ : Shape).Pads ![112, 0] ![0, 0] ![0, 0] ⟨2, ![4224, w]⟩) (hu : 0 < u.numel) :
    Padded (pad (⟨2, ![4224, w]⟩ : Shape) ![112, 0] ![0, 0] ![0, 0] x z hp hu) x where
  before r y h := by
    rw [pad_apply_of_not_inside _ _ _ _ _ _ _ _ (0 : Fin 2) (fun hin => by have h1 : 112 ≤ r.val := hin.1; omega), hz]
  row r i y h := by
    rw [pad_apply_of_inside _ _ _ _ _ _ _ _ (ix2 i y) (fun a => match a with
      | ⟨0, _⟩ => by show r.val = 112 + i.val * 1; omega
      | ⟨1, _⟩ => by show y.val = 0 + y.val * 1; omega)]

/-- Eight columns and 120 columns of zeros after them. -/
def widen (x : Mat 4112 8) : Mat 4112 128 := fun i =>
  if h : (i 1).val < 8 then x (ix2 (i 0) ⟨(i 1).val, h⟩) else 0

theorem widen_pad (x : Mat 4112 8) {u : Shape} (z : u.Idx → EReal) (hz : ∀ i, z i = 0)
    (hp : (⟨2, ![4112, 8]⟩ : Shape).Pads ![0, 0] ![0, 120] ![0, 0] ⟨2, ![4112, 128]⟩) (hu : 0 < u.numel) :
    pad (⟨2, ![4112, 128]⟩ : Shape) ![0, 0] ![0, 120] ![0, 0] x z hp hu = widen x := by
  funext i
  unfold widen
  by_cases h : (i 1).val < 8
  · rw [dif_pos h, pad_apply_of_inside _ _ _ _ _ _ _ _ (ix2 (i 0) ⟨(i 1).val, h⟩ : (⟨2, ![4112, 8]⟩ : Shape).Idx) (fun a => match a with
      | ⟨0, _⟩ => by show (i 0).val = 0 + (i 0).val * 1; omega
      | ⟨1, _⟩ => by show (i 1).val = 0 + (i 1).val * 1; omega)]
  · rw [dif_neg h, pad_apply_of_not_inside _ _ _ _ _ _ _ _ (1 : Fin 2) (fun hin => by
      have h1 : ((i 1).val - 0) / (0 + 1) < 8 := hin.2.2
      omega), hz]

/-- The gradient of a weight of a widened array: the columns of zeros have gradient zero. -/
theorem grad_widen (x : Mat 4112 8) (h : Mat 4112 1024) (i : (⟨2, ![128, 1024]⟩ : Shape).Idx) :
    grad (widen x) h i = if hi : (i 0).val < 8 then grad x h (ix2 ⟨(i 0).val, hi⟩ (i 1)) else 0 := by
  unfold grad widen
  by_cases hi : (i 0).val < 8
  · rw [dif_pos hi]
    exact Finset.sum_congr rfl fun k _ => congrArg (fun s : EReal => s * _) (dif_pos hi)
  · rw [dif_neg hi]
    exact Finset.sum_eq_zero fun k _ => (congrArg (fun s : EReal => s * _) (dif_neg hi)).trans (zero_mul _)

/-- Blocks of `b` terms, `n` of them, are the first `b * n` terms. -/
theorem sum_blocks (f : ℕ → EReal) (b : ℕ) : ∀ n : ℕ,
    ∑ s ∈ Finset.range n, ∑ k : Fin b, f (b * s + k.val) = ∑ r ∈ Finset.range (b * n), f r
  | 0 => by simp
  | n + 1 => by
    rw [Finset.sum_range_succ, sum_blocks f b n, Nat.mul_succ, Finset.sum_range_add,
      Fin.sum_univ_eq_sum_range (fun k => f (b * n + k)) b]

/-- The rows of zeros contribute nothing. -/
theorem sum_rows {w : ℕ} {D : Mat 4224 w} {H : Mat 4224 1024} {d : Mat 4112 w} {h : Mat 4112 1024} (hD : Padded D d) (hH : Padded H h)
    (i : (⟨2, ![w, 1024]⟩ : Shape).Idx) : ∑ s ∈ Finset.range 11, blockSum D H s i = grad d h i := by
  unfold blockSum
  rw [sum_blocks (rowTerm D H i) 384 11, show 384 * 11 = 112 + 4112 from rfl, Finset.sum_range_add,
    Finset.sum_eq_zero (fun r hr => ?_), zero_add, ← Fin.sum_univ_eq_sum_range (fun r => rowTerm D H i (112 + r)) 4112]
  · refine Finset.sum_congr rfl fun k _ => ?_
    have hk := k.isLt
    unfold rowTerm
    rw [dif_pos (show 112 + k.val < 4224 by omega)]
    exact congrArg₂ (fun s t : EReal => s * t) (hD.row ⟨112 + k.val, by omega⟩ k (i 0) rfl) (hH.row ⟨112 + k.val, by omega⟩ k (i 1) rfl)
  · have h1 : r < 112 := Finset.mem_range.mp hr
    unfold rowTerm
    rw [dif_pos (show r < 4224 by omega)]
    exact (congrArg (fun s : EReal => s * _) (hD.before ⟨r, by omega⟩ (i 0) h1)).trans (zero_mul _)

/-- A run of eleven points, the first from zero and each adding its 384 rows' contribution, ends at the gradient. -/
theorem fold_eq {w N : ℕ} {D : Mat 4224 w} {H : Mat 4224 1024} {d : Mat 4112 w} {h : Mat 4112 1024} (hD : Padded D d) (hH : Padded H h)
    (a : (n : ℕ) → n < N → Mat w 1024) (g : (n : ℕ) → n < N → Mat w 1024 → Mat w 1024)
    (ha : ∀ (n : ℕ) (hn : n < N) (j : (⟨2, ![w, 1024]⟩ : Shape).Idx), a n hn j = 0 + blockSum D H n j)
    (hg : ∀ (n : ℕ) (hn : n < N) (acc : Mat w 1024) (j : (⟨2, ![w, 1024]⟩ : Shape).Idx), g n hn acc j = acc j + blockSum D H n j)
    (b : ℕ) (hb : b = 0) (hN : b + 10 < N) (i j : (⟨2, ![w, 1024]⟩ : Shape).Idx) (hij : j = i) :
    Pipeline.accAt a g b 10 hN j = grad d h i := by
  subst hb hij
  rw [Pipeline.accAt_add_apply a g (fun _ => 0) (blockSum D H) 0 10 (fun hn j => ha 0 hn j)
    (fun n hn acc j _ _ => hg n hn acc j) 10 (le_refl _) hN j, zero_add]
  simp only [zero_add]
  exact sum_rows hD hH j

/-- A block of rows of a padded array. -/
theorem blockSum_of {w N : ℕ} (hN : N = 11) {D : Mat 4224 w} {H : Mat 4224 1024} (n : ℕ) (hn : n < N) (x : Mat 384 w) (y : Mat 384 1024)
    (hx : ∀ (k : Fin 384) (r : Fin 4224) (l : Fin w), r.val = 384 * n + k.val → x (ix2 k l) = D (ix2 r l))
    (hy : ∀ (k : Fin 384) (r : Fin 4224) (l : Fin 1024), r.val = 384 * n + k.val → y (ix2 k l) = H (ix2 r l))
    (j : (⟨2, ![w, 1024]⟩ : Shape).Idx) :
    ∑ k : Fin 384, x (ix2 k (j 0)) * y (ix2 k (j 1)) = blockSum D H n j := by
  unfold blockSum
  refine Finset.sum_congr rfl fun k _ => ?_
  have hk := k.isLt
  unfold rowTerm
  rw [dif_pos (show 384 * n + k.val < 4224 by omega)]
  exact congrArg₂ (fun s t : EReal => s * t) (hx k ⟨384 * n + k.val, by omega⟩ (j 0) rfl) (hy k ⟨384 * n + k.val, by omega⟩ (j 1) rfl)

end Cert.Weights

end
-- ==== Proof.Weights.Attn.lean ====
/- The weight gradients of the attention's projections: what the kernel leaves in its four arrays. -/
module

public import proofs.«01_k».proof.Proof.Weights.Sum
public import proofs.«01_k».proof.Proof.Gen.Kernel2Ideal.Value

@[expose] public section

set_option maxRecDepth 16384

noncomputable section

namespace Cert.Kernel2Ideal.Weights

open Cert.Kernel2Ideal Cert.Kernel2Ideal.Gen Cert.Kernel2Ideal.Value Cert.Weights
open Idealize.ShloMosaic Idealize.ShloMosaic.TcCoe Idealize.ShloMosaic.ValueIdx Idealize.ShloMosaic.StableHlo
open Idealize.SL.Sem

/-! ## The host's arrays -/

section Host
variable {F : FTy → Type} [FloatOps F]
variable (m : (ℓ : Loc nD τ sig) → Buf (Elt F) ℓ) (c : Dev nD)

/-- The padding value. -/
def padZero : FVec F S_ .f32 := sitofp (F := F) .f32 (constantI S_ 32 0#32)
def padWide (x : FVec F S4112x1024 .f32) : FVec F S4224x1024 .f32 :=
  pad S4224x1024 ![112, 0] ![0, 0] ![0, 0] x padZero pads_S4112x1024_S4224x1024_11200_000 h_S_
def padRows (x : FVec F S4112x512 .f32) : FVec F S4224x512 .f32 :=
  pad S4224x512 ![112, 0] ![0, 0] ![0, 0] x padZero pads_S4112x512_S4224x512_11200_000 h_S_

theorem V0 : V m c main_v0 = padWide (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
theorem V1 : V m c main_v1 = padRows (m ((c : Thread nD τ).loc main_arg1)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
theorem V3 : V m c main_v3 = truncf .bf16 (padRows (m ((c : Thread nD τ).loc main_arg2))) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
theorem V5 : V m c main_v5 = truncf .bf16 (padRows (m ((c : Thread nD τ).loc main_arg3))) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
theorem V7 : V m c main_v7 = truncf .bf16 (padRows (m ((c : Thread nD τ).loc main_arg4))) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

end Host

theorem padZero_at (i : S_.Idx) : padZero (F := Ideal) i = (0 : EReal) := by
  show ((((0#32 : BitVec 32).toInt : ℤ) : ℝ) : EReal) = 0
  simp

theorem padded_wide (x : Mat 4112 1024) : Padded (padWide (F := Ideal) x) x := padded_pad x _ padZero_at _ _
theorem padded_rows (x : Mat 4112 512) : Padded (padRows (F := Ideal) x) x := padded_pad x _ padZero_at _ _
theorem padded_cast (x : Mat 4112 512) : Padded (truncf .bf16 (padRows (F := Ideal) x) bitsLt_bf16_f32 : FVec Ideal S4224x512 .bf16) x :=
  padded_rows x

/-! ## One grid point -/

abbrev dot : DotDims S384x512 S384x1024 S512x1024 := dot_S384x512_S384x1024_S512x1024_0_0_1_1_n_n

theorem dot_lhs_row (j : S512x1024.Idx) (q : dot.contr.Idx) : (dot.lhsIdx j q 0).val = (q ⟨0, by decide⟩).val := dot.lhsIdx_val_of_single rfl j q
theorem dot_rhs_row (j : S512x1024.Idx) (q : dot.contr.Idx) : (dot.rhsIdx j q 0).val = (q ⟨0, by decide⟩).val := dot.rhsIdx_val_of_single rfl j q
theorem dot_lhs_col (j : S512x1024.Idx) (q : dot.contr.Idx) : (dot.lhsIdx j q 1).val = (j 0).val := by
  unfold DotDims.lhsIdx
  rw [dif_neg (show ¬(1 : Fin S384x512.rank) ∈ dot.lhsBatch by decide), dif_pos (show (1 : Fin S384x512.rank) ∈ dot.lhsNonContracting by decide)]
  rfl
theorem dot_rhs_col (j : S512x1024.Idx) (q : dot.contr.Idx) : (dot.rhsIdx j q 1).val = (j 1).val := by
  unfold DotDims.rhsIdx
  rw [dif_neg (show ¬(1 : Fin S384x1024.rank) ∈ dot.rhsBatch by decide), dif_pos (show (1 : Fin S384x1024.rank) ∈ dot.rhsNonContracting by decide)]
  rfl

theorem dot_at (l : FVec Ideal S384x512 .bf16) (r : FVec Ideal S384x1024 .bf16) (j : S512x1024.Idx) :
    matmul dot none l r (constant S512x1024 .f32 0x00000000#32) j = ∑ k : Fin 384, l (ix2 k (j 0)) * r (ix2 k (j 1)) := by
  show FloatOps.matmul dot none l r (constant S512x1024 .f32 0x00000000#32) j = _
  rw [Ideal.matmul_constant_zero_apply, ← Equiv.sum_comp (contrEquiv1 dot 384 rfl rfl).symm]
  refine Finset.sum_congr rfl fun k _ => ?_
  have hk := contrEquiv1_symm_val dot 384 rfl rfl k
  have el : dot.lhsIdx j ((contrEquiv1 dot 384 rfl rfl).symm k) = ix2 k (j 0) := funext fun a => Fin.ext (by
    match a with
    | ⟨0, _⟩ => exact (dot_lhs_row j _).trans hk
    | ⟨1, _⟩ => exact dot_lhs_col j _)
  have er : dot.rhsIdx j ((contrEquiv1 dot 384 rfl rfl).symm k) = ix2 k (j 1) := funext fun a => Fin.ext (by
    match a with
    | ⟨0, _⟩ => exact (dot_rhs_row j _).trans hk
    | ⟨1, _⟩ => exact dot_rhs_col j _)
  rw [el, er]
  rfl

theorem step_first (y : FVec Ideal S384x1024 .f32) (acc : FVec Ideal S512x1024 .f32) (x : FVec Ideal S384x512 .f32) (j : S512x1024.Idx) :
    k0_pay7 y acc x j = acc j + ∑ k : Fin 384, x (ix2 k (j 0)) * y (ix2 k (j 1)) := by
  unfold k0_pay7 k0_pay6
  simp only [shapeCast_self]
  exact congrArg (fun t : EReal => acc j + t) (dot_at _ _ j)
theorem step_second (y : FVec Ideal S384x1024 .f32) (acc : FVec Ideal S512x1024 .f32) (x : FVec Ideal S384x512 .bf16) (j : S512x1024.Idx) :
    k0_pay8 y acc x j = acc j + ∑ k : Fin 384, x (ix2 k (j 0)) * y (ix2 k (j 1)) := by
  unfold k0_pay8 k0_pay6
  simp only [shapeCast_self]
  exact congrArg (fun t : EReal => acc j + t) (dot_at _ _ j)
theorem step_third (y : FVec Ideal S384x1024 .f32) (acc : FVec Ideal S512x1024 .f32) (x : FVec Ideal S384x512 .bf16) (j : S512x1024.Idx) :
    k0_pay9 y acc x j = acc j + ∑ k : Fin 384, x (ix2 k (j 0)) * y (ix2 k (j 1)) := by
  unfold k0_pay9 k0_pay6
  simp only [shapeCast_self]
  exact congrArg (fun t : EReal => acc j + t) (dot_at _ _ j)
theorem step_fourth (y : FVec Ideal S384x1024 .f32) (acc : FVec Ideal S512x1024 .f32) (x : FVec Ideal S384x512 .bf16) (j : S512x1024.Idx) :
    k0_pay1 (k0_pay6 y) acc x j = acc j + ∑ k : Fin 384, x (ix2 k (j 0)) * y (ix2 k (j 1)) := by
  unfold k0_pay1 k0_pay6
  simp only [shapeCast_self]
  exact congrArg (fun t : EReal => acc j + t) (dot_at _ _ j)

theorem start_first (j : S512x1024.Idx) : k0_pay2 (F := Ideal) j = (0 : EReal) := Ideal.ofBits_zero_f32
theorem start_second (j : S512x1024.Idx) : k0_pay3 (F := Ideal) j = (0 : EReal) := Ideal.ofBits_zero_f32
theorem start_third (j : S512x1024.Idx) : k0_pay4 (F := Ideal) j = (0 : EReal) := Ideal.ofBits_zero_f32
theorem start_fourth (j : S512x1024.Idx) : k0_pay5 (F := Ideal) j = (0 : EReal) := Ideal.ofBits_zero_f32

/-! ## The blocks -/

section Blocks
variable {F : FTy → Type} [FloatOps F]
variable (m : (ℓ : Loc nD τ sig) → Buf (Elt F) ℓ) (c : Dev nD)

/-- Block `t` of each array is its rows from `384 t` on. -/
theorem index_eq : ∀ t : Fin cfg0.N,
    win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

theorem block0 (n : ℕ) (hn : n < cfg0.N) (k : Fin 384) (r : Fin 4224) (l : Fin 1024) (hr : r.val = 384 * n + k.val) :
    iblk m c 0 ⟨n, hn⟩ (ix2 k l : S384x1024.Idx) = V m c main_v0 (ix2 r l : S4224x1024.Idx) := by
  refine congrArg (V m c main_v0) (funext fun a => Fin.ext ?_)
  have e := (index_eq ⟨n, hn⟩).1
  match a with
  | ⟨0, _⟩ =>
    show win0_0.index ⟨n, hn⟩ (0 : Fin 2) * 384 + 1 * k.val = r.val
    rw [e]
    show n * 384 + 1 * k.val = r.val
    omega
  | ⟨1, _⟩ =>
    show win0_0.index ⟨n, hn⟩ (1 : Fin 2) * 1024 + 1 * l.val = l.val
    rw [e]
    show 0 * 1024 + 1 * l.val = l.val
    omega
theorem block1 (n : ℕ) (hn : n < cfg0.N) (k : Fin 384) (r : Fin 4224) (l : Fin 512) (hr : r.val = 384 * n + k.val) :
    iblk m c 1 ⟨n, hn⟩ (ix2 k l : S384x512.Idx) = V m c main_v1 (ix2 r l : S4224x512.Idx) := by
  refine congrArg (V m c main_v1) (funext fun a => Fin.ext ?_)
  have e := (index_eq ⟨n, hn⟩).2.1
  match a with
  | ⟨0, _⟩ =>
    show win0_1.index ⟨n, hn⟩ (0 : Fin 2) * 384 + 1 * k.val = r.val
    rw [e]
    show n * 384 + 1 * k.val = r.val
    omega
  | ⟨1, _⟩ =>
    show win0_1.index ⟨n, hn⟩ (1 : Fin 2) * 512 + 1 * l.val = l.val
    rw [e]
    show 0 * 512 + 1 * l.val = l.val
    omega
theorem block2 (n : ℕ) (hn : n < cfg0.N) (k : Fin 384) (r : Fin 4224) (l : Fin 512) (hr : r.val = 384 * n + k.val) :
    iblk m c 2 ⟨n, hn⟩ (ix2 k l : S384x512.Idx) = V m c main_v3 (ix2 r l : S4224x512.Idx) := by
  refine congrArg (V m c main_v3) (funext fun a => Fin.ext ?_)
  have e := (index_eq ⟨n, hn⟩).2.2.1
  match a with
  | ⟨0, _⟩ =>
    show win0_2.index ⟨n, hn⟩ (0 : Fin 2) * 384 + 1 * k.val = r.val
    rw [e]
    show n * 384 + 1 * k.val = r.val
    omega
  | ⟨1, _⟩ =>
    show win0_2.index ⟨n, hn⟩ (1 : Fin 2) * 512 + 1 * l.val = l.val
    rw [e]
    show 0 * 512 + 1 * l.val = l.val
    omega
theorem block3 (n : ℕ) (hn : n < cfg0.N) (k : Fin 384) (r : Fin 4224) (l : Fin 512) (hr : r.val = 384 * n + k.val) :
    iblk m c 3 ⟨n, hn⟩ (ix2 k l : S384x512.Idx) = V m c main_v5 (ix2 r l : S4224x512.Idx) := by
  refine congrArg (V m c main_v5) (funext fun a => Fin.ext ?_)
  have e := (index_eq ⟨n, hn⟩).2.2.2.1
  match a with
  | ⟨0, _⟩ =>
    show win0_3.index ⟨n, hn⟩ (0 : Fin 2) * 384 + 1 * k.val = r.val
    rw [e]
    show n * 384 + 1 * k.val = r.val
    omega
  | ⟨1, _⟩ =>
    show win0_3.index ⟨n, hn⟩ (1 : Fin 2) * 512 + 1 * l.val = l.val
    rw [e]
    show 0 * 512 + 1 * l.val = l.val
    omega
theorem block4 (n : ℕ) (hn : n < cfg0.N) (k : Fin 384) (r : Fin 4224) (l : Fin 512) (hr : r.val = 384 * n + k.val) :
    iblk m c 4 ⟨n, hn⟩ (ix2 k l : S384x512.Idx) = V m c main_v7 (ix2 r l : S4224x512.Idx) := by
  refine congrArg (V m c main_v7) (funext fun a => Fin.ext ?_)
  have e := (index_eq ⟨n, hn⟩).2.2.2.2
  match a with
  | ⟨0, _⟩ =>
    show win0_4.index ⟨n, hn⟩ (0 : Fin 2) * 384 + 1 * k.val = r.val
    rw [e]
    show n * 384 + 1 * k.val = r.val
    omega
  | ⟨1, _⟩ =>
    show win0_4.index ⟨n, hn⟩ (1 : Fin 2) * 512 + 1 * l.val = l.val
    rw [e]
    show 0 * 512 + 1 * l.val = l.val
    omega

end Blocks

/-! ## The four arrays -/

variable (m : (ℓ : Loc nD τ sig) → Buf (Elt Ideal) ℓ) (c : Dev nD)

theorem run_zero (i : S512x1024.Idx) : 11 * (1 * ((i 0).val / 512 - 0) + 1 * ((i 1).val / 1024 - 0)) = 0 := by
  have h0 : (i 0).val < 512 := (i 0).isLt
  have h1 : (i 1).val < 1024 := (i 1).isLt
  omega
theorem loc_self (i : S512x1024.Idx) (j : S512x1024.Idx) (h0 : (j 0).val = (i 0).val % 512) (h1 : (j 1).val = (i 1).val % 1024) : j = i := by
  have g0 : (i 0).val < 512 := (i 0).isLt
  have g1 : (i 1).val < 1024 := (i 1).isLt
  refine funext fun a => Fin.ext ?_
  match a with
  | ⟨0, _⟩ => exact h0.trans (Nat.mod_eq_of_lt g0)
  | ⟨1, _⟩ => exact h1.trans (Nat.mod_eq_of_lt g1)

theorem wide : Padded (w := 1024) (V m c main_v0) (m ((c : Thread nD τ).loc main_arg0)) := by rw [V0]; exact padded_wide _
theorem first : Padded (w := 512) (V m c main_v1) (m ((c : Thread nD τ).loc main_arg1)) := by rw [V1]; exact padded_rows _
theorem second : Padded (w := 512) (V m c main_v3) (m ((c : Thread nD τ).loc main_arg2)) := by rw [V3]; exact padded_cast _
theorem third : Padded (w := 512) (V m c main_v5) (m ((c : Thread nD τ).loc main_arg3)) := by rw [V5]; exact padded_cast _
theorem fourth : Padded (w := 512) (V m c main_v7) (m ((c : Thread nD τ).loc main_arg4)) := by rw [V7]; exact padded_cast _

theorem array5 : G5 m c = grad (m ((c : Thread nD τ).loc main_arg1)) (m ((c : Thread nD τ).loc main_arg0)) := by
  funext i
  have hr : 11 * run5Of i = 0 := run_zero i
  unfold G5
  rw [dif_pos (show 11 * run5Of i + 10 < cfg0.N by rw [hr]; exact lt_of_lt_of_eq (by decide) N_0.symm)]
  refine fold_eq (first m c) (wide m c) (reset5 m c) (step5 m c) (fun n hn j => ?_) (fun n hn acc j => ?_) _ hr _ i _ (loc_self i _ rfl rfl)
  · refine (step_first _ _ _ j).trans (congrArg₂ (fun s t : EReal => s + t) (start_first j) ?_)
    exact blockSum_of N_0 n hn _ _ (fun k r l h => block1 m c n hn k r l h) (fun k r l h => block0 m c n hn k r l h) j
  · refine (step_first _ _ _ j).trans (congrArg (fun t : EReal => acc j + t) ?_)
    exact blockSum_of N_0 n hn _ _ (fun k r l h => block1 m c n hn k r l h) (fun k r l h => block0 m c n hn k r l h) j
theorem array6 : G6 m c = grad (m ((c : Thread nD τ).loc main_arg2)) (m ((c : Thread nD τ).loc main_arg0)) := by
  funext i
  have hr : 11 * run6Of i = 0 := run_zero i
  unfold G6
  rw [dif_pos (show 11 * run6Of i + 10 < cfg0.N by rw [hr]; exact lt_of_lt_of_eq (by decide) N_0.symm)]
  refine fold_eq (second m c) (wide m c) (reset6 m c) (step6 m c) (fun n hn j => ?_) (fun n hn acc j => ?_) _ hr _ i _ (loc_self i _ rfl rfl)
  · refine (step_second _ _ _ j).trans (congrArg₂ (fun s t : EReal => s + t) (start_second j) ?_)
    exact blockSum_of N_0 n hn _ _ (fun k r l h => block2 m c n hn k r l h) (fun k r l h => block0 m c n hn k r l h) j
  · refine (step_second _ _ _ j).trans (congrArg (fun t : EReal => acc j + t) ?_)
    exact blockSum_of N_0 n hn _ _ (fun k r l h => block2 m c n hn k r l h) (fun k r l h => block0 m c n hn k r l h) j
theorem array7 : G7 m c = grad (m ((c : Thread nD τ).loc main_arg3)) (m ((c : Thread nD τ).loc main_arg0)) := by
  funext i
  have hr : 11 * run7Of i = 0 := run_zero i
  unfold G7
  rw [dif_pos (show 11 * run7Of i + 10 < cfg0.N by rw [hr]; exact lt_of_lt_of_eq (by decide) N_0.symm)]
  refine fold_eq (third m c) (wide m c) (reset7 m c) (step7 m c) (fun n hn j => ?_) (fun n hn acc j => ?_) _ hr _ i _ (loc_self i _ rfl rfl)
  · refine (step_third _ _ _ j).trans (congrArg₂ (fun s t : EReal => s + t) (start_third j) ?_)
    exact blockSum_of N_0 n hn _ _ (fun k r l h => block3 m c n hn k r l h) (fun k r l h => block0 m c n hn k r l h) j
  · refine (step_third _ _ _ j).trans (congrArg (fun t : EReal => acc j + t) ?_)
    exact blockSum_of N_0 n hn _ _ (fun k r l h => block3 m c n hn k r l h) (fun k r l h => block0 m c n hn k r l h) j
theorem array8 : G8 m c = grad (m ((c : Thread nD τ).loc main_arg4)) (m ((c : Thread nD τ).loc main_arg0)) := by
  funext i
  have hr : 11 * run8Of i = 0 := run_zero i
  unfold G8
  rw [dif_pos (show 11 * run8Of i + 10 < cfg0.N by rw [hr]; exact lt_of_lt_of_eq (by decide) N_0.symm)]
  refine fold_eq (fourth m c) (wide m c) (reset8 m c) (step8 m c) (fun n hn j => ?_) (fun n hn acc j => ?_) _ hr _ i _ (loc_self i _ rfl rfl)
  · refine (step_fourth _ _ _ j).trans (congrArg₂ (fun s t : EReal => s + t) (start_fourth j) ?_)
    exact blockSum_of N_0 n hn _ _ (fun k r l h => block4 m c n hn k r l h) (fun k r l h => block0 m c n hn k r l h) j
  · refine (step_fourth _ _ _ j).trans (congrArg (fun t : EReal => acc j + t) ?_)
    exact blockSum_of N_0 n hn _ _ (fun k r l h => block4 m c n hn k r l h) (fun k r l h => block0 m c n hn k r l h) j

end Cert.Kernel2Ideal.Weights

end
-- ==== Proof.Weights.Conv.lean ====
/- The weight gradients of the convolution's projections and of the forget gates': what the kernel leaves in its four arrays. -/
module

public import proofs.«01_k».proof.Proof.Weights.Sum
public import proofs.«01_k».proof.Proof.Gen.Kernel3Ideal.Value

@[expose] public section

set_option maxRecDepth 16384

noncomputable section

namespace Cert.Kernel3Ideal.Weights

open Cert.Kernel3Ideal Cert.Kernel3Ideal.Gen Cert.Kernel3Ideal.Value Cert.Weights
open Idealize.ShloMosaic Idealize.ShloMosaic.TcCoe Idealize.ShloMosaic.ValueIdx Idealize.ShloMosaic.StableHlo
open Idealize.SL.Sem

/-! ## The host's arrays -/

section Host
variable {F : FTy → Type} [FloatOps F]
variable (m : (ℓ : Loc nD τ sig) → Buf (Elt F) ℓ) (c : Dev nD)

/-- The padding value. -/
def padZero : FVec F S_ .f32 := sitofp (F := F) .f32 (constantI S_ 32 0#32)
def padWide (x : FVec F S4112x1024 .f32) : FVec F S4224x1024 .f32 :=
  pad S4224x1024 ![112, 0] ![0, 0] ![0, 0] x padZero pads_S4112x1024_S4224x1024_11200_000 h_S_
def padRows (x : FVec F S4112x512 .f32) : FVec F S4224x512 .f32 :=
  pad S4224x512 ![112, 0] ![0, 0] ![0, 0] x padZero pads_S4112x512_S4224x512_11200_000 h_S_
/-- The forget gates' eight columns widened to 128. -/
def lanes (x : FVec F S4112x8 .f32) : FVec F S4112x128 .f32 :=
  pad S4112x128 ![0, 0] ![0, 120] ![0, 0] x padZero pads_S4112x8_S4112x128_000_01200 h_S_
def padLanes (x : FVec F S4112x128 .f32) : FVec F S4224x128 .f32 :=
  pad S4224x128 ![112, 0] ![0, 0] ![0, 0] x padZero pads_S4112x128_S4224x128_11200_000 h_S_

theorem V0 : V m c main_v0 = padWide (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl
theorem V2 : V m c main_v2 = truncf .bf16 (padRows (m ((c : Thread nD τ).loc main_arg1))) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl
theorem V4 : V m c main_v4 = truncf .bf16 (padRows (m ((c : Thread nD τ).loc main_arg2))) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl
theorem V6 : V m c main_v6 = truncf .bf16 (padRows (m ((c : Thread nD τ).loc main_arg3))) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl
theorem V9 : V m c main_v9 = truncf .bf16 (padLanes (lanes (m ((c : Thread nD τ).loc main_arg4)))) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

end Host

theorem padZero_at (i : S_.Idx) : padZero (F := Ideal) i = (0 : EReal) := by
  show ((((0#32 : BitVec 32).toInt : ℤ) : ℝ) : EReal) = 0
  simp

theorem padded_wide (x : Mat 4112 1024) : Padded (padWide (F := Ideal) x) x := padded_pad x _ padZero_at _ _
theorem padded_rows (x : Mat 4112 512) : Padded (padRows (F := Ideal) x) x := padded_pad x _ padZero_at _ _
theorem padded_cast (x : Mat 4112 512) : Padded (truncf .bf16 (padRows (F := Ideal) x) bitsLt_bf16_f32 : FVec Ideal S4224x512 .bf16) x :=
  padded_rows x
theorem padded_lanes (x : Mat 4112 8) : Padded (truncf .bf16 (padLanes (F := Ideal) (lanes x)) bitsLt_bf16_f32 : FVec Ideal S4224x128 .bf16) (widen x) := by
  have e : lanes (F := Ideal) x = widen x := widen_pad x _ padZero_at _ _
  rw [e]
  exact padded_pad (widen x) _ padZero_at pads_S4112x128_S4224x128_11200_000 h_S_

/-! ## One grid point -/

abbrev dot : DotDims S384x512 S384x1024 S512x1024 := dot_S384x512_S384x1024_S512x1024_0_0_1_1_n_n

theorem dot_lhs_row (j : S512x1024.Idx) (q : dot.contr.Idx) : (dot.lhsIdx j q 0).val = (q ⟨0, by decide⟩).val := dot.lhsIdx_val_of_single rfl j q
theorem dot_rhs_row (j : S512x1024.Idx) (q : dot.contr.Idx) : (dot.rhsIdx j q 0).val = (q ⟨0, by decide⟩).val := dot.rhsIdx_val_of_single rfl j q
theorem dot_lhs_col (j : S512x1024.Idx) (q : dot.contr.Idx) : (dot.lhsIdx j q 1).val = (j 0).val := by
  unfold DotDims.lhsIdx
  rw [dif_neg (show ¬(1 : Fin S384x512.rank) ∈ dot.lhsBatch by decide), dif_pos (show (1 : Fin S384x512.rank) ∈ dot.lhsNonContracting by decide)]
  rfl
theorem dot_rhs_col (j : S512x1024.Idx) (q : dot.contr.Idx) : (dot.rhsIdx j q 1).val = (j 1).val := by
  unfold DotDims.rhsIdx
  rw [dif_neg (show ¬(1 : Fin S384x1024.rank) ∈ dot.rhsBatch by decide), dif_pos (show (1 : Fin S384x1024.rank) ∈ dot.rhsNonContracting by decide)]
  rfl

theorem dot_at (l : FVec Ideal S384x512 .bf16) (r : FVec Ideal S384x1024 .bf16) (j : S512x1024.Idx) :
    matmul dot none l r (constant S512x1024 .f32 0x00000000#32) j = ∑ k : Fin 384, l (ix2 k (j 0)) * r (ix2 k (j 1)) := by
  show FloatOps.matmul dot none l r (constant S512x1024 .f32 0x00000000#32) j = _
  rw [Ideal.matmul_constant_zero_apply, ← Equiv.sum_comp (contrEquiv1 dot 384 rfl rfl).symm]
  refine Finset.sum_congr rfl fun k _ => ?_
  have hk := contrEquiv1_symm_val dot 384 rfl rfl k
  have el : dot.lhsIdx j ((contrEquiv1 dot 384 rfl rfl).symm k) = ix2 k (j 0) := funext fun a => Fin.ext (by
    match a with
    | ⟨0, _⟩ => exact (dot_lhs_row j _).trans hk
    | ⟨1, _⟩ => exact dot_lhs_col j _)
  have er : dot.rhsIdx j ((contrEquiv1 dot 384 rfl rfl).symm k) = ix2 k (j 1) := funext fun a => Fin.ext (by
    match a with
    | ⟨0, _⟩ => exact (dot_rhs_row j _).trans hk
    | ⟨1, _⟩ => exact dot_rhs_col j _)
  rw [el, er]
  rfl

abbrev narrow : DotDims S384x128 S384x1024 S128x1024 := dot_S384x128_S384x1024_S128x1024_0_0_1_1_n_n

theorem narrow_lhs_row (j : S128x1024.Idx) (q : narrow.contr.Idx) : (narrow.lhsIdx j q 0).val = (q ⟨0, by decide⟩).val := narrow.lhsIdx_val_of_single rfl j q
theorem narrow_rhs_row (j : S128x1024.Idx) (q : narrow.contr.Idx) : (narrow.rhsIdx j q 0).val = (q ⟨0, by decide⟩).val := narrow.rhsIdx_val_of_single rfl j q
theorem narrow_lhs_col (j : S128x1024.Idx) (q : narrow.contr.Idx) : (narrow.lhsIdx j q 1).val = (j 0).val := by
  unfold DotDims.lhsIdx
  rw [dif_neg (show ¬(1 : Fin S384x128.rank) ∈ narrow.lhsBatch by decide), dif_pos (show (1 : Fin S384x128.rank) ∈ narrow.lhsNonContracting by decide)]
  rfl
theorem narrow_rhs_col (j : S128x1024.Idx) (q : narrow.contr.Idx) : (narrow.rhsIdx j q 1).val = (j 1).val := by
  unfold DotDims.rhsIdx
  rw [dif_neg (show ¬(1 : Fin S384x1024.rank) ∈ narrow.rhsBatch by decide), dif_pos (show (1 : Fin S384x1024.rank) ∈ narrow.rhsNonContracting by decide)]
  rfl

theorem narrow_at (l : FVec Ideal S384x128 .bf16) (r : FVec Ideal S384x1024 .bf16) (j : S128x1024.Idx) :
    matmul narrow none l r (constant S128x1024 .f32 0x00000000#32) j = ∑ k : Fin 384, l (ix2 k (j 0)) * r (ix2 k (j 1)) := by
  show FloatOps.matmul narrow none l r (constant S128x1024 .f32 0x00000000#32) j = _
  rw [Ideal.matmul_constant_zero_apply, ← Equiv.sum_comp (contrEquiv1 narrow 384 rfl rfl).symm]
  refine Finset.sum_congr rfl fun k _ => ?_
  have hk := contrEquiv1_symm_val narrow 384 rfl rfl k
  have el : narrow.lhsIdx j ((contrEquiv1 narrow 384 rfl rfl).symm k) = ix2 k (j 0) := funext fun a => Fin.ext (by
    match a with
    | ⟨0, _⟩ => exact (narrow_lhs_row j _).trans hk
    | ⟨1, _⟩ => exact narrow_lhs_col j _)
  have er : narrow.rhsIdx j ((contrEquiv1 narrow 384 rfl rfl).symm k) = ix2 k (j 1) := funext fun a => Fin.ext (by
    match a with
    | ⟨0, _⟩ => exact (narrow_rhs_row j _).trans hk
    | ⟨1, _⟩ => exact narrow_rhs_col j _)
  rw [el, er]
  rfl

theorem step_first (y : FVec Ideal S384x1024 .f32) (acc : FVec Ideal S512x1024 .f32) (x : FVec Ideal S384x512 .bf16) (j : S512x1024.Idx) :
    k0_pay7 y acc x j = acc j + ∑ k : Fin 384, x (ix2 k (j 0)) * y (ix2 k (j 1)) := by
  unfold k0_pay7 k0_pay6
  simp only [shapeCast_self]
  exact congrArg (fun t : EReal => acc j + t) (dot_at _ _ j)
theorem step_second (y : FVec Ideal S384x1024 .f32) (acc : FVec Ideal S512x1024 .f32) (x : FVec Ideal S384x512 .bf16) (j : S512x1024.Idx) :
    k0_pay8 y acc x j = acc j + ∑ k : Fin 384, x (ix2 k (j 0)) * y (ix2 k (j 1)) := by
  unfold k0_pay8 k0_pay6
  simp only [shapeCast_self]
  exact congrArg (fun t : EReal => acc j + t) (dot_at _ _ j)
theorem step_third (y : FVec Ideal S384x1024 .f32) (acc : FVec Ideal S512x1024 .f32) (x : FVec Ideal S384x512 .bf16) (j : S512x1024.Idx) :
    k0_pay9 y acc x j = acc j + ∑ k : Fin 384, x (ix2 k (j 0)) * y (ix2 k (j 1)) := by
  unfold k0_pay9 k0_pay6
  simp only [shapeCast_self]
  exact congrArg (fun t : EReal => acc j + t) (dot_at _ _ j)
theorem step_fourth (y : FVec Ideal S384x1024 .f32) (acc : FVec Ideal S128x1024 .f32) (x : FVec Ideal S384x128 .bf16) (j : S128x1024.Idx) :
    k0_pay1 (k0_pay6 y) acc x j = acc j + ∑ k : Fin 384, x (ix2 k (j 0)) * y (ix2 k (j 1)) := by
  unfold k0_pay1 k0_pay6
  simp only [shapeCast_self]
  exact congrArg (fun t : EReal => acc j + t) (narrow_at _ _ j)

theorem start_first (j : S512x1024.Idx) : k0_pay2 (F := Ideal) j = (0 : EReal) := Ideal.ofBits_zero_f32
theorem start_second (j : S512x1024.Idx) : k0_pay3 (F := Ideal) j = (0 : EReal) := Ideal.ofBits_zero_f32
theorem start_third (j : S512x1024.Idx) : k0_pay4 (F := Ideal) j = (0 : EReal) := Ideal.ofBits_zero_f32
theorem start_fourth (j : S128x1024.Idx) : k0_pay5 (F := Ideal) j = (0 : EReal) := Ideal.ofBits_zero_f32

/-! ## The blocks -/

section Blocks
variable {F : FTy → Type} [FloatOps F]
variable (m : (ℓ : Loc nD τ sig) → Buf (Elt F) ℓ) (c : Dev nD)

/-- Block `t` of each array is its rows from `384 t` on. -/
theorem index_eq : ∀ t : Fin cfg0.N,
    win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

theorem block0 (n : ℕ) (hn : n < cfg0.N) (k : Fin 384) (r : Fin 4224) (l : Fin 1024) (hr : r.val = 384 * n + k.val) :
    iblk m c 0 ⟨n, hn⟩ (ix2 k l : S384x1024.Idx) = V m c main_v0 (ix2 r l : S4224x1024.Idx) := by
  refine congrArg (V m c main_v0) (funext fun a => Fin.ext ?_)
  have e := (index_eq ⟨n, hn⟩).1
  match a with
  | ⟨0, _⟩ =>
    show win0_0.index ⟨n, hn⟩ (0 : Fin 2) * 384 + 1 * k.val = r.val
    rw [e]
    show n * 384 + 1 * k.val = r.val
    omega
  | ⟨1, _⟩ =>
    show win0_0.index ⟨n, hn⟩ (1 : Fin 2) * 1024 + 1 * l.val = l.val
    rw [e]
    show 0 * 1024 + 1 * l.val = l.val
    omega
theorem block1 (n : ℕ) (hn : n < cfg0.N) (k : Fin 384) (r : Fin 4224) (l : Fin 512) (hr : r.val = 384 * n + k.val) :
    iblk m c 1 ⟨n, hn⟩ (ix2 k l : S384x512.Idx) = V m c main_v2 (ix2 r l : S4224x512.Idx) := by
  refine congrArg (V m c main_v2) (funext fun a => Fin.ext ?_)
  have e := (index_eq ⟨n, hn⟩).2.1
  match a with
  | ⟨0, _⟩ =>
    show win0_1.index ⟨n, hn⟩ (0 : Fin 2) * 384 + 1 * k.val = r.val
    rw [e]
    show n * 384 + 1 * k.val = r.val
    omega
  | ⟨1, _⟩ =>
    show win0_1.index ⟨n, hn⟩ (1 : Fin 2) * 512 + 1 * l.val = l.val
    rw [e]
    show 0 * 512 + 1 * l.val = l.val
    omega
theorem block2 (n : ℕ) (hn : n < cfg0.N) (k : Fin 384) (r : Fin 4224) (l : Fin 512) (hr : r.val = 384 * n + k.val) :
    iblk m c 2 ⟨n, hn⟩ (ix2 k l : S384x512.Idx) = V m c main_v4 (ix2 r l : S4224x512.Idx) := by
  refine congrArg (V m c main_v4) (funext fun a => Fin.ext ?_)
  have e := (index_eq ⟨n, hn⟩).2.2.1
  match a with
  | ⟨0, _⟩ =>
    show win0_2.index ⟨n, hn⟩ (0 : Fin 2) * 384 + 1 * k.val = r.val
    rw [e]
    show n * 384 + 1 * k.val = r.val
    omega
  | ⟨1, _⟩ =>
    show win0_2.index ⟨n, hn⟩ (1 : Fin 2) * 512 + 1 * l.val = l.val
    rw [e]
    show 0 * 512 + 1 * l.val = l.val
    omega
theorem block3 (n : ℕ) (hn : n < cfg0.N) (k : Fin 384) (r : Fin 4224) (l : Fin 512) (hr : r.val = 384 * n + k.val) :
    iblk m c 3 ⟨n, hn⟩ (ix2 k l : S384x512.Idx) = V m c main_v6 (ix2 r l : S4224x512.Idx) := by
  refine congrArg (V m c main_v6) (funext fun a => Fin.ext ?_)
  have e := (index_eq ⟨n, hn⟩).2.2.2.1
  match a with
  | ⟨0, _⟩ =>
    show win0_3.index ⟨n, hn⟩ (0 : Fin 2) * 384 + 1 * k.val = r.val
    rw [e]
    show n * 384 + 1 * k.val = r.val
    omega
  | ⟨1, _⟩ =>
    show win0_3.index ⟨n, hn⟩ (1 : Fin 2) * 512 + 1 * l.val = l.val
    rw [e]
    show 0 * 512 + 1 * l.val = l.val
    omega
theorem block4 (n : ℕ) (hn : n < cfg0.N) (k : Fin 384) (r : Fin 4224) (l : Fin 128) (hr : r.val = 384 * n + k.val) :
    iblk m c 4 ⟨n, hn⟩ (ix2 k l : S384x128.Idx) = V m c main_v9 (ix2 r l : S4224x128.Idx) := by
  refine congrArg (V m c main_v9) (funext fun a => Fin.ext ?_)
  have e := (index_eq ⟨n, hn⟩).2.2.2.2
  match a with
  | ⟨0, _⟩ =>
    show win0_4.index ⟨n, hn⟩ (0 : Fin 2) * 384 + 1 * k.val = r.val
    rw [e]
    show n * 384 + 1 * k.val = r.val
    omega
  | ⟨1, _⟩ =>
    show win0_4.index ⟨n, hn⟩ (1 : Fin 2) * 128 + 1 * l.val = l.val
    rw [e]
    show 0 * 128 + 1 * l.val = l.val
    omega

end Blocks

/-! ## The four arrays -/

variable (m : (ℓ : Loc nD τ sig) → Buf (Elt Ideal) ℓ) (c : Dev nD)

theorem run_zero (i : S512x1024.Idx) : 11 * (1 * ((i 0).val / 512 - 0) + 1 * ((i 1).val / 1024 - 0)) = 0 := by
  have h0 : (i 0).val < 512 := (i 0).isLt
  have h1 : (i 1).val < 1024 := (i 1).isLt
  omega
theorem loc_self (i : S512x1024.Idx) (j : S512x1024.Idx) (h0 : (j 0).val = (i 0).val % 512) (h1 : (j 1).val = (i 1).val % 1024) : j = i := by
  have g0 : (i 0).val < 512 := (i 0).isLt
  have g1 : (i 1).val < 1024 := (i 1).isLt
  refine funext fun a => Fin.ext ?_
  match a with
  | ⟨0, _⟩ => exact h0.trans (Nat.mod_eq_of_lt g0)
  | ⟨1, _⟩ => exact h1.trans (Nat.mod_eq_of_lt g1)

theorem run_zero_narrow (i : S128x1024.Idx) : 11 * (1 * ((i 0).val / 128 - 0) + 1 * ((i 1).val / 1024 - 0)) = 0 := by
  have h0 : (i 0).val < 128 := (i 0).isLt
  have h1 : (i 1).val < 1024 := (i 1).isLt
  omega
theorem loc_self_narrow (i : S128x1024.Idx) (j : S128x1024.Idx) (h0 : (j 0).val = (i 0).val % 128) (h1 : (j 1).val = (i 1).val % 1024) : j = i := by
  have g0 : (i 0).val < 128 := (i 0).isLt
  have g1 : (i 1).val < 1024 := (i 1).isLt
  refine funext fun a => Fin.ext ?_
  match a with
  | ⟨0, _⟩ => exact h0.trans (Nat.mod_eq_of_lt g0)
  | ⟨1, _⟩ => exact h1.trans (Nat.mod_eq_of_lt g1)

theorem wide : Padded (w := 1024) (V m c main_v0) (m ((c : Thread nD τ).loc main_arg0)) := by rw [V0]; exact padded_wide _
theorem first : Padded (w := 512) (V m c main_v2) (m ((c : Thread nD τ).loc main_arg1)) := by rw [V2]; exact padded_cast _
theorem second : Padded (w := 512) (V m c main_v4) (m ((c : Thread nD τ).loc main_arg2)) := by rw [V4]; exact padded_cast _
theorem third : Padded (w := 512) (V m c main_v6) (m ((c : Thread nD τ).loc main_arg3)) := by rw [V6]; exact padded_cast _
theorem fourth : Padded (w := 128) (V m c main_v9) (widen (m ((c : Thread nD τ).loc main_arg4))) := by rw [V9]; exact padded_lanes _

theorem array5 : G5 m c = grad (m ((c : Thread nD τ).loc main_arg1)) (m ((c : Thread nD τ).loc main_arg0)) := by
  funext i
  have hr : 11 * run5Of i = 0 := run_zero i
  unfold G5
  rw [dif_pos (show 11 * run5Of i + 10 < cfg0.N by rw [hr]; exact lt_of_lt_of_eq (by decide) N_0.symm)]
  refine fold_eq (first m c) (wide m c) (reset5 m c) (step5 m c) (fun n hn j => ?_) (fun n hn acc j => ?_) _ hr _ i _ (loc_self i _ rfl rfl)
  · refine (step_first _ _ _ j).trans (congrArg₂ (fun s t : EReal => s + t) (start_first j) ?_)
    exact blockSum_of N_0 n hn _ _ (fun k r l h => block1 m c n hn k r l h) (fun k r l h => block0 m c n hn k r l h) j
  · refine (step_first _ _ _ j).trans (congrArg (fun t : EReal => acc j + t) ?_)
    exact blockSum_of N_0 n hn _ _ (fun k r l h => block1 m c n hn k r l h) (fun k r l h => block0 m c n hn k r l h) j
theorem array6 : G6 m c = grad (m ((c : Thread nD τ).loc main_arg2)) (m ((c : Thread nD τ).loc main_arg0)) := by
  funext i
  have hr : 11 * run6Of i = 0 := run_zero i
  unfold G6
  rw [dif_pos (show 11 * run6Of i + 10 < cfg0.N by rw [hr]; exact lt_of_lt_of_eq (by decide) N_0.symm)]
  refine fold_eq (second m c) (wide m c) (reset6 m c) (step6 m c) (fun n hn j => ?_) (fun n hn acc j => ?_) _ hr _ i _ (loc_self i _ rfl rfl)
  · refine (step_second _ _ _ j).trans (congrArg₂ (fun s t : EReal => s + t) (start_second j) ?_)
    exact blockSum_of N_0 n hn _ _ (fun k r l h => block2 m c n hn k r l h) (fun k r l h => block0 m c n hn k r l h) j
  · refine (step_second _ _ _ j).trans (congrArg (fun t : EReal => acc j + t) ?_)
    exact blockSum_of N_0 n hn _ _ (fun k r l h => block2 m c n hn k r l h) (fun k r l h => block0 m c n hn k r l h) j
theorem array7 : G7 m c = grad (m ((c : Thread nD τ).loc main_arg3)) (m ((c : Thread nD τ).loc main_arg0)) := by
  funext i
  have hr : 11 * run7Of i = 0 := run_zero i
  unfold G7
  rw [dif_pos (show 11 * run7Of i + 10 < cfg0.N by rw [hr]; exact lt_of_lt_of_eq (by decide) N_0.symm)]
  refine fold_eq (third m c) (wide m c) (reset7 m c) (step7 m c) (fun n hn j => ?_) (fun n hn acc j => ?_) _ hr _ i _ (loc_self i _ rfl rfl)
  · refine (step_third _ _ _ j).trans (congrArg₂ (fun s t : EReal => s + t) (start_third j) ?_)
    exact blockSum_of N_0 n hn _ _ (fun k r l h => block3 m c n hn k r l h) (fun k r l h => block0 m c n hn k r l h) j
  · refine (step_third _ _ _ j).trans (congrArg (fun t : EReal => acc j + t) ?_)
    exact blockSum_of N_0 n hn _ _ (fun k r l h => block3 m c n hn k r l h) (fun k r l h => block0 m c n hn k r l h) j
theorem array8 : G8 m c = grad (widen (m ((c : Thread nD τ).loc main_arg4))) (m ((c : Thread nD τ).loc main_arg0)) := by
  funext i
  have hr : 11 * run8Of i = 0 := run_zero_narrow i
  unfold G8
  rw [dif_pos (show 11 * run8Of i + 10 < cfg0.N by rw [hr]; exact lt_of_lt_of_eq (by decide) N_0.symm)]
  refine fold_eq (fourth m c) (wide m c) (reset8 m c) (step8 m c) (fun n hn j => ?_) (fun n hn acc j => ?_) _ hr _ i _ (loc_self_narrow i _ rfl rfl)
  · refine (step_fourth _ _ _ j).trans (congrArg₂ (fun s t : EReal => s + t) (start_fourth j) ?_)
    exact blockSum_of N_0 n hn _ _ (fun k r l h => block4 m c n hn k r l h) (fun k r l h => block0 m c n hn k r l h) j
  · refine (step_fourth _ _ _ j).trans (congrArg (fun t : EReal => acc j + t) ?_)
    exact blockSum_of N_0 n hn _ _ (fun k r l h => block4 m c n hn k r l h) (fun k r l h => block0 m c n hn k r l h) j

end Cert.Kernel3Ideal.Weights

end
-- ==== Proof.Weights.AttnReference.lean ====
/- The weight gradients of the attention's projections, as the reference states them. -/
module

public import proofs.«01_k».proof.Proof.Weights.Sum
public import proofs.«01_k».proof.Proof.Gen.Reference2Ideal.Read

@[expose] public section

set_option maxRecDepth 16384

noncomputable section

namespace Cert.Reference2Ideal.Weights

open Cert.Reference2Ideal Cert.Reference2Ideal.Gen Cert.Reference2Ideal.Read Cert.Weights
open Idealize.ShloMosaic Idealize.ShloMosaic.TcCoe Idealize.ShloMosaic.ValueIdx Idealize.ShloMosaic.StableHlo

/-! ## The columns of the projection's gradient -/

theorem joined_first (x1 x2 x3 x4 : Mat 4112 512) (r : Fin 4112) (a : Fin 512) (j : S4112x2048.Idx) (h0 : (j 0).val = r.val) (h1 : (j 1).val = 0 + a.val) :
    val_main_v6 (F := Ideal) x1 x2 x3 x4 j = x1 (ix2 r a) := by
  unfold val_main_v6
  exact concatenate_apply_piece (1 : Fin S4112x2048.rank) _ _ j 0 (by show 0 < 4; decide) S4112x512 x1 rfl rfl 0 rfl (ix2 r a)
    (fun b hb => match b with
      | ⟨0, _⟩ => h0.symm
      | ⟨1, _⟩ => absurd rfl hb) h1.symm
theorem joined_second (x1 x2 x3 x4 : Mat 4112 512) (r : Fin 4112) (a : Fin 512) (j : S4112x2048.Idx) (h0 : (j 0).val = r.val) (h1 : (j 1).val = 512 + a.val) :
    val_main_v6 (F := Ideal) x1 x2 x3 x4 j = x2 (ix2 r a) := by
  unfold val_main_v6
  exact concatenate_apply_piece (1 : Fin S4112x2048.rank) _ _ j 1 (by show 1 < 4; decide) S4112x512 x2 rfl rfl 512 rfl (ix2 r a)
    (fun b hb => match b with
      | ⟨0, _⟩ => h0.symm
      | ⟨1, _⟩ => absurd rfl hb) h1.symm
theorem joined_third (x1 x2 x3 x4 : Mat 4112 512) (r : Fin 4112) (a : Fin 512) (j : S4112x2048.Idx) (h0 : (j 0).val = r.val) (h1 : (j 1).val = 1024 + a.val) :
    val_main_v6 (F := Ideal) x1 x2 x3 x4 j = x3 (ix2 r a) := by
  unfold val_main_v6
  exact concatenate_apply_piece (1 : Fin S4112x2048.rank) _ _ j 2 (by show 2 < 4; decide) S4112x512 x3 rfl rfl 1024 rfl (ix2 r a)
    (fun b hb => match b with
      | ⟨0, _⟩ => h0.symm
      | ⟨1, _⟩ => absurd rfl hb) h1.symm
theorem joined_fourth (x1 x2 x3 x4 : Mat 4112 512) (r : Fin 4112) (a : Fin 512) (j : S4112x2048.Idx) (h0 : (j 0).val = r.val) (h1 : (j 1).val = 1536 + a.val) :
    val_main_v6 (F := Ideal) x1 x2 x3 x4 j = x4 (ix2 r a) := by
  unfold val_main_v6
  exact concatenate_apply_piece (1 : Fin S4112x2048.rank) _ _ j 3 (by show 3 < 4; decide) S4112x512 x4 rfl rfl 1536 rfl (ix2 r a)
    (fun b hb => match b with
      | ⟨0, _⟩ => h0.symm
      | ⟨1, _⟩ => absurd rfl hb) h1.symm

/-! ## The weights' gradients -/

theorem result_first (x0 : Mat 4112 1024) (x1 x2 x3 x4 : Mat 4112 512) : val_main_v10 (F := Ideal) x0 x1 x2 x3 x4 = grad x1 x0 := by
  funext i
  rw [val_main_v10_apply, val_main_v9_apply, val_main_v8_apply, val_main_v7_apply]
  exact Finset.sum_congr rfl fun k _ => congrArg₂ (fun s t : EReal => s * t)
    (joined_first x1 x2 x3 x4 k (i 0) _ rfl (Nat.zero_add _).symm)
    (congrArg x0 (funext fun a => match a with
      | ⟨0, _⟩ => rfl
      | ⟨1, _⟩ => rfl))
theorem result_second (x0 : Mat 4112 1024) (x1 x2 x3 x4 : Mat 4112 512) : val_main_v11 (F := Ideal) x0 x1 x2 x3 x4 = grad x2 x0 := by
  funext i
  rw [val_main_v11_apply, val_main_v9_apply, val_main_v8_apply, val_main_v7_apply]
  exact Finset.sum_congr rfl fun k _ => congrArg₂ (fun s t : EReal => s * t)
    (joined_second x1 x2 x3 x4 k (i 0) _ rfl rfl)
    (congrArg x0 (funext fun a => match a with
      | ⟨0, _⟩ => rfl
      | ⟨1, _⟩ => rfl))
theorem result_third (x0 : Mat 4112 1024) (x1 x2 x3 x4 : Mat 4112 512) : val_main_v12 (F := Ideal) x0 x1 x2 x3 x4 = grad x3 x0 := by
  funext i
  rw [val_main_v12_apply, val_main_v9_apply, val_main_v8_apply, val_main_v7_apply]
  exact Finset.sum_congr rfl fun k _ => congrArg₂ (fun s t : EReal => s * t)
    (joined_third x1 x2 x3 x4 k (i 0) _ rfl rfl)
    (congrArg x0 (funext fun a => match a with
      | ⟨0, _⟩ => rfl
      | ⟨1, _⟩ => rfl))
theorem result_fourth (x0 : Mat 4112 1024) (x1 x2 x3 x4 : Mat 4112 512) : val_main_v13 (F := Ideal) x0 x1 x2 x3 x4 = grad x4 x0 := by
  funext i
  rw [val_main_v13_apply, val_main_v9_apply, val_main_v8_apply, val_main_v7_apply]
  exact Finset.sum_congr rfl fun k _ => congrArg₂ (fun s t : EReal => s * t)
    (joined_fourth x1 x2 x3 x4 k (i 0) _ rfl rfl)
    (congrArg x0 (funext fun a => match a with
      | ⟨0, _⟩ => rfl
      | ⟨1, _⟩ => rfl))

end Cert.Reference2Ideal.Weights

end
-- ==== Proof.Weights.ConvReference.lean ====
/- The weight gradients of the convolution's projections and of the forget gates', as the reference states them. -/
module

public import proofs.«01_k».proof.Proof.Weights.Sum
public import proofs.«01_k».proof.Proof.Gen.Reference3Ideal.Read

@[expose] public section

set_option maxRecDepth 16384

noncomputable section

namespace Cert.Reference3Ideal.Weights

open Cert.Reference3Ideal Cert.Reference3Ideal.Gen Cert.Reference3Ideal.Read Cert.Weights
open Idealize.ShloMosaic Idealize.ShloMosaic.TcCoe Idealize.ShloMosaic.ValueIdx Idealize.ShloMosaic.StableHlo

/-! ## The columns of the projection's gradient -/

theorem joined_first (x1 x2 x3 : Mat 4112 512) (x4 : Mat 4112 8) (r : Fin 4112) (a : Fin 512) (j : S4112x1544.Idx) (h0 : (j 0).val = r.val) (h1 : (j 1).val = 0 + a.val) :
    val_main_v6 (F := Ideal) x1 x2 x3 x4 j = x1 (ix2 r a) := by
  unfold val_main_v6
  exact concatenate_apply_piece (1 : Fin S4112x1544.rank) _ _ j 0 (by show 0 < 4; decide) S4112x512 x1 rfl rfl 0 rfl (ix2 r a)
    (fun b hb => match b with
      | ⟨0, _⟩ => h0.symm
      | ⟨1, _⟩ => absurd rfl hb) h1.symm
theorem joined_second (x1 x2 x3 : Mat 4112 512) (x4 : Mat 4112 8) (r : Fin 4112) (a : Fin 512) (j : S4112x1544.Idx) (h0 : (j 0).val = r.val) (h1 : (j 1).val = 512 + a.val) :
    val_main_v6 (F := Ideal) x1 x2 x3 x4 j = x2 (ix2 r a) := by
  unfold val_main_v6
  exact concatenate_apply_piece (1 : Fin S4112x1544.rank) _ _ j 1 (by show 1 < 4; decide) S4112x512 x2 rfl rfl 512 rfl (ix2 r a)
    (fun b hb => match b with
      | ⟨0, _⟩ => h0.symm
      | ⟨1, _⟩ => absurd rfl hb) h1.symm
theorem joined_third (x1 x2 x3 : Mat 4112 512) (x4 : Mat 4112 8) (r : Fin 4112) (a : Fin 512) (j : S4112x1544.Idx) (h0 : (j 0).val = r.val) (h1 : (j 1).val = 1024 + a.val) :
    val_main_v6 (F := Ideal) x1 x2 x3 x4 j = x3 (ix2 r a) := by
  unfold val_main_v6
  exact concatenate_apply_piece (1 : Fin S4112x1544.rank) _ _ j 2 (by show 2 < 4; decide) S4112x512 x3 rfl rfl 1024 rfl (ix2 r a)
    (fun b hb => match b with
      | ⟨0, _⟩ => h0.symm
      | ⟨1, _⟩ => absurd rfl hb) h1.symm
theorem joined_fourth (x1 x2 x3 : Mat 4112 512) (x4 : Mat 4112 8) (r : Fin 4112) (a : Fin 8) (j : S4112x1544.Idx) (h0 : (j 0).val = r.val) (h1 : (j 1).val = 1536 + a.val) :
    val_main_v6 (F := Ideal) x1 x2 x3 x4 j = x4 (ix2 r a) := by
  unfold val_main_v6
  exact concatenate_apply_piece (1 : Fin S4112x1544.rank) _ _ j 3 (by show 3 < 4; decide) S4112x8 x4 rfl rfl 1536 rfl (ix2 r a)
    (fun b hb => match b with
      | ⟨0, _⟩ => h0.symm
      | ⟨1, _⟩ => absurd rfl hb) h1.symm

/-! ## The weights' gradients -/

theorem result_first (x0 : Mat 4112 1024) (x1 x2 x3 : Mat 4112 512) (x4 : Mat 4112 8) : val_main_v10 (F := Ideal) x0 x1 x2 x3 x4 = grad x1 x0 := by
  funext i
  rw [val_main_v10_apply, val_main_v9_apply, val_main_v8_apply, val_main_v7_apply]
  exact Finset.sum_congr rfl fun k _ => congrArg₂ (fun s t : EReal => s * t)
    (joined_first x1 x2 x3 x4 k (i 0) _ rfl (Nat.zero_add _).symm)
    (congrArg x0 (funext fun a => match a with
      | ⟨0, _⟩ => rfl
      | ⟨1, _⟩ => rfl))
theorem result_second (x0 : Mat 4112 1024) (x1 x2 x3 : Mat 4112 512) (x4 : Mat 4112 8) : val_main_v11 (F := Ideal) x0 x1 x2 x3 x4 = grad x2 x0 := by
  funext i
  rw [val_main_v11_apply, val_main_v9_apply, val_main_v8_apply, val_main_v7_apply]
  exact Finset.sum_congr rfl fun k _ => congrArg₂ (fun s t : EReal => s * t)
    (joined_second x1 x2 x3 x4 k (i 0) _ rfl rfl)
    (congrArg x0 (funext fun a => match a with
      | ⟨0, _⟩ => rfl
      | ⟨1, _⟩ => rfl))
theorem result_third (x0 : Mat 4112 1024) (x1 x2 x3 : Mat 4112 512) (x4 : Mat 4112 8) : val_main_v12 (F := Ideal) x0 x1 x2 x3 x4 = grad x3 x0 := by
  funext i
  rw [val_main_v12_apply, val_main_v9_apply, val_main_v8_apply, val_main_v7_apply]
  exact Finset.sum_congr rfl fun k _ => congrArg₂ (fun s t : EReal => s * t)
    (joined_third x1 x2 x3 x4 k (i 0) _ rfl rfl)
    (congrArg x0 (funext fun a => match a with
      | ⟨0, _⟩ => rfl
      | ⟨1, _⟩ => rfl))
theorem result_fourth (x0 : Mat 4112 1024) (x1 x2 x3 : Mat 4112 512) (x4 : Mat 4112 8) : val_main_v13 (F := Ideal) x0 x1 x2 x3 x4 = grad x4 x0 := by
  funext i
  rw [val_main_v13_apply, val_main_v9_apply, val_main_v8_apply, val_main_v7_apply]
  exact Finset.sum_congr rfl fun k _ => congrArg₂ (fun s t : EReal => s * t)
    (joined_fourth x1 x2 x3 x4 k (i 0) _ rfl rfl)
    (congrArg x0 (funext fun a => match a with
      | ⟨0, _⟩ => rfl
      | ⟨1, _⟩ => rfl))

theorem padZero_at (i : S_.Idx) : val_main_call0_v0 (F := Ideal) i = (0 : EReal) := by
  show ((((0#32 : BitVec 32).toInt : ℤ) : ℝ) : EReal) = 0
  simp

/-- The last gradient, 120 rows of zeros after it. -/
theorem result_padded (x0 : Mat 4112 1024) (x1 x2 x3 : Mat 4112 512) (x4 : Mat 4112 8) :
    val_main_v14 (F := Ideal) x0 x1 x2 x3 x4 = grad (widen x4) x0 := by
  funext i
  rw [grad_widen]
  unfold val_main_v14
  rw [result_fourth]
  by_cases h : (i 0).val < 8
  · rw [dif_pos h, pad_apply_of_inside _ _ _ _ _ _ _ _ (ix2 ⟨(i 0).val, h⟩ (i 1) : S8x1024.Idx) (fun a => match a with
      | ⟨0, _⟩ => by show (i 0).val = 0 + (i 0).val * 1; omega
      | ⟨1, _⟩ => by show (i 1).val = 0 + (i 1).val * 1; omega)]
  · rw [dif_neg h, pad_apply_of_not_inside _ _ _ _ _ _ _ _ (0 : Fin 2) (fun hin => by
      have h1 : ((i 0).val - 0) / (0 + 1) < 8 := hin.2.2
      omega), padZero_at]

end Cert.Reference3Ideal.Weights

end
-- ==== Proof.Weights.Equations.lean ====
/- The weight gradients of the projection: every program's frame, and the equations of the kernels with their references. -/
module

public import proofs.«01_k».proof.Defs
public import proofs.«01_k».proof.Proof.Weights.Attn
public import proofs.«01_k».proof.Proof.Weights.Conv
public import proofs.«01_k».proof.Proof.Weights.AttnReference
public import proofs.«01_k».proof.Proof.Weights.ConvReference
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import Idealize.ShloMosaic.Lib.Claim
public import Idealize.ShloMosaic.Lib.Quiescent

@[expose] public section

set_option maxRecDepth 16384

noncomputable section

namespace Cert.Weights

open Idealize.ShloMosaic Idealize.ShloMosaic.TcCoe
open Idealize.SL.Sem

/-- The two programs end with the same four arrays: the gradients of the weights of q, k, v and the attention's gate. -/
theorem equation2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Value.G5 m c, fun c => Cert.Kernel2Ideal.Value.G6 m c, fun c => Cert.Kernel2Ideal.Value.G7 m c,
    fun c => Cert.Kernel2Ideal.Value.G8 m c, Cert.Kernel2Ideal.Value.run m g, θ_run_mono (Cert.Reference2Ideal.Value.run (F := Ideal) m' g') fun r h c => ?_⟩
  obtain ⟨e0, e1, e2, e3, e4⟩ := hargs c
  obtain ⟨h0, h1, h2, h3, hk⟩ := h c
  refine ⟨h0.trans ?_, h1.trans ?_, h2.trans ?_, h3.trans ?_, hk⟩
  · exact ((Cert.Reference2Ideal.Read.val_main_v10_eq _ _ _ _ _).trans (Cert.Reference2Ideal.Weights.result_first _ _ _ _ _)).trans
      ((congrArg₂ (fun (d : Mat 4112 512) (h : Mat 4112 1024) => grad d h) e1 e0).trans (Cert.Kernel2Ideal.Weights.array5 m c).symm)
  · exact ((Cert.Reference2Ideal.Read.val_main_v11_eq _ _ _ _ _).trans (Cert.Reference2Ideal.Weights.result_second _ _ _ _ _)).trans
      ((congrArg₂ (fun (d : Mat 4112 512) (h : Mat 4112 1024) => grad d h) e2 e0).trans (Cert.Kernel2Ideal.Weights.array6 m c).symm)
  · exact ((Cert.Reference2Ideal.Read.val_main_v12_eq _ _ _ _ _).trans (Cert.Reference2Ideal.Weights.result_third _ _ _ _ _)).trans
      ((congrArg₂ (fun (d : Mat 4112 512) (h : Mat 4112 1024) => grad d h) e3 e0).trans (Cert.Kernel2Ideal.Weights.array7 m c).symm)
  · exact ((Cert.Reference2Ideal.Read.val_main_v13_eq _ _ _ _ _).trans (Cert.Reference2Ideal.Weights.result_fourth _ _ _ _ _)).trans
      ((congrArg₂ (fun (d : Mat 4112 512) (h : Mat 4112 1024) => grad d h) e4 e0).trans (Cert.Kernel2Ideal.Weights.array8 m c).symm)

theorem frame_kernel2 : Cert.quiescent_Kernel2 (hKernel2 := Cert.Kernel2.Gen.facts) :=
  fun m g _ => Cert.Kernel2.Gen.frame m g
theorem frame_ideal2 : Cert.quiescent_Kernel2Ideal (hKernel2Ideal := Cert.Kernel2Ideal.Gen.facts) :=
  fun m g _ => Cert.Kernel2Ideal.Gen.frame m g
theorem frame_reference2 : Cert.quiescent_Reference2Ideal (hReference2Ideal := Cert.Reference2Ideal.Gen.facts) :=
  fun m g _ => θ_run_mono (Cert.Reference2Ideal.Value.run (F := Ideal) m g) fun r h => ⟨fun c => (h c).2.2.2.2, sem_eq_zero_of_no_sems rfl r.2⟩

/-- The two programs end with the same four arrays: the gradients of the weights of the convolution's value, gates and of the forget gates, the last one widened. -/
theorem equation3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G5 m c, fun c => Cert.Kernel3Ideal.Value.G6 m c, fun c => Cert.Kernel3Ideal.Value.G7 m c,
    fun c => Cert.Kernel3Ideal.Value.G8 m c, Cert.Kernel3Ideal.Value.run m g, θ_run_mono (Cert.Reference3Ideal.Value.run (F := Ideal) m' g') fun r h c => ?_⟩
  obtain ⟨e0, e1, e2, e3, e4⟩ := hargs c
  obtain ⟨h0, h1, h2, h3, hk⟩ := h c
  refine ⟨h0.trans ?_, h1.trans ?_, h2.trans ?_, h3.trans ?_, hk⟩
  · exact ((Cert.Reference3Ideal.Read.val_main_v10_eq _ _ _ _ _).trans (Cert.Reference3Ideal.Weights.result_first _ _ _ _ _)).trans
      ((congrArg₂ (fun (d : Mat 4112 512) (h : Mat 4112 1024) => grad d h) e1 e0).trans (Cert.Kernel3Ideal.Weights.array5 m c).symm)
  · exact ((Cert.Reference3Ideal.Read.val_main_v11_eq _ _ _ _ _).trans (Cert.Reference3Ideal.Weights.result_second _ _ _ _ _)).trans
      ((congrArg₂ (fun (d : Mat 4112 512) (h : Mat 4112 1024) => grad d h) e2 e0).trans (Cert.Kernel3Ideal.Weights.array6 m c).symm)
  · exact ((Cert.Reference3Ideal.Read.val_main_v12_eq _ _ _ _ _).trans (Cert.Reference3Ideal.Weights.result_third _ _ _ _ _)).trans
      ((congrArg₂ (fun (d : Mat 4112 512) (h : Mat 4112 1024) => grad d h) e3 e0).trans (Cert.Kernel3Ideal.Weights.array7 m c).symm)
  · exact ((Cert.Reference3Ideal.Read.val_main_v14_eq _ _ _ _ _).trans (Cert.Reference3Ideal.Weights.result_padded _ _ _ _ _)).trans
      ((congrArg₂ (fun (d : Mat 4112 8) (h : Mat 4112 1024) => grad (widen d) h) e4 e0).trans (Cert.Kernel3Ideal.Weights.array8 m c).symm)

theorem frame_kernel3 : Cert.quiescent_Kernel3 (hKernel3 := Cert.Kernel3.Gen.facts) :=
  fun m g _ => Cert.Kernel3.Gen.frame m g
theorem frame_ideal3 : Cert.quiescent_Kernel3Ideal (hKernel3Ideal := Cert.Kernel3Ideal.Gen.facts) :=
  fun m g _ => Cert.Kernel3Ideal.Gen.frame m g
theorem frame_reference3 : Cert.quiescent_Reference3Ideal (hReference3Ideal := Cert.Reference3Ideal.Gen.facts) :=
  fun m g _ => θ_run_mono (Cert.Reference3Ideal.Value.run (F := Ideal) m g) fun r h => ⟨fun c => (h c).2.2.2.2, sem_eq_zero_of_no_sems rfl r.2⟩

end Cert.Weights

end
-- ==== Proof.Projection.Norm.lean ====
/- A row's layer norm, the rows' products with the projection's weights, and the padding in front of the rows: the
   functions that the kernel's and the reference's results are read as. -/
module

public import proofs.«01_k».proof.Proof.Weights.Sum

@[expose] public section

set_option maxRecDepth 16384

noncomputable section

namespace Cert.Projection

open Cert.Weights
open Idealize.ShloMosaic Idealize.ShloMosaic.ValueIdx

/-- A vector of extended reals. -/
abbrev Col (a : ℕ) : Type := (⟨1, ![a]⟩ : Shape).Idx → EReal

/-- The mean of a row: the sum divided by 1024. -/
def mean (x : Fin 1024 → EReal) : EReal := Ideal.div (∑ k, x k) (Ideal.ofBits .f32 0x44800000#32)

/-- A row less its mean. -/
def centred (x : Fin 1024 → EReal) (l : Fin 1024) : EReal := x l - mean x

/-- What the centred row is multiplied by: one over the root of the mean square and a small constant. -/
def scale (x : Fin 1024 → EReal) : EReal :=
  Ideal.rsqrt (mean (fun k => centred x k * centred x k) + Ideal.ofBits .f32 0x3727C5AC#32)

/-- The layer norm of a row. -/
def normed (x g b : Fin 1024 → EReal) (l : Fin 1024) : EReal := centred x l * scale x * g l + b l

/-- The meta tokens and the tokens after them. -/
def joined (x : Mat 4096 1024) (t : Mat 16 1024) : Mat 4112 1024 := fun i =>
  if h : (i 0).val < 16 then t (ix2 ⟨(i 0).val, h⟩ (i 1))
  else x (ix2 ⟨(i 0).val - 16, by have h0 : (i 0).val < 4112 := (i 0).isLt; omega⟩ (i 1))

theorem joined_meta (x : Mat 4096 1024) (t : Mat 16 1024) (i : Fin 4112) (r : Fin 16) (l : Fin 1024) (h : i.val = r.val) :
    joined x t (ix2 i l) = t (ix2 r l) := by
  have hr := r.isLt
  unfold joined
  refine (dif_pos (show i.val < 16 by omega)).trans (congrArg (fun a => t (ix2 a l)) (Fin.ext h))

theorem joined_token (x : Mat 4096 1024) (t : Mat 16 1024) (i : Fin 4112) (r : Fin 4096) (l : Fin 1024) (h : i.val = 16 + r.val) :
    joined x t (ix2 i l) = x (ix2 r l) := by
  unfold joined
  refine (dif_neg (show ¬i.val < 16 by omega)).trans (congrArg (fun a => x (ix2 a l)) (Fin.ext ?_))
  show i.val - 16 = r.val
  omega

/-- The layer norm's rows. -/
def hidden (x : Mat 4096 1024) (t : Mat 16 1024) (g b : Col 1024) : Mat 4112 1024 := fun i =>
  normed (fun k => joined x t (ix2 (i 0) k)) (fun k => g (ix1 k)) (fun k => b (ix1 k)) (i 1)

/-- The rows times `n` of the projection's columns, from column `off` on. -/
def piece (n off : ℕ) (ho : off + n ≤ 3592) (h : Mat 4112 1024) (w : Mat 1024 3592) : Mat 4112 n := fun i =>
  ∑ k : Fin 1024, h (ix2 (i 0) k) * w (ix2 k ⟨off + (i 1).val, by have h1 : (i 1).val < n := (i 1).isLt; omega⟩)

/-- 112 rows of zeros and then the rows of `x`. -/
def below {w : ℕ} (x : Mat 4112 w) : Mat 4224 w := fun i =>
  if h : (i 0).val < 112 then 0 else x (ix2 ⟨(i 0).val - 112, by have h0 : (i 0).val < 4224 := (i 0).isLt; omega⟩ (i 1))

theorem below_pad {w : ℕ} (x : Mat 4112 w) (r : Fin 4224) (y : Fin w) (h : r.val < 112) : below x (ix2 r y) = 0 := dif_pos h

theorem below_row {w : ℕ} (x : Mat 4112 w) (r : Fin 4224) (i : Fin 4112) (y : Fin w) (h : r.val = 112 + i.val) :
    below x (ix2 r y) = x (ix2 i y) := by
  unfold below
  refine (dif_neg (show ¬r.val < 112 by omega)).trans (congrArg (fun a => x (ix2 a y)) (Fin.ext ?_))
  show r.val - 112 = i.val
  omega

theorem below_of_padded {w : ℕ} (P : Mat 4224 w) (x : Mat 4112 w) (h : Padded P x) : P = below x := by
  funext i
  obtain ⟨r, y, rfl⟩ : ∃ r y, i = ix2 r y := ⟨i 0, i 1, eq_ix2 i⟩
  by_cases hr : r.val < 112
  · rw [h.before r y hr, below_pad x r y hr]
  · have h0 := r.isLt
    rw [h.row r ⟨r.val - 112, by omega⟩ y (by show r.val = 112 + (r.val - 112); omega),
      below_row x r ⟨r.val - 112, by omega⟩ y (by show r.val = 112 + (r.val - 112); omega)]

/-- The products of the padded rows are the padded products. -/
theorem below_product (h : Mat 4112 1024) (v : Fin 1024 → EReal) (n : ℕ) (p : Mat 4112 n) (r : Fin 4224) (y : Fin n)
    (hp : ∀ i : Fin 4112, p (ix2 i y) = ∑ k : Fin 1024, h (ix2 i k) * v k) :
    ∑ k : Fin 1024, below h (ix2 r k) * v k = below p (ix2 r y) := by
  by_cases hr : r.val < 112
  · rw [below_pad p r y hr]
    exact Finset.sum_eq_zero fun k _ => (congrArg (fun s : EReal => s * _) (below_pad h r k hr)).trans (zero_mul _)
  · have h0 := r.isLt
    have e : r.val = 112 + (⟨r.val - 112, by omega⟩ : Fin 4112).val := by show r.val = 112 + (r.val - 112); omega
    rw [below_row p r _ y e, hp]
    exact Finset.sum_congr rfl fun k _ => congrArg (fun s : EReal => s * _) (below_row h r _ k e)

/-- The queries' scale, 1/8. -/
def eighth : EReal := Ideal.ofBits .f32 0x3E000000#32

/-- The queries: their products, scaled. -/
def scaled (p : Mat 4112 512) : Mat 4112 512 := fun i => p i * eighth

theorem below_scaled (p : Mat 4112 512) (i : (⟨2, ![4224, 512]⟩ : Shape).Idx) : below (scaled p) i = below p i * eighth := by
  obtain ⟨r, y, rfl⟩ : ∃ r y, i = ix2 r y := ⟨i 0, i 1, eq_ix2 i⟩
  by_cases hr : r.val < 112
  · rw [below_pad _ r y hr, below_pad p r y hr, zero_mul]
  · have h0 := r.isLt
    have e : r.val = 112 + (⟨r.val - 112, by omega⟩ : Fin 4112).val := by show r.val = 112 + (r.val - 112); omega
    rw [below_row _ r _ y e, below_row p r _ y e]
    rfl

end Cert.Projection

end
-- ==== Proof.Projection.Tile.lean ====
/- One step of the layer norm and the projection: what the kernel computes from the blocks it reads, entry by entry. -/
module

public import proofs.«01_k».proof.Proof.Projection.Norm
public import proofs.«01_k».proof.Proof.Grad.Lanes
public import proofs.«01_k».proof.Proof.Gen.Kernel4Ideal.Value

@[expose] public section

set_option maxRecDepth 16384

noncomputable section

namespace Cert.Kernel4Ideal.Projection

open Cert.Kernel4Ideal Cert.Kernel4Ideal.Gen Cert.Weights Cert.Projection
open Cert.KernelIdeal.Grad (row_bit select_of)
open Idealize.ShloMosaic Idealize.ShloMosaic.TcCoe Idealize.ShloMosaic.ValueIdx

/-! ## The layer norm of a block -/

/-- The rows' means. -/
def means (v : FVec Ideal S384x1024 .f32) : FVec Ideal S384x1 .f32 :=
  divf (shapeCast S384x1 (multiReduction .add [1] S384 v 0x00000000#32 reduces_S384x1024_S384 (.inl rfl) rfl) shapeCasts_S384_S384x1)
    (broadcast S384x1 (Scalar.ofBits (F := Ideal) .f32 0x44800000#32))

/-- A column spread over the lanes. -/
def spread {α : Type} (v : S384x1.Idx → α) : S384x1024.Idx → α := broadcastTo S384x1024 v broadcasts_S384x1_S384x1024

/-- A row spread over the rows. -/
def repeated {α : Type} (v : S1x1024.Idx → α) : S384x1024.Idx → α := broadcastTo S384x1024 v broadcasts_S1x1024_S384x1024

theorem spread_at {α : Type} (v : S384x1.Idx → α) (r : Fin 384) (l : Fin 1024) : spread v (ix2 r l) = v (ix2 r 0) := by
  refine broadcastTo_apply v _ _ _ fun a => ?_
  fin_cases a
  · rfl
  · rfl
theorem repeated_at {α : Type} (v : S1x1024.Idx → α) (r : Fin 384) (l : Fin 1024) : repeated v (ix2 r l) = v (ix2 0 l) := by
  refine broadcastTo_apply v _ _ _ fun a => ?_
  fin_cases a
  · rfl
  · rfl

theorem means_at (v : FVec Ideal S384x1024 .f32) (r : Fin 384) : means v (ix2 r 0) = mean fun k => v (ix2 r k) := by
  have e : shapeCast S384x1 (multiReduction .add [1] S384 v 0x00000000#32 reduces_S384x1024_S384 (.inl rfl) rfl) shapeCasts_S384_S384x1 (ix2 r 0)
      = ∑ k : Fin 1024, v (ix2 r k) := by
    refine (shapeCast_apply _ shapeCasts_S384_S384x1 (ix2 r 0) (ix1 r) ?_).trans ?_
    · rewrite [Shape.rowMajor_val_one, Shape.rowMajor_val_two]
      show r.val = r.val * 1 + 0
      omega
    · refine (Ideal.multiReduction_add_single v 0x00000000#32 reduces_S384x1024_S384 (.inl rfl) rfl (ix1 r)).trans ?_
      refine Finset.sum_congr rfl fun k _ => congrArg v (funext fun a => Fin.ext ?_)
      match a with
      | ⟨0, _⟩ => rfl
      | ⟨1, _⟩ => rfl
  exact congrArg (fun s : EReal => Ideal.div s (Ideal.ofBits .f32 0x44800000#32)) e

/-- The three blocks of rows of one step, the first step's first block being the head's. -/
def rows (i : grid0.Coords) (x0 x3 x1 x2 : FVec Ideal S128x1024 .f32) : FVec Ideal S384x1024 .f32 :=
  concatenate S384x1024 0 [⟨S128x1024, Scalar.select (Scalar.cmpi .eq (BitVec.ofNat 32 (i 0).val) 0#32) (shapeCast S128x1024 x3 shapeCasts_S128x1024_S128x1024) x0⟩, ⟨S128x1024, x1⟩, ⟨S128x1024, x2⟩]
    concatenates_S128x1024_S128x1024_S128x1024_S384x1024_d0

def deviations (v : FVec Ideal S384x1024 .f32) : FVec Ideal S384x1024 .f32 := subf v (spread (means v))

theorem deviations_at (v : FVec Ideal S384x1024 .f32) (r : Fin 384) (l : Fin 1024) :
    deviations v (ix2 r l) = centred (fun k => v (ix2 r k)) l :=
  congrArg (fun s : EReal => v (ix2 r l) - s) ((spread_at _ r l).trans (means_at v r))

def scales (v : FVec Ideal S384x1024 .f32) : FVec Ideal S384x1 .f32 :=
  rsqrt (addf (means (mulf (deviations v) (deviations v))) (broadcast S384x1 (Scalar.ofBits (F := Ideal) .f32 0x3727C5AC#32)))

theorem scales_at (v : FVec Ideal S384x1024 .f32) (r : Fin 384) : scales v (ix2 r 0) = scale fun k => v (ix2 r k) := by
  have e : means (mulf (deviations v) (deviations v)) (ix2 r 0)
      = mean fun k => centred (fun k => v (ix2 r k)) k * centred (fun k => v (ix2 r k)) k :=
    (means_at _ r).trans (congrArg mean (funext fun k =>
      congrArg₂ (fun s t : EReal => s * t) (deviations_at v r k) (deviations_at v r k)))
  exact congrArg (fun s : EReal => Ideal.rsqrt (s + Ideal.ofBits .f32 0x3727C5AC#32)) e

def norms (v : FVec Ideal S384x1024 .f32) (g b : FVec Ideal S1x1024 .f32) : FVec Ideal S384x1024 .f32 :=
  addf (mulf (mulf (deviations v) (spread (scales v))) (repeated g)) (repeated b)

theorem norms_at (v : FVec Ideal S384x1024 .f32) (g b : FVec Ideal S1x1024 .f32) (r : Fin 384) (l : Fin 1024) :
    norms v g b (ix2 r l) = normed (fun k => v (ix2 r k)) (fun k => g (ix2 0 k)) (fun k => b (ix2 0 k)) l :=
  congrArg₂ (fun s t : EReal => s + t)
    (congrArg₂ (fun s t : EReal => s * t)
      (congrArg₂ (fun s t : EReal => s * t) (deviations_at v r l) ((spread_at _ r l).trans (scales_at v r)))
      (repeated_at g r l))
    (repeated_at b r l)

theorem pay6_eq (i : grid0.Coords) (x0 x3 x1 x2 : FVec Ideal S128x1024 .f32) (g b : FVec Ideal S1x1024 .f32) :
    k0_pay6 i x0 x3 x1 x2 g b = norms (rows i x0 x3 x1 x2) g b := by
  unfold k0_pay6 norms scales deviations means rows spread repeated
  simp only [shapeCast_self]

/-- The step's rows of the layer norm; the padding's are zero. -/
theorem pay7_at (i : grid0.Coords) (t : ℕ) (ht : t < 11) (hi : (i 0).val = t) (v : FVec Ideal S384x1024 .f32) (r : Fin 384) (l : Fin 1024) :
    k0_pay7 (k0_pay5 i) v (Scalar.ofBits (F := Ideal) .f32 0x00000000#32) (ix2 r l)
      = if 112 ≤ 384 * t + r.val then (v (ix2 r l) : EReal) else 0 := by
  have hb : k0_pay5 i (ix2 r 0) = if 112 ≤ 384 * t + r.val then 1#1 else 0#1 := by
    rw [← row_bit t ht r, ← hi]
    have hj : iota .tc S384x1 32 [0] iota_S384x1_d0_w32 (ix2 r 0) = BitVec.ofNat 32 r.val := by rw [iota_single_apply]
    rw [← hj]
    rfl
  unfold k0_pay7
  rw [shapeCast_self]
  refine (select_of _ _ ((spread_at _ r l).trans hb) _ _).trans ?_
  exact congrArg (fun s : EReal => if 112 ≤ 384 * t + r.val then (v (ix2 r l) : EReal) else s) Ideal.ofBits_zero_f32

/-! ## The products -/

abbrev dot : DotDims S384x1024 S512x1024 S384x512 := dot_S384x1024_S512x1024_S384x512_1_1_0_0_n_n

theorem dot_lhs_col (j : S384x512.Idx) (q : dot.contr.Idx) : (dot.lhsIdx j q 1).val = (q ⟨0, by decide⟩).val := dot.lhsIdx_val_of_single rfl j q
theorem dot_rhs_col (j : S384x512.Idx) (q : dot.contr.Idx) : (dot.rhsIdx j q 1).val = (q ⟨0, by decide⟩).val := dot.rhsIdx_val_of_single rfl j q
theorem dot_lhs_row (j : S384x512.Idx) (q : dot.contr.Idx) : (dot.lhsIdx j q 0).val = (j 0).val := by
  unfold DotDims.lhsIdx
  rw [dif_neg (show ¬(0 : Fin S384x1024.rank) ∈ dot.lhsBatch by decide), dif_pos (show (0 : Fin S384x1024.rank) ∈ dot.lhsNonContracting by decide)]
  rfl
theorem dot_rhs_row (j : S384x512.Idx) (q : dot.contr.Idx) : (dot.rhsIdx j q 0).val = (j 1).val := by
  unfold DotDims.rhsIdx
  rw [dif_neg (show ¬(0 : Fin S512x1024.rank) ∈ dot.rhsBatch by decide), dif_pos (show (0 : Fin S512x1024.rank) ∈ dot.rhsNonContracting by decide)]
  rfl

theorem dot_at (l : FVec Ideal S384x1024 .bf16) (r : FVec Ideal S512x1024 .bf16) (j : S384x512.Idx) :
    matmul dot none l r (constant S384x512 .f32 0x00000000#32) j = ∑ k : Fin 1024, l (ix2 (j 0) k) * r (ix2 (j 1) k) := by
  show FloatOps.matmul dot none l r (constant S384x512 .f32 0x00000000#32) j = _
  rw [Ideal.matmul_constant_zero_apply, ← Equiv.sum_comp (contrEquiv1 dot 1024 rfl rfl).symm]
  refine Finset.sum_congr rfl fun k _ => ?_
  have hk := contrEquiv1_symm_val dot 1024 rfl rfl k
  have el : dot.lhsIdx j ((contrEquiv1 dot 1024 rfl rfl).symm k) = ix2 (j 0) k := funext fun a => Fin.ext (by
    match a with
    | ⟨0, _⟩ => exact dot_lhs_row j _
    | ⟨1, _⟩ => exact (dot_lhs_col j _).trans hk)
  have er : dot.rhsIdx j ((contrEquiv1 dot 1024 rfl rfl).symm k) = ix2 (j 1) k := funext fun a => Fin.ext (by
    match a with
    | ⟨0, _⟩ => exact dot_rhs_row j _
    | ⟨1, _⟩ => exact (dot_rhs_col j _).trans hk)
  rw [el, er]
  rfl

abbrev gdot : DotDims S384x1024 S128x1024 S384x128 := dot_S384x1024_S128x1024_S384x128_1_1_0_0_n_n

theorem gdot_lhs_col (j : S384x128.Idx) (q : gdot.contr.Idx) : (gdot.lhsIdx j q 1).val = (q ⟨0, by decide⟩).val := gdot.lhsIdx_val_of_single rfl j q
theorem gdot_rhs_col (j : S384x128.Idx) (q : gdot.contr.Idx) : (gdot.rhsIdx j q 1).val = (q ⟨0, by decide⟩).val := gdot.rhsIdx_val_of_single rfl j q
theorem gdot_lhs_row (j : S384x128.Idx) (q : gdot.contr.Idx) : (gdot.lhsIdx j q 0).val = (j 0).val := by
  unfold DotDims.lhsIdx
  rw [dif_neg (show ¬(0 : Fin S384x1024.rank) ∈ gdot.lhsBatch by decide), dif_pos (show (0 : Fin S384x1024.rank) ∈ gdot.lhsNonContracting by decide)]
  rfl
theorem gdot_rhs_row (j : S384x128.Idx) (q : gdot.contr.Idx) : (gdot.rhsIdx j q 0).val = (j 1).val := by
  unfold DotDims.rhsIdx
  rw [dif_neg (show ¬(0 : Fin S128x1024.rank) ∈ gdot.rhsBatch by decide), dif_pos (show (0 : Fin S128x1024.rank) ∈ gdot.rhsNonContracting by decide)]
  rfl

theorem gdot_at (l : FVec Ideal S384x1024 .bf16) (r : FVec Ideal S128x1024 .bf16) (j : S384x128.Idx) :
    matmul gdot none l r (constant S384x128 .f32 0x00000000#32) j = ∑ k : Fin 1024, l (ix2 (j 0) k) * r (ix2 (j 1) k) := by
  show FloatOps.matmul gdot none l r (constant S384x128 .f32 0x00000000#32) j = _
  rw [Ideal.matmul_constant_zero_apply, ← Equiv.sum_comp (contrEquiv1 gdot 1024 rfl rfl).symm]
  refine Finset.sum_congr rfl fun k _ => ?_
  have hk := contrEquiv1_symm_val gdot 1024 rfl rfl k
  have el : gdot.lhsIdx j ((contrEquiv1 gdot 1024 rfl rfl).symm k) = ix2 (j 0) k := funext fun a => Fin.ext (by
    match a with
    | ⟨0, _⟩ => exact gdot_lhs_row j _
    | ⟨1, _⟩ => exact (gdot_lhs_col j _).trans hk)
  have er : gdot.rhsIdx j ((contrEquiv1 gdot 1024 rfl rfl).symm k) = ix2 (j 1) k := funext fun a => Fin.ext (by
    match a with
    | ⟨0, _⟩ => exact gdot_rhs_row j _
    | ⟨1, _⟩ => exact (gdot_rhs_col j _).trans hk)
  rw [el, er]
  rfl

/-! ## What each store writes, from the step's rows `v` of the layer norm -/

abbrev stepRows (i : grid0.Coords) (v : FVec Ideal S384x1024 .f32) : FVec Ideal S384x1024 .f32 :=
  k0_pay7 (k0_pay5 i) v (Scalar.ofBits (F := Ideal) .f32 0x00000000#32)

section Stores
variable (i : grid0.Coords) (v : FVec Ideal S384x1024 .f32) (w : FVec Ideal S512x1024 .bf16) (j : S384x512.Idx)

theorem store_q : k0_pay9 (k0_pay5 i) v (Scalar.ofBits (F := Ideal) .f32 0x00000000#32) w j
    = (∑ k : Fin 1024, stepRows i v (ix2 (j 0) k) * w (ix2 (j 1) k) : EReal) * eighth := by
  unfold k0_pay9 k0_pay8
  simp only [shapeCast_self]
  exact congrArg (fun s : EReal => s * eighth) (dot_at _ _ j)
theorem store_k : k0_pay10 (k0_pay5 i) v (Scalar.ofBits (F := Ideal) .f32 0x00000000#32) w j
    = (∑ k : Fin 1024, stepRows i v (ix2 (j 0) k) * w (ix2 (j 1) k) : EReal) := by
  unfold k0_pay10 k0_pay8
  simp only [shapeCast_self]
  exact dot_at _ _ j
theorem product_v : k0_pay11 (k0_pay5 i) v (Scalar.ofBits (F := Ideal) .f32 0x00000000#32) w j
    = (∑ k : Fin 1024, stepRows i v (ix2 (j 0) k) * w (ix2 (j 1) k) : EReal) := by
  unfold k0_pay11 k0_pay8
  simp only [shapeCast_self]
  exact dot_at _ _ j
theorem store_v : k0_pay12 (k0_pay5 i) v (Scalar.ofBits (F := Ideal) .f32 0x00000000#32) w j
    = (∑ k : Fin 1024, stepRows i v (ix2 (j 0) k) * w (ix2 (j 1) k) : EReal) := product_v i v w j
theorem store_vt (y : Fin 512) (r : Fin 384) : k0_pay13 (k0_pay5 i) v (Scalar.ofBits (F := Ideal) .f32 0x00000000#32) w (ix2 y r)
    = (∑ k : Fin 1024, stepRows i v (ix2 r k) * w (ix2 y k) : EReal) := by
  unfold k0_pay13
  exact (transpose_ix2_apply _ transposes_S384x512_p1_0_S512x384 y r).trans (product_v i v w (ix2 r y))
theorem store_ga : k0_pay14 (k0_pay5 i) v (Scalar.ofBits (F := Ideal) .f32 0x00000000#32) w j
    = (∑ k : Fin 1024, stepRows i v (ix2 (j 0) k) * w (ix2 (j 1) k) : EReal) := by
  unfold k0_pay14 k0_pay8
  simp only [shapeCast_self]
  exact dot_at _ _ j
theorem store_u : k0_pay1 (k0_pay8 (k0_pay5 i) v (Scalar.ofBits (F := Ideal) .f32 0x00000000#32)) w j
    = (∑ k : Fin 1024, stepRows i v (ix2 (j 0) k) * w (ix2 (j 1) k) : EReal) := by
  unfold k0_pay1 k0_pay8
  simp only [shapeCast_self]
  exact dot_at _ _ j
theorem store_ug : k0_pay2 (k0_pay8 (k0_pay5 i) v (Scalar.ofBits (F := Ideal) .f32 0x00000000#32)) w j
    = (∑ k : Fin 1024, stepRows i v (ix2 (j 0) k) * w (ix2 (j 1) k) : EReal) := store_u i v w j
theorem store_gc : k0_pay3 (k0_pay8 (k0_pay5 i) v (Scalar.ofBits (F := Ideal) .f32 0x00000000#32)) w j
    = (∑ k : Fin 1024, stepRows i v (ix2 (j 0) k) * w (ix2 (j 1) k) : EReal) := store_u i v w j
end Stores

theorem store_f (i : grid0.Coords) (v : FVec Ideal S384x1024 .f32) (w : FVec Ideal S128x1024 .bf16) (j : S384x128.Idx) :
    k0_pay4 (k0_pay8 (k0_pay5 i) v (Scalar.ofBits (F := Ideal) .f32 0x00000000#32)) w j
      = (∑ k : Fin 1024, stepRows i v (ix2 (j 0) k) * w (ix2 (j 1) k) : EReal) := by
  unfold k0_pay4 k0_pay8
  simp only [shapeCast_self]
  exact gdot_at _ _ j

end Cert.Kernel4Ideal.Projection

end
-- ==== Proof.Projection.Blocks.lean ====
/- The layer norm and the projection: the blocks that a step reads, as rows of the tokens and of the projection's weights. -/
module

public import proofs.«01_k».proof.Proof.Projection.Tile
public import proofs.«01_k».proof.Proof.Gen.Kernel4Ideal.Value

@[expose] public section

set_option maxRecDepth 16384

noncomputable section

namespace Cert.Kernel4Ideal.Projection

open Cert.Kernel4Ideal Cert.Kernel4Ideal.Gen Cert.Weights Cert.Projection
open Cert.KernelIdeal.Grad (select_of)
open Idealize.ShloMosaic Idealize.ShloMosaic.TcCoe Idealize.ShloMosaic.ValueIdx Idealize.ShloMosaic.StableHlo Idealize.ShloMosaic.WordCmp
open Idealize.SL.Sem

/-! ## The host's arrays -/

section Host
variable {F : FTy → Type} [FloatOps F]
variable (m : (ℓ : Loc nD τ sig) → Buf (Elt F) ℓ) (c : Dev nD)

def headOf (t : FVec F S16x1024 .f32) : FVec F S128x1024 .f32 :=
  concatenate S128x1024 0 [⟨S112x1024, broadcastInDim S112x1024 ![] bcast_S_S112x1024 (constant (F := F) S_ .f32 0x00000000#32)⟩, ⟨S16x1024, t⟩]
    concatenates_S112x1024_S16x1024_S128x1024_d0
def turned (w : FVec F S1024x3592 .f32) : FVec F S3592x1024 .bf16 :=
  truncf .bf16 (transpose S3592x1024 [1, 0] w transposes_S1024x3592_S3592x1024_1_0) bitsLt_bf16_f32
def weightsOf (w : FVec F S1024x3592 .f32) : FVec F S3712x1024 .bf16 :=
  concatenate S3712x1024 0 [⟨S1536x1024, extractStridedSlice S1536x1024 ![0, 0] (turned w) slices_S3592x1024_S1536x1024_0_0⟩,
    ⟨S2048x1024, extractStridedSlice S2048x1024 ![1544, 0] (turned w) slices_S3592x1024_S2048x1024_1544_0⟩,
    ⟨S8x1024, extractStridedSlice S8x1024 ![1536, 0] (turned w) slices_S3592x1024_S8x1024_1536_0⟩,
    ⟨S120x1024, broadcastInDim S120x1024 ![] bcast_S_S120x1024 (constant (F := F) S_ .bf16 0x0000#16)⟩]
    concatenates_S1536x1024_S2048x1024_S8x1024_S120x1024_S3712x1024_d0

theorem V1 : V m c main_v1 = headOf (m ((c : Thread nD τ).loc main_arg1)) := by
  unfold V
  simp only [hostOps0, List.flatten_cons, List.flatten_nil, List.append_nil, List.cons_append, List.nil_append]
  after_results
  rfl
theorem V8 : V m c main_v8 = weightsOf (m ((c : Thread nD τ).loc main_arg4)) := by
  unfold V
  simp only [hostOps0, List.flatten_cons, List.flatten_nil, List.append_nil, List.cons_append, List.nil_append]
  after_results
  rfl
theorem V9 : V m c main_v9 = shapeCast S1x1024 (m ((c : Thread nD τ).loc main_arg2)) shapeCasts_S1024_S1x1024 := by
  unfold V
  simp only [hostOps0, List.flatten_cons, List.flatten_nil, List.append_nil, List.cons_append, List.nil_append]
  after_results
  rfl
theorem V10 : V m c main_v10 = shapeCast S1x1024 (m ((c : Thread nD τ).loc main_arg3)) shapeCasts_S1024_S1x1024 := by
  unfold V
  simp only [hostOps0, List.flatten_cons, List.flatten_nil, List.append_nil, List.cons_append, List.nil_append]
  after_results
  rfl
theorem Vx : V m c main_arg0 = m ((c : Thread nD τ).loc main_arg0) := by
  unfold V
  simp only [hostOps0, List.flatten_cons, List.flatten_nil, List.append_nil, List.cons_append, List.nil_append]
  after_results

end Host

theorem headOf_at (t : Mat 16 1024) (p : Fin 128) (q : Fin 16) (l : Fin 1024) (h : p.val = 112 + q.val) :
    headOf (F := Ideal) t (ix2 p l) = t (ix2 q l) := by
  unfold headOf
  exact concatenate_apply_piece (0 : Fin S128x1024.rank) _ _ (ix2 p l) 1 (by show 1 < 2; decide) S16x1024 t rfl rfl 112 rfl (ix2 q l)
    (fun b hb => match b with
      | ⟨0, _⟩ => absurd rfl hb
      | ⟨1, _⟩ => rfl) h.symm

theorem row_at (g : Col 1024) (l : Fin 1024) : shapeCast S1x1024 g shapeCasts_S1024_S1x1024 (ix2 0 l) = g (ix1 l) := by
  refine shapeCast_apply g shapeCasts_S1024_S1x1024 (ix2 0 l) (ix1 l) ?_
  rewrite [Shape.rowMajor_val_one, Shape.rowMajor_val_two]
  show l.val = 0 * 1024 + l.val
  omega

theorem turned_at (w : Mat 1024 3592) (n : Fin 3592) (k : Fin 1024) : turned (F := Ideal) w (ix2 n k) = w (ix2 k n) :=
  transpose_ix2_apply w transposes_S1024x3592_S3592x1024_1_0 n k

theorem weightsOf_first (w : Mat 1024 3592) (n : Fin 3712) (s : Fin 3592) (k : Fin 1024) (hn : n.val < 1536) (h : s.val = n.val) :
    weightsOf (F := Ideal) w (ix2 n k) = w (ix2 k s) := by
  unfold weightsOf
  refine (concatenate_apply_piece (0 : Fin S3712x1024.rank) _ _ (ix2 n k) 0 (by show 0 < 4; decide) S1536x1024 _ rfl rfl 0 rfl (ix2 ⟨n.val, hn⟩ k)
    (fun b hb => match b with
      | ⟨0, _⟩ => absurd rfl hb
      | ⟨1, _⟩ => rfl) (Nat.zero_add _)).trans ?_
  refine (extractStridedSlice_apply _ _ _ _ (ix2 s k) (fun a => ?_)).trans (turned_at w s k)
  match a with
  | ⟨0, _⟩ => show s.val = 0 + n.val; omega
  | ⟨1, _⟩ => show k.val = 0 + k.val; omega
theorem weightsOf_second (w : Mat 1024 3592) (n : Fin 3712) (s : Fin 3592) (k : Fin 1024) (hl : 1536 ≤ n.val) (hn : n.val < 3584) (h : s.val = n.val + 8) :
    weightsOf (F := Ideal) w (ix2 n k) = w (ix2 k s) := by
  unfold weightsOf
  refine (concatenate_apply_piece (0 : Fin S3712x1024.rank) _ _ (ix2 n k) 1 (by show 1 < 4; decide) S2048x1024 _ rfl rfl 1536 rfl (ix2 ⟨n.val - 1536, by omega⟩ k)
    (fun b hb => match b with
      | ⟨0, _⟩ => absurd rfl hb
      | ⟨1, _⟩ => rfl) (by show 1536 + (n.val - 1536) = n.val; omega)).trans ?_
  refine (extractStridedSlice_apply _ _ _ _ (ix2 s k) (fun a => ?_)).trans (turned_at w s k)
  match a with
  | ⟨0, _⟩ => show s.val = 1544 + (n.val - 1536); omega
  | ⟨1, _⟩ => show k.val = 0 + k.val; omega
theorem weightsOf_gates (w : Mat 1024 3592) (n : Fin 3712) (s : Fin 3592) (k : Fin 1024) (hl : 3584 ≤ n.val) (hn : n.val < 3592) (h : s.val + 2048 = n.val) :
    weightsOf (F := Ideal) w (ix2 n k) = w (ix2 k s) := by
  unfold weightsOf
  refine (concatenate_apply_piece (0 : Fin S3712x1024.rank) _ _ (ix2 n k) 2 (by show 2 < 4; decide) S8x1024 _ rfl rfl 3584 rfl (ix2 ⟨n.val - 3584, by omega⟩ k)
    (fun b hb => match b with
      | ⟨0, _⟩ => absurd rfl hb
      | ⟨1, _⟩ => rfl) (by show 3584 + (n.val - 3584) = n.val; omega)).trans ?_
  refine (extractStridedSlice_apply _ _ _ _ (ix2 s k) (fun a => ?_)).trans (turned_at w s k)
  match a with
  | ⟨0, _⟩ => show s.val = 1536 + (n.val - 3584); omega
  | ⟨1, _⟩ => show k.val = 0 + k.val; omega
theorem weightsOf_spare (w : Mat 1024 3592) (n : Fin 3712) (k : Fin 1024) (hl : 3592 ≤ n.val) : weightsOf (F := Ideal) w (ix2 n k) = (0 : EReal) := by
  have hn := n.isLt
  unfold weightsOf
  refine (concatenate_apply_piece (0 : Fin S3712x1024.rank) _ _ (ix2 n k) 3 (by show 3 < 4; decide) S120x1024 _ rfl rfl 3592 rfl (ix2 ⟨n.val - 3592, by omega⟩ k)
    (fun b hb => match b with
      | ⟨0, _⟩ => absurd rfl hb
      | ⟨1, _⟩ => rfl) (by show 3592 + (n.val - 3592) = n.val; omega)).trans ?_
  show Ideal.ofBits .bf16 0x0000#16 = 0
  exact Ideal.ofBits_zero_bf16

/-! ## The rows of a step -/

theorem rows_at (i : grid0.Coords) (t : ℕ) (ht : t < 11) (hi : (i 0).val = t) (x : Mat 4096 1024) (y : Mat 16 1024)
    (x0 x3 x1 x2 : FVec Ideal S128x1024 .f32)
    (h0 : ∀ (p : Fin 128) (q : Fin 4096) (l : Fin 1024), 0 < t → q.val + 128 = 384 * t + p.val → x0 (ix2 p l) = x (ix2 q l))
    (h1 : ∀ (p : Fin 128) (q : Fin 4096) (l : Fin 1024), q.val = 384 * t + p.val → x1 (ix2 p l) = x (ix2 q l))
    (h2 : ∀ (p : Fin 128) (q : Fin 4096) (l : Fin 1024), q.val = 384 * t + 128 + p.val → x2 (ix2 p l) = x (ix2 q l))
    (h3 : ∀ (p : Fin 128) (q : Fin 16) (l : Fin 1024), p.val = 112 + q.val → x3 (ix2 p l) = y (ix2 q l))
    (r : Fin 384) (n : Fin 4112) (l : Fin 1024) (hn : 384 * t + r.val = 112 + n.val) :
    rows i x0 x3 x1 x2 (ix2 r l) = joined x y (ix2 n l) := by
  have hr := r.isLt
  have hn' := n.isLt
  unfold rows
  by_cases a : r.val < 128
  · refine (concatenate_apply_piece (0 : Fin S384x1024.rank) _ _ (ix2 r l) 0 (by show 0 < 3; decide) S128x1024 _ rfl rfl 0 rfl (ix2 ⟨r.val, a⟩ l)
      (fun b hb => match b with
        | ⟨0, _⟩ => absurd rfl hb
        | ⟨1, _⟩ => rfl) (Nat.zero_add _)).trans ?_
    have hb : Scalar.cmpi .eq (BitVec.ofNat 32 (i 0).val) 0#32 = if t = 0 then 1#1 else 0#1 := by
      rw [hi, scalar_cmpi_eq, show (0#32 : BitVec 32) = BitVec.ofNat 32 0 from rfl, cmpi_eq_ofNat (by omega) (by omega)]
      by_cases h : t = 0
      · rw [if_pos h]; simp [h]
      · rw [if_neg h]; simp [h]
    rw [select_of _ _ hb, shapeCast_self]
    by_cases h : t = 0
    · rw [if_pos h]
      refine (h3 ⟨r.val, a⟩ ⟨n.val, by omega⟩ l (by show r.val = 112 + n.val; omega)).trans (joined_meta x y n ⟨n.val, by omega⟩ l rfl).symm
    · rw [if_neg h]
      refine (h0 ⟨r.val, a⟩ ⟨n.val - 16, by omega⟩ l (by omega) (by show n.val - 16 + 128 = 384 * t + r.val; omega)).trans
        (joined_token x y n ⟨n.val - 16, by omega⟩ l (by show n.val = 16 + (n.val - 16); omega)).symm
  · by_cases b : r.val < 256
    · refine (concatenate_apply_piece (0 : Fin S384x1024.rank) _ _ (ix2 r l) 1 (by show 1 < 3; decide) S128x1024 _ rfl rfl 128 rfl (ix2 ⟨r.val - 128, by omega⟩ l)
        (fun b hb => match b with
          | ⟨0, _⟩ => absurd rfl hb
          | ⟨1, _⟩ => rfl) (by show 128 + (r.val - 128) = r.val; omega)).trans ?_
      exact (h1 ⟨r.val - 128, by omega⟩ ⟨n.val - 16, by omega⟩ l (by show n.val - 16 = 384 * t + (r.val - 128); omega)).trans
        (joined_token x y n ⟨n.val - 16, by omega⟩ l (by show n.val = 16 + (n.val - 16); omega)).symm
    · refine (concatenate_apply_piece (0 : Fin S384x1024.rank) _ _ (ix2 r l) 2 (by show 2 < 3; decide) S128x1024 _ rfl rfl 256 rfl (ix2 ⟨r.val - 256, by omega⟩ l)
        (fun b hb => match b with
          | ⟨0, _⟩ => absurd rfl hb
          | ⟨1, _⟩ => rfl) (by show 256 + (r.val - 256) = r.val; omega)).trans ?_
      exact (h2 ⟨r.val - 256, by omega⟩ ⟨n.val - 16, by omega⟩ l (by show n.val - 16 = 384 * t + 128 + (r.val - 256); omega)).trans
        (joined_token x y n ⟨n.val - 16, by omega⟩ l (by show n.val = 16 + (n.val - 16); omega)).symm

/-! ## The blocks -/

section Blocks
variable (m : (ℓ : Loc nD τ sig) → Buf (Elt Ideal) ℓ) (c : Dev nD)

theorem coord_eq : ∀ t : Fin cfg0.N, (grid0.coords t 0).val = t.val := (by decide +kernel : ∀ t : Fin grid0.N, _)

theorem index_eq : ∀ t : Fin cfg0.N,
    win0_0.index t = ![3 * t.val - 1, 0] ∧ win0_1.index t = ![3 * t.val, 0] ∧ win0_2.index t = ![3 * t.val + 1, 0] ∧ win0_3.index t = ![0, 0]
      ∧ win0_4.index t = ![0, 0] ∧ win0_5.index t = ![0, 0] ∧ win0_6.index t = ![0, 0] :=
  (by decide +kernel : ∀ t : Fin grid0.N, _)

theorem block0 (t : Fin cfg0.N) (p : Fin 128) (q : Fin 4096) (l : Fin 1024) (h0 : 0 < t.val) (h : q.val + 128 = 384 * t.val + p.val) :
    iblk m c 0 t (ix2 p l : S128x1024.Idx) = m ((c : Thread nD τ).loc main_arg0) (ix2 q l : S4096x1024.Idx) := by
  refine Eq.trans (congrArg (V m c main_arg0) (funext fun a => Fin.ext ?_)) (congrFun (Vx m c) _)
  have e := (index_eq t).1
  match a with
  | ⟨0, _⟩ =>
    show win0_0.index t (0 : Fin 2) * 128 + 1 * p.val = q.val
    rw [e]
    show (3 * t.val - 1) * 128 + 1 * p.val = q.val
    omega
  | ⟨1, _⟩ =>
    show win0_0.index t (1 : Fin 2) * 1024 + 1 * l.val = l.val
    rw [e]
    show 0 * 1024 + 1 * l.val = l.val
    omega
theorem block1 (t : Fin cfg0.N) (p : Fin 128) (q : Fin 4096) (l : Fin 1024) (h : q.val = 384 * t.val + p.val) :
    iblk m c 1 t (ix2 p l : S128x1024.Idx) = m ((c : Thread nD τ).loc main_arg0) (ix2 q l : S4096x1024.Idx) := by
  refine Eq.trans (congrArg (V m c main_arg0) (funext fun a => Fin.ext ?_)) (congrFun (Vx m c) _)
  have e := (index_eq t).2.1
  match a with
  | ⟨0, _⟩ =>
    show win0_1.index t (0 : Fin 2) * 128 + 1 * p.val = q.val
    rw [e]
    show (3 * t.val) * 128 + 1 * p.val = q.val
    omega
  | ⟨1, _⟩ =>
    show win0_1.index t (1 : Fin 2) * 1024 + 1 * l.val = l.val
    rw [e]
    show 0 * 1024 + 1 * l.val = l.val
    omega
theorem block2 (t : Fin cfg0.N) (p : Fin 128) (q : Fin 4096) (l : Fin 1024) (h : q.val = 384 * t.val + 128 + p.val) :
    iblk m c 2 t (ix2 p l : S128x1024.Idx) = m ((c : Thread nD τ).loc main_arg0) (ix2 q l : S4096x1024.Idx) := by
  refine Eq.trans (congrArg (V m c main_arg0) (funext fun a => Fin.ext ?_)) (congrFun (Vx m c) _)
  have e := (index_eq t).2.2.1
  match a with
  | ⟨0, _⟩ =>
    show win0_2.index t (0 : Fin 2) * 128 + 1 * p.val = q.val
    rw [e]
    show (3 * t.val + 1) * 128 + 1 * p.val = q.val
    omega
  | ⟨1, _⟩ =>
    show win0_2.index t (1 : Fin 2) * 1024 + 1 * l.val = l.val
    rw [e]
    show 0 * 1024 + 1 * l.val = l.val
    omega
theorem block3 (t : Fin cfg0.N) (p : Fin 128) (q : Fin 16) (l : Fin 1024) (h : p.val = 112 + q.val) :
    iblk m c 3 t (ix2 p l : S128x1024.Idx) = m ((c : Thread nD τ).loc main_arg1) (ix2 q l : S16x1024.Idx) := by
  refine Eq.trans (congrArg (V m c main_v1) (funext fun a => Fin.ext ?_)) ((congrFun (V1 m c) (ix2 p l : S128x1024.Idx)).trans (headOf_at _ p q l h))
  have e := (index_eq t).2.2.2.1
  match a with
  | ⟨0, _⟩ =>
    show win0_3.index t (0 : Fin 2) * 128 + 1 * p.val = p.val
    rw [e]
    show 0 * 128 + 1 * p.val = p.val
    omega
  | ⟨1, _⟩ =>
    show win0_3.index t (1 : Fin 2) * 1024 + 1 * l.val = l.val
    rw [e]
    show 0 * 1024 + 1 * l.val = l.val
    omega
theorem block4 (t : Fin cfg0.N) (l : Fin 1024) :
    iblk m c 4 t (ix2 0 l : S1x1024.Idx) = m ((c : Thread nD τ).loc main_arg2) (ix1 l : S1024.Idx) := by
  refine Eq.trans (congrArg (V m c main_v9) (funext fun a => Fin.ext ?_)) ((congrFun (V9 m c) (ix2 0 l : S1x1024.Idx)).trans (row_at _ l))
  have e := (index_eq t).2.2.2.2.1
  match a with
  | ⟨0, _⟩ =>
    show win0_4.index t (0 : Fin 2) * 1 + 1 * 0 = 0
    rw [e]
    rfl
  | ⟨1, _⟩ =>
    show win0_4.index t (1 : Fin 2) * 1024 + 1 * l.val = l.val
    rw [e]
    show 0 * 1024 + 1 * l.val = l.val
    omega
theorem block5 (t : Fin cfg0.N) (l : Fin 1024) :
    iblk m c 5 t (ix2 0 l : S1x1024.Idx) = m ((c : Thread nD τ).loc main_arg3) (ix1 l : S1024.Idx) := by
  refine Eq.trans (congrArg (V m c main_v10) (funext fun a => Fin.ext ?_)) ((congrFun (V10 m c) (ix2 0 l : S1x1024.Idx)).trans (row_at _ l))
  have e := (index_eq t).2.2.2.2.2.1
  match a with
  | ⟨0, _⟩ =>
    show win0_5.index t (0 : Fin 2) * 1 + 1 * 0 = 0
    rw [e]
    rfl
  | ⟨1, _⟩ =>
    show win0_5.index t (1 : Fin 2) * 1024 + 1 * l.val = l.val
    rw [e]
    show 0 * 1024 + 1 * l.val = l.val
    omega
theorem block6 (t : Fin cfg0.N) (p : Fin 3712) (l : Fin 1024) :
    iblk m c 6 t (ix2 p l : S3712x1024.Idx) = weightsOf (F := Ideal) (m ((c : Thread nD τ).loc main_arg4)) (ix2 p l) := by
  refine Eq.trans (congrArg (V m c main_v8) (funext fun a => Fin.ext ?_)) (congrFun (V8 m c) (ix2 p l : S3712x1024.Idx))
  have e := (index_eq t).2.2.2.2.2.2
  match a with
  | ⟨0, _⟩ =>
    show win0_6.index t (0 : Fin 2) * 3712 + 1 * p.val = p.val
    rw [e]
    show 0 * 3712 + 1 * p.val = p.val
    omega
  | ⟨1, _⟩ =>
    show win0_6.index t (1 : Fin 2) * 1024 + 1 * l.val = l.val
    rw [e]
    show 0 * 1024 + 1 * l.val = l.val
    omega

end Blocks

end Cert.Kernel4Ideal.Projection

end
-- ==== Proof.Projection.Arrays.lean ====
/- The layer norm and the projection: the ten arrays that the kernel leaves. -/
module

public import proofs.«01_k».proof.Proof.Projection.Blocks
public import Idealize.ShloMosaic.Lib.Pipeline.ValueKit.Basic
public import Idealize.ShloMosaic.Lib.Pipeline.ValueKit.Tiles

@[expose] public section

set_option maxRecDepth 16384

noncomputable section

namespace Cert.Kernel4Ideal.Projection

open Cert.Kernel4Ideal Cert.Kernel4Ideal.Gen Cert.Weights Cert.Projection
open Idealize.ShloMosaic Idealize.ShloMosaic.TcCoe Idealize.ShloMosaic.ValueIdx Idealize.ShloMosaic.StableHlo
open Idealize.SL.Sem

variable (m : (ℓ : Loc nD τ sig) → Buf (Elt Ideal) ℓ) (c : Dev nD)

/-- The layer norm's rows, of the call's arguments. -/
abbrev normRows : Mat 4112 1024 := hidden (m ((c : Thread nD τ).loc main_arg0)) (m ((c : Thread nD τ).loc main_arg1))
  (m ((c : Thread nD τ).loc main_arg2)) (m ((c : Thread nD τ).loc main_arg3))
abbrev weights : Mat 1024 3592 := m ((c : Thread nD τ).loc main_arg4)

/-! ## One step -/

/-- The step's rows before the padding is masked. -/
abbrev unmasked (t : Fin cfg0.N) : FVec Ideal S384x1024 .f32 :=
  k0_pay16 (grid0.coords t) (iblk m c 0 t) (iblk m c 1 t) (iblk m c 2 t) (iblk m c 3 t) (iblk m c 4 t) (iblk m c 5 t) (iblk m c 6 t)

theorem step_lt (t : Fin cfg0.N) : t.val < 11 := lt_of_lt_of_eq t.isLt N_0

theorem unmasked_eq (t : Fin cfg0.N) :
    unmasked m c t = norms (rows (grid0.coords t) (iblk m c 0 t) (iblk m c 3 t) (iblk m c 1 t) (iblk m c 2 t)) (iblk m c 4 t) (iblk m c 5 t) := by
  unfold unmasked k0_pay16
  rw [View.ld_unit_lit _ _ (by decide), View.ld_unit_lit _ _ (by decide), View.ld_unit_lit _ _ (by decide), View.ld_unit_lit _ _ (by decide),
    View.ld_unit_lit _ _ (by decide), View.ld_unit_lit _ _ (by decide)]
  exact pay6_eq _ _ _ _ _ _ _

theorem step_rows (t : Fin cfg0.N) (r : Fin 384) (R : Fin 4224) (k : Fin 1024) (hR : R.val = 384 * t.val + r.val) :
    stepRows (grid0.coords t) (unmasked m c t) (ix2 r k) = below (normRows m c) (ix2 R k) := by
  refine (pay7_at _ t.val (step_lt t) (coord_eq t) _ r k).trans ?_
  have hR' := R.isLt
  by_cases h : 112 ≤ 384 * t.val + r.val
  · have e : R.val = 112 + (⟨R.val - 112, by omega⟩ : Fin 4112).val := by show R.val = 112 + (R.val - 112); omega
    rw [if_pos h, below_row _ R _ k e, unmasked_eq, norms_at]
    have ex : (fun l => rows (grid0.coords t) (iblk m c 0 t) (iblk m c 3 t) (iblk m c 1 t) (iblk m c 2 t) (ix2 r l))
        = fun l => joined (m ((c : Thread nD τ).loc main_arg0)) (m ((c : Thread nD τ).loc main_arg1)) (ix2 (⟨R.val - 112, by omega⟩ : Fin 4112) l) :=
      funext fun l => rows_at _ t.val (step_lt t) (coord_eq t) _ _ _ _ _ _ (fun p q l h0 h => block0 m c t p q l h0 h)
        (fun p q l h => block1 m c t p q l h) (fun p q l h => block2 m c t p q l h) (fun p q l h => block3 m c t p q l h) r _ l (by omega)
    have eg : (fun l => iblk m c 4 t (ix2 0 l : S1x1024.Idx)) = fun l => m ((c : Thread nD τ).loc main_arg2) (ix1 l : S1024.Idx) :=
      funext fun l => block4 m c t l
    have eb : (fun l => iblk m c 5 t (ix2 0 l : S1x1024.Idx)) = fun l => m ((c : Thread nD τ).loc main_arg3) (ix1 l : S1024.Idx) :=
      funext fun l => block5 m c t l
    exact (congrArg (fun s => normed s _ _ k) ex).trans (congrArg₂ (fun s u => normed _ s u k) eg eb)
  · rw [if_neg h, below_pad _ R k (by omega)]

/-- A row's product with a row of the step's weights. -/
theorem step_product {n : ℕ} (t : Fin cfg0.N) (r : Fin 384) (R : Fin 4224) (hR : R.val = 384 * t.val + r.val)
    (w : Fin 1024 → EReal) (v : Fin 1024 → EReal) (hw : ∀ k, w k = v k) (p : Mat 4112 n) (y : Fin n)
    (hp : ∀ i : Fin 4112, p (ix2 i y) = ∑ k : Fin 1024, normRows m c (ix2 i k) * v k) :
    (∑ k : Fin 1024, stepRows (grid0.coords t) (unmasked m c t) (ix2 r k) * w k : EReal) = below p (ix2 R y) :=
  (Finset.sum_congr rfl fun k _ => congrArg₂ (fun s u : EReal => s * u) (step_rows m c t r R k hR) (hw k)).trans
    (below_product _ v n p R y hp)

/-! ## The weights' rows that a product takes -/

theorem load_q (t : Fin cfg0.N) (y : Fin 512) (k : Fin 1024) :
    View.ld (iblk m c 6 t) r0_3 (ix2 y k : S512x1024.Idx) = weights m c (ix2 k ⟨0 + y.val, by omega⟩) := by
  refine (View.ld_unit_apply_of (iblk m c 6 t) ![0, 0] S512x1024.size _ (ix2 y k : S512x1024.Idx) (ix2 (⟨0 + y.val, by omega⟩ : Fin 3712) k : S3712x1024.Idx) (fun a => ?_)).trans
    ((block6 m c t _ k).trans (weightsOf_first _ _ ⟨0 + y.val, by omega⟩ k (by show 0 + y.val < 1536; omega) (by show 0 + y.val = 0 + y.val; omega)))
  match a with
  | ⟨0, _⟩ => rfl
  | ⟨1, _⟩ => exact (Nat.zero_add _).symm
theorem load_k (t : Fin cfg0.N) (y : Fin 512) (k : Fin 1024) :
    View.ld (iblk m c 6 t) r0_5 (ix2 y k : S512x1024.Idx) = weights m c (ix2 k ⟨512 + y.val, by omega⟩) := by
  refine (View.ld_unit_apply_of (iblk m c 6 t) ![512, 0] S512x1024.size _ (ix2 y k : S512x1024.Idx) (ix2 (⟨512 + y.val, by omega⟩ : Fin 3712) k : S3712x1024.Idx) (fun a => ?_)).trans
    ((block6 m c t _ k).trans (weightsOf_first _ _ ⟨512 + y.val, by omega⟩ k (by show 512 + y.val < 1536; omega) (by show 512 + y.val = 512 + y.val; omega)))
  match a with
  | ⟨0, _⟩ => rfl
  | ⟨1, _⟩ => exact (Nat.zero_add _).symm
theorem load_v (t : Fin cfg0.N) (y : Fin 512) (k : Fin 1024) :
    View.ld (iblk m c 6 t) r0_6 (ix2 y k : S512x1024.Idx) = weights m c (ix2 k ⟨1024 + y.val, by omega⟩) := by
  refine (View.ld_unit_apply_of (iblk m c 6 t) ![1024, 0] S512x1024.size _ (ix2 y k : S512x1024.Idx) (ix2 (⟨1024 + y.val, by omega⟩ : Fin 3712) k : S3712x1024.Idx) (fun a => ?_)).trans
    ((block6 m c t _ k).trans (weightsOf_first _ _ ⟨1024 + y.val, by omega⟩ k (by show 1024 + y.val < 1536; omega) (by show 1024 + y.val = 1024 + y.val; omega)))
  match a with
  | ⟨0, _⟩ => rfl
  | ⟨1, _⟩ => exact (Nat.zero_add _).symm
theorem load_ga (t : Fin cfg0.N) (y : Fin 512) (k : Fin 1024) :
    View.ld (iblk m c 6 t) r0_8 (ix2 y k : S512x1024.Idx) = weights m c (ix2 k ⟨1544 + y.val, by omega⟩) := by
  refine (View.ld_unit_apply_of (iblk m c 6 t) ![1536, 0] S512x1024.size _ (ix2 y k : S512x1024.Idx) (ix2 (⟨1536 + y.val, by omega⟩ : Fin 3712) k : S3712x1024.Idx) (fun a => ?_)).trans
    ((block6 m c t _ k).trans (weightsOf_second _ _ ⟨1544 + y.val, by omega⟩ k (by show 1536 ≤ 1536 + y.val; omega) (by show 1536 + y.val < 3584; omega) (by show 1544 + y.val = 1536 + y.val + 8; omega)))
  match a with
  | ⟨0, _⟩ => rfl
  | ⟨1, _⟩ => exact (Nat.zero_add _).symm
theorem load_u (t : Fin cfg0.N) (y : Fin 512) (k : Fin 1024) :
    View.ld (iblk m c 6 t) r0_9 (ix2 y k : S512x1024.Idx) = weights m c (ix2 k ⟨2056 + y.val, by omega⟩) := by
  refine (View.ld_unit_apply_of (iblk m c 6 t) ![2048, 0] S512x1024.size _ (ix2 y k : S512x1024.Idx) (ix2 (⟨2048 + y.val, by omega⟩ : Fin 3712) k : S3712x1024.Idx) (fun a => ?_)).trans
    ((block6 m c t _ k).trans (weightsOf_second _ _ ⟨2056 + y.val, by omega⟩ k (by show 1536 ≤ 2048 + y.val; omega) (by show 2048 + y.val < 3584; omega) (by show 2056 + y.val = 2048 + y.val + 8; omega)))
  match a with
  | ⟨0, _⟩ => rfl
  | ⟨1, _⟩ => exact (Nat.zero_add _).symm
theorem load_ug (t : Fin cfg0.N) (y : Fin 512) (k : Fin 1024) :
    View.ld (iblk m c 6 t) r0_10 (ix2 y k : S512x1024.Idx) = weights m c (ix2 k ⟨2568 + y.val, by omega⟩) := by
  refine (View.ld_unit_apply_of (iblk m c 6 t) ![2560, 0] S512x1024.size _ (ix2 y k : S512x1024.Idx) (ix2 (⟨2560 + y.val, by omega⟩ : Fin 3712) k : S3712x1024.Idx) (fun a => ?_)).trans
    ((block6 m c t _ k).trans (weightsOf_second _ _ ⟨2568 + y.val, by omega⟩ k (by show 1536 ≤ 2560 + y.val; omega) (by show 2560 + y.val < 3584; omega) (by show 2568 + y.val = 2560 + y.val + 8; omega)))
  match a with
  | ⟨0, _⟩ => rfl
  | ⟨1, _⟩ => exact (Nat.zero_add _).symm
theorem load_gc (t : Fin cfg0.N) (y : Fin 512) (k : Fin 1024) :
    View.ld (iblk m c 6 t) r0_11 (ix2 y k : S512x1024.Idx) = weights m c (ix2 k ⟨3080 + y.val, by omega⟩) := by
  refine (View.ld_unit_apply_of (iblk m c 6 t) ![3072, 0] S512x1024.size _ (ix2 y k : S512x1024.Idx) (ix2 (⟨3072 + y.val, by omega⟩ : Fin 3712) k : S3712x1024.Idx) (fun a => ?_)).trans
    ((block6 m c t _ k).trans (weightsOf_second _ _ ⟨3080 + y.val, by omega⟩ k (by show 1536 ≤ 3072 + y.val; omega) (by show 3072 + y.val < 3584; omega) (by show 3080 + y.val = 3072 + y.val + 8; omega)))
  match a with
  | ⟨0, _⟩ => rfl
  | ⟨1, _⟩ => exact (Nat.zero_add _).symm

/-- The gates' rows, and the rows of zeros after them. -/
theorem load_f (t : Fin cfg0.N) (y : Fin 128) (k : Fin 1024) :
    View.ld (iblk m c 6 t) r0_12 (ix2 y k : S128x1024.Idx)
      = if h : y.val < 8 then weights m c (ix2 k ⟨1536 + y.val, by omega⟩) else (0 : EReal) := by
  refine (View.ld_unit_apply_of (iblk m c 6 t) ![3584, 0] S128x1024.size _ (ix2 y k : S128x1024.Idx) (ix2 (⟨3584 + y.val, by omega⟩ : Fin 3712) k : S3712x1024.Idx) (fun a => ?_)).trans
    ((block6 m c t _ k).trans ?_)
  · match a with
    | ⟨0, _⟩ => rfl
    | ⟨1, _⟩ => exact (Nat.zero_add _).symm
  · by_cases h : y.val < 8
    · rw [dif_pos h]
      exact weightsOf_gates _ _ ⟨1536 + y.val, by omega⟩ k (by show 3584 ≤ 3584 + y.val; omega) (by show 3584 + y.val < 3592; omega)
        (by show 1536 + y.val + 2048 = 3584 + y.val; omega)
    · rw [dif_neg h]
      exact weightsOf_spare _ _ k (by show 3592 ≤ 3584 + y.val; omega)

/-! ## The arrays -/

theorem zeros : (![0, 0] : Fin 2 → ℕ) = fun _ => 0 := by decide

theorem step_of (R : Fin 4224) : ∃ (t : Fin cfg0.N) (r : Fin 384), R.val = 384 * t.val + r.val := by
  have h := R.isLt
  refine ⟨⟨R.val / 384, lt_of_lt_of_eq (by omega) N_0.symm⟩, ⟨R.val % 384, by omega⟩, ?_⟩
  show R.val = 384 * (R.val / 384) + R.val % 384
  omega

theorem place_eq : ∀ t : Fin cfg0.N,
    win0_7.index t = ![t.val, 0] ∧ win0_8.index t = ![t.val, 0] ∧ win0_9.index t = ![t.val, 0] ∧ win0_10.index t = ![t.val, 0]
      ∧ win0_11.index t = ![t.val, 0] ∧ win0_12.index t = ![t.val, 0] ∧ win0_13.index t = ![t.val, 0] ∧ win0_14.index t = ![t.val, 0]
      ∧ win0_15.index t = ![t.val, 0] ∧ win0_16.index t = ![0, t.val] :=
  (by decide +kernel : ∀ t : Fin grid0.N, _)
theorem writes_eq : ∀ t : Fin cfg0.N,
    (cfg0.win 7).flush t = true ∧ (cfg0.win 8).flush t = true ∧ (cfg0.win 9).flush t = true ∧ (cfg0.win 10).flush t = true
      ∧ (cfg0.win 11).flush t = true ∧ (cfg0.win 12).flush t = true ∧ (cfg0.win 13).flush t = true ∧ (cfg0.win 14).flush t = true
      ∧ (cfg0.win 15).flush t = true ∧ (cfg0.win 16).flush t = true :=
  (by decide +kernel : ∀ t : Fin grid0.N, _)

theorem place7 (t : Fin cfg0.N) (r : Fin 384) (R : Fin 4224) (y : Fin 1024) (hR : R.val = 384 * t.val + r.val) :
    ((cfg0.win 7).blk t).view.emb (ix2 r y : S384x1024.Idx) = (ix2 R y : S4224x1024.Idx) := by
  have e := (place_eq t).1
  refine funext fun a => Fin.ext ?_
  match a with
  | ⟨0, _⟩ =>
    show win0_7.index t (0 : Fin 2) * 384 + 1 * r.val = R.val
    rw [e]
    show t.val * 384 + 1 * r.val = R.val
    omega
  | ⟨1, _⟩ =>
    show win0_7.index t (1 : Fin 2) * 1024 + 1 * y.val = y.val
    rw [e]
    show 0 * 1024 + 1 * y.val = y.val
    omega
theorem array7 : (dats m 0 c).arrAt 7 cfg0.N = below (normRows m c) := by
  funext i
  obtain ⟨R, y, rfl⟩ : ∃ (R : Fin 4224) (y : Fin 1024), i = ix2 R y := ⟨i 0, i 1, eq_ix2 i⟩
  obtain ⟨t, r, hR⟩ := step_of R
  have b := congrFun (Value.blocks7 m c t (writes_eq t).1) (ix2 r y : S384x1024.Idx)
  rw [Value.flushed7] at b
  have b' : (dats m 0 c).arrAt 7 cfg0.N (((cfg0.win 7).blk t).view.emb (ix2 r y : S384x1024.Idx)) = _ := b
  rw [place7 t r R y hR] at b'
  refine b'.trans ?_
  show out0_7 (grid0.coords t) (iblk m c 0 t) (iblk m c 1 t) (iblk m c 2 t) (iblk m c 3 t) (iblk m c 4 t) (iblk m c 5 t) (iblk m c 6 t) (ix2 r y) = _
  unfold out0_7
  rw [View.canon_unit_zero zeros]
  exact step_rows m c t r R y hR
theorem place8 (t : Fin cfg0.N) (r : Fin 384) (R : Fin 4224) (y : Fin 512) (hR : R.val = 384 * t.val + r.val) :
    ((cfg0.win 8).blk t).view.emb (ix2 r y : S384x512.Idx) = (ix2 R y : S4224x512.Idx) := by
  have e := (place_eq t).2.1
  refine funext fun a => Fin.ext ?_
  match a with
  | ⟨0, _⟩ =>
    show win0_8.index t (0 : Fin 2) * 384 + 1 * r.val = R.val
    rw [e]
    show t.val * 384 + 1 * r.val = R.val
    omega
  | ⟨1, _⟩ =>
    show win0_8.index t (1 : Fin 2) * 512 + 1 * y.val = y.val
    rw [e]
    show 0 * 512 + 1 * y.val = y.val
    omega
theorem array8 : (dats m 0 c).arrAt 8 cfg0.N = below (scaled (piece 512 0 (by decide) (normRows m c) (weights m c))) := by
  funext i
  obtain ⟨R, y, rfl⟩ : ∃ (R : Fin 4224) (y : Fin 512), i = ix2 R y := ⟨i 0, i 1, eq_ix2 i⟩
  obtain ⟨t, r, hR⟩ := step_of R
  have b := congrFun (Value.blocks8 m c t (writes_eq t).2.1) (ix2 r y : S384x512.Idx)
  rw [Value.flushed8] at b
  have b' : (dats m 0 c).arrAt 8 cfg0.N (((cfg0.win 8).blk t).view.emb (ix2 r y : S384x512.Idx)) = _ := b
  rw [place8 t r R y hR] at b'
  refine b'.trans ?_
  show out0_8 (grid0.coords t) (iblk m c 0 t) (iblk m c 1 t) (iblk m c 2 t) (iblk m c 3 t) (iblk m c 4 t) (iblk m c 5 t) (iblk m c 6 t) (ix2 r y) = _
  unfold out0_8
  rw [View.canon_unit_zero zeros]
  refine (store_q _ _ _ (ix2 r y)).trans ((congrArg (fun s : EReal => s * eighth) ?_).trans (below_scaled _ (ix2 R y)).symm)
  exact step_product m c t r R hR _ _ (fun k => load_q m c t y k) (piece 512 0 (by decide) (normRows m c) (weights m c)) y (fun i => rfl)
theorem place9 (t : Fin cfg0.N) (r : Fin 384) (R : Fin 4224) (y : Fin 512) (hR : R.val = 384 * t.val + r.val) :
    ((cfg0.win 9).blk t).view.emb (ix2 r y : S384x512.Idx) = (ix2 R y : S4224x512.Idx) := by
  have e := (place_eq t).2.2.1
  refine funext fun a => Fin.ext ?_
  match a with
  | ⟨0, _⟩ =>
    show win0_9.index t (0 : Fin 2) * 384 + 1 * r.val = R.val
    rw [e]
    show t.val * 384 + 1 * r.val = R.val
    omega
  | ⟨1, _⟩ =>
    show win0_9.index t (1 : Fin 2) * 512 + 1 * y.val = y.val
    rw [e]
    show 0 * 512 + 1 * y.val = y.val
    omega
theorem array9 : (dats m 0 c).arrAt 9 cfg0.N = below (piece 512 512 (by decide) (normRows m c) (weights m c)) := by
  funext i
  obtain ⟨R, y, rfl⟩ : ∃ (R : Fin 4224) (y : Fin 512), i = ix2 R y := ⟨i 0, i 1, eq_ix2 i⟩
  obtain ⟨t, r, hR⟩ := step_of R
  have b := congrFun (Value.blocks9 m c t (writes_eq t).2.2.1) (ix2 r y : S384x512.Idx)
  rw [Value.flushed9] at b
  have b' : (dats m 0 c).arrAt 9 cfg0.N (((cfg0.win 9).blk t).view.emb (ix2 r y : S384x512.Idx)) = _ := b
  rw [place9 t r R y hR] at b'
  refine b'.trans ?_
  show out0_9 (grid0.coords t) (iblk m c 0 t) (iblk m c 1 t) (iblk m c 2 t) (iblk m c 3 t) (iblk m c 4 t) (iblk m c 5 t) (iblk m c 6 t) (ix2 r y) = _
  unfold out0_9
  rw [View.canon_unit_zero zeros]
  refine (store_k _ _ _ (ix2 r y)).trans ?_
  exact step_product m c t r R hR _ _ (fun k => load_k m c t y k) (piece 512 512 (by decide) (normRows m c) (weights m c)) y (fun i => rfl)
theorem place10 (t : Fin cfg0.N) (r : Fin 384) (R : Fin 4224) (y : Fin 512) (hR : R.val = 384 * t.val + r.val) :
    ((cfg0.win 10).blk t).view.emb (ix2 r y : S384x512.Idx) = (ix2 R y : S4224x512.Idx) := by
  have e := (place_eq t).2.2.2.1
  refine funext fun a => Fin.ext ?_
  match a with
  | ⟨0, _⟩ =>
    show win0_10.index t (0 : Fin 2) * 384 + 1 * r.val = R.val
    rw [e]
    show t.val * 384 + 1 * r.val = R.val
    omega
  | ⟨1, _⟩ =>
    show win0_10.index t (1 : Fin 2) * 512 + 1 * y.val = y.val
    rw [e]
    show 0 * 512 + 1 * y.val = y.val
    omega
theorem array10 : (dats m 0 c).arrAt 10 cfg0.N = below (piece 512 1024 (by decide) (normRows m c) (weights m c)) := by
  funext i
  obtain ⟨R, y, rfl⟩ : ∃ (R : Fin 4224) (y : Fin 512), i = ix2 R y := ⟨i 0, i 1, eq_ix2 i⟩
  obtain ⟨t, r, hR⟩ := step_of R
  have b := congrFun (Value.blocks10 m c t (writes_eq t).2.2.2.1) (ix2 r y : S384x512.Idx)
  rw [Value.flushed10] at b
  have b' : (dats m 0 c).arrAt 10 cfg0.N (((cfg0.win 10).blk t).view.emb (ix2 r y : S384x512.Idx)) = _ := b
  rw [place10 t r R y hR] at b'
  refine b'.trans ?_
  show out0_10 (grid0.coords t) (iblk m c 0 t) (iblk m c 1 t) (iblk m c 2 t) (iblk m c 3 t) (iblk m c 4 t) (iblk m c 5 t) (iblk m c 6 t) (ix2 r y) = _
  unfold out0_10
  rw [View.canon_unit_zero zeros]
  refine (store_v _ _ _ (ix2 r y)).trans ?_
  exact step_product m c t r R hR _ _ (fun k => load_v m c t y k) (piece 512 1024 (by decide) (normRows m c) (weights m c)) y (fun i => rfl)
theorem place11 (t : Fin cfg0.N) (r : Fin 384) (R : Fin 4224) (y : Fin 512) (hR : R.val = 384 * t.val + r.val) :
    ((cfg0.win 11).blk t).view.emb (ix2 r y : S384x512.Idx) = (ix2 R y : S4224x512.Idx) := by
  have e := (place_eq t).2.2.2.2.1
  refine funext fun a => Fin.ext ?_
  match a with
  | ⟨0, _⟩ =>
    show win0_11.index t (0 : Fin 2) * 384 + 1 * r.val = R.val
    rw [e]
    show t.val * 384 + 1 * r.val = R.val
    omega
  | ⟨1, _⟩ =>
    show win0_11.index t (1 : Fin 2) * 512 + 1 * y.val = y.val
    rw [e]
    show 0 * 512 + 1 * y.val = y.val
    omega
theorem array11 : (dats m 0 c).arrAt 11 cfg0.N = below (piece 512 1544 (by decide) (normRows m c) (weights m c)) := by
  funext i
  obtain ⟨R, y, rfl⟩ : ∃ (R : Fin 4224) (y : Fin 512), i = ix2 R y := ⟨i 0, i 1, eq_ix2 i⟩
  obtain ⟨t, r, hR⟩ := step_of R
  have b := congrFun (Value.blocks11 m c t (writes_eq t).2.2.2.2.1) (ix2 r y : S384x512.Idx)
  rw [Value.flushed11] at b
  have b' : (dats m 0 c).arrAt 11 cfg0.N (((cfg0.win 11).blk t).view.emb (ix2 r y : S384x512.Idx)) = _ := b
  rw [place11 t r R y hR] at b'
  refine b'.trans ?_
  show out0_11 (grid0.coords t) (iblk m c 0 t) (iblk m c 1 t) (iblk m c 2 t) (iblk m c 3 t) (iblk m c 4 t) (iblk m c 5 t) (iblk m c 6 t) (ix2 r y) = _
  unfold out0_11
  rw [View.canon_unit_zero zeros]
  refine (store_ga _ _ _ (ix2 r y)).trans ?_
  exact step_product m c t r R hR _ _ (fun k => load_ga m c t y k) (piece 512 1544 (by decide) (normRows m c) (weights m c)) y (fun i => rfl)
theorem place12 (t : Fin cfg0.N) (r : Fin 384) (R : Fin 4224) (y : Fin 512) (hR : R.val = 384 * t.val + r.val) :
    ((cfg0.win 12).blk t).view.emb (ix2 r y : S384x512.Idx) = (ix2 R y : S4224x512.Idx) := by
  have e := (place_eq t).2.2.2.2.2.1
  refine funext fun a => Fin.ext ?_
  match a with
  | ⟨0, _⟩ =>
    show win0_12.index t (0 : Fin 2) * 384 + 1 * r.val = R.val
    rw [e]
    show t.val * 384 + 1 * r.val = R.val
    omega
  | ⟨1, _⟩ =>
    show win0_12.index t (1 : Fin 2) * 512 + 1 * y.val = y.val
    rw [e]
    show 0 * 512 + 1 * y.val = y.val
    omega
theorem array12 : (dats m 0 c).arrAt 12 cfg0.N = below (piece 512 2056 (by decide) (normRows m c) (weights m c)) := by
  funext i
  obtain ⟨R, y, rfl⟩ : ∃ (R : Fin 4224) (y : Fin 512), i = ix2 R y := ⟨i 0, i 1, eq_ix2 i⟩
  obtain ⟨t, r, hR⟩ := step_of R
  have b := congrFun (Value.blocks12 m c t (writes_eq t).2.2.2.2.2.1) (ix2 r y : S384x512.Idx)
  rw [Value.flushed12] at b
  have b' : (dats m 0 c).arrAt 12 cfg0.N (((cfg0.win 12).blk t).view.emb (ix2 r y : S384x512.Idx)) = _ := b
  rw [place12 t r R y hR] at b'
  refine b'.trans ?_
  show out0_12 (grid0.coords t) (iblk m c 0 t) (iblk m c 1 t) (iblk m c 2 t) (iblk m c 3 t) (iblk m c 4 t) (iblk m c 5 t) (iblk m c 6 t) (ix2 r y) = _
  unfold out0_12
  rw [View.canon_unit_zero zeros]
  refine (store_u _ _ _ (ix2 r y)).trans ?_
  exact step_product m c t r R hR _ _ (fun k => load_u m c t y k) (piece 512 2056 (by decide) (normRows m c) (weights m c)) y (fun i => rfl)
theorem place13 (t : Fin cfg0.N) (r : Fin 384) (R : Fin 4224) (y : Fin 512) (hR : R.val = 384 * t.val + r.val) :
    ((cfg0.win 13).blk t).view.emb (ix2 r y : S384x512.Idx) = (ix2 R y : S4224x512.Idx) := by
  have e := (place_eq t).2.2.2.2.2.2.1
  refine funext fun a => Fin.ext ?_
  match a with
  | ⟨0, _⟩ =>
    show win0_13.index t (0 : Fin 2) * 384 + 1 * r.val = R.val
    rw [e]
    show t.val * 384 + 1 * r.val = R.val
    omega
  | ⟨1, _⟩ =>
    show win0_13.index t (1 : Fin 2) * 512 + 1 * y.val = y.val
    rw [e]
    show 0 * 512 + 1 * y.val = y.val
    omega
theorem array13 : (dats m 0 c).arrAt 13 cfg0.N = below (piece 512 2568 (by decide) (normRows m c) (weights m c)) := by
  funext i
  obtain ⟨R, y, rfl⟩ : ∃ (R : Fin 4224) (y : Fin 512), i = ix2 R y := ⟨i 0, i 1, eq_ix2 i⟩
  obtain ⟨t, r, hR⟩ := step_of R
  have b := congrFun (Value.blocks13 m c t (writes_eq t).2.2.2.2.2.2.1) (ix2 r y : S384x512.Idx)
  rw [Value.flushed13] at b
  have b' : (dats m 0 c).arrAt 13 cfg0.N (((cfg0.win 13).blk t).view.emb (ix2 r y : S384x512.Idx)) = _ := b
  rw [place13 t r R y hR] at b'
  refine b'.trans ?_
  show out0_13 (grid0.coords t) (iblk m c 0 t) (iblk m c 1 t) (iblk m c 2 t) (iblk m c 3 t) (iblk m c 4 t) (iblk m c 5 t) (iblk m c 6 t) (ix2 r y) = _
  unfold out0_13
  rw [View.canon_unit_zero zeros]
  refine (store_ug _ _ _ (ix2 r y)).trans ?_
  exact step_product m c t r R hR _ _ (fun k => load_ug m c t y k) (piece 512 2568 (by decide) (normRows m c) (weights m c)) y (fun i => rfl)
theorem place14 (t : Fin cfg0.N) (r : Fin 384) (R : Fin 4224) (y : Fin 512) (hR : R.val = 384 * t.val + r.val) :
    ((cfg0.win 14).blk t).view.emb (ix2 r y : S384x512.Idx) = (ix2 R y : S4224x512.Idx) := by
  have e := (place_eq t).2.2.2.2.2.2.2.1
  refine funext fun a => Fin.ext ?_
  match a with
  | ⟨0, _⟩ =>
    show win0_14.index t (0 : Fin 2) * 384 + 1 * r.val = R.val
    rw [e]
    show t.val * 384 + 1 * r.val = R.val
    omega
  | ⟨1, _⟩ =>
    show win0_14.index t (1 : Fin 2) * 512 + 1 * y.val = y.val
    rw [e]
    show 0 * 512 + 1 * y.val = y.val
    omega
theorem array14 : (dats m 0 c).arrAt 14 cfg0.N = below (piece 512 3080 (by decide) (normRows m c) (weights m c)) := by
  funext i
  obtain ⟨R, y, rfl⟩ : ∃ (R : Fin 4224) (y : Fin 512), i = ix2 R y := ⟨i 0, i 1, eq_ix2 i⟩
  obtain ⟨t, r, hR⟩ := step_of R
  have b := congrFun (Value.blocks14 m c t (writes_eq t).2.2.2.2.2.2.2.1) (ix2 r y : S384x512.Idx)
  rw [Value.flushed14] at b
  have b' : (dats m 0 c).arrAt 14 cfg0.N (((cfg0.win 14).blk t).view.emb (ix2 r y : S384x512.Idx)) = _ := b
  rw [place14 t r R y hR] at b'
  refine b'.trans ?_
  show out0_14 (grid0.coords t) (iblk m c 0 t) (iblk m c 1 t) (iblk m c 2 t) (iblk m c 3 t) (iblk m c 4 t) (iblk m c 5 t) (iblk m c 6 t) (ix2 r y) = _
  unfold out0_14
  rw [View.canon_unit_zero zeros]
  refine (store_gc _ _ _ (ix2 r y)).trans ?_
  exact step_product m c t r R hR _ _ (fun k => load_gc m c t y k) (piece 512 3080 (by decide) (normRows m c) (weights m c)) y (fun i => rfl)
theorem place15 (t : Fin cfg0.N) (r : Fin 384) (R : Fin 4224) (y : Fin 128) (hR : R.val = 384 * t.val + r.val) :
    ((cfg0.win 15).blk t).view.emb (ix2 r y : S384x128.Idx) = (ix2 R y : S4224x128.Idx) := by
  have e := (place_eq t).2.2.2.2.2.2.2.2.1
  refine funext fun a => Fin.ext ?_
  match a with
  | ⟨0, _⟩ =>
    show win0_15.index t (0 : Fin 2) * 384 + 1 * r.val = R.val
    rw [e]
    show t.val * 384 + 1 * r.val = R.val
    omega
  | ⟨1, _⟩ =>
    show win0_15.index t (1 : Fin 2) * 128 + 1 * y.val = y.val
    rw [e]
    show 0 * 128 + 1 * y.val = y.val
    omega
theorem array15 : (dats m 0 c).arrAt 15 cfg0.N = below (widen (piece 8 1536 (by decide) (normRows m c) (weights m c))) := by
  funext i
  obtain ⟨R, y, rfl⟩ : ∃ (R : Fin 4224) (y : Fin 128), i = ix2 R y := ⟨i 0, i 1, eq_ix2 i⟩
  obtain ⟨t, r, hR⟩ := step_of R
  have b := congrFun (Value.blocks15 m c t (writes_eq t).2.2.2.2.2.2.2.2.1) (ix2 r y : S384x128.Idx)
  rw [Value.flushed15] at b
  have b' : (dats m 0 c).arrAt 15 cfg0.N (((cfg0.win 15).blk t).view.emb (ix2 r y : S384x128.Idx)) = _ := b
  rw [place15 t r R y hR] at b'
  refine b'.trans ?_
  show out0_15 (grid0.coords t) (iblk m c 0 t) (iblk m c 1 t) (iblk m c 2 t) (iblk m c 3 t) (iblk m c 4 t) (iblk m c 5 t) (iblk m c 6 t) (ix2 r y) = _
  unfold out0_15
  rw [View.canon_unit_zero zeros]
  refine (store_f _ _ _ (ix2 r y)).trans ?_
  refine step_product m c t r R hR _ _ (fun k => load_f m c t y k) (widen (piece 8 1536 (by decide) (normRows m c) (weights m c))) y (fun i => ?_)
  by_cases h : y.val < 8
  · have e : (∑ k : Fin 1024, normRows m c (ix2 i k) * weights m c (ix2 k ⟨1536 + y.val, by omega⟩) : EReal)
        = ∑ k : Fin 1024, normRows m c (ix2 i k) * (if h : y.val < 8 then weights m c (ix2 k ⟨1536 + y.val, by omega⟩) else (0 : EReal)) :=
      Finset.sum_congr rfl fun k _ => by rw [dif_pos h]
    exact (dif_pos h).trans e
  · refine (dif_neg h).trans (Finset.sum_eq_zero fun k _ => ?_).symm
    rw [dif_neg h]
    exact mul_zero _
theorem place16 (t : Fin cfg0.N) (r : Fin 384) (R : Fin 4224) (y : Fin 512) (hR : R.val = 384 * t.val + r.val) :
    ((cfg0.win 16).blk t).view.emb (ix2 y r : S512x384.Idx) = (ix2 y R : S512x4224.Idx) := by
  have e := (place_eq t).2.2.2.2.2.2.2.2.2
  refine funext fun a => Fin.ext ?_
  match a with
  | ⟨0, _⟩ =>
    show win0_16.index t (0 : Fin 2) * 512 + 1 * y.val = y.val
    rw [e]
    show 0 * 512 + 1 * y.val = y.val
    omega
  | ⟨1, _⟩ =>
    show win0_16.index t (1 : Fin 2) * 384 + 1 * r.val = R.val
    rw [e]
    show t.val * 384 + 1 * r.val = R.val
    omega
/-- The last array is the products for v again, transposed. -/
theorem array16 : (dats m 0 c).arrAt 16 cfg0.N = fun i : S512x4224.Idx => below (piece 512 1024 (by decide) (normRows m c) (weights m c)) (ix2 (i 1) (i 0)) := by
  funext i
  obtain ⟨y, R, rfl⟩ : ∃ (y : Fin 512) (R : Fin 4224), i = ix2 y R := ⟨i 0, i 1, eq_ix2 i⟩
  obtain ⟨t, r, hR⟩ := step_of R
  have b := congrFun (Value.blocks16 m c t (writes_eq t).2.2.2.2.2.2.2.2.2) (ix2 y r : S512x384.Idx)
  rw [Value.flushed16] at b
  have b' : (dats m 0 c).arrAt 16 cfg0.N (((cfg0.win 16).blk t).view.emb (ix2 y r : S512x384.Idx)) = _ := b
  rw [place16 t r R y hR] at b'
  refine b'.trans ?_
  show out0_16 (grid0.coords t) (iblk m c 0 t) (iblk m c 1 t) (iblk m c 2 t) (iblk m c 3 t) (iblk m c 4 t) (iblk m c 5 t) (iblk m c 6 t) (ix2 y r) = _
  unfold out0_16
  rw [View.canon_unit_zero zeros]
  refine (store_vt _ _ _ y r).trans ?_
  exact step_product m c t r R hR _ _ (fun k => load_v m c t y k) (piece 512 1024 (by decide) (normRows m c) (weights m c)) y (fun i => rfl)

end Cert.Kernel4Ideal.Projection

end
-- ==== Proof.Projection.Reference.lean ====
/- The layer norm and the projection, as the reference states them. -/
module

public import proofs.«01_k».proof.Proof.Projection.Norm
public import proofs.«01_k».proof.Proof.Gen.Reference4Ideal.Read

@[expose] public section

set_option maxRecDepth 16384

noncomputable section

namespace Cert.Reference4Ideal.Projection

open Cert.Reference4Ideal Cert.Reference4Ideal.Gen Cert.Reference4Ideal.Read Cert.Weights Cert.Projection
open Idealize.ShloMosaic Idealize.ShloMosaic.TcCoe Idealize.ShloMosaic.ValueIdx Idealize.ShloMosaic.StableHlo

variable (x : Mat 4096 1024) (t : Mat 16 1024) (g b : Col 1024) (w : Mat 1024 3592)

/-! ## The layer norm -/

theorem rows_eq : val_main_v0 (F := Ideal) x t = joined x t := by
  funext i
  obtain ⟨r, l, rfl⟩ : ∃ (r : Fin 4112) (l : Fin 1024), i = ix2 r l := ⟨i 0, i 1, eq_ix2 i⟩
  have hr := r.isLt
  unfold val_main_v0
  by_cases h : r.val < 16
  · rw [joined_meta x t r ⟨r.val, h⟩ l rfl]
    exact concatenate_apply_piece (0 : Fin S4112x1024.rank) _ _ (ix2 r l) 0 (by show 0 < 2; decide) S16x1024 t rfl rfl 0 rfl (ix2 ⟨r.val, h⟩ l)
      (fun a ha => match a with
        | ⟨0, _⟩ => absurd rfl ha
        | ⟨1, _⟩ => rfl) (Nat.zero_add _)
  · have e : r.val = 16 + (r.val - 16) := by omega
    rw [joined_token x t r ⟨r.val - 16, by omega⟩ l e]
    exact concatenate_apply_piece (0 : Fin S4112x1024.rank) _ _ (ix2 r l) 1 (by show 1 < 2; decide) S4096x1024 x rfl rfl 16 rfl (ix2 ⟨r.val - 16, by omega⟩ l)
      (fun a ha => match a with
        | ⟨0, _⟩ => absurd rfl ha
        | ⟨1, _⟩ => rfl) e.symm

abbrev row (r : Fin 4112) (l : Fin 1024) : EReal := joined x t (ix2 r l)

theorem mean_at (r : Fin 4112) (j : S4112x1.Idx) (h : (j 0).val = r.val) : val_main_v4 (F := Ideal) x t j = mean (row x t r) := by
  rw [val_main_v4_apply, val_main_v2_apply, val_main_v1_apply, val_main_v3_apply, val_main_cst_0_apply, val_main_cst_apply, rows_eq]
  refine congrArg (fun s : EReal => Ideal.div s (Ideal.ofBits .f32 0x44800000#32)) ?_
  refine ((congrArg (fun s : EReal => s + _) Ideal.ofBits_zero_f32).trans (zero_add _)).trans ?_
  exact Finset.sum_congr rfl fun k _ => congrArg (joined x t) (funext fun a => match a with
    | ⟨0, _⟩ => Fin.ext h
    | ⟨1, _⟩ => rfl)

theorem centred_at (r : Fin 4112) (l : Fin 1024) : val_main_v6 (F := Ideal) x t (ix2 r l) = centred (row x t r) l := by
  rw [val_main_v6_apply, val_main_v5_apply, mean_at x t r _ rfl, rows_eq]
  rfl

theorem centred_again (r : Fin 4112) (l : Fin 1024) : val_main_v13 (F := Ideal) x t (ix2 r l) = centred (row x t r) l := by
  rw [val_main_v13_apply, val_main_v12_apply, mean_at x t r _ rfl, rows_eq]
  rfl

theorem scale_at (r : Fin 4112) (j : S4112x1.Idx) (h : (j 0).val = r.val) : val_main_v16 (F := Ideal) x t j = scale (row x t r) := by
  rw [val_main_v16_apply, val_main_v15_apply, val_main_v11_apply, val_main_v9_apply, val_main_v8_apply, val_main_v10_apply,
    val_main_cst_2_apply, val_main_cst_1_apply, val_main_v14_apply, val_main_cst_3_apply]
  refine congrArg (fun s : EReal => Ideal.rsqrt (Ideal.div s (Ideal.ofBits .f32 0x44800000#32) + Ideal.ofBits .f32 0x3727C5AC#32)) ?_
  refine ((congrArg (fun s : EReal => s + _) Ideal.ofBits_zero_f32).trans (zero_add _)).trans ?_
  refine Finset.sum_congr rfl fun k _ => ?_
  have e : idx_main_v8 (idx_main_v9 j) k = ix2 r k := funext fun a => match a with
    | ⟨0, _⟩ => Fin.ext h
    | ⟨1, _⟩ => rfl
  rw [e, val_main_v7_apply, centred_at]
  rfl

theorem hidden_eq : val_main_v24 (F := Ideal) x t g b = hidden x t g b := by
  funext i
  obtain ⟨r, l, rfl⟩ : ∃ (r : Fin 4112) (l : Fin 1024), i = ix2 r l := ⟨i 0, i 1, eq_ix2 i⟩
  rw [val_main_v24_apply, val_main_v21_apply, val_main_v18_apply, val_main_v17_apply, centred_again, scale_at x t r _ rfl,
    val_main_v20_apply, val_main_v19_apply, val_main_v23_apply, val_main_v22_apply]
  have e : idx_main_v19 (idx_main_v20 (ix2 r l)) = ix1 l := funext fun a => match a with
    | ⟨0, _⟩ => rfl
  have e' : idx_main_v22 (idx_main_v23 (ix2 r l)) = ix1 l := funext fun a => match a with
    | ⟨0, _⟩ => rfl
  rw [e, e']
  rfl

/-! ## The products and their pieces -/

theorem product_at (i : Fin 4112) (n : Fin 3592) (j : S4112x3592.Idx) (h0 : (j 0).val = i.val) (h1 : (j 1).val = n.val) :
    val_main_v25 (F := Ideal) x t g b w j = ∑ k : Fin 1024, hidden x t g b (ix2 i k) * w (ix2 k n) := by
  rw [val_main_v25_apply, hidden_eq]
  refine Finset.sum_congr rfl fun k _ => congrArg₂ (fun s u : EReal => s * u) (congrArg (hidden x t g b) (funext fun a => ?_)) (congrArg w (funext fun a => ?_))
  · match a with
    | ⟨0, _⟩ => exact Fin.ext h0
    | ⟨1, _⟩ => rfl
  · match a with
    | ⟨0, _⟩ => rfl
    | ⟨1, _⟩ => exact Fin.ext h1

theorem piece26 : val_main_v26 (F := Ideal) x t g b w = piece 512 0 (by decide) (hidden x t g b) w := by
  funext i
  rw [val_main_v26_apply]
  exact product_at x t g b w (i 0) ⟨0 + (i 1).val, by have h1 : (i 1).val < 512 := (i 1).isLt; omega⟩ _ rfl (Nat.zero_add _).symm
theorem piece27 : val_main_v27 (F := Ideal) x t g b w = piece 512 512 (by decide) (hidden x t g b) w := by
  funext i
  rw [val_main_v27_apply]
  exact product_at x t g b w (i 0) ⟨512 + (i 1).val, by have h1 : (i 1).val < 512 := (i 1).isLt; omega⟩ _ rfl rfl
theorem piece28 : val_main_v28 (F := Ideal) x t g b w = piece 512 1024 (by decide) (hidden x t g b) w := by
  funext i
  rw [val_main_v28_apply]
  exact product_at x t g b w (i 0) ⟨1024 + (i 1).val, by have h1 : (i 1).val < 512 := (i 1).isLt; omega⟩ _ rfl rfl
theorem piece29 : val_main_v29 (F := Ideal) x t g b w = piece 8 1536 (by decide) (hidden x t g b) w := by
  funext i
  rw [val_main_v29_apply]
  exact product_at x t g b w (i 0) ⟨1536 + (i 1).val, by have h1 : (i 1).val < 8 := (i 1).isLt; omega⟩ _ rfl rfl
theorem piece30 : val_main_v30 (F := Ideal) x t g b w = piece 512 1544 (by decide) (hidden x t g b) w := by
  funext i
  rw [val_main_v30_apply]
  exact product_at x t g b w (i 0) ⟨1544 + (i 1).val, by have h1 : (i 1).val < 512 := (i 1).isLt; omega⟩ _ rfl rfl
theorem piece31 : val_main_v31 (F := Ideal) x t g b w = piece 512 2056 (by decide) (hidden x t g b) w := by
  funext i
  rw [val_main_v31_apply]
  exact product_at x t g b w (i 0) ⟨2056 + (i 1).val, by have h1 : (i 1).val < 512 := (i 1).isLt; omega⟩ _ rfl rfl
theorem piece32 : val_main_v32 (F := Ideal) x t g b w = piece 512 2568 (by decide) (hidden x t g b) w := by
  funext i
  rw [val_main_v32_apply]
  exact product_at x t g b w (i 0) ⟨2568 + (i 1).val, by have h1 : (i 1).val < 512 := (i 1).isLt; omega⟩ _ rfl rfl
theorem piece33 : val_main_v33 (F := Ideal) x t g b w = piece 512 3080 (by decide) (hidden x t g b) w := by
  funext i
  rw [val_main_v33_apply]
  exact product_at x t g b w (i 0) ⟨3080 + (i 1).val, by have h1 : (i 1).val < 512 := (i 1).isLt; omega⟩ _ rfl rfl

/-! ## The results -/

theorem zero_at (i : S_.Idx) : val_main_call0_v0 (F := Ideal) i = (0 : EReal) := by
  show ((((0#32 : BitVec 32).toInt : ℤ) : ℝ) : EReal) = 0
  simp

theorem result_rows : val_main_v35 (F := Ideal) x t g b = below (hidden x t g b) := by
  unfold val_main_v35
  rw [hidden_eq]
  exact below_of_padded _ _ (padded_pad _ _ zero_at _ _)
theorem scaled_eq : val_main_v37 (F := Ideal) x t g b w = scaled (piece 512 0 (by decide) (hidden x t g b) w) := by
  funext i
  rw [val_main_v37_apply, val_main_v36_apply, piece26]
  rfl
theorem result_q : val_main_v39 (F := Ideal) x t g b w = below (scaled (piece 512 0 (by decide) (hidden x t g b) w)) := by
  show val_main_v38 (F := Ideal) x t g b w = _
  unfold val_main_v38
  rw [scaled_eq]
  exact below_of_padded _ _ (padded_pad _ _ zero_at _ _)
theorem result_k : val_main_v41 (F := Ideal) x t g b w = below (piece 512 512 (by decide) (hidden x t g b) w) := by
  show val_main_v40 (F := Ideal) x t g b w = _
  unfold val_main_v40
  rw [piece27]
  exact below_of_padded _ _ (padded_pad _ _ zero_at _ _)
theorem result_v : val_main_v43 (F := Ideal) x t g b w = below (piece 512 1024 (by decide) (hidden x t g b) w) := by
  show val_main_v42 (F := Ideal) x t g b w = _
  unfold val_main_v42
  rw [piece28]
  exact below_of_padded _ _ (padded_pad _ _ zero_at _ _)
theorem result_ga : val_main_v44 (F := Ideal) x t g b w = below (piece 512 1544 (by decide) (hidden x t g b) w) := by
  show val_main_v44 (F := Ideal) x t g b w = _
  unfold val_main_v44
  rw [piece30]
  exact below_of_padded _ _ (padded_pad _ _ zero_at _ _)
theorem result_u : val_main_v45 (F := Ideal) x t g b w = below (piece 512 2056 (by decide) (hidden x t g b) w) := by
  show val_main_v45 (F := Ideal) x t g b w = _
  unfold val_main_v45
  rw [piece31]
  exact below_of_padded _ _ (padded_pad _ _ zero_at _ _)
theorem result_ug : val_main_v46 (F := Ideal) x t g b w = below (piece 512 2568 (by decide) (hidden x t g b) w) := by
  show val_main_v46 (F := Ideal) x t g b w = _
  unfold val_main_v46
  rw [piece32]
  exact below_of_padded _ _ (padded_pad _ _ zero_at _ _)
theorem result_gc : val_main_v47 (F := Ideal) x t g b w = below (piece 512 3080 (by decide) (hidden x t g b) w) := by
  show val_main_v47 (F := Ideal) x t g b w = _
  unfold val_main_v47
  rw [piece33]
  exact below_of_padded _ _ (padded_pad _ _ zero_at _ _)
theorem result_again : val_main_v50 (F := Ideal) x t g b w = below (piece 512 1024 (by decide) (hidden x t g b) w) := by
  show val_main_v49 (F := Ideal) x t g b w = _
  unfold val_main_v49
  rw [piece28]
  exact below_of_padded _ _ (padded_pad _ _ zero_at _ _)
theorem result_f : val_main_v48 (F := Ideal) x t g b w = below (widen (piece 8 1536 (by decide) (hidden x t g b) w)) := by
  have e : val_main_v34 (F := Ideal) x t g b w = widen (piece 8 1536 (by decide) (hidden x t g b) w) := by
    unfold val_main_v34
    rw [piece29]
    exact widen_pad _ _ zero_at _ _
  unfold val_main_v48
  rw [e]
  exact below_of_padded _ _ (padded_pad _ _ zero_at _ _)
theorem result_vt : val_main_v51 (F := Ideal) x t g b w = fun i : S512x4224.Idx => below (piece 512 1024 (by decide) (hidden x t g b) w) (ix2 (i 1) (i 0)) := by
  funext i
  rw [val_main_v51_apply, result_again]
  exact congrArg (below (piece 512 1024 (by decide) (hidden x t g b) w)) (funext fun a => match a with
    | ⟨0, _⟩ => rfl
    | ⟨1, _⟩ => rfl)

end Cert.Reference4Ideal.Projection

end
-- ==== Proof.Projection.Equations.lean ====
/- The layer norm and the projection: every program's frame, and the equation of the kernel with its reference. -/
module

public import proofs.«01_k».proof.Defs
public import proofs.«01_k».proof.Proof.Projection.Arrays
public import proofs.«01_k».proof.Proof.Projection.Reference
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Claim
public import Idealize.ShloMosaic.Lib.Quiescent

@[expose] public section

set_option maxRecDepth 16384

noncomputable section

namespace Cert.Projection

open Cert.Weights
open Idealize.ShloMosaic Idealize.ShloMosaic.TcCoe
open Idealize.SL.Sem

/-- The layer norm's rows of equal arguments are equal. -/
theorem hidden_congr {x x' : Mat 4096 1024} {t t' : Mat 16 1024} {g g' b b' : Col 1024} (hx : x = x') (ht : t = t') (hg : g = g') (hb : b = b') :
    hidden x t g b = hidden x' t' g' b' := by rw [hx, ht, hg, hb]

set_option maxHeartbeats 2000000 in
/-- The two programs end with the same ten arrays: the layer norm's rows and the pieces of their projection, padded. -/
theorem equation4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    Cert.Kernel4Ideal.Value.run_blocks m g, θ_run_mono (Cert.Reference4Ideal.Value.run (F := Ideal) m' g') fun r h c => ?_⟩
  obtain ⟨e0, e1, e2, e3, e4⟩ := hargs c
  obtain ⟨h0, h1, h2, h3, h4, h5, h6, h7, h8, h9, hk⟩ := h c
  have e := hidden_congr e0 e1 e2 e3
  refine ⟨h0.trans ?_, h1.trans ?_, h2.trans ?_, h3.trans ?_, h4.trans ?_, h5.trans ?_, h6.trans ?_, h7.trans ?_, h8.trans ?_, h9.trans ?_, hk⟩
  · exact ((Cert.Reference4Ideal.Read.val_main_v35_eq _ _ _ _).trans (Cert.Reference4Ideal.Projection.result_rows _ _ _ _)).trans
      ((congrArg below e).trans (Cert.Kernel4Ideal.Projection.array7 m c).symm)
  · exact ((Cert.Reference4Ideal.Read.val_main_v39_eq _ _ _ _ _).trans (Cert.Reference4Ideal.Projection.result_q _ _ _ _ _)).trans
      ((congrArg₂ (fun (h : Mat 4112 1024) (w : Mat 1024 3592) => below (scaled (piece 512 0 (by decide) h w))) e e4).trans (Cert.Kernel4Ideal.Projection.array8 m c).symm)
  · exact ((Cert.Reference4Ideal.Read.val_main_v41_eq _ _ _ _ _).trans (Cert.Reference4Ideal.Projection.result_k _ _ _ _ _)).trans
      ((congrArg₂ (fun (h : Mat 4112 1024) (w : Mat 1024 3592) => below (piece 512 512 (by decide) h w)) e e4).trans (Cert.Kernel4Ideal.Projection.array9 m c).symm)
  · exact ((Cert.Reference4Ideal.Read.val_main_v43_eq _ _ _ _ _).trans (Cert.Reference4Ideal.Projection.result_v _ _ _ _ _)).trans
      ((congrArg₂ (fun (h : Mat 4112 1024) (w : Mat 1024 3592) => below (piece 512 1024 (by decide) h w)) e e4).trans (Cert.Kernel4Ideal.Projection.array10 m c).symm)
  · exact ((Cert.Reference4Ideal.Read.val_main_v44_eq _ _ _ _ _).trans (Cert.Reference4Ideal.Projection.result_ga _ _ _ _ _)).trans
      ((congrArg₂ (fun (h : Mat 4112 1024) (w : Mat 1024 3592) => below (piece 512 1544 (by decide) h w)) e e4).trans (Cert.Kernel4Ideal.Projection.array11 m c).symm)
  · exact ((Cert.Reference4Ideal.Read.val_main_v45_eq _ _ _ _ _).trans (Cert.Reference4Ideal.Projection.result_u _ _ _ _ _)).trans
      ((congrArg₂ (fun (h : Mat 4112 1024) (w : Mat 1024 3592) => below (piece 512 2056 (by decide) h w)) e e4).trans (Cert.Kernel4Ideal.Projection.array12 m c).symm)
  · exact ((Cert.Reference4Ideal.Read.val_main_v46_eq _ _ _ _ _).trans (Cert.Reference4Ideal.Projection.result_ug _ _ _ _ _)).trans
      ((congrArg₂ (fun (h : Mat 4112 1024) (w : Mat 1024 3592) => below (piece 512 2568 (by decide) h w)) e e4).trans (Cert.Kernel4Ideal.Projection.array13 m c).symm)
  · exact ((Cert.Reference4Ideal.Read.val_main_v47_eq _ _ _ _ _).trans (Cert.Reference4Ideal.Projection.result_gc _ _ _ _ _)).trans
      ((congrArg₂ (fun (h : Mat 4112 1024) (w : Mat 1024 3592) => below (piece 512 3080 (by decide) h w)) e e4).trans (Cert.Kernel4Ideal.Projection.array14 m c).symm)
  · exact ((Cert.Reference4Ideal.Read.val_main_v48_eq _ _ _ _ _).trans (Cert.Reference4Ideal.Projection.result_f _ _ _ _ _)).trans
      ((congrArg₂ (fun (h : Mat 4112 1024) (w : Mat 1024 3592) => below (widen (piece 8 1536 (by decide) h w))) e e4).trans (Cert.Kernel4Ideal.Projection.array15 m c).symm)
  · exact ((Cert.Reference4Ideal.Read.val_main_v51_eq _ _ _ _ _).trans (Cert.Reference4Ideal.Projection.result_vt _ _ _ _ _)).trans
      ((congrArg₂ (fun (h : Mat 4112 1024) (w : Mat 1024 3592) => fun i : (⟨2, ![512, 4224]⟩ : Shape).Idx => below (piece 512 1024 (by decide) h w) (ValueIdx.ix2 (i 1) (i 0))) e e4).trans (Cert.Kernel4Ideal.Projection.array16 m c).symm)

theorem frame_kernel4 : Cert.quiescent_Kernel4 (hKernel4 := Cert.Kernel4.Gen.facts) :=
  fun m g _ => Cert.Kernel4.Gen.frame m g
theorem frame_ideal4 : Cert.quiescent_Kernel4Ideal (hKernel4Ideal := Cert.Kernel4Ideal.Gen.facts) :=
  fun m g _ => Cert.Kernel4Ideal.Gen.frame m g
theorem frame_reference4 : Cert.quiescent_Reference4Ideal (hReference4Ideal := Cert.Reference4Ideal.Gen.facts) :=
  fun m g _ => θ_run_mono (Cert.Reference4Ideal.Value.run (F := Ideal) m g) fun r h =>
    ⟨fun c => (h c).2.2.2.2.2.2.2.2.2.2, sem_eq_zero_of_no_sems rfl r.2⟩

end Cert.Projection

end
-- ==== Proof.Update.Equations.lean ====
/- The optimiser's update: one step of AdamW on an array of any shape, every program's frame, and the equations
   of the kernels with their references. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import Idealize.ShloMosaic.Lib.Claim
public import Idealize.ShloMosaic.Lib.Quiescent

@[expose] public section

set_option maxRecDepth 16384

noncomputable section

namespace Cert.Update

open Idealize.ShloMosaic Idealize.ShloMosaic.TcCoe Idealize.ShloMosaic.StableHlo
open Idealize.SL.Sem

/-- An array of extended reals of the shape. -/
abbrev Arr (S : Shape) := S.Idx → Elt Ideal .f32

/-- The single-precision number of the bits, as an extended real. -/
abbrev num (b : BitVec 32) : Elt Ideal .f32 := FloatOps.ofBits (F := Ideal) .f32 b

/-- The running mean of the gradient: 0.9 of the old mean and 0.1 of the gradient. -/
def mean {S : Shape} (g m : Arr S) : Arr S := fun i =>
  FloatOps.addf (F := Ideal) (φ := .f32) (FloatOps.mulf (num 0x3F666666#32) (m i)) (FloatOps.mulf (num 0x3DCCCCCD#32) (g i))

/-- The running mean of the gradient's square: 0.999 of the old mean and 0.001 of the square. -/
def square {S : Shape} (g v : Arr S) : Arr S := fun i =>
  FloatOps.addf (F := Ideal) (φ := .f32) (FloatOps.mulf (num 0x3F7FBE77#32) (v i))
    (FloatOps.mulf (num 0x3A83126F#32) (FloatOps.mulf (g i) (g i)))

/-- The step of the weight: the corrected mean over the root of the corrected mean square and 1e-8, with 0.01 of the
    weight, times −0.001. The corrections at the tenth step divide by 1 − 0.9¹⁰ and 1 − 0.999¹⁰. -/
def step {S : Shape} (w g m v : Arr S) : Arr S := fun i =>
  FloatOps.mulf (F := Ideal) (φ := .f32) (num 0xBA83126F#32)
    (FloatOps.addf
      (FloatOps.divf (FloatOps.divf (mean g m i) (num 0x3F26BD02#32))
        (FloatOps.addf (FloatOps.sqrt (FloatOps.divf (square g v i) (num 0x3C231ACC#32))) (num 0x322BCC77#32)))
      (FloatOps.mulf (num 0x3C23D70A#32) (w i)))

/-- A number spread over a shape, as the reference's operations write it. -/
abbrev spread {Z : Shape} (S : Shape) (d : Fin Z.rank → Fin S.rank) (h : Z.BroadcastsInDim S d) (b : BitVec 32) : Arr S :=
  broadcastInDim S d h (constant (F := Ideal) Z .f32 b)

/-- The reference's operations on whole arrays are the mean, -/
theorem mean_of {Z S : Shape} (d : Fin Z.rank → Fin S.rank) (h : Z.BroadcastsInDim S d) {g m g' m' : Arr S} (eg : g' = g) (em : m' = m) :
    (addf (mulf (spread S d h 0x3F666666#32) m') (mulf (spread S d h 0x3DCCCCCD#32) g') : FVec Ideal S .f32) = mean g m := by
  subst eg em; rfl

/-- the mean square, -/
theorem square_of {Z S : Shape} (d : Fin Z.rank → Fin S.rank) (h : Z.BroadcastsInDim S d) {g v g' v' : Arr S} (eg : g' = g) (ev : v' = v) :
    (addf (mulf (spread S d h 0x3F7FBE77#32) v') (mulf (spread S d h 0x3A83126F#32) (mulf g' g')) : FVec Ideal S .f32) = square g v := by
  subst eg ev; rfl

/-- and the step of the arguments, in every shape. -/
theorem step_of {Z S : Shape} (d : Fin Z.rank → Fin S.rank) (h : Z.BroadcastsInDim S d) {w g m v w' g' m' v' : Arr S}
    (ew : w' = w) (eg : g' = g) (em : m' = m) (ev : v' = v) :
    (mulf (spread S d h 0xBA83126F#32)
      (addf
        (Host.divf
          (Host.divf (addf (mulf (spread S d h 0x3F666666#32) m') (mulf (spread S d h 0x3DCCCCCD#32) g')) (spread S d h 0x3F26BD02#32))
          (addf
            (Host.sqrt
              (Host.divf (addf (mulf (spread S d h 0x3F7FBE77#32) v') (mulf (spread S d h 0x3A83126F#32) (mulf g' g')))
                (spread S d h 0x3C231ACC#32)))
            (spread S d h 0x322BCC77#32)))
        (mulf (spread S d h 0x3C23D70A#32) w')) : FVec Ideal S .f32) = step w g m v := by
  subst ew eg em ev; rfl

/-- The two programs end with the same nine arrays: of each of the three weights the step, the mean and the mean square. -/
theorem equation5 : Cert.algebraic_Kernel5Ideal_Reference5Ideal (hKernel5Ideal := Cert.Kernel5Ideal.Gen.facts)
    (hReference5Ideal := Cert.Reference5Ideal.Gen.facts) := by
  intro m g m' g' _ hargs
  refine ⟨_, _, _, _, _, _, _, _, _, Cert.Kernel5Ideal.Value.run m g,
    θ_run_mono (Cert.Reference5Ideal.Value.run (F := Ideal) m' g') fun r h c => ?_⟩
  obtain ⟨w0, w1, w2, g0, g1, g2, m0, m1, m2, v0, v1, v2⟩ := hargs c
  obtain ⟨d0, d1, d2, n0, n1, n2, s0, s1, s2, hk⟩ := h c
  exact ⟨d0.trans (step_of _ _ w0 g0 m0 v0), d1.trans (step_of _ _ w1 g1 m1 v1), d2.trans (step_of _ _ w2 g2 m2 v2),
    n0.trans (mean_of _ _ g0 m0), n1.trans (mean_of _ _ g1 m1), n2.trans (mean_of _ _ g2 m2),
    s0.trans (square_of _ _ g0 v0), s1.trans (square_of _ _ g1 v1), s2.trans (square_of _ _ g2 v2), hk⟩

theorem frame_kernel5 : Cert.quiescent_Kernel5 (hKernel5 := Cert.Kernel5.Gen.facts) :=
  fun m g _ => Cert.Kernel5.Gen.frame m g
theorem frame_ideal5 : Cert.quiescent_Kernel5Ideal (hKernel5Ideal := Cert.Kernel5Ideal.Gen.facts) :=
  fun m g _ => Cert.Kernel5Ideal.Gen.frame m g
theorem frame_reference5 : Cert.quiescent_Reference5Ideal (hReference5Ideal := Cert.Reference5Ideal.Gen.facts) :=
  fun m g _ => θ_run_mono (Cert.Reference5Ideal.Value.run (F := Ideal) m g) fun r h =>
    ⟨fun c => (h c).2.2.2.2.2.2.2.2.2, sem_eq_zero_of_no_sems rfl r.2⟩

/-- The same of the two other weights: six arrays. -/
theorem equation6 : Cert.algebraic_Kernel6Ideal_Reference6Ideal (hKernel6Ideal := Cert.Kernel6Ideal.Gen.facts)
    (hReference6Ideal := Cert.Reference6Ideal.Gen.facts) := by
  intro m g m' g' _ hargs
  refine ⟨_, _, _, _, _, _, Cert.Kernel6Ideal.Value.run m g,
    θ_run_mono (Cert.Reference6Ideal.Value.run (F := Ideal) m' g') fun r h c => ?_⟩
  obtain ⟨w0, w1, g0, g1, m0, m1, v0, v1⟩ := hargs c
  obtain ⟨d0, d1, n0, n1, s0, s1, hk⟩ := h c
  exact ⟨d0.trans (step_of _ _ w0 g0 m0 v0), d1.trans (step_of _ _ w1 g1 m1 v1),
    n0.trans (mean_of _ _ g0 m0), n1.trans (mean_of _ _ g1 m1),
    s0.trans (square_of _ _ g0 v0), s1.trans (square_of _ _ g1 v1), hk⟩

theorem frame_kernel6 : Cert.quiescent_Kernel6 (hKernel6 := Cert.Kernel6.Gen.facts) :=
  fun m g _ => Cert.Kernel6.Gen.frame m g
theorem frame_ideal6 : Cert.quiescent_Kernel6Ideal (hKernel6Ideal := Cert.Kernel6Ideal.Gen.facts) :=
  fun m g _ => Cert.Kernel6Ideal.Gen.frame m g
theorem frame_reference6 : Cert.quiescent_Reference6Ideal (hReference6Ideal := Cert.Reference6Ideal.Gen.facts) :=
  fun m g _ => θ_run_mono (Cert.Reference6Ideal.Value.run (F := Ideal) m g) fun r h =>
    ⟨fun c => (h c).2.2.2.2.2.2, sem_eq_zero_of_no_sems rfl r.2⟩

end Cert.Update

end
-- ==== Proof.lean ====
module

public import proofs.«01_k».proof.Defs
public import proofs.«01_k».proof.Proof.Attn.Frames
public import proofs.«01_k».proof.Proof.AttnK.Frames
public import proofs.«01_k».proof.Proof.Grad.Finite
public import proofs.«01_k».proof.Proof.Grad.Runs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Weights.Equations
public import proofs.«01_k».proof.Proof.Projection.Equations
public import proofs.«01_k».proof.Proof.Update.Equations

@[expose] public section

set_option maxRecDepth 16384

noncomputable section

namespace Cert.Proof

open Idealize.ShloMosaic Idealize.ShloMosaic.TcCoe
open Cert.Grad

/-- The two programs end with the same five arrays: the gradient of the arguments' reals, padded. -/
theorem equation : Cert.algebraic_KernelIdeal_ReferenceIdeal (hKernelIdeal := Cert.KernelIdeal.Gen.facts)
    (hReferenceIdeal := Cert.ReferenceIdeal.Gen.facts) (hPre_finite := pre_facts) := by
  intro m g m' g' hpre hargs
  have R := fun c => @real5_of pre_facts _ _ _ _ _ (hpre c)
  refine ⟨_, _, _, _, _, Cert.KernelIdeal.Grad.run m g _ R, Cert.ReferenceIdeal.Grad.run m' g' _ fun c => ?_⟩
  obtain ⟨h0, h1, h2, h3, h4⟩ := hargs c
  rw [h0, h1, h2, h3, h4]
  exact R c

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, pre_facts,
    fun m g _ => Cert.Kernel.Attn.frame m g,
    fun m g _ => Cert.KernelIdeal.Attn.frame m g,
    fun m g _ => Cert.ReferenceIdeal.Grad.frame m g,
    Cert.Weights.frame_kernel2, Cert.Weights.frame_ideal2, Cert.Weights.frame_reference2,
    Cert.Weights.frame_kernel3, Cert.Weights.frame_ideal3, Cert.Weights.frame_reference3,
    Cert.Projection.frame_kernel4, Cert.Projection.frame_ideal4, Cert.Projection.frame_reference4,
    Cert.Update.frame_kernel5, Cert.Update.frame_ideal5, Cert.Update.frame_reference5,
    Cert.Update.frame_kernel6, Cert.Update.frame_ideal6, Cert.Update.frame_reference6,
    IdealRules.named_const.statement Cert.KernelIdeal.κ "mask" .f32 0xF149F2CA#32 ⊥ rfl,
    equation, trivial, Cert.Weights.equation2, trivial, Cert.Weights.equation3, trivial, Cert.Projection.equation4,
    trivial, Cert.Update.equation5, trivial, Cert.Update.equation6⟩

end Cert.Proof

end
